-- ==== Defs.lean ====
def Pre_Dilone (m : (ℓ : Loc Cert.Dilone.nD Cert.Dilone.τ Cert.Dilone.sig) → Buf (Elt Bits) ℓ) : Prop :=
  True

def Pre_DiloneIdeal (m : (ℓ : Loc Cert.DiloneIdeal.nD Cert.DiloneIdeal.τ Cert.DiloneIdeal.sig) → Buf (Elt Ideal) ℓ) : Prop :=
  True

def Pre_RefoneIdeal (m : (ℓ : Loc Cert.RefoneIdeal.nD Cert.RefoneIdeal.τ Cert.RefoneIdeal.sig) → Buf (Elt Ideal) ℓ) : Prop :=
  True

def Pre_Dilfour (m : (ℓ : Loc Cert.Dilfour.nD Cert.Dilfour.τ Cert.Dilfour.sig) → Buf (Elt Bits) ℓ) : Prop :=
  True

def Pre_DilfourIdeal (m : (ℓ : Loc Cert.DilfourIdeal.nD Cert.DilfourIdeal.τ Cert.DilfourIdeal.sig) → Buf (Elt Ideal) ℓ) : Prop :=
  True

def Pre_ReffourIdeal (m : (ℓ : Loc Cert.ReffourIdeal.nD Cert.ReffourIdeal.τ Cert.ReffourIdeal.sig) → Buf (Elt Ideal) ℓ) : Prop :=
  True

def Pre_Dilsixteen (m : (ℓ : Loc Cert.Dilsixteen.nD Cert.Dilsixteen.τ Cert.Dilsixteen.sig) → Buf (Elt Bits) ℓ) : Prop :=
  True

def Pre_DilsixteenIdeal (m : (ℓ : Loc Cert.DilsixteenIdeal.nD Cert.DilsixteenIdeal.τ Cert.DilsixteenIdeal.sig) → Buf (Elt Ideal) ℓ) : Prop :=
  True

def Pre_RefsixteenIdeal (m : (ℓ : Loc Cert.RefsixteenIdeal.nD Cert.RefsixteenIdeal.τ Cert.RefsixteenIdeal.sig) → Buf (Elt Ideal) ℓ) : Prop :=
  True

def Pre_Pleout (m : (ℓ : Loc Cert.Pleout.nD Cert.Pleout.τ Cert.Pleout.sig) → Buf (Elt Bits) ℓ) : Prop :=
  True

def Pre_PleoutIdeal (m : (ℓ : Loc Cert.PleoutIdeal.nD Cert.PleoutIdeal.τ Cert.PleoutIdeal.sig) → Buf (Elt Ideal) ℓ) : Prop :=
  True

def Pre_RefpleoutIdeal (m : (ℓ : Loc Cert.RefpleoutIdeal.nD Cert.RefpleoutIdeal.τ Cert.RefpleoutIdeal.sig) → Buf (Elt Ideal) ℓ) : Prop :=
  True

def Pre_Downproj (m : (ℓ : Loc Cert.Downproj.nD Cert.Downproj.τ Cert.Downproj.sig) → Buf (Elt Bits) ℓ) : Prop :=
  True

def Pre_DownprojIdeal (m : (ℓ : Loc Cert.DownprojIdeal.nD Cert.DownprojIdeal.τ Cert.DownprojIdeal.sig) → Buf (Elt Ideal) ℓ) : Prop :=
  True

def Pre_RefdownprojIdeal (m : (ℓ : Loc Cert.RefdownprojIdeal.nD Cert.RefdownprojIdeal.τ Cert.RefdownprojIdeal.sig) → Buf (Elt Ideal) ℓ) : Prop :=
  True

def Pre_Evenout (m : (ℓ : Loc Cert.Evenout.nD Cert.Evenout.τ Cert.Evenout.sig) → Buf (Elt Bits) ℓ) : Prop :=
  True

def Pre_EvenoutIdeal (m : (ℓ : Loc Cert.EvenoutIdeal.nD Cert.EvenoutIdeal.τ Cert.EvenoutIdeal.sig) → Buf (Elt Ideal) ℓ) : Prop :=
  True

def Pre_RefevenoutIdeal (m : (ℓ : Loc Cert.RefevenoutIdeal.nD Cert.RefevenoutIdeal.τ Cert.RefevenoutIdeal.sig) → Buf (Elt Ideal) ℓ) : Prop :=
  True

def Pre_Evenin (m : (ℓ : Loc Cert.Evenin.nD Cert.Evenin.τ Cert.Evenin.sig) → Buf (Elt Bits) ℓ) : Prop :=
  True

def Pre_EveninIdeal (m : (ℓ : Loc Cert.EveninIdeal.nD Cert.EveninIdeal.τ Cert.EveninIdeal.sig) → Buf (Elt Ideal) ℓ) : Prop :=
  True

def Pre_RefeveninIdeal (m : (ℓ : Loc Cert.RefeveninIdeal.nD Cert.RefeveninIdeal.τ Cert.RefeveninIdeal.sig) → Buf (Elt Ideal) ℓ) : Prop :=
  True

def Pre_Oddin (m : (ℓ : Loc Cert.Oddin.nD Cert.Oddin.τ Cert.Oddin.sig) → Buf (Elt Bits) ℓ) : Prop :=
  True

def Pre_OddinIdeal (m : (ℓ : Loc Cert.OddinIdeal.nD Cert.OddinIdeal.τ Cert.OddinIdeal.sig) → Buf (Elt Ideal) ℓ) : Prop :=
  True

def Pre_RefoddinIdeal (m : (ℓ : Loc Cert.RefoddinIdeal.nD Cert.RefoddinIdeal.τ Cert.RefoddinIdeal.sig) → Buf (Elt Ideal) ℓ) : Prop :=
  True

def Pre_Ffnact (m : (ℓ : Loc Cert.Ffnact.nD Cert.Ffnact.τ Cert.Ffnact.sig) → Buf (Elt Bits) ℓ) : Prop :=
  True

def Pre_FfnactIdeal (m : (ℓ : Loc Cert.FfnactIdeal.nD Cert.FfnactIdeal.τ Cert.FfnactIdeal.sig) → Buf (Elt Ideal) ℓ) : Prop :=
  True

def Pre_RefffnactIdeal (m : (ℓ : Loc Cert.RefffnactIdeal.nD Cert.RefffnactIdeal.τ Cert.RefffnactIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_ReffoxIdeal (m : (ℓ : Loc Cert.ReffoxIdeal.nD Cert.ReffoxIdeal.τ Cert.ReffoxIdeal.sig) → Buf (Elt Ideal) ℓ) : Prop :=
  True

def Pre_Oddout (m : (ℓ : Loc Cert.Oddout.nD Cert.Oddout.τ Cert.Oddout.sig) → Buf (Elt Bits) ℓ) : Prop :=
  True

def Pre_OddoutIdeal (m : (ℓ : Loc Cert.OddoutIdeal.nD Cert.OddoutIdeal.τ Cert.OddoutIdeal.sig) → Buf (Elt Ideal) ℓ) : Prop :=
  True

def Pre_RefoddoutIdeal (m : (ℓ : Loc Cert.RefoddoutIdeal.nD Cert.RefoddoutIdeal.τ Cert.RefoddoutIdeal.sig) → Buf (Elt Ideal) ℓ) : Prop :=
  True

def Pre_Dsa (m : (ℓ : Loc Cert.Dsa.nD Cert.Dsa.τ Cert.Dsa.sig) → Buf (Elt Bits) ℓ) : Prop :=
  True

def Pre_DsaIdeal (m : (ℓ : Loc Cert.DsaIdeal.nD Cert.DsaIdeal.τ Cert.DsaIdeal.sig) → Buf (Elt Ideal) ℓ) : Prop :=
  True

def Pre_RefdsaIdeal (m : (ℓ : Loc Cert.RefdsaIdeal.nD Cert.RefdsaIdeal.τ Cert.RefdsaIdeal.sig) → Buf (Elt Ideal) ℓ) : Prop :=
  True

def quiescent_Dilone [hDilone : Cert.Dilone.Facts] : Prop :=
  ∀ (m : (ℓ : Loc Cert.Dilone.nD Cert.Dilone.τ Cert.Dilone.sig) → Buf (Elt Bits) ℓ) (g : Dev Cert.Dilone.nD → PrngReg), Pre_Dilone m →
    θ_run (Cert.Dilone.defs (F := Bits)) (onTc (τ := Cert.Dilone.τ) (Cert.Dilone.main (F := Bits))) ⟨m, fun _ => 0, g⟩ (fun r => (∀ c : Dev Cert.Dilone.nD,
      r.2.mem ((c.tc : Thread Cert.Dilone.nD Cert.Dilone.τ).loc Cert.Dilone.main_arg0) = m ((c.tc : Thread Cert.Dilone.nD Cert.Dilone.τ).loc Cert.Dilone.main_arg0)
      ∧ r.2.mem ((c.tc : Thread Cert.Dilone.nD Cert.Dilone.τ).loc Cert.Dilone.main_arg1) = m ((c.tc : Thread Cert.Dilone.nD Cert.Dilone.τ).loc Cert.Dilone.main_arg1)
      ∧ r.2.mem ((c.tc : Thread Cert.Dilone.nD Cert.Dilone.τ).loc Cert.Dilone.main_arg2) = m ((c.tc : Thread Cert.Dilone.nD Cert.Dilone.τ).loc Cert.Dilone.main_arg2))
      ∧ r.2.sem = fun _ => 0)

def quiescent_DiloneIdeal [hDiloneIdeal : Cert.DiloneIdeal.Facts] : Prop :=
  ∀ (m : (ℓ : Loc Cert.DiloneIdeal.nD Cert.DiloneIdeal.τ Cert.DiloneIdeal.sig) → Buf (Elt Ideal) ℓ) (g : Dev Cert.DiloneIdeal.nD → PrngReg), Pre_DiloneIdeal m →
    θ_run (Cert.DiloneIdeal.defs (F := Ideal)) (onTc (τ := Cert.DiloneIdeal.τ) (Cert.DiloneIdeal.main (F := Ideal))) ⟨m, fun _ => 0, g⟩ (fun r => (∀ c : Dev Cert.DiloneIdeal.nD,
      r.2.mem ((c.tc : Thread Cert.DiloneIdeal.nD Cert.DiloneIdeal.τ).loc Cert.DiloneIdeal.main_arg0) = m ((c.tc : Thread Cert.DiloneIdeal.nD Cert.DiloneIdeal.τ).loc Cert.DiloneIdeal.main_arg0)
      ∧ r.2.mem ((c.tc : Thread Cert.DiloneIdeal.nD Cert.DiloneIdeal.τ).loc Cert.DiloneIdeal.main_arg1) = m ((c.tc : Thread Cert.DiloneIdeal.nD Cert.DiloneIdeal.τ).loc Cert.DiloneIdeal.main_arg1)
      ∧ r.2.mem ((c.tc : Thread Cert.DiloneIdeal.nD Cert.DiloneIdeal.τ).loc Cert.DiloneIdeal.main_arg2) = m ((c.tc : Thread Cert.DiloneIdeal.nD Cert.DiloneIdeal.τ).loc Cert.DiloneIdeal.main_arg2))
      ∧ r.2.sem = fun _ => 0)

def quiescent_RefoneIdeal [hRefoneIdeal : Cert.RefoneIdeal.Facts] : Prop :=
  ∀ (m : (ℓ : Loc Cert.RefoneIdeal.nD Cert.RefoneIdeal.τ Cert.RefoneIdeal.sig) → Buf (Elt Ideal) ℓ) (g : Dev Cert.RefoneIdeal.nD → PrngReg), Pre_RefoneIdeal m →
    θ_run (Cert.RefoneIdeal.defs (F := Ideal)) (onTc (τ := Cert.RefoneIdeal.τ) (Cert.RefoneIdeal.main (F := Ideal))) ⟨m, fun _ => 0, g⟩ (fun r => (∀ c : Dev Cert.RefoneIdeal.nD,
      r.2.mem ((c.tc : Thread Cert.RefoneIdeal.nD Cert.RefoneIdeal.τ).loc Cert.RefoneIdeal.main_arg0) = m ((c.tc : Thread Cert.RefoneIdeal.nD Cert.RefoneIdeal.τ).loc Cert.RefoneIdeal.main_arg0)
      ∧ r.2.mem ((c.tc : Thread Cert.RefoneIdeal.nD Cert.RefoneIdeal.τ).loc Cert.RefoneIdeal.main_arg1) = m ((c.tc : Thread Cert.RefoneIdeal.nD Cert.RefoneIdeal.τ).loc Cert.RefoneIdeal.main_arg1)
      ∧ r.2.mem ((c.tc : Thread Cert.RefoneIdeal.nD Cert.RefoneIdeal.τ).loc Cert.RefoneIdeal.main_arg2) = m ((c.tc : Thread Cert.RefoneIdeal.nD Cert.RefoneIdeal.τ).loc Cert.RefoneIdeal.main_arg2))
      ∧ r.2.sem = fun _ => 0)

def quiescent_Dilfour [hDilfour : Cert.Dilfour.Facts] : Prop :=
  ∀ (m : (ℓ : Loc Cert.Dilfour.nD Cert.Dilfour.τ Cert.Dilfour.sig) → Buf (Elt Bits) ℓ) (g : Dev Cert.Dilfour.nD → PrngReg), Pre_Dilfour m →
    θ_run (Cert.Dilfour.defs (F := Bits)) (onTc (τ := Cert.Dilfour.τ) (Cert.Dilfour.main (F := Bits))) ⟨m, fun _ => 0, g⟩ (fun r => (∀ c : Dev Cert.Dilfour.nD,
      r.2.mem ((c.tc : Thread Cert.Dilfour.nD Cert.Dilfour.τ).loc Cert.Dilfour.main_arg0) = m ((c.tc : Thread Cert.Dilfour.nD Cert.Dilfour.τ).loc Cert.Dilfour.main_arg0)
      ∧ r.2.mem ((c.tc : Thread Cert.Dilfour.nD Cert.Dilfour.τ).loc Cert.Dilfour.main_arg1) = m ((c.tc : Thread Cert.Dilfour.nD Cert.Dilfour.τ).loc Cert.Dilfour.main_arg1)
      ∧ r.2.mem ((c.tc : Thread Cert.Dilfour.nD Cert.Dilfour.τ).loc Cert.Dilfour.main_arg2) = m ((c.tc : Thread Cert.Dilfour.nD Cert.Dilfour.τ).loc Cert.Dilfour.main_arg2))
      ∧ r.2.sem = fun _ => 0)

def quiescent_DilfourIdeal [hDilfourIdeal : Cert.DilfourIdeal.Facts] : Prop :=
  ∀ (m : (ℓ : Loc Cert.DilfourIdeal.nD Cert.DilfourIdeal.τ Cert.DilfourIdeal.sig) → Buf (Elt Ideal) ℓ) (g : Dev Cert.DilfourIdeal.nD → PrngReg), Pre_DilfourIdeal m →
    θ_run (Cert.DilfourIdeal.defs (F := Ideal)) (onTc (τ := Cert.DilfourIdeal.τ) (Cert.DilfourIdeal.main (F := Ideal))) ⟨m, fun _ => 0, g⟩ (fun r => (∀ c : Dev Cert.DilfourIdeal.nD,
      r.2.mem ((c.tc : Thread Cert.DilfourIdeal.nD Cert.DilfourIdeal.τ).loc Cert.DilfourIdeal.main_arg0) = m ((c.tc : Thread Cert.DilfourIdeal.nD Cert.DilfourIdeal.τ).loc Cert.DilfourIdeal.main_arg0)
      ∧ r.2.mem ((c.tc : Thread Cert.DilfourIdeal.nD Cert.DilfourIdeal.τ).loc Cert.DilfourIdeal.main_arg1) = m ((c.tc : Thread Cert.DilfourIdeal.nD Cert.DilfourIdeal.τ).loc Cert.DilfourIdeal.main_arg1)
      ∧ r.2.mem ((c.tc : Thread Cert.DilfourIdeal.nD Cert.DilfourIdeal.τ).loc Cert.DilfourIdeal.main_arg2) = m ((c.tc : Thread Cert.DilfourIdeal.nD Cert.DilfourIdeal.τ).loc Cert.DilfourIdeal.main_arg2))
      ∧ r.2.sem = fun _ => 0)

def quiescent_ReffourIdeal [hReffourIdeal : Cert.ReffourIdeal.Facts] : Prop :=
  ∀ (m : (ℓ : Loc Cert.ReffourIdeal.nD Cert.ReffourIdeal.τ Cert.ReffourIdeal.sig) → Buf (Elt Ideal) ℓ) (g : Dev Cert.ReffourIdeal.nD → PrngReg), Pre_ReffourIdeal m →
    θ_run (Cert.ReffourIdeal.defs (F := Ideal)) (onTc (τ := Cert.ReffourIdeal.τ) (Cert.ReffourIdeal.main (F := Ideal))) ⟨m, fun _ => 0, g⟩ (fun r => (∀ c : Dev Cert.ReffourIdeal.nD,
      r.2.mem ((c.tc : Thread Cert.ReffourIdeal.nD Cert.ReffourIdeal.τ).loc Cert.ReffourIdeal.main_arg0) = m ((c.tc : Thread Cert.ReffourIdeal.nD Cert.ReffourIdeal.τ).loc Cert.ReffourIdeal.main_arg0)
      ∧ r.2.mem ((c.tc : Thread Cert.ReffourIdeal.nD Cert.ReffourIdeal.τ).loc Cert.ReffourIdeal.main_arg1) = m ((c.tc : Thread Cert.ReffourIdeal.nD Cert.ReffourIdeal.τ).loc Cert.ReffourIdeal.main_arg1)
      ∧ r.2.mem ((c.tc : Thread Cert.ReffourIdeal.nD Cert.ReffourIdeal.τ).loc Cert.ReffourIdeal.main_arg2) = m ((c.tc : Thread Cert.ReffourIdeal.nD Cert.ReffourIdeal.τ).loc Cert.ReffourIdeal.main_arg2))
      ∧ r.2.sem = fun _ => 0)

def quiescent_Dilsixteen [hDilsixteen : Cert.Dilsixteen.Facts] : Prop :=
  ∀ (m : (ℓ : Loc Cert.Dilsixteen.nD Cert.Dilsixteen.τ Cert.Dilsixteen.sig) → Buf (Elt Bits) ℓ) (g : Dev Cert.Dilsixteen.nD → PrngReg), Pre_Dilsixteen m →
    θ_run (Cert.Dilsixteen.defs (F := Bits)) (onTc (τ := Cert.Dilsixteen.τ) (Cert.Dilsixteen.main (F := Bits))) ⟨m, fun _ => 0, g⟩ (fun r => (∀ c : Dev Cert.Dilsixteen.nD,
      r.2.mem ((c.tc : Thread Cert.Dilsixteen.nD Cert.Dilsixteen.τ).loc Cert.Dilsixteen.main_arg0) = m ((c.tc : Thread Cert.Dilsixteen.nD Cert.Dilsixteen.τ).loc Cert.Dilsixteen.main_arg0)
      ∧ r.2.mem ((c.tc : Thread Cert.Dilsixteen.nD Cert.Dilsixteen.τ).loc Cert.Dilsixteen.main_arg1) = m ((c.tc : Thread Cert.Dilsixteen.nD Cert.Dilsixteen.τ).loc Cert.Dilsixteen.main_arg1)
      ∧ r.2.mem ((c.tc : Thread Cert.Dilsixteen.nD Cert.Dilsixteen.τ).loc Cert.Dilsixteen.main_arg2) = m ((c.tc : Thread Cert.Dilsixteen.nD Cert.Dilsixteen.τ).loc Cert.Dilsixteen.main_arg2))
      ∧ r.2.sem = fun _ => 0)

def quiescent_DilsixteenIdeal [hDilsixteenIdeal : Cert.DilsixteenIdeal.Facts] : Prop :=
  ∀ (m : (ℓ : Loc Cert.DilsixteenIdeal.nD Cert.DilsixteenIdeal.τ Cert.DilsixteenIdeal.sig) → Buf (Elt Ideal) ℓ) (g : Dev Cert.DilsixteenIdeal.nD → PrngReg), Pre_DilsixteenIdeal m →
    θ_run (Cert.DilsixteenIdeal.defs (F := Ideal)) (onTc (τ := Cert.DilsixteenIdeal.τ) (Cert.DilsixteenIdeal.main (F := Ideal))) ⟨m, fun _ => 0, g⟩ (fun r => (∀ c : Dev Cert.DilsixteenIdeal.nD,
      r.2.mem ((c.tc : Thread Cert.DilsixteenIdeal.nD Cert.DilsixteenIdeal.τ).loc Cert.DilsixteenIdeal.main_arg0) = m ((c.tc : Thread Cert.DilsixteenIdeal.nD Cert.DilsixteenIdeal.τ).loc Cert.DilsixteenIdeal.main_arg0)
      ∧ r.2.mem ((c.tc : Thread Cert.DilsixteenIdeal.nD Cert.DilsixteenIdeal.τ).loc Cert.DilsixteenIdeal.main_arg1) = m ((c.tc : Thread Cert.DilsixteenIdeal.nD Cert.DilsixteenIdeal.τ).loc Cert.DilsixteenIdeal.main_arg1)
      ∧ r.2.mem ((c.tc : Thread Cert.DilsixteenIdeal.nD Cert.DilsixteenIdeal.τ).loc Cert.DilsixteenIdeal.main_arg2) = m ((c.tc : Thread Cert.DilsixteenIdeal.nD Cert.DilsixteenIdeal.τ).loc Cert.DilsixteenIdeal.main_arg2))
      ∧ r.2.sem = fun _ => 0)

def quiescent_RefsixteenIdeal [hRefsixteenIdeal : Cert.RefsixteenIdeal.Facts] : Prop :=
  ∀ (m : (ℓ : Loc Cert.RefsixteenIdeal.nD Cert.RefsixteenIdeal.τ Cert.RefsixteenIdeal.sig) → Buf (Elt Ideal) ℓ) (g : Dev Cert.RefsixteenIdeal.nD → PrngReg), Pre_RefsixteenIdeal m →
    θ_run (Cert.RefsixteenIdeal.defs (F := Ideal)) (onTc (τ := Cert.RefsixteenIdeal.τ) (Cert.RefsixteenIdeal.main (F := Ideal))) ⟨m, fun _ => 0, g⟩ (fun r => (∀ c : Dev Cert.RefsixteenIdeal.nD,
      r.2.mem ((c.tc : Thread Cert.RefsixteenIdeal.nD Cert.RefsixteenIdeal.τ).loc Cert.RefsixteenIdeal.main_arg0) = m ((c.tc : Thread Cert.RefsixteenIdeal.nD Cert.RefsixteenIdeal.τ).loc Cert.RefsixteenIdeal.main_arg0)
      ∧ r.2.mem ((c.tc : Thread Cert.RefsixteenIdeal.nD Cert.RefsixteenIdeal.τ).loc Cert.RefsixteenIdeal.main_arg1) = m ((c.tc : Thread Cert.RefsixteenIdeal.nD Cert.RefsixteenIdeal.τ).loc Cert.RefsixteenIdeal.main_arg1)
      ∧ r.2.mem ((c.tc : Thread Cert.RefsixteenIdeal.nD Cert.RefsixteenIdeal.τ).loc Cert.RefsixteenIdeal.main_arg2) = m ((c.tc : Thread Cert.RefsixteenIdeal.nD Cert.RefsixteenIdeal.τ).loc Cert.RefsixteenIdeal.main_arg2))
      ∧ r.2.sem = fun _ => 0)

def quiescent_Pleout [hPleout : Cert.Pleout.Facts] : Prop :=
  ∀ (m : (ℓ : Loc Cert.Pleout.nD Cert.Pleout.τ Cert.Pleout.sig) → Buf (Elt Bits) ℓ) (g : Dev Cert.Pleout.nD → PrngReg), Pre_Pleout m →
    θ_run (Cert.Pleout.defs (F := Bits)) (onTc (τ := Cert.Pleout.τ) (Cert.Pleout.main (F := Bits))) ⟨m, fun _ => 0, g⟩ (fun r => (∀ c : Dev Cert.Pleout.nD,
      r.2.mem ((c.tc : Thread Cert.Pleout.nD Cert.Pleout.τ).loc Cert.Pleout.main_arg0) = m ((c.tc : Thread Cert.Pleout.nD Cert.Pleout.τ).loc Cert.Pleout.main_arg0)
      ∧ r.2.mem ((c.tc : Thread Cert.Pleout.nD Cert.Pleout.τ).loc Cert.Pleout.main_arg1) = m ((c.tc : Thread Cert.Pleout.nD Cert.Pleout.τ).loc Cert.Pleout.main_arg1)
      ∧ r.2.mem ((c.tc : Thread Cert.Pleout.nD Cert.Pleout.τ).loc Cert.Pleout.main_arg2) = m ((c.tc : Thread Cert.Pleout.nD Cert.Pleout.τ).loc Cert.Pleout.main_arg2)
      ∧ r.2.mem ((c.tc : Thread Cert.Pleout.nD Cert.Pleout.τ).loc Cert.Pleout.main_arg3) = m ((c.tc : Thread Cert.Pleout.nD Cert.Pleout.τ).loc Cert.Pleout.main_arg3)
      ∧ r.2.mem ((c.tc : Thread Cert.Pleout.nD Cert.Pleout.τ).loc Cert.Pleout.main_arg4) = m ((c.tc : Thread Cert.Pleout.nD Cert.Pleout.τ).loc Cert.Pleout.main_arg4))
      ∧ r.2.sem = fun _ => 0)

def quiescent_PleoutIdeal [hPleoutIdeal : Cert.PleoutIdeal.Facts] : Prop :=
  ∀ (m : (ℓ : Loc Cert.PleoutIdeal.nD Cert.PleoutIdeal.τ Cert.PleoutIdeal.sig) → Buf (Elt Ideal) ℓ) (g : Dev Cert.PleoutIdeal.nD → PrngReg), Pre_PleoutIdeal m →
    θ_run (Cert.PleoutIdeal.defs (F := Ideal)) (onTc (τ := Cert.PleoutIdeal.τ) (Cert.PleoutIdeal.main (F := Ideal))) ⟨m, fun _ => 0, g⟩ (fun r => (∀ c : Dev Cert.PleoutIdeal.nD,
      r.2.mem ((c.tc : Thread Cert.PleoutIdeal.nD Cert.PleoutIdeal.τ).loc Cert.PleoutIdeal.main_arg0) = m ((c.tc : Thread Cert.PleoutIdeal.nD Cert.PleoutIdeal.τ).loc Cert.PleoutIdeal.main_arg0)
      ∧ r.2.mem ((c.tc : Thread Cert.PleoutIdeal.nD Cert.PleoutIdeal.τ).loc Cert.PleoutIdeal.main_arg1) = m ((c.tc : Thread Cert.PleoutIdeal.nD Cert.PleoutIdeal.τ).loc Cert.PleoutIdeal.main_arg1)
      ∧ r.2.mem ((c.tc : Thread Cert.PleoutIdeal.nD Cert.PleoutIdeal.τ).loc Cert.PleoutIdeal.main_arg2) = m ((c.tc : Thread Cert.PleoutIdeal.nD Cert.PleoutIdeal.τ).loc Cert.PleoutIdeal.main_arg2)
      ∧ r.2.mem ((c.tc : Thread Cert.PleoutIdeal.nD Cert.PleoutIdeal.τ).loc Cert.PleoutIdeal.main_arg3) = m ((c.tc : Thread Cert.PleoutIdeal.nD Cert.PleoutIdeal.τ).loc Cert.PleoutIdeal.main_arg3)
      ∧ r.2.mem ((c.tc : Thread Cert.PleoutIdeal.nD Cert.PleoutIdeal.τ).loc Cert.PleoutIdeal.main_arg4) = m ((c.tc : Thread Cert.PleoutIdeal.nD Cert.PleoutIdeal.τ).loc Cert.PleoutIdeal.main_arg4))
      ∧ r.2.sem = fun _ => 0)

def quiescent_RefpleoutIdeal [hRefpleoutIdeal : Cert.RefpleoutIdeal.Facts] : Prop :=
  ∀ (m : (ℓ : Loc Cert.RefpleoutIdeal.nD Cert.RefpleoutIdeal.τ Cert.RefpleoutIdeal.sig) → Buf (Elt Ideal) ℓ) (g : Dev Cert.RefpleoutIdeal.nD → PrngReg), Pre_RefpleoutIdeal m →
    θ_run (Cert.RefpleoutIdeal.defs (F := Ideal)) (onTc (τ := Cert.RefpleoutIdeal.τ) (Cert.RefpleoutIdeal.main (F := Ideal))) ⟨m, fun _ => 0, g⟩ (fun r => (∀ c : Dev Cert.RefpleoutIdeal.nD,
      r.2.mem ((c.tc : Thread Cert.RefpleoutIdeal.nD Cert.RefpleoutIdeal.τ).loc Cert.RefpleoutIdeal.main_arg0) = m ((c.tc : Thread Cert.RefpleoutIdeal.nD Cert.RefpleoutIdeal.τ).loc Cert.RefpleoutIdeal.main_arg0)
      ∧ r.2.mem ((c.tc : Thread Cert.RefpleoutIdeal.nD Cert.RefpleoutIdeal.τ).loc Cert.RefpleoutIdeal.main_arg1) = m ((c.tc : Thread Cert.RefpleoutIdeal.nD Cert.RefpleoutIdeal.τ).loc Cert.RefpleoutIdeal.main_arg1)
      ∧ r.2.mem ((c.tc : Thread Cert.RefpleoutIdeal.nD Cert.RefpleoutIdeal.τ).loc Cert.RefpleoutIdeal.main_arg2) = m ((c.tc : Thread Cert.RefpleoutIdeal.nD Cert.RefpleoutIdeal.τ).loc Cert.RefpleoutIdeal.main_arg2)
      ∧ r.2.mem ((c.tc : Thread Cert.RefpleoutIdeal.nD Cert.RefpleoutIdeal.τ).loc Cert.RefpleoutIdeal.main_arg3) = m ((c.tc : Thread Cert.RefpleoutIdeal.nD Cert.RefpleoutIdeal.τ).loc Cert.RefpleoutIdeal.main_arg3)
      ∧ r.2.mem ((c.tc : Thread Cert.RefpleoutIdeal.nD Cert.RefpleoutIdeal.τ).loc Cert.RefpleoutIdeal.main_arg4) = m ((c.tc : Thread Cert.RefpleoutIdeal.nD Cert.RefpleoutIdeal.τ).loc Cert.RefpleoutIdeal.main_arg4))
      ∧ r.2.sem = fun _ => 0)

def quiescent_Downproj [hDownproj : Cert.Downproj.Facts] : Prop :=
  ∀ (m : (ℓ : Loc Cert.Downproj.nD Cert.Downproj.τ Cert.Downproj.sig) → Buf (Elt Bits) ℓ) (g : Dev Cert.Downproj.nD → PrngReg), Pre_Downproj m →
    θ_run (Cert.Downproj.defs (F := Bits)) (onTc (τ := Cert.Downproj.τ) (Cert.Downproj.main (F := Bits))) ⟨m, fun _ => 0, g⟩ (fun r => (∀ c : Dev Cert.Downproj.nD,
      r.2.mem ((c.tc : Thread Cert.Downproj.nD Cert.Downproj.τ).loc Cert.Downproj.main_arg0) = m ((c.tc : Thread Cert.Downproj.nD Cert.Downproj.τ).loc Cert.Downproj.main_arg0)
      ∧ r.2.mem ((c.tc : Thread Cert.Downproj.nD Cert.Downproj.τ).loc Cert.Downproj.main_arg1) = m ((c.tc : Thread Cert.Downproj.nD Cert.Downproj.τ).loc Cert.Downproj.main_arg1)
      ∧ r.2.mem ((c.tc : Thread Cert.Downproj.nD Cert.Downproj.τ).loc Cert.Downproj.main_arg2) = m ((c.tc : Thread Cert.Downproj.nD Cert.Downproj.τ).loc Cert.Downproj.main_arg2))
      ∧ r.2.sem = fun _ => 0)

def quiescent_DownprojIdeal [hDownprojIdeal : Cert.DownprojIdeal.Facts] : Prop :=
  ∀ (m : (ℓ : Loc Cert.DownprojIdeal.nD Cert.DownprojIdeal.τ Cert.DownprojIdeal.sig) → Buf (Elt Ideal) ℓ) (g : Dev Cert.DownprojIdeal.nD → PrngReg), Pre_DownprojIdeal m →
    θ_run (Cert.DownprojIdeal.defs (F := Ideal)) (onTc (τ := Cert.DownprojIdeal.τ) (Cert.DownprojIdeal.main (F := Ideal))) ⟨m, fun _ => 0, g⟩ (fun r => (∀ c : Dev Cert.DownprojIdeal.nD,
      r.2.mem ((c.tc : Thread Cert.DownprojIdeal.nD Cert.DownprojIdeal.τ).loc Cert.DownprojIdeal.main_arg0) = m ((c.tc : Thread Cert.DownprojIdeal.nD Cert.DownprojIdeal.τ).loc Cert.DownprojIdeal.main_arg0)
      ∧ r.2.mem ((c.tc : Thread Cert.DownprojIdeal.nD Cert.DownprojIdeal.τ).loc Cert.DownprojIdeal.main_arg1) = m ((c.tc : Thread Cert.DownprojIdeal.nD Cert.DownprojIdeal.τ).loc Cert.DownprojIdeal.main_arg1)
      ∧ r.2.mem ((c.tc : Thread Cert.DownprojIdeal.nD Cert.DownprojIdeal.τ).loc Cert.DownprojIdeal.main_arg2) = m ((c.tc : Thread Cert.DownprojIdeal.nD Cert.DownprojIdeal.τ).loc Cert.DownprojIdeal.main_arg2))
      ∧ r.2.sem = fun _ => 0)

def quiescent_RefdownprojIdeal [hRefdownprojIdeal : Cert.RefdownprojIdeal.Facts] : Prop :=
  ∀ (m : (ℓ : Loc Cert.RefdownprojIdeal.nD Cert.RefdownprojIdeal.τ Cert.RefdownprojIdeal.sig) → Buf (Elt Ideal) ℓ) (g : Dev Cert.RefdownprojIdeal.nD → PrngReg), Pre_RefdownprojIdeal m →
    θ_run (Cert.RefdownprojIdeal.defs (F := Ideal)) (onTc (τ := Cert.RefdownprojIdeal.τ) (Cert.RefdownprojIdeal.main (F := Ideal))) ⟨m, fun _ => 0, g⟩ (fun r => (∀ c : Dev Cert.RefdownprojIdeal.nD,
      r.2.mem ((c.tc : Thread Cert.RefdownprojIdeal.nD Cert.RefdownprojIdeal.τ).loc Cert.RefdownprojIdeal.main_arg0) = m ((c.tc : Thread Cert.RefdownprojIdeal.nD Cert.RefdownprojIdeal.τ).loc Cert.RefdownprojIdeal.main_arg0)
      ∧ r.2.mem ((c.tc : Thread Cert.RefdownprojIdeal.nD Cert.RefdownprojIdeal.τ).loc Cert.RefdownprojIdeal.main_arg1) = m ((c.tc : Thread Cert.RefdownprojIdeal.nD Cert.RefdownprojIdeal.τ).loc Cert.RefdownprojIdeal.main_arg1)
      ∧ r.2.mem ((c.tc : Thread Cert.RefdownprojIdeal.nD Cert.RefdownprojIdeal.τ).loc Cert.RefdownprojIdeal.main_arg2) = m ((c.tc : Thread Cert.RefdownprojIdeal.nD Cert.RefdownprojIdeal.τ).loc Cert.RefdownprojIdeal.main_arg2))
      ∧ r.2.sem = fun _ => 0)

def quiescent_Evenout [hEvenout : Cert.Evenout.Facts] : Prop :=
  ∀ (m : (ℓ : Loc Cert.Evenout.nD Cert.Evenout.τ Cert.Evenout.sig) → Buf (Elt Bits) ℓ) (g : Dev Cert.Evenout.nD → PrngReg), Pre_Evenout m →
    θ_run (Cert.Evenout.defs (F := Bits)) (onTc (τ := Cert.Evenout.τ) (Cert.Evenout.main (F := Bits))) ⟨m, fun _ => 0, g⟩ (fun r => (∀ c : Dev Cert.Evenout.nD,
      r.2.mem ((c.tc : Thread Cert.Evenout.nD Cert.Evenout.τ).loc Cert.Evenout.main_arg0) = m ((c.tc : Thread Cert.Evenout.nD Cert.Evenout.τ).loc Cert.Evenout.main_arg0)
      ∧ r.2.mem ((c.tc : Thread Cert.Evenout.nD Cert.Evenout.τ).loc Cert.Evenout.main_arg1) = m ((c.tc : Thread Cert.Evenout.nD Cert.Evenout.τ).loc Cert.Evenout.main_arg1)
      ∧ r.2.mem ((c.tc : Thread Cert.Evenout.nD Cert.Evenout.τ).loc Cert.Evenout.main_arg2) = m ((c.tc : Thread Cert.Evenout.nD Cert.Evenout.τ).loc Cert.Evenout.main_arg2)
      ∧ r.2.mem ((c.tc : Thread Cert.Evenout.nD Cert.Evenout.τ).loc Cert.Evenout.main_arg3) = m ((c.tc : Thread Cert.Evenout.nD Cert.Evenout.τ).loc Cert.Evenout.main_arg3)
      ∧ r.2.mem ((c.tc : Thread Cert.Evenout.nD Cert.Evenout.τ).loc Cert.Evenout.main_arg4) = m ((c.tc : Thread Cert.Evenout.nD Cert.Evenout.τ).loc Cert.Evenout.main_arg4))
      ∧ r.2.sem = fun _ => 0)

def quiescent_EvenoutIdeal [hEvenoutIdeal : Cert.EvenoutIdeal.Facts] : Prop :=
  ∀ (m : (ℓ : Loc Cert.EvenoutIdeal.nD Cert.EvenoutIdeal.τ Cert.EvenoutIdeal.sig) → Buf (Elt Ideal) ℓ) (g : Dev Cert.EvenoutIdeal.nD → PrngReg), Pre_EvenoutIdeal m →
    θ_run (Cert.EvenoutIdeal.defs (F := Ideal)) (onTc (τ := Cert.EvenoutIdeal.τ) (Cert.EvenoutIdeal.main (F := Ideal))) ⟨m, fun _ => 0, g⟩ (fun r => (∀ c : Dev Cert.EvenoutIdeal.nD,
      r.2.mem ((c.tc : Thread Cert.EvenoutIdeal.nD Cert.EvenoutIdeal.τ).loc Cert.EvenoutIdeal.main_arg0) = m ((c.tc : Thread Cert.EvenoutIdeal.nD Cert.EvenoutIdeal.τ).loc Cert.EvenoutIdeal.main_arg0)
      ∧ r.2.mem ((c.tc : Thread Cert.EvenoutIdeal.nD Cert.EvenoutIdeal.τ).loc Cert.EvenoutIdeal.main_arg1) = m ((c.tc : Thread Cert.EvenoutIdeal.nD Cert.EvenoutIdeal.τ).loc Cert.EvenoutIdeal.main_arg1)
      ∧ r.2.mem ((c.tc : Thread Cert.EvenoutIdeal.nD Cert.EvenoutIdeal.τ).loc Cert.EvenoutIdeal.main_arg2) = m ((c.tc : Thread Cert.EvenoutIdeal.nD Cert.EvenoutIdeal.τ).loc Cert.EvenoutIdeal.main_arg2)
      ∧ r.2.mem ((c.tc : Thread Cert.EvenoutIdeal.nD Cert.EvenoutIdeal.τ).loc Cert.EvenoutIdeal.main_arg3) = m ((c.tc : Thread Cert.EvenoutIdeal.nD Cert.EvenoutIdeal.τ).loc Cert.EvenoutIdeal.main_arg3)
      ∧ r.2.mem ((c.tc : Thread Cert.EvenoutIdeal.nD Cert.EvenoutIdeal.τ).loc Cert.EvenoutIdeal.main_arg4) = m ((c.tc : Thread Cert.EvenoutIdeal.nD Cert.EvenoutIdeal.τ).loc Cert.EvenoutIdeal.main_arg4))
      ∧ r.2.sem = fun _ => 0)

def quiescent_RefevenoutIdeal [hRefevenoutIdeal : Cert.RefevenoutIdeal.Facts] : Prop :=
  ∀ (m : (ℓ : Loc Cert.RefevenoutIdeal.nD Cert.RefevenoutIdeal.τ Cert.RefevenoutIdeal.sig) → Buf (Elt Ideal) ℓ) (g : Dev Cert.RefevenoutIdeal.nD → PrngReg), Pre_RefevenoutIdeal m →
    θ_run (Cert.RefevenoutIdeal.defs (F := Ideal)) (onTc (τ := Cert.RefevenoutIdeal.τ) (Cert.RefevenoutIdeal.main (F := Ideal))) ⟨m, fun _ => 0, g⟩ (fun r => (∀ c : Dev Cert.RefevenoutIdeal.nD,
      r.2.mem ((c.tc : Thread Cert.RefevenoutIdeal.nD Cert.RefevenoutIdeal.τ).loc Cert.RefevenoutIdeal.main_arg0) = m ((c.tc : Thread Cert.RefevenoutIdeal.nD Cert.RefevenoutIdeal.τ).loc Cert.RefevenoutIdeal.main_arg0)
      ∧ r.2.mem ((c.tc : Thread Cert.RefevenoutIdeal.nD Cert.RefevenoutIdeal.τ).loc Cert.RefevenoutIdeal.main_arg1) = m ((c.tc : Thread Cert.RefevenoutIdeal.nD Cert.RefevenoutIdeal.τ).loc Cert.RefevenoutIdeal.main_arg1)
      ∧ r.2.mem ((c.tc : Thread Cert.RefevenoutIdeal.nD Cert.RefevenoutIdeal.τ).loc Cert.RefevenoutIdeal.main_arg2) = m ((c.tc : Thread Cert.RefevenoutIdeal.nD Cert.RefevenoutIdeal.τ).loc Cert.RefevenoutIdeal.main_arg2)
      ∧ r.2.mem ((c.tc : Thread Cert.RefevenoutIdeal.nD Cert.RefevenoutIdeal.τ).loc Cert.RefevenoutIdeal.main_arg3) = m ((c.tc : Thread Cert.RefevenoutIdeal.nD Cert.RefevenoutIdeal.τ).loc Cert.RefevenoutIdeal.main_arg3)
      ∧ r.2.mem ((c.tc : Thread Cert.RefevenoutIdeal.nD Cert.RefevenoutIdeal.τ).loc Cert.RefevenoutIdeal.main_arg4) = m ((c.tc : Thread Cert.RefevenoutIdeal.nD Cert.RefevenoutIdeal.τ).loc Cert.RefevenoutIdeal.main_arg4))
      ∧ r.2.sem = fun _ => 0)

def quiescent_Evenin [hEvenin : Cert.Evenin.Facts] : Prop :=
  ∀ (m : (ℓ : Loc Cert.Evenin.nD Cert.Evenin.τ Cert.Evenin.sig) → Buf (Elt Bits) ℓ) (g : Dev Cert.Evenin.nD → PrngReg), Pre_Evenin m →
    θ_run (Cert.Evenin.defs (F := Bits)) (onTc (τ := Cert.Evenin.τ) (Cert.Evenin.main (F := Bits))) ⟨m, fun _ => 0, g⟩ (fun r => (∀ c : Dev Cert.Evenin.nD,
      r.2.mem ((c.tc : Thread Cert.Evenin.nD Cert.Evenin.τ).loc Cert.Evenin.main_arg0) = m ((c.tc : Thread Cert.Evenin.nD Cert.Evenin.τ).loc Cert.Evenin.main_arg0)
      ∧ r.2.mem ((c.tc : Thread Cert.Evenin.nD Cert.Evenin.τ).loc Cert.Evenin.main_arg1) = m ((c.tc : Thread Cert.Evenin.nD Cert.Evenin.τ).loc Cert.Evenin.main_arg1)
      ∧ r.2.mem ((c.tc : Thread Cert.Evenin.nD Cert.Evenin.τ).loc Cert.Evenin.main_arg2) = m ((c.tc : Thread Cert.Evenin.nD Cert.Evenin.τ).loc Cert.Evenin.main_arg2))
      ∧ r.2.sem = fun _ => 0)

def quiescent_EveninIdeal [hEveninIdeal : Cert.EveninIdeal.Facts] : Prop :=
  ∀ (m : (ℓ : Loc Cert.EveninIdeal.nD Cert.EveninIdeal.τ Cert.EveninIdeal.sig) → Buf (Elt Ideal) ℓ) (g : Dev Cert.EveninIdeal.nD → PrngReg), Pre_EveninIdeal m →
    θ_run (Cert.EveninIdeal.defs (F := Ideal)) (onTc (τ := Cert.EveninIdeal.τ) (Cert.EveninIdeal.main (F := Ideal))) ⟨m, fun _ => 0, g⟩ (fun r => (∀ c : Dev Cert.EveninIdeal.nD,
      r.2.mem ((c.tc : Thread Cert.EveninIdeal.nD Cert.EveninIdeal.τ).loc Cert.EveninIdeal.main_arg0) = m ((c.tc : Thread Cert.EveninIdeal.nD Cert.EveninIdeal.τ).loc Cert.EveninIdeal.main_arg0)
      ∧ r.2.mem ((c.tc : Thread Cert.EveninIdeal.nD Cert.EveninIdeal.τ).loc Cert.EveninIdeal.main_arg1) = m ((c.tc : Thread Cert.EveninIdeal.nD Cert.EveninIdeal.τ).loc Cert.EveninIdeal.main_arg1)
      ∧ r.2.mem ((c.tc : Thread Cert.EveninIdeal.nD Cert.EveninIdeal.τ).loc Cert.EveninIdeal.main_arg2) = m ((c.tc : Thread Cert.EveninIdeal.nD Cert.EveninIdeal.τ).loc Cert.EveninIdeal.main_arg2))
      ∧ r.2.sem = fun _ => 0)

def quiescent_RefeveninIdeal [hRefeveninIdeal : Cert.RefeveninIdeal.Facts] : Prop :=
  ∀ (m : (ℓ : Loc Cert.RefeveninIdeal.nD Cert.RefeveninIdeal.τ Cert.RefeveninIdeal.sig) → Buf (Elt Ideal) ℓ) (g : Dev Cert.RefeveninIdeal.nD → PrngReg), Pre_RefeveninIdeal m →
    θ_run (Cert.RefeveninIdeal.defs (F := Ideal)) (onTc (τ := Cert.RefeveninIdeal.τ) (Cert.RefeveninIdeal.main (F := Ideal))) ⟨m, fun _ => 0, g⟩ (fun r => (∀ c : Dev Cert.RefeveninIdeal.nD,
      r.2.mem ((c.tc : Thread Cert.RefeveninIdeal.nD Cert.RefeveninIdeal.τ).loc Cert.RefeveninIdeal.main_arg0) = m ((c.tc : Thread Cert.RefeveninIdeal.nD Cert.RefeveninIdeal.τ).loc Cert.RefeveninIdeal.main_arg0)
      ∧ r.2.mem ((c.tc : Thread Cert.RefeveninIdeal.nD Cert.RefeveninIdeal.τ).loc Cert.RefeveninIdeal.main_arg1) = m ((c.tc : Thread Cert.RefeveninIdeal.nD Cert.RefeveninIdeal.τ).loc Cert.RefeveninIdeal.main_arg1)
      ∧ r.2.mem ((c.tc : Thread Cert.RefeveninIdeal.nD Cert.RefeveninIdeal.τ).loc Cert.RefeveninIdeal.main_arg2) = m ((c.tc : Thread Cert.RefeveninIdeal.nD Cert.RefeveninIdeal.τ).loc Cert.RefeveninIdeal.main_arg2))
      ∧ r.2.sem = fun _ => 0)

def quiescent_Oddin [hOddin : Cert.Oddin.Facts] : Prop :=
  ∀ (m : (ℓ : Loc Cert.Oddin.nD Cert.Oddin.τ Cert.Oddin.sig) → Buf (Elt Bits) ℓ) (g : Dev Cert.Oddin.nD → PrngReg), Pre_Oddin m →
    θ_run (Cert.Oddin.defs (F := Bits)) (onTc (τ := Cert.Oddin.τ) (Cert.Oddin.main (F := Bits))) ⟨m, fun _ => 0, g⟩ (fun r => (∀ c : Dev Cert.Oddin.nD,
      r.2.mem ((c.tc : Thread Cert.Oddin.nD Cert.Oddin.τ).loc Cert.Oddin.main_arg0) = m ((c.tc : Thread Cert.Oddin.nD Cert.Oddin.τ).loc Cert.Oddin.main_arg0)
      ∧ r.2.mem ((c.tc : Thread Cert.Oddin.nD Cert.Oddin.τ).loc Cert.Oddin.main_arg1) = m ((c.tc : Thread Cert.Oddin.nD Cert.Oddin.τ).loc Cert.Oddin.main_arg1)
      ∧ r.2.mem ((c.tc : Thread Cert.Oddin.nD Cert.Oddin.τ).loc Cert.Oddin.main_arg2) = m ((c.tc : Thread Cert.Oddin.nD Cert.Oddin.τ).loc Cert.Oddin.main_arg2))
      ∧ r.2.sem = fun _ => 0)

def quiescent_OddinIdeal [hOddinIdeal : Cert.OddinIdeal.Facts] : Prop :=
  ∀ (m : (ℓ : Loc Cert.OddinIdeal.nD Cert.OddinIdeal.τ Cert.OddinIdeal.sig) → Buf (Elt Ideal) ℓ) (g : Dev Cert.OddinIdeal.nD → PrngReg), Pre_OddinIdeal m →
    θ_run (Cert.OddinIdeal.defs (F := Ideal)) (onTc (τ := Cert.OddinIdeal.τ) (Cert.OddinIdeal.main (F := Ideal))) ⟨m, fun _ => 0, g⟩ (fun r => (∀ c : Dev Cert.OddinIdeal.nD,
      r.2.mem ((c.tc : Thread Cert.OddinIdeal.nD Cert.OddinIdeal.τ).loc Cert.OddinIdeal.main_arg0) = m ((c.tc : Thread Cert.OddinIdeal.nD Cert.OddinIdeal.τ).loc Cert.OddinIdeal.main_arg0)
      ∧ r.2.mem ((c.tc : Thread Cert.OddinIdeal.nD Cert.OddinIdeal.τ).loc Cert.OddinIdeal.main_arg1) = m ((c.tc : Thread Cert.OddinIdeal.nD Cert.OddinIdeal.τ).loc Cert.OddinIdeal.main_arg1)
      ∧ r.2.mem ((c.tc : Thread Cert.OddinIdeal.nD Cert.OddinIdeal.τ).loc Cert.OddinIdeal.main_arg2) = m ((c.tc : Thread Cert.OddinIdeal.nD Cert.OddinIdeal.τ).loc Cert.OddinIdeal.main_arg2))
      ∧ r.2.sem = fun _ => 0)

def quiescent_RefoddinIdeal [hRefoddinIdeal : Cert.RefoddinIdeal.Facts] : Prop :=
  ∀ (m : (ℓ : Loc Cert.RefoddinIdeal.nD Cert.RefoddinIdeal.τ Cert.RefoddinIdeal.sig) → Buf (Elt Ideal) ℓ) (g : Dev Cert.RefoddinIdeal.nD → PrngReg), Pre_RefoddinIdeal m →
    θ_run (Cert.RefoddinIdeal.defs (F := Ideal)) (onTc (τ := Cert.RefoddinIdeal.τ) (Cert.RefoddinIdeal.main (F := Ideal))) ⟨m, fun _ => 0, g⟩ (fun r => (∀ c : Dev Cert.RefoddinIdeal.nD,
      r.2.mem ((c.tc : Thread Cert.RefoddinIdeal.nD Cert.RefoddinIdeal.τ).loc Cert.RefoddinIdeal.main_arg0) = m ((c.tc : Thread Cert.RefoddinIdeal.nD Cert.RefoddinIdeal.τ).loc Cert.RefoddinIdeal.main_arg0)
      ∧ r.2.mem ((c.tc : Thread Cert.RefoddinIdeal.nD Cert.RefoddinIdeal.τ).loc Cert.RefoddinIdeal.main_arg1) = m ((c.tc : Thread Cert.RefoddinIdeal.nD Cert.RefoddinIdeal.τ).loc Cert.RefoddinIdeal.main_arg1)
      ∧ r.2.mem ((c.tc : Thread Cert.RefoddinIdeal.nD Cert.RefoddinIdeal.τ).loc Cert.RefoddinIdeal.main_arg2) = m ((c.tc : Thread Cert.RefoddinIdeal.nD Cert.RefoddinIdeal.τ).loc Cert.RefoddinIdeal.main_arg2))
      ∧ r.2.sem = fun _ => 0)

def quiescent_Ffnact [hFfnact : Cert.Ffnact.Facts] : Prop :=
  ∀ (m : (ℓ : Loc Cert.Ffnact.nD Cert.Ffnact.τ Cert.Ffnact.sig) → Buf (Elt Bits) ℓ) (g : Dev Cert.Ffnact.nD → PrngReg), Pre_Ffnact m →
    θ_run (Cert.Ffnact.defs (F := Bits)) (onTc (τ := Cert.Ffnact.τ) (Cert.Ffnact.main (F := Bits))) ⟨m, fun _ => 0, g⟩ (fun r => (∀ c : Dev Cert.Ffnact.nD,
      r.2.mem ((c.tc : Thread Cert.Ffnact.nD Cert.Ffnact.τ).loc Cert.Ffnact.main_arg0) = m ((c.tc : Thread Cert.Ffnact.nD Cert.Ffnact.τ).loc Cert.Ffnact.main_arg0)
      ∧ r.2.mem ((c.tc : Thread Cert.Ffnact.nD Cert.Ffnact.τ).loc Cert.Ffnact.main_arg1) = m ((c.tc : Thread Cert.Ffnact.nD Cert.Ffnact.τ).loc Cert.Ffnact.main_arg1)
      ∧ r.2.mem ((c.tc : Thread Cert.Ffnact.nD Cert.Ffnact.τ).loc Cert.Ffnact.main_arg2) = m ((c.tc : Thread Cert.Ffnact.nD Cert.Ffnact.τ).loc Cert.Ffnact.main_arg2)
      ∧ r.2.mem ((c.tc : Thread Cert.Ffnact.nD Cert.Ffnact.τ).loc Cert.Ffnact.main_arg3) = m ((c.tc : Thread Cert.Ffnact.nD Cert.Ffnact.τ).loc Cert.Ffnact.main_arg3)
      ∧ r.2.mem ((c.tc : Thread Cert.Ffnact.nD Cert.Ffnact.τ).loc Cert.Ffnact.main_arg4) = m ((c.tc : Thread Cert.Ffnact.nD Cert.Ffnact.τ).loc Cert.Ffnact.main_arg4)
      ∧ r.2.mem ((c.tc : Thread Cert.Ffnact.nD Cert.Ffnact.τ).loc Cert.Ffnact.main_arg5) = m ((c.tc : Thread Cert.Ffnact.nD Cert.Ffnact.τ).loc Cert.Ffnact.main_arg5))
      ∧ r.2.sem = fun _ => 0)

def quiescent_FfnactIdeal [hFfnactIdeal : Cert.FfnactIdeal.Facts] : Prop :=
  ∀ (m : (ℓ : Loc Cert.FfnactIdeal.nD Cert.FfnactIdeal.τ Cert.FfnactIdeal.sig) → Buf (Elt Ideal) ℓ) (g : Dev Cert.FfnactIdeal.nD → PrngReg), Pre_FfnactIdeal m →
    θ_run (Cert.FfnactIdeal.defs (F := Ideal)) (onTc (τ := Cert.FfnactIdeal.τ) (Cert.FfnactIdeal.main (F := Ideal))) ⟨m, fun _ => 0, g⟩ (fun r => (∀ c : Dev Cert.FfnactIdeal.nD,
      r.2.mem ((c.tc : Thread Cert.FfnactIdeal.nD Cert.FfnactIdeal.τ).loc Cert.FfnactIdeal.main_arg0) = m ((c.tc : Thread Cert.FfnactIdeal.nD Cert.FfnactIdeal.τ).loc Cert.FfnactIdeal.main_arg0)
      ∧ r.2.mem ((c.tc : Thread Cert.FfnactIdeal.nD Cert.FfnactIdeal.τ).loc Cert.FfnactIdeal.main_arg1) = m ((c.tc : Thread Cert.FfnactIdeal.nD Cert.FfnactIdeal.τ).loc Cert.FfnactIdeal.main_arg1)
      ∧ r.2.mem ((c.tc : Thread Cert.FfnactIdeal.nD Cert.FfnactIdeal.τ).loc Cert.FfnactIdeal.main_arg2) = m ((c.tc : Thread Cert.FfnactIdeal.nD Cert.FfnactIdeal.τ).loc Cert.FfnactIdeal.main_arg2)
      ∧ r.2.mem ((c.tc : Thread Cert.FfnactIdeal.nD Cert.FfnactIdeal.τ).loc Cert.FfnactIdeal.main_arg3) = m ((c.tc : Thread Cert.FfnactIdeal.nD Cert.FfnactIdeal.τ).loc Cert.FfnactIdeal.main_arg3)
      ∧ r.2.mem ((c.tc : Thread Cert.FfnactIdeal.nD Cert.FfnactIdeal.τ).loc Cert.FfnactIdeal.main_arg4) = m ((c.tc : Thread Cert.FfnactIdeal.nD Cert.FfnactIdeal.τ).loc Cert.FfnactIdeal.main_arg4)
      ∧ r.2.mem ((c.tc : Thread Cert.FfnactIdeal.nD Cert.FfnactIdeal.τ).loc Cert.FfnactIdeal.main_arg5) = m ((c.tc : Thread Cert.FfnactIdeal.nD Cert.FfnactIdeal.τ).loc Cert.FfnactIdeal.main_arg5))
      ∧ r.2.sem = fun _ => 0)

def quiescent_RefffnactIdeal [hRefffnactIdeal : Cert.RefffnactIdeal.Facts] : Prop :=
  ∀ (m : (ℓ : Loc Cert.RefffnactIdeal.nD Cert.RefffnactIdeal.τ Cert.RefffnactIdeal.sig) → Buf (Elt Ideal) ℓ) (g : Dev Cert.RefffnactIdeal.nD → PrngReg), Pre_RefffnactIdeal m →
    θ_run (Cert.RefffnactIdeal.defs (F := Ideal)) (onTc (τ := Cert.RefffnactIdeal.τ) (Cert.RefffnactIdeal.main (F := Ideal))) ⟨m, fun _ => 0, g⟩ (fun r => (∀ c : Dev Cert.RefffnactIdeal.nD,
      r.2.mem ((c.tc : Thread Cert.RefffnactIdeal.nD Cert.RefffnactIdeal.τ).loc Cert.RefffnactIdeal.main_arg0) = m ((c.tc : Thread Cert.RefffnactIdeal.nD Cert.RefffnactIdeal.τ).loc Cert.RefffnactIdeal.main_arg0)
      ∧ r.2.mem ((c.tc : Thread Cert.RefffnactIdeal.nD Cert.RefffnactIdeal.τ).loc Cert.RefffnactIdeal.main_arg1) = m ((c.tc : Thread Cert.RefffnactIdeal.nD Cert.RefffnactIdeal.τ).loc Cert.RefffnactIdeal.main_arg1)
      ∧ r.2.mem ((c.tc : Thread Cert.RefffnactIdeal.nD Cert.RefffnactIdeal.τ).loc Cert.RefffnactIdeal.main_arg2) = m ((c.tc : Thread Cert.RefffnactIdeal.nD Cert.RefffnactIdeal.τ).loc Cert.RefffnactIdeal.main_arg2)
      ∧ r.2.mem ((c.tc : Thread Cert.RefffnactIdeal.nD Cert.RefffnactIdeal.τ).loc Cert.RefffnactIdeal.main_arg3) = m ((c.tc : Thread Cert.RefffnactIdeal.nD Cert.RefffnactIdeal.τ).loc Cert.RefffnactIdeal.main_arg3)
      ∧ r.2.mem ((c.tc : Thread Cert.RefffnactIdeal.nD Cert.RefffnactIdeal.τ).loc Cert.RefffnactIdeal.main_arg4) = m ((c.tc : Thread Cert.RefffnactIdeal.nD Cert.RefffnactIdeal.τ).loc Cert.RefffnactIdeal.main_arg4)
      ∧ r.2.mem ((c.tc : Thread Cert.RefffnactIdeal.nD Cert.RefffnactIdeal.τ).loc Cert.RefffnactIdeal.main_arg5) = m ((c.tc : Thread Cert.RefffnactIdeal.nD Cert.RefffnactIdeal.τ).loc Cert.RefffnactIdeal.main_arg5))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_ReffoxIdeal [hReffoxIdeal : Cert.ReffoxIdeal.Facts] : Prop :=
  ∀ (m : (ℓ : Loc Cert.ReffoxIdeal.nD Cert.ReffoxIdeal.τ Cert.ReffoxIdeal.sig) → Buf (Elt Ideal) ℓ) (g : Dev Cert.ReffoxIdeal.nD → PrngReg), Pre_ReffoxIdeal m →
    θ_run (Cert.ReffoxIdeal.defs (F := Ideal)) (onTc (τ := Cert.ReffoxIdeal.τ) (Cert.ReffoxIdeal.main (F := Ideal))) ⟨m, fun _ => 0, g⟩ (fun r => (∀ c : Dev Cert.ReffoxIdeal.nD,
      r.2.mem ((c.tc : Thread Cert.ReffoxIdeal.nD Cert.ReffoxIdeal.τ).loc Cert.ReffoxIdeal.main_arg0) = m ((c.tc : Thread Cert.ReffoxIdeal.nD Cert.ReffoxIdeal.τ).loc Cert.ReffoxIdeal.main_arg0)
      ∧ r.2.mem ((c.tc : Thread Cert.ReffoxIdeal.nD Cert.ReffoxIdeal.τ).loc Cert.ReffoxIdeal.main_arg1) = m ((c.tc : Thread Cert.ReffoxIdeal.nD Cert.ReffoxIdeal.τ).loc Cert.ReffoxIdeal.main_arg1)
      ∧ r.2.mem ((c.tc : Thread Cert.ReffoxIdeal.nD Cert.ReffoxIdeal.τ).loc Cert.ReffoxIdeal.main_arg2) = m ((c.tc : Thread Cert.ReffoxIdeal.nD Cert.ReffoxIdeal.τ).loc Cert.ReffoxIdeal.main_arg2))
      ∧ r.2.sem = fun _ => 0)

def quiescent_Oddout [hOddout : Cert.Oddout.Facts] : Prop :=
  ∀ (m : (ℓ : Loc Cert.Oddout.nD Cert.Oddout.τ Cert.Oddout.sig) → Buf (Elt Bits) ℓ) (g : Dev Cert.Oddout.nD → PrngReg), Pre_Oddout m →
    θ_run (Cert.Oddout.defs (F := Bits)) (onTc (τ := Cert.Oddout.τ) (Cert.Oddout.main (F := Bits))) ⟨m, fun _ => 0, g⟩ (fun r => (∀ c : Dev Cert.Oddout.nD,
      r.2.mem ((c.tc : Thread Cert.Oddout.nD Cert.Oddout.τ).loc Cert.Oddout.main_arg0) = m ((c.tc : Thread Cert.Oddout.nD Cert.Oddout.τ).loc Cert.Oddout.main_arg0)
      ∧ r.2.mem ((c.tc : Thread Cert.Oddout.nD Cert.Oddout.τ).loc Cert.Oddout.main_arg1) = m ((c.tc : Thread Cert.Oddout.nD Cert.Oddout.τ).loc Cert.Oddout.main_arg1)
      ∧ r.2.mem ((c.tc : Thread Cert.Oddout.nD Cert.Oddout.τ).loc Cert.Oddout.main_arg2) = m ((c.tc : Thread Cert.Oddout.nD Cert.Oddout.τ).loc Cert.Oddout.main_arg2)
      ∧ r.2.mem ((c.tc : Thread Cert.Oddout.nD Cert.Oddout.τ).loc Cert.Oddout.main_arg3) = m ((c.tc : Thread Cert.Oddout.nD Cert.Oddout.τ).loc Cert.Oddout.main_arg3)
      ∧ r.2.mem ((c.tc : Thread Cert.Oddout.nD Cert.Oddout.τ).loc Cert.Oddout.main_arg4) = m ((c.tc : Thread Cert.Oddout.nD Cert.Oddout.τ).loc Cert.Oddout.main_arg4)
      ∧ r.2.mem ((c.tc : Thread Cert.Oddout.nD Cert.Oddout.τ).loc Cert.Oddout.main_arg5) = m ((c.tc : Thread Cert.Oddout.nD Cert.Oddout.τ).loc Cert.Oddout.main_arg5)
      ∧ r.2.mem ((c.tc : Thread Cert.Oddout.nD Cert.Oddout.τ).loc Cert.Oddout.main_arg6) = m ((c.tc : Thread Cert.Oddout.nD Cert.Oddout.τ).loc Cert.Oddout.main_arg6)
      ∧ r.2.mem ((c.tc : Thread Cert.Oddout.nD Cert.Oddout.τ).loc Cert.Oddout.main_arg7) = m ((c.tc : Thread Cert.Oddout.nD Cert.Oddout.τ).loc Cert.Oddout.main_arg7)
      ∧ r.2.mem ((c.tc : Thread Cert.Oddout.nD Cert.Oddout.τ).loc Cert.Oddout.main_arg8) = m ((c.tc : Thread Cert.Oddout.nD Cert.Oddout.τ).loc Cert.Oddout.main_arg8))
      ∧ r.2.sem = fun _ => 0)

def quiescent_OddoutIdeal [hOddoutIdeal : Cert.OddoutIdeal.Facts] : Prop :=
  ∀ (m : (ℓ : Loc Cert.OddoutIdeal.nD Cert.OddoutIdeal.τ Cert.OddoutIdeal.sig) → Buf (Elt Ideal) ℓ) (g : Dev Cert.OddoutIdeal.nD → PrngReg), Pre_OddoutIdeal m →
    θ_run (Cert.OddoutIdeal.defs (F := Ideal)) (onTc (τ := Cert.OddoutIdeal.τ) (Cert.OddoutIdeal.main (F := Ideal))) ⟨m, fun _ => 0, g⟩ (fun r => (∀ c : Dev Cert.OddoutIdeal.nD,
      r.2.mem ((c.tc : Thread Cert.OddoutIdeal.nD Cert.OddoutIdeal.τ).loc Cert.OddoutIdeal.main_arg0) = m ((c.tc : Thread Cert.OddoutIdeal.nD Cert.OddoutIdeal.τ).loc Cert.OddoutIdeal.main_arg0)
      ∧ r.2.mem ((c.tc : Thread Cert.OddoutIdeal.nD Cert.OddoutIdeal.τ).loc Cert.OddoutIdeal.main_arg1) = m ((c.tc : Thread Cert.OddoutIdeal.nD Cert.OddoutIdeal.τ).loc Cert.OddoutIdeal.main_arg1)
      ∧ r.2.mem ((c.tc : Thread Cert.OddoutIdeal.nD Cert.OddoutIdeal.τ).loc Cert.OddoutIdeal.main_arg2) = m ((c.tc : Thread Cert.OddoutIdeal.nD Cert.OddoutIdeal.τ).loc Cert.OddoutIdeal.main_arg2)
      ∧ r.2.mem ((c.tc : Thread Cert.OddoutIdeal.nD Cert.OddoutIdeal.τ).loc Cert.OddoutIdeal.main_arg3) = m ((c.tc : Thread Cert.OddoutIdeal.nD Cert.OddoutIdeal.τ).loc Cert.OddoutIdeal.main_arg3)
      ∧ r.2.mem ((c.tc : Thread Cert.OddoutIdeal.nD Cert.OddoutIdeal.τ).loc Cert.OddoutIdeal.main_arg4) = m ((c.tc : Thread Cert.OddoutIdeal.nD Cert.OddoutIdeal.τ).loc Cert.OddoutIdeal.main_arg4)
      ∧ r.2.mem ((c.tc : Thread Cert.OddoutIdeal.nD Cert.OddoutIdeal.τ).loc Cert.OddoutIdeal.main_arg5) = m ((c.tc : Thread Cert.OddoutIdeal.nD Cert.OddoutIdeal.τ).loc Cert.OddoutIdeal.main_arg5)
      ∧ r.2.mem ((c.tc : Thread Cert.OddoutIdeal.nD Cert.OddoutIdeal.τ).loc Cert.OddoutIdeal.main_arg6) = m ((c.tc : Thread Cert.OddoutIdeal.nD Cert.OddoutIdeal.τ).loc Cert.OddoutIdeal.main_arg6)
      ∧ r.2.mem ((c.tc : Thread Cert.OddoutIdeal.nD Cert.OddoutIdeal.τ).loc Cert.OddoutIdeal.main_arg7) = m ((c.tc : Thread Cert.OddoutIdeal.nD Cert.OddoutIdeal.τ).loc Cert.OddoutIdeal.main_arg7)
      ∧ r.2.mem ((c.tc : Thread Cert.OddoutIdeal.nD Cert.OddoutIdeal.τ).loc Cert.OddoutIdeal.main_arg8) = m ((c.tc : Thread Cert.OddoutIdeal.nD Cert.OddoutIdeal.τ).loc Cert.OddoutIdeal.main_arg8))
      ∧ r.2.sem = fun _ => 0)

def quiescent_RefoddoutIdeal [hRefoddoutIdeal : Cert.RefoddoutIdeal.Facts] : Prop :=
  ∀ (m : (ℓ : Loc Cert.RefoddoutIdeal.nD Cert.RefoddoutIdeal.τ Cert.RefoddoutIdeal.sig) → Buf (Elt Ideal) ℓ) (g : Dev Cert.RefoddoutIdeal.nD → PrngReg), Pre_RefoddoutIdeal m →
    θ_run (Cert.RefoddoutIdeal.defs (F := Ideal)) (onTc (τ := Cert.RefoddoutIdeal.τ) (Cert.RefoddoutIdeal.main (F := Ideal))) ⟨m, fun _ => 0, g⟩ (fun r => (∀ c : Dev Cert.RefoddoutIdeal.nD,
      r.2.mem ((c.tc : Thread Cert.RefoddoutIdeal.nD Cert.RefoddoutIdeal.τ).loc Cert.RefoddoutIdeal.main_arg0) = m ((c.tc : Thread Cert.RefoddoutIdeal.nD Cert.RefoddoutIdeal.τ).loc Cert.RefoddoutIdeal.main_arg0)
      ∧ r.2.mem ((c.tc : Thread Cert.RefoddoutIdeal.nD Cert.RefoddoutIdeal.τ).loc Cert.RefoddoutIdeal.main_arg1) = m ((c.tc : Thread Cert.RefoddoutIdeal.nD Cert.RefoddoutIdeal.τ).loc Cert.RefoddoutIdeal.main_arg1)
      ∧ r.2.mem ((c.tc : Thread Cert.RefoddoutIdeal.nD Cert.RefoddoutIdeal.τ).loc Cert.RefoddoutIdeal.main_arg2) = m ((c.tc : Thread Cert.RefoddoutIdeal.nD Cert.RefoddoutIdeal.τ).loc Cert.RefoddoutIdeal.main_arg2)
      ∧ r.2.mem ((c.tc : Thread Cert.RefoddoutIdeal.nD Cert.RefoddoutIdeal.τ).loc Cert.RefoddoutIdeal.main_arg3) = m ((c.tc : Thread Cert.RefoddoutIdeal.nD Cert.RefoddoutIdeal.τ).loc Cert.RefoddoutIdeal.main_arg3)
      ∧ r.2.mem ((c.tc : Thread Cert.RefoddoutIdeal.nD Cert.RefoddoutIdeal.τ).loc Cert.RefoddoutIdeal.main_arg4) = m ((c.tc : Thread Cert.RefoddoutIdeal.nD Cert.RefoddoutIdeal.τ).loc Cert.RefoddoutIdeal.main_arg4)
      ∧ r.2.mem ((c.tc : Thread Cert.RefoddoutIdeal.nD Cert.RefoddoutIdeal.τ).loc Cert.RefoddoutIdeal.main_arg5) = m ((c.tc : Thread Cert.RefoddoutIdeal.nD Cert.RefoddoutIdeal.τ).loc Cert.RefoddoutIdeal.main_arg5)
      ∧ r.2.mem ((c.tc : Thread Cert.RefoddoutIdeal.nD Cert.RefoddoutIdeal.τ).loc Cert.RefoddoutIdeal.main_arg6) = m ((c.tc : Thread Cert.RefoddoutIdeal.nD Cert.RefoddoutIdeal.τ).loc Cert.RefoddoutIdeal.main_arg6)
      ∧ r.2.mem ((c.tc : Thread Cert.RefoddoutIdeal.nD Cert.RefoddoutIdeal.τ).loc Cert.RefoddoutIdeal.main_arg7) = m ((c.tc : Thread Cert.RefoddoutIdeal.nD Cert.RefoddoutIdeal.τ).loc Cert.RefoddoutIdeal.main_arg7)
      ∧ r.2.mem ((c.tc : Thread Cert.RefoddoutIdeal.nD Cert.RefoddoutIdeal.τ).loc Cert.RefoddoutIdeal.main_arg8) = m ((c.tc : Thread Cert.RefoddoutIdeal.nD Cert.RefoddoutIdeal.τ).loc Cert.RefoddoutIdeal.main_arg8))
      ∧ r.2.sem = fun _ => 0)

def quiescent_Dsa [hDsa : Cert.Dsa.Facts] : Prop :=
  ∀ (m : (ℓ : Loc Cert.Dsa.nD Cert.Dsa.τ Cert.Dsa.sig) → Buf (Elt Bits) ℓ) (g : Dev Cert.Dsa.nD → PrngReg), Pre_Dsa m →
    θ_run (Cert.Dsa.defs (F := Bits)) (onTc (τ := Cert.Dsa.τ) (Cert.Dsa.main (F := Bits))) ⟨m, fun _ => 0, g⟩ (fun r => (∀ c : Dev Cert.Dsa.nD,
      r.2.mem ((c.tc : Thread Cert.Dsa.nD Cert.Dsa.τ).loc Cert.Dsa.main_arg0) = m ((c.tc : Thread Cert.Dsa.nD Cert.Dsa.τ).loc Cert.Dsa.main_arg0)
      ∧ r.2.mem ((c.tc : Thread Cert.Dsa.nD Cert.Dsa.τ).loc Cert.Dsa.main_arg1) = m ((c.tc : Thread Cert.Dsa.nD Cert.Dsa.τ).loc Cert.Dsa.main_arg1)
      ∧ r.2.mem ((c.tc : Thread Cert.Dsa.nD Cert.Dsa.τ).loc Cert.Dsa.main_arg2) = m ((c.tc : Thread Cert.Dsa.nD Cert.Dsa.τ).loc Cert.Dsa.main_arg2)
      ∧ r.2.mem ((c.tc : Thread Cert.Dsa.nD Cert.Dsa.τ).loc Cert.Dsa.main_arg3) = m ((c.tc : Thread Cert.Dsa.nD Cert.Dsa.τ).loc Cert.Dsa.main_arg3))
      ∧ r.2.sem = fun _ => 0)

def quiescent_DsaIdeal [hDsaIdeal : Cert.DsaIdeal.Facts] : Prop :=
  ∀ (m : (ℓ : Loc Cert.DsaIdeal.nD Cert.DsaIdeal.τ Cert.DsaIdeal.sig) → Buf (Elt Ideal) ℓ) (g : Dev Cert.DsaIdeal.nD → PrngReg), Pre_DsaIdeal m →
    θ_run (Cert.DsaIdeal.defs (F := Ideal)) (onTc (τ := Cert.DsaIdeal.τ) (Cert.DsaIdeal.main (F := Ideal))) ⟨m, fun _ => 0, g⟩ (fun r => (∀ c : Dev Cert.DsaIdeal.nD,
      r.2.mem ((c.tc : Thread Cert.DsaIdeal.nD Cert.DsaIdeal.τ).loc Cert.DsaIdeal.main_arg0) = m ((c.tc : Thread Cert.DsaIdeal.nD Cert.DsaIdeal.τ).loc Cert.DsaIdeal.main_arg0)
      ∧ r.2.mem ((c.tc : Thread Cert.DsaIdeal.nD Cert.DsaIdeal.τ).loc Cert.DsaIdeal.main_arg1) = m ((c.tc : Thread Cert.DsaIdeal.nD Cert.DsaIdeal.τ).loc Cert.DsaIdeal.main_arg1)
      ∧ r.2.mem ((c.tc : Thread Cert.DsaIdeal.nD Cert.DsaIdeal.τ).loc Cert.DsaIdeal.main_arg2) = m ((c.tc : Thread Cert.DsaIdeal.nD Cert.DsaIdeal.τ).loc Cert.DsaIdeal.main_arg2)
      ∧ r.2.mem ((c.tc : Thread Cert.DsaIdeal.nD Cert.DsaIdeal.τ).loc Cert.DsaIdeal.main_arg3) = m ((c.tc : Thread Cert.DsaIdeal.nD Cert.DsaIdeal.τ).loc Cert.DsaIdeal.main_arg3))
      ∧ r.2.sem = fun _ => 0)

def quiescent_RefdsaIdeal [hRefdsaIdeal : Cert.RefdsaIdeal.Facts] : Prop :=
  ∀ (m : (ℓ : Loc Cert.RefdsaIdeal.nD Cert.RefdsaIdeal.τ Cert.RefdsaIdeal.sig) → Buf (Elt Ideal) ℓ) (g : Dev Cert.RefdsaIdeal.nD → PrngReg), Pre_RefdsaIdeal m →
    θ_run (Cert.RefdsaIdeal.defs (F := Ideal)) (onTc (τ := Cert.RefdsaIdeal.τ) (Cert.RefdsaIdeal.main (F := Ideal))) ⟨m, fun _ => 0, g⟩ (fun r => (∀ c : Dev Cert.RefdsaIdeal.nD,
      r.2.mem ((c.tc : Thread Cert.RefdsaIdeal.nD Cert.RefdsaIdeal.τ).loc Cert.RefdsaIdeal.main_arg0) = m ((c.tc : Thread Cert.RefdsaIdeal.nD Cert.RefdsaIdeal.τ).loc Cert.RefdsaIdeal.main_arg0)
      ∧ r.2.mem ((c.tc : Thread Cert.RefdsaIdeal.nD Cert.RefdsaIdeal.τ).loc Cert.RefdsaIdeal.main_arg1) = m ((c.tc : Thread Cert.RefdsaIdeal.nD Cert.RefdsaIdeal.τ).loc Cert.RefdsaIdeal.main_arg1)
      ∧ r.2.mem ((c.tc : Thread Cert.RefdsaIdeal.nD Cert.RefdsaIdeal.τ).loc Cert.RefdsaIdeal.main_arg2) = m ((c.tc : Thread Cert.RefdsaIdeal.nD Cert.RefdsaIdeal.τ).loc Cert.RefdsaIdeal.main_arg2)
      ∧ r.2.mem ((c.tc : Thread Cert.RefdsaIdeal.nD Cert.RefdsaIdeal.τ).loc Cert.RefdsaIdeal.main_arg3) = m ((c.tc : Thread Cert.RefdsaIdeal.nD Cert.RefdsaIdeal.τ).loc Cert.RefdsaIdeal.main_arg3))
      ∧ r.2.sem = fun _ => 0)

def preserves_Dilone_DiloneIdeal : Prop :=
  IdealRules.named_const.Statement Cert.DiloneIdeal.κ "inv_ln2" .f32 0x3FB8AA3B#32 (((Real.log 2)⁻¹ : ℝ) : EReal)

def algebraic_DiloneIdeal_RefoneIdeal [hDiloneIdeal : Cert.DiloneIdeal.Facts] [hRefoneIdeal : Cert.RefoneIdeal.Facts] : Prop :=
  ∀ (m : (ℓ : Loc Cert.DiloneIdeal.nD Cert.DiloneIdeal.τ Cert.DiloneIdeal.sig) → Buf (Elt Ideal) ℓ) (g : Dev Cert.DiloneIdeal.nD → PrngReg)
    (m' : (ℓ : Loc Cert.RefoneIdeal.nD Cert.RefoneIdeal.τ Cert.RefoneIdeal.sig) → Buf (Elt Ideal) ℓ) (g' : Dev Cert.RefoneIdeal.nD → PrngReg), Pre_DiloneIdeal m →
    (∀ c : Dev Cert.DiloneIdeal.nD,
      m' ((c.tc : Thread Cert.RefoneIdeal.nD Cert.RefoneIdeal.τ).loc Cert.RefoneIdeal.main_arg0) = m ((c.tc : Thread Cert.DiloneIdeal.nD Cert.DiloneIdeal.τ).loc Cert.DiloneIdeal.main_arg0)
      ∧ m' ((c.tc : Thread Cert.RefoneIdeal.nD Cert.RefoneIdeal.τ).loc Cert.RefoneIdeal.main_arg1) = m ((c.tc : Thread Cert.DiloneIdeal.nD Cert.DiloneIdeal.τ).loc Cert.DiloneIdeal.main_arg1)
      ∧ m' ((c.tc : Thread Cert.RefoneIdeal.nD Cert.RefoneIdeal.τ).loc Cert.RefoneIdeal.main_arg2) = m ((c.tc : Thread Cert.DiloneIdeal.nD Cert.DiloneIdeal.τ).loc Cert.DiloneIdeal.main_arg2)) →
    ∃ (v0 : (c : Dev Cert.DiloneIdeal.nD) → Buf (Elt Ideal) ((c.tc : Thread Cert.DiloneIdeal.nD Cert.DiloneIdeal.τ).loc Cert.DiloneIdeal.main_v0_0)) (v1 : (c : Dev Cert.DiloneIdeal.nD) → Buf (Elt Ideal) ((c.tc : Thread Cert.DiloneIdeal.nD Cert.DiloneIdeal.τ).loc Cert.DiloneIdeal.main_v0_1)),
      θ_run (Cert.DiloneIdeal.defs (F := Ideal)) (onTc (τ := Cert.DiloneIdeal.τ) (Cert.DiloneIdeal.main (F := Ideal))) ⟨m, fun _ => 0, g⟩ (fun r => ∀ c : Dev Cert.DiloneIdeal.nD,
          r.2.mem ((c.tc : Thread Cert.DiloneIdeal.nD Cert.DiloneIdeal.τ).loc Cert.DiloneIdeal.main_v0_0) = v0 c
          ∧ r.2.mem ((c.tc : Thread Cert.DiloneIdeal.nD Cert.DiloneIdeal.τ).loc Cert.DiloneIdeal.main_v0_1) = v1 c
          ∧ r.2.mem ((c.tc : Thread Cert.DiloneIdeal.nD Cert.DiloneIdeal.τ).loc Cert.DiloneIdeal.main_arg0) = m ((c.tc : Thread Cert.DiloneIdeal.nD Cert.DiloneIdeal.τ).loc Cert.DiloneIdeal.main_arg0)
          ∧ r.2.mem ((c.tc : Thread Cert.DiloneIdeal.nD Cert.DiloneIdeal.τ).loc Cert.DiloneIdeal.main_arg1) = m ((c.tc : Thread Cert.DiloneIdeal.nD Cert.DiloneIdeal.τ).loc Cert.DiloneIdeal.main_arg1)
          ∧ r.2.mem ((c.tc : Thread Cert.DiloneIdeal.nD Cert.DiloneIdeal.τ).loc Cert.DiloneIdeal.main_arg2) = m ((c.tc : Thread Cert.DiloneIdeal.nD Cert.DiloneIdeal.τ).loc Cert.DiloneIdeal.main_arg2))
      ∧ θ_run (Cert.RefoneIdeal.defs (F := Ideal)) (onTc (τ := Cert.RefoneIdeal.τ) (Cert.RefoneIdeal.main (F := Ideal))) ⟨m', fun _ => 0, g'⟩ (fun r => ∀ c : Dev Cert.RefoneIdeal.nD,
          r.2.mem ((c.tc : Thread Cert.RefoneIdeal.nD Cert.RefoneIdeal.τ).loc Cert.RefoneIdeal.main_v71) = v0 c
          ∧ r.2.mem ((c.tc : Thread Cert.RefoneIdeal.nD Cert.RefoneIdeal.τ).loc Cert.RefoneIdeal.main_v77) = v1 c
          ∧ r.2.mem ((c.tc : Thread Cert.RefoneIdeal.nD Cert.RefoneIdeal.τ).loc Cert.RefoneIdeal.main_arg0) = m' ((c.tc : Thread Cert.RefoneIdeal.nD Cert.RefoneIdeal.τ).loc Cert.RefoneIdeal.main_arg0)
          ∧ r.2.mem ((c.tc : Thread Cert.RefoneIdeal.nD Cert.RefoneIdeal.τ).loc Cert.RefoneIdeal.main_arg1) = m' ((c.tc : Thread Cert.RefoneIdeal.nD Cert.RefoneIdeal.τ).loc Cert.RefoneIdeal.main_arg1)
          ∧ r.2.mem ((c.tc : Thread Cert.RefoneIdeal.nD Cert.RefoneIdeal.τ).loc Cert.RefoneIdeal.main_arg2) = m' ((c.tc : Thread Cert.RefoneIdeal.nD Cert.RefoneIdeal.τ).loc Cert.RefoneIdeal.main_arg2))

def preserves_Dilfour_DilfourIdeal : Prop :=
  IdealRules.named_const.Statement Cert.DilfourIdeal.κ "inv_ln2" .f32 0x3FB8AA3B#32 (((Real.log 2)⁻¹ : ℝ) : EReal)

def algebraic_DilfourIdeal_ReffourIdeal [hDilfourIdeal : Cert.DilfourIdeal.Facts] [hReffourIdeal : Cert.ReffourIdeal.Facts] : Prop :=
  ∀ (m : (ℓ : Loc Cert.DilfourIdeal.nD Cert.DilfourIdeal.τ Cert.DilfourIdeal.sig) → Buf (Elt Ideal) ℓ) (g : Dev Cert.DilfourIdeal.nD → PrngReg)
    (m' : (ℓ : Loc Cert.ReffourIdeal.nD Cert.ReffourIdeal.τ Cert.ReffourIdeal.sig) → Buf (Elt Ideal) ℓ) (g' : Dev Cert.ReffourIdeal.nD → PrngReg), Pre_DilfourIdeal m →
    (∀ c : Dev Cert.DilfourIdeal.nD,
      m' ((c.tc : Thread Cert.ReffourIdeal.nD Cert.ReffourIdeal.τ).loc Cert.ReffourIdeal.main_arg0) = m ((c.tc : Thread Cert.DilfourIdeal.nD Cert.DilfourIdeal.τ).loc Cert.DilfourIdeal.main_arg0)
      ∧ m' ((c.tc : Thread Cert.ReffourIdeal.nD Cert.ReffourIdeal.τ).loc Cert.ReffourIdeal.main_arg1) = m ((c.tc : Thread Cert.DilfourIdeal.nD Cert.DilfourIdeal.τ).loc Cert.DilfourIdeal.main_arg1)
      ∧ m' ((c.tc : Thread Cert.ReffourIdeal.nD Cert.ReffourIdeal.τ).loc Cert.ReffourIdeal.main_arg2) = m ((c.tc : Thread Cert.DilfourIdeal.nD Cert.DilfourIdeal.τ).loc Cert.DilfourIdeal.main_arg2)) →
    ∃ (v0 : (c : Dev Cert.DilfourIdeal.nD) → Buf (Elt Ideal) ((c.tc : Thread Cert.DilfourIdeal.nD Cert.DilfourIdeal.τ).loc Cert.DilfourIdeal.main_v3_0)) (v1 : (c : Dev Cert.DilfourIdeal.nD) → Buf (Elt Ideal) ((c.tc : Thread Cert.DilfourIdeal.nD Cert.DilfourIdeal.τ).loc Cert.DilfourIdeal.main_v3_1)),
      θ_run (Cert.DilfourIdeal.defs (F := Ideal)) (onTc (τ := Cert.DilfourIdeal.τ) (Cert.DilfourIdeal.main (F := Ideal))) ⟨m, fun _ => 0, g⟩ (fun r => ∀ c : Dev Cert.DilfourIdeal.nD,
          r.2.mem ((c.tc : Thread Cert.DilfourIdeal.nD Cert.DilfourIdeal.τ).loc Cert.DilfourIdeal.main_v3_0) = v0 c
          ∧ r.2.mem ((c.tc : Thread Cert.DilfourIdeal.nD Cert.DilfourIdeal.τ).loc Cert.DilfourIdeal.main_v3_1) = v1 c
          ∧ r.2.mem ((c.tc : Thread Cert.DilfourIdeal.nD Cert.DilfourIdeal.τ).loc Cert.DilfourIdeal.main_arg0) = m ((c.tc : Thread Cert.DilfourIdeal.nD Cert.DilfourIdeal.τ).loc Cert.DilfourIdeal.main_arg0)
          ∧ r.2.mem ((c.tc : Thread Cert.DilfourIdeal.nD Cert.DilfourIdeal.τ).loc Cert.DilfourIdeal.main_arg1) = m ((c.tc : Thread Cert.DilfourIdeal.nD Cert.DilfourIdeal.τ).loc Cert.DilfourIdeal.main_arg1)
          ∧ r.2.mem ((c.tc : Thread Cert.DilfourIdeal.nD Cert.DilfourIdeal.τ).loc Cert.DilfourIdeal.main_arg2) = m ((c.tc : Thread Cert.DilfourIdeal.nD Cert.DilfourIdeal.τ).loc Cert.DilfourIdeal.main_arg2))
      ∧ θ_run (Cert.ReffourIdeal.defs (F := Ideal)) (onTc (τ := Cert.ReffourIdeal.τ) (Cert.ReffourIdeal.main (F := Ideal))) ⟨m', fun _ => 0, g'⟩ (fun r => ∀ c : Dev Cert.ReffourIdeal.nD,
          r.2.mem ((c.tc : Thread Cert.ReffourIdeal.nD Cert.ReffourIdeal.τ).loc Cert.ReffourIdeal.main_v71) = v0 c
          ∧ r.2.mem ((c.tc : Thread Cert.ReffourIdeal.nD Cert.ReffourIdeal.τ).loc Cert.ReffourIdeal.main_v77) = v1 c
          ∧ r.2.mem ((c.tc : Thread Cert.ReffourIdeal.nD Cert.ReffourIdeal.τ).loc Cert.ReffourIdeal.main_arg0) = m' ((c.tc : Thread Cert.ReffourIdeal.nD Cert.ReffourIdeal.τ).loc Cert.ReffourIdeal.main_arg0)
          ∧ r.2.mem ((c.tc : Thread Cert.ReffourIdeal.nD Cert.ReffourIdeal.τ).loc Cert.ReffourIdeal.main_arg1) = m' ((c.tc : Thread Cert.ReffourIdeal.nD Cert.ReffourIdeal.τ).loc Cert.ReffourIdeal.main_arg1)
          ∧ r.2.mem ((c.tc : Thread Cert.ReffourIdeal.nD Cert.ReffourIdeal.τ).loc Cert.ReffourIdeal.main_arg2) = m' ((c.tc : Thread Cert.ReffourIdeal.nD Cert.ReffourIdeal.τ).loc Cert.ReffourIdeal.main_arg2))

def preserves_Dilsixteen_DilsixteenIdeal : Prop :=
  IdealRules.named_const.Statement Cert.DilsixteenIdeal.κ "inv_ln2" .f32 0x3FB8AA3B#32 (((Real.log 2)⁻¹ : ℝ) : EReal)

def algebraic_DilsixteenIdeal_RefsixteenIdeal [hDilsixteenIdeal : Cert.DilsixteenIdeal.Facts] [hRefsixteenIdeal : Cert.RefsixteenIdeal.Facts] : Prop :=
  ∀ (m : (ℓ : Loc Cert.DilsixteenIdeal.nD Cert.DilsixteenIdeal.τ Cert.DilsixteenIdeal.sig) → Buf (Elt Ideal) ℓ) (g : Dev Cert.DilsixteenIdeal.nD → PrngReg)
    (m' : (ℓ : Loc Cert.RefsixteenIdeal.nD Cert.RefsixteenIdeal.τ Cert.RefsixteenIdeal.sig) → Buf (Elt Ideal) ℓ) (g' : Dev Cert.RefsixteenIdeal.nD → PrngReg), Pre_DilsixteenIdeal m →
    (∀ c : Dev Cert.DilsixteenIdeal.nD,
      m' ((c.tc : Thread Cert.RefsixteenIdeal.nD Cert.RefsixteenIdeal.τ).loc Cert.RefsixteenIdeal.main_arg0) = m ((c.tc : Thread Cert.DilsixteenIdeal.nD Cert.DilsixteenIdeal.τ).loc Cert.DilsixteenIdeal.main_arg0)
      ∧ m' ((c.tc : Thread Cert.RefsixteenIdeal.nD Cert.RefsixteenIdeal.τ).loc Cert.RefsixteenIdeal.main_arg1) = m ((c.tc : Thread Cert.DilsixteenIdeal.nD Cert.DilsixteenIdeal.τ).loc Cert.DilsixteenIdeal.main_arg1)
      ∧ m' ((c.tc : Thread Cert.RefsixteenIdeal.nD Cert.RefsixteenIdeal.τ).loc Cert.RefsixteenIdeal.main_arg2) = m ((c.tc : Thread Cert.DilsixteenIdeal.nD Cert.DilsixteenIdeal.τ).loc Cert.DilsixteenIdeal.main_arg2)) →
    ∃ (v0 : (c : Dev Cert.DilsixteenIdeal.nD) → Buf (Elt Ideal) ((c.tc : Thread Cert.DilsixteenIdeal.nD Cert.DilsixteenIdeal.τ).loc Cert.DilsixteenIdeal.main_v3_0)) (v1 : (c : Dev Cert.DilsixteenIdeal.nD) → Buf (Elt Ideal) ((c.tc : Thread Cert.DilsixteenIdeal.nD Cert.DilsixteenIdeal.τ).loc Cert.DilsixteenIdeal.main_v3_1)),
      θ_run (Cert.DilsixteenIdeal.defs (F := Ideal)) (onTc (τ := Cert.DilsixteenIdeal.τ) (Cert.DilsixteenIdeal.main (F := Ideal))) ⟨m, fun _ => 0, g⟩ (fun r => ∀ c : Dev Cert.DilsixteenIdeal.nD,
          r.2.mem ((c.tc : Thread Cert.DilsixteenIdeal.nD Cert.DilsixteenIdeal.τ).loc Cert.DilsixteenIdeal.main_v3_0) = v0 c
          ∧ r.2.mem ((c.tc : Thread Cert.DilsixteenIdeal.nD Cert.DilsixteenIdeal.τ).loc Cert.DilsixteenIdeal.main_v3_1) = v1 c
          ∧ r.2.mem ((c.tc : Thread Cert.DilsixteenIdeal.nD Cert.DilsixteenIdeal.τ).loc Cert.DilsixteenIdeal.main_arg0) = m ((c.tc : Thread Cert.DilsixteenIdeal.nD Cert.DilsixteenIdeal.τ).loc Cert.DilsixteenIdeal.main_arg0)
          ∧ r.2.mem ((c.tc : Thread Cert.DilsixteenIdeal.nD Cert.DilsixteenIdeal.τ).loc Cert.DilsixteenIdeal.main_arg1) = m ((c.tc : Thread Cert.DilsixteenIdeal.nD Cert.DilsixteenIdeal.τ).loc Cert.DilsixteenIdeal.main_arg1)
          ∧ r.2.mem ((c.tc : Thread Cert.DilsixteenIdeal.nD Cert.DilsixteenIdeal.τ).loc Cert.DilsixteenIdeal.main_arg2) = m ((c.tc : Thread Cert.DilsixteenIdeal.nD Cert.DilsixteenIdeal.τ).loc Cert.DilsixteenIdeal.main_arg2))
      ∧ θ_run (Cert.RefsixteenIdeal.defs (F := Ideal)) (onTc (τ := Cert.RefsixteenIdeal.τ) (Cert.RefsixteenIdeal.main (F := Ideal))) ⟨m', fun _ => 0, g'⟩ (fun r => ∀ c : Dev Cert.RefsixteenIdeal.nD,
          r.2.mem ((c.tc : Thread Cert.RefsixteenIdeal.nD Cert.RefsixteenIdeal.τ).loc Cert.RefsixteenIdeal.main_v71) = v0 c
          ∧ r.2.mem ((c.tc : Thread Cert.RefsixteenIdeal.nD Cert.RefsixteenIdeal.τ).loc Cert.RefsixteenIdeal.main_v77) = v1 c
          ∧ r.2.mem ((c.tc : Thread Cert.RefsixteenIdeal.nD Cert.RefsixteenIdeal.τ).loc Cert.RefsixteenIdeal.main_arg0) = m' ((c.tc : Thread Cert.RefsixteenIdeal.nD Cert.RefsixteenIdeal.τ).loc Cert.RefsixteenIdeal.main_arg0)
          ∧ r.2.mem ((c.tc : Thread Cert.RefsixteenIdeal.nD Cert.RefsixteenIdeal.τ).loc Cert.RefsixteenIdeal.main_arg1) = m' ((c.tc : Thread Cert.RefsixteenIdeal.nD Cert.RefsixteenIdeal.τ).loc Cert.RefsixteenIdeal.main_arg1)
          ∧ r.2.mem ((c.tc : Thread Cert.RefsixteenIdeal.nD Cert.RefsixteenIdeal.τ).loc Cert.RefsixteenIdeal.main_arg2) = m' ((c.tc : Thread Cert.RefsixteenIdeal.nD Cert.RefsixteenIdeal.τ).loc Cert.RefsixteenIdeal.main_arg2))

def preserves_Pleout_PleoutIdeal : Prop :=
  True

def algebraic_PleoutIdeal_RefpleoutIdeal [hPleoutIdeal : Cert.PleoutIdeal.Facts] [hRefpleoutIdeal : Cert.RefpleoutIdeal.Facts] : Prop :=
  ∀ (m : (ℓ : Loc Cert.PleoutIdeal.nD Cert.PleoutIdeal.τ Cert.PleoutIdeal.sig) → Buf (Elt Ideal) ℓ) (g : Dev Cert.PleoutIdeal.nD → PrngReg)
    (m' : (ℓ : Loc Cert.RefpleoutIdeal.nD Cert.RefpleoutIdeal.τ Cert.RefpleoutIdeal.sig) → Buf (Elt Ideal) ℓ) (g' : Dev Cert.RefpleoutIdeal.nD → PrngReg), Pre_PleoutIdeal m →
    (∀ c : Dev Cert.PleoutIdeal.nD,
      m' ((c.tc : Thread Cert.RefpleoutIdeal.nD Cert.RefpleoutIdeal.τ).loc Cert.RefpleoutIdeal.main_arg0) = m ((c.tc : Thread Cert.PleoutIdeal.nD Cert.PleoutIdeal.τ).loc Cert.PleoutIdeal.main_arg0)
      ∧ m' ((c.tc : Thread Cert.RefpleoutIdeal.nD Cert.RefpleoutIdeal.τ).loc Cert.RefpleoutIdeal.main_arg1) = m ((c.tc : Thread Cert.PleoutIdeal.nD Cert.PleoutIdeal.τ).loc Cert.PleoutIdeal.main_arg1)
      ∧ m' ((c.tc : Thread Cert.RefpleoutIdeal.nD Cert.RefpleoutIdeal.τ).loc Cert.RefpleoutIdeal.main_arg2) = m ((c.tc : Thread Cert.PleoutIdeal.nD Cert.PleoutIdeal.τ).loc Cert.PleoutIdeal.main_arg2)
      ∧ m' ((c.tc : Thread Cert.RefpleoutIdeal.nD Cert.RefpleoutIdeal.τ).loc Cert.RefpleoutIdeal.main_arg3) = m ((c.tc : Thread Cert.PleoutIdeal.nD Cert.PleoutIdeal.τ).loc Cert.PleoutIdeal.main_arg3)
      ∧ m' ((c.tc : Thread Cert.RefpleoutIdeal.nD Cert.RefpleoutIdeal.τ).loc Cert.RefpleoutIdeal.main_arg4) = m ((c.tc : Thread Cert.PleoutIdeal.nD Cert.PleoutIdeal.τ).loc Cert.PleoutIdeal.main_arg4)) →
    ∃ (v0 : (c : Dev Cert.PleoutIdeal.nD) → Buf (Elt Ideal) ((c.tc : Thread Cert.PleoutIdeal.nD Cert.PleoutIdeal.τ).loc Cert.PleoutIdeal.main_v0)),
      θ_run (Cert.PleoutIdeal.defs (F := Ideal)) (onTc (τ := Cert.PleoutIdeal.τ) (Cert.PleoutIdeal.main (F := Ideal))) ⟨m, fun _ => 0, g⟩ (fun r => ∀ c : Dev Cert.PleoutIdeal.nD,
          r.2.mem ((c.tc : Thread Cert.PleoutIdeal.nD Cert.PleoutIdeal.τ).loc Cert.PleoutIdeal.main_v0) = v0 c
          ∧ r.2.mem ((c.tc : Thread Cert.PleoutIdeal.nD Cert.PleoutIdeal.τ).loc Cert.PleoutIdeal.main_arg0) = m ((c.tc : Thread Cert.PleoutIdeal.nD Cert.PleoutIdeal.τ).loc Cert.PleoutIdeal.main_arg0)
          ∧ r.2.mem ((c.tc : Thread Cert.PleoutIdeal.nD Cert.PleoutIdeal.τ).loc Cert.PleoutIdeal.main_arg1) = m ((c.tc : Thread Cert.PleoutIdeal.nD Cert.PleoutIdeal.τ).loc Cert.PleoutIdeal.main_arg1)
          ∧ r.2.mem ((c.tc : Thread Cert.PleoutIdeal.nD Cert.PleoutIdeal.τ).loc Cert.PleoutIdeal.main_arg2) = m ((c.tc : Thread Cert.PleoutIdeal.nD Cert.PleoutIdeal.τ).loc Cert.PleoutIdeal.main_arg2)
          ∧ r.2.mem ((c.tc : Thread Cert.PleoutIdeal.nD Cert.PleoutIdeal.τ).loc Cert.PleoutIdeal.main_arg3) = m ((c.tc : Thread Cert.PleoutIdeal.nD Cert.PleoutIdeal.τ).loc Cert.PleoutIdeal.main_arg3)
          ∧ r.2.mem ((c.tc : Thread Cert.PleoutIdeal.nD Cert.PleoutIdeal.τ).loc Cert.PleoutIdeal.main_arg4) = m ((c.tc : Thread Cert.PleoutIdeal.nD Cert.PleoutIdeal.τ).loc Cert.PleoutIdeal.main_arg4))
      ∧ θ_run (Cert.RefpleoutIdeal.defs (F := Ideal)) (onTc (τ := Cert.RefpleoutIdeal.τ) (Cert.RefpleoutIdeal.main (F := Ideal))) ⟨m', fun _ => 0, g'⟩ (fun r => ∀ c : Dev Cert.RefpleoutIdeal.nD,
          r.2.mem ((c.tc : Thread Cert.RefpleoutIdeal.nD Cert.RefpleoutIdeal.τ).loc Cert.RefpleoutIdeal.main_v23) = v0 c
          ∧ r.2.mem ((c.tc : Thread Cert.RefpleoutIdeal.nD Cert.RefpleoutIdeal.τ).loc Cert.RefpleoutIdeal.main_arg0) = m' ((c.tc : Thread Cert.RefpleoutIdeal.nD Cert.RefpleoutIdeal.τ).loc Cert.RefpleoutIdeal.main_arg0)
          ∧ r.2.mem ((c.tc : Thread Cert.RefpleoutIdeal.nD Cert.RefpleoutIdeal.τ).loc Cert.RefpleoutIdeal.main_arg1) = m' ((c.tc : Thread Cert.RefpleoutIdeal.nD Cert.RefpleoutIdeal.τ).loc Cert.RefpleoutIdeal.main_arg1)
          ∧ r.2.mem ((c.tc : Thread Cert.RefpleoutIdeal.nD Cert.RefpleoutIdeal.τ).loc Cert.RefpleoutIdeal.main_arg2) = m' ((c.tc : Thread Cert.RefpleoutIdeal.nD Cert.RefpleoutIdeal.τ).loc Cert.RefpleoutIdeal.main_arg2)
          ∧ r.2.mem ((c.tc : Thread Cert.RefpleoutIdeal.nD Cert.RefpleoutIdeal.τ).loc Cert.RefpleoutIdeal.main_arg3) = m' ((c.tc : Thread Cert.RefpleoutIdeal.nD Cert.RefpleoutIdeal.τ).loc Cert.RefpleoutIdeal.main_arg3)
          ∧ r.2.mem ((c.tc : Thread Cert.RefpleoutIdeal.nD Cert.RefpleoutIdeal.τ).loc Cert.RefpleoutIdeal.main_arg4) = m' ((c.tc : Thread Cert.RefpleoutIdeal.nD Cert.RefpleoutIdeal.τ).loc Cert.RefpleoutIdeal.main_arg4))

def preserves_Downproj_DownprojIdeal : Prop :=
  True

def algebraic_DownprojIdeal_RefdownprojIdeal [hDownprojIdeal : Cert.DownprojIdeal.Facts] [hRefdownprojIdeal : Cert.RefdownprojIdeal.Facts] : Prop :=
  ∀ (m : (ℓ : Loc Cert.DownprojIdeal.nD Cert.DownprojIdeal.τ Cert.DownprojIdeal.sig) → Buf (Elt Ideal) ℓ) (g : Dev Cert.DownprojIdeal.nD → PrngReg)
    (m' : (ℓ : Loc Cert.RefdownprojIdeal.nD Cert.RefdownprojIdeal.τ Cert.RefdownprojIdeal.sig) → Buf (Elt Ideal) ℓ) (g' : Dev Cert.RefdownprojIdeal.nD → PrngReg), Pre_DownprojIdeal m →
    (∀ c : Dev Cert.DownprojIdeal.nD,
      m' ((c.tc : Thread Cert.RefdownprojIdeal.nD Cert.RefdownprojIdeal.τ).loc Cert.RefdownprojIdeal.main_arg0) = m ((c.tc : Thread Cert.DownprojIdeal.nD Cert.DownprojIdeal.τ).loc Cert.DownprojIdeal.main_arg0)
      ∧ m' ((c.tc : Thread Cert.RefdownprojIdeal.nD Cert.RefdownprojIdeal.τ).loc Cert.RefdownprojIdeal.main_arg1) = m ((c.tc : Thread Cert.DownprojIdeal.nD Cert.DownprojIdeal.τ).loc Cert.DownprojIdeal.main_arg1)
      ∧ m' ((c.tc : Thread Cert.RefdownprojIdeal.nD Cert.RefdownprojIdeal.τ).loc Cert.RefdownprojIdeal.main_arg2) = m ((c.tc : Thread Cert.DownprojIdeal.nD Cert.DownprojIdeal.τ).loc Cert.DownprojIdeal.main_arg2)) →
    ∃ (v0 : (c : Dev Cert.DownprojIdeal.nD) → Buf (Elt Ideal) ((c.tc : Thread Cert.DownprojIdeal.nD Cert.DownprojIdeal.τ).loc Cert.DownprojIdeal.main_v0)),
      θ_run (Cert.DownprojIdeal.defs (F := Ideal)) (onTc (τ := Cert.DownprojIdeal.τ) (Cert.DownprojIdeal.main (F := Ideal))) ⟨m, fun _ => 0, g⟩ (fun r => ∀ c : Dev Cert.DownprojIdeal.nD,
          r.2.mem ((c.tc : Thread Cert.DownprojIdeal.nD Cert.DownprojIdeal.τ).loc Cert.DownprojIdeal.main_v0) = v0 c
          ∧ r.2.mem ((c.tc : Thread Cert.DownprojIdeal.nD Cert.DownprojIdeal.τ).loc Cert.DownprojIdeal.main_arg0) = m ((c.tc : Thread Cert.DownprojIdeal.nD Cert.DownprojIdeal.τ).loc Cert.DownprojIdeal.main_arg0)
          ∧ r.2.mem ((c.tc : Thread Cert.DownprojIdeal.nD Cert.DownprojIdeal.τ).loc Cert.DownprojIdeal.main_arg1) = m ((c.tc : Thread Cert.DownprojIdeal.nD Cert.DownprojIdeal.τ).loc Cert.DownprojIdeal.main_arg1)
          ∧ r.2.mem ((c.tc : Thread Cert.DownprojIdeal.nD Cert.DownprojIdeal.τ).loc Cert.DownprojIdeal.main_arg2) = m ((c.tc : Thread Cert.DownprojIdeal.nD Cert.DownprojIdeal.τ).loc Cert.DownprojIdeal.main_arg2))
      ∧ θ_run (Cert.RefdownprojIdeal.defs (F := Ideal)) (onTc (τ := Cert.RefdownprojIdeal.τ) (Cert.RefdownprojIdeal.main (F := Ideal))) ⟨m', fun _ => 0, g'⟩ (fun r => ∀ c : Dev Cert.RefdownprojIdeal.nD,
          r.2.mem ((c.tc : Thread Cert.RefdownprojIdeal.nD Cert.RefdownprojIdeal.τ).loc Cert.RefdownprojIdeal.main_v3) = v0 c
          ∧ r.2.mem ((c.tc : Thread Cert.RefdownprojIdeal.nD Cert.RefdownprojIdeal.τ).loc Cert.RefdownprojIdeal.main_arg0) = m' ((c.tc : Thread Cert.RefdownprojIdeal.nD Cert.RefdownprojIdeal.τ).loc Cert.RefdownprojIdeal.main_arg0)
          ∧ r.2.mem ((c.tc : Thread Cert.RefdownprojIdeal.nD Cert.RefdownprojIdeal.τ).loc Cert.RefdownprojIdeal.main_arg1) = m' ((c.tc : Thread Cert.RefdownprojIdeal.nD Cert.RefdownprojIdeal.τ).loc Cert.RefdownprojIdeal.main_arg1)
          ∧ r.2.mem ((c.tc : Thread Cert.RefdownprojIdeal.nD Cert.RefdownprojIdeal.τ).loc Cert.RefdownprojIdeal.main_arg2) = m' ((c.tc : Thread Cert.RefdownprojIdeal.nD Cert.RefdownprojIdeal.τ).loc Cert.RefdownprojIdeal.main_arg2))

def preserves_Evenout_EvenoutIdeal : Prop :=
  True

def algebraic_EvenoutIdeal_RefevenoutIdeal [hEvenoutIdeal : Cert.EvenoutIdeal.Facts] [hRefevenoutIdeal : Cert.RefevenoutIdeal.Facts] : Prop :=
  ∀ (m : (ℓ : Loc Cert.EvenoutIdeal.nD Cert.EvenoutIdeal.τ Cert.EvenoutIdeal.sig) → Buf (Elt Ideal) ℓ) (g : Dev Cert.EvenoutIdeal.nD → PrngReg)
    (m' : (ℓ : Loc Cert.RefevenoutIdeal.nD Cert.RefevenoutIdeal.τ Cert.RefevenoutIdeal.sig) → Buf (Elt Ideal) ℓ) (g' : Dev Cert.RefevenoutIdeal.nD → PrngReg), Pre_EvenoutIdeal m →
    (∀ c : Dev Cert.EvenoutIdeal.nD,
      m' ((c.tc : Thread Cert.RefevenoutIdeal.nD Cert.RefevenoutIdeal.τ).loc Cert.RefevenoutIdeal.main_arg0) = m ((c.tc : Thread Cert.EvenoutIdeal.nD Cert.EvenoutIdeal.τ).loc Cert.EvenoutIdeal.main_arg0)
      ∧ m' ((c.tc : Thread Cert.RefevenoutIdeal.nD Cert.RefevenoutIdeal.τ).loc Cert.RefevenoutIdeal.main_arg1) = m ((c.tc : Thread Cert.EvenoutIdeal.nD Cert.EvenoutIdeal.τ).loc Cert.EvenoutIdeal.main_arg1)
      ∧ m' ((c.tc : Thread Cert.RefevenoutIdeal.nD Cert.RefevenoutIdeal.τ).loc Cert.RefevenoutIdeal.main_arg2) = m ((c.tc : Thread Cert.EvenoutIdeal.nD Cert.EvenoutIdeal.τ).loc Cert.EvenoutIdeal.main_arg2)
      ∧ m' ((c.tc : Thread Cert.RefevenoutIdeal.nD Cert.RefevenoutIdeal.τ).loc Cert.RefevenoutIdeal.main_arg3) = m ((c.tc : Thread Cert.EvenoutIdeal.nD Cert.EvenoutIdeal.τ).loc Cert.EvenoutIdeal.main_arg3)
      ∧ m' ((c.tc : Thread Cert.RefevenoutIdeal.nD Cert.RefevenoutIdeal.τ).loc Cert.RefevenoutIdeal.main_arg4) = m ((c.tc : Thread Cert.EvenoutIdeal.nD Cert.EvenoutIdeal.τ).loc Cert.EvenoutIdeal.main_arg4)) →
    ∃ (v0 : (c : Dev Cert.EvenoutIdeal.nD) → Buf (Elt Ideal) ((c.tc : Thread Cert.EvenoutIdeal.nD Cert.EvenoutIdeal.τ).loc Cert.EvenoutIdeal.main_v0)),
      θ_run (Cert.EvenoutIdeal.defs (F := Ideal)) (onTc (τ := Cert.EvenoutIdeal.τ) (Cert.EvenoutIdeal.main (F := Ideal))) ⟨m, fun _ => 0, g⟩ (fun r => ∀ c : Dev Cert.EvenoutIdeal.nD,
          r.2.mem ((c.tc : Thread Cert.EvenoutIdeal.nD Cert.EvenoutIdeal.τ).loc Cert.EvenoutIdeal.main_v0) = v0 c
          ∧ r.2.mem ((c.tc : Thread Cert.EvenoutIdeal.nD Cert.EvenoutIdeal.τ).loc Cert.EvenoutIdeal.main_arg0) = m ((c.tc : Thread Cert.EvenoutIdeal.nD Cert.EvenoutIdeal.τ).loc Cert.EvenoutIdeal.main_arg0)
          ∧ r.2.mem ((c.tc : Thread Cert.EvenoutIdeal.nD Cert.EvenoutIdeal.τ).loc Cert.EvenoutIdeal.main_arg1) = m ((c.tc : Thread Cert.EvenoutIdeal.nD Cert.EvenoutIdeal.τ).loc Cert.EvenoutIdeal.main_arg1)
          ∧ r.2.mem ((c.tc : Thread Cert.EvenoutIdeal.nD Cert.EvenoutIdeal.τ).loc Cert.EvenoutIdeal.main_arg2) = m ((c.tc : Thread Cert.EvenoutIdeal.nD Cert.EvenoutIdeal.τ).loc Cert.EvenoutIdeal.main_arg2)
          ∧ r.2.mem ((c.tc : Thread Cert.EvenoutIdeal.nD Cert.EvenoutIdeal.τ).loc Cert.EvenoutIdeal.main_arg3) = m ((c.tc : Thread Cert.EvenoutIdeal.nD Cert.EvenoutIdeal.τ).loc Cert.EvenoutIdeal.main_arg3)
          ∧ r.2.mem ((c.tc : Thread Cert.EvenoutIdeal.nD Cert.EvenoutIdeal.τ).loc Cert.EvenoutIdeal.main_arg4) = m ((c.tc : Thread Cert.EvenoutIdeal.nD Cert.EvenoutIdeal.τ).loc Cert.EvenoutIdeal.main_arg4))
      ∧ θ_run (Cert.RefevenoutIdeal.defs (F := Ideal)) (onTc (τ := Cert.RefevenoutIdeal.τ) (Cert.RefevenoutIdeal.main (F := Ideal))) ⟨m', fun _ => 0, g'⟩ (fun r => ∀ c : Dev Cert.RefevenoutIdeal.nD,
          r.2.mem ((c.tc : Thread Cert.RefevenoutIdeal.nD Cert.RefevenoutIdeal.τ).loc Cert.RefevenoutIdeal.main_v5) = v0 c
          ∧ r.2.mem ((c.tc : Thread Cert.RefevenoutIdeal.nD Cert.RefevenoutIdeal.τ).loc Cert.RefevenoutIdeal.main_arg0) = m' ((c.tc : Thread Cert.RefevenoutIdeal.nD Cert.RefevenoutIdeal.τ).loc Cert.RefevenoutIdeal.main_arg0)
          ∧ r.2.mem ((c.tc : Thread Cert.RefevenoutIdeal.nD Cert.RefevenoutIdeal.τ).loc Cert.RefevenoutIdeal.main_arg1) = m' ((c.tc : Thread Cert.RefevenoutIdeal.nD Cert.RefevenoutIdeal.τ).loc Cert.RefevenoutIdeal.main_arg1)
          ∧ r.2.mem ((c.tc : Thread Cert.RefevenoutIdeal.nD Cert.RefevenoutIdeal.τ).loc Cert.RefevenoutIdeal.main_arg2) = m' ((c.tc : Thread Cert.RefevenoutIdeal.nD Cert.RefevenoutIdeal.τ).loc Cert.RefevenoutIdeal.main_arg2)
          ∧ r.2.mem ((c.tc : Thread Cert.RefevenoutIdeal.nD Cert.RefevenoutIdeal.τ).loc Cert.RefevenoutIdeal.main_arg3) = m' ((c.tc : Thread Cert.RefevenoutIdeal.nD Cert.RefevenoutIdeal.τ).loc Cert.RefevenoutIdeal.main_arg3)
          ∧ r.2.mem ((c.tc : Thread Cert.RefevenoutIdeal.nD Cert.RefevenoutIdeal.τ).loc Cert.RefevenoutIdeal.main_arg4) = m' ((c.tc : Thread Cert.RefevenoutIdeal.nD Cert.RefevenoutIdeal.τ).loc Cert.RefevenoutIdeal.main_arg4))

def preserves_Evenin_EveninIdeal : Prop :=
  True

def algebraic_EveninIdeal_RefeveninIdeal [hEveninIdeal : Cert.EveninIdeal.Facts] [hRefeveninIdeal : Cert.RefeveninIdeal.Facts] : Prop :=
  ∀ (m : (ℓ : Loc Cert.EveninIdeal.nD Cert.EveninIdeal.τ Cert.EveninIdeal.sig) → Buf (Elt Ideal) ℓ) (g : Dev Cert.EveninIdeal.nD → PrngReg)
    (m' : (ℓ : Loc Cert.RefeveninIdeal.nD Cert.RefeveninIdeal.τ Cert.RefeveninIdeal.sig) → Buf (Elt Ideal) ℓ) (g' : Dev Cert.RefeveninIdeal.nD → PrngReg), Pre_EveninIdeal m →
    (∀ c : Dev Cert.EveninIdeal.nD,
      m' ((c.tc : Thread Cert.RefeveninIdeal.nD Cert.RefeveninIdeal.τ).loc Cert.RefeveninIdeal.main_arg0) = m ((c.tc : Thread Cert.EveninIdeal.nD Cert.EveninIdeal.τ).loc Cert.EveninIdeal.main_arg0)
      ∧ m' ((c.tc : Thread Cert.RefeveninIdeal.nD Cert.RefeveninIdeal.τ).loc Cert.RefeveninIdeal.main_arg1) = m ((c.tc : Thread Cert.EveninIdeal.nD Cert.EveninIdeal.τ).loc Cert.EveninIdeal.main_arg1)
      ∧ m' ((c.tc : Thread Cert.RefeveninIdeal.nD Cert.RefeveninIdeal.τ).loc Cert.RefeveninIdeal.main_arg2) = m ((c.tc : Thread Cert.EveninIdeal.nD Cert.EveninIdeal.τ).loc Cert.EveninIdeal.main_arg2)) →
    ∃ (v0 : (c : Dev Cert.EveninIdeal.nD) → Buf (Elt Ideal) ((c.tc : Thread Cert.EveninIdeal.nD Cert.EveninIdeal.τ).loc Cert.EveninIdeal.main_v0)),
      θ_run (Cert.EveninIdeal.defs (F := Ideal)) (onTc (τ := Cert.EveninIdeal.τ) (Cert.EveninIdeal.main (F := Ideal))) ⟨m, fun _ => 0, g⟩ (fun r => ∀ c : Dev Cert.EveninIdeal.nD,
          r.2.mem ((c.tc : Thread Cert.EveninIdeal.nD Cert.EveninIdeal.τ).loc Cert.EveninIdeal.main_v0) = v0 c
          ∧ r.2.mem ((c.tc : Thread Cert.EveninIdeal.nD Cert.EveninIdeal.τ).loc Cert.EveninIdeal.main_arg0) = m ((c.tc : Thread Cert.EveninIdeal.nD Cert.EveninIdeal.τ).loc Cert.EveninIdeal.main_arg0)
          ∧ r.2.mem ((c.tc : Thread Cert.EveninIdeal.nD Cert.EveninIdeal.τ).loc Cert.EveninIdeal.main_arg1) = m ((c.tc : Thread Cert.EveninIdeal.nD Cert.EveninIdeal.τ).loc Cert.EveninIdeal.main_arg1)
          ∧ r.2.mem ((c.tc : Thread Cert.EveninIdeal.nD Cert.EveninIdeal.τ).loc Cert.EveninIdeal.main_arg2) = m ((c.tc : Thread Cert.EveninIdeal.nD Cert.EveninIdeal.τ).loc Cert.EveninIdeal.main_arg2))
      ∧ θ_run (Cert.RefeveninIdeal.defs (F := Ideal)) (onTc (τ := Cert.RefeveninIdeal.τ) (Cert.RefeveninIdeal.main (F := Ideal))) ⟨m', fun _ => 0, g'⟩ (fun r => ∀ c : Dev Cert.RefeveninIdeal.nD,
          r.2.mem ((c.tc : Thread Cert.RefeveninIdeal.nD Cert.RefeveninIdeal.τ).loc Cert.RefeveninIdeal.main_v13) = v0 c
          ∧ r.2.mem ((c.tc : Thread Cert.RefeveninIdeal.nD Cert.RefeveninIdeal.τ).loc Cert.RefeveninIdeal.main_arg0) = m' ((c.tc : Thread Cert.RefeveninIdeal.nD Cert.RefeveninIdeal.τ).loc Cert.RefeveninIdeal.main_arg0)
          ∧ r.2.mem ((c.tc : Thread Cert.RefeveninIdeal.nD Cert.RefeveninIdeal.τ).loc Cert.RefeveninIdeal.main_arg1) = m' ((c.tc : Thread Cert.RefeveninIdeal.nD Cert.RefeveninIdeal.τ).loc Cert.RefeveninIdeal.main_arg1)
          ∧ r.2.mem ((c.tc : Thread Cert.RefeveninIdeal.nD Cert.RefeveninIdeal.τ).loc Cert.RefeveninIdeal.main_arg2) = m' ((c.tc : Thread Cert.RefeveninIdeal.nD Cert.RefeveninIdeal.τ).loc Cert.RefeveninIdeal.main_arg2))

def preserves_Oddin_OddinIdeal : Prop :=
  True

def algebraic_OddinIdeal_RefoddinIdeal [hOddinIdeal : Cert.OddinIdeal.Facts] [hRefoddinIdeal : Cert.RefoddinIdeal.Facts] : Prop :=
  ∀ (m : (ℓ : Loc Cert.OddinIdeal.nD Cert.OddinIdeal.τ Cert.OddinIdeal.sig) → Buf (Elt Ideal) ℓ) (g : Dev Cert.OddinIdeal.nD → PrngReg)
    (m' : (ℓ : Loc Cert.RefoddinIdeal.nD Cert.RefoddinIdeal.τ Cert.RefoddinIdeal.sig) → Buf (Elt Ideal) ℓ) (g' : Dev Cert.RefoddinIdeal.nD → PrngReg), Pre_OddinIdeal m →
    (∀ c : Dev Cert.OddinIdeal.nD,
      m' ((c.tc : Thread Cert.RefoddinIdeal.nD Cert.RefoddinIdeal.τ).loc Cert.RefoddinIdeal.main_arg0) = m ((c.tc : Thread Cert.OddinIdeal.nD Cert.OddinIdeal.τ).loc Cert.OddinIdeal.main_arg0)
      ∧ m' ((c.tc : Thread Cert.RefoddinIdeal.nD Cert.RefoddinIdeal.τ).loc Cert.RefoddinIdeal.main_arg1) = m ((c.tc : Thread Cert.OddinIdeal.nD Cert.OddinIdeal.τ).loc Cert.OddinIdeal.main_arg1)
      ∧ m' ((c.tc : Thread Cert.RefoddinIdeal.nD Cert.RefoddinIdeal.τ).loc Cert.RefoddinIdeal.main_arg2) = m ((c.tc : Thread Cert.OddinIdeal.nD Cert.OddinIdeal.τ).loc Cert.OddinIdeal.main_arg2)) →
    ∃ (v0 : (c : Dev Cert.OddinIdeal.nD) → Buf (Elt Ideal) ((c.tc : Thread Cert.OddinIdeal.nD Cert.OddinIdeal.τ).loc Cert.OddinIdeal.main_v0)),
      θ_run (Cert.OddinIdeal.defs (F := Ideal)) (onTc (τ := Cert.OddinIdeal.τ) (Cert.OddinIdeal.main (F := Ideal))) ⟨m, fun _ => 0, g⟩ (fun r => ∀ c : Dev Cert.OddinIdeal.nD,
          r.2.mem ((c.tc : Thread Cert.OddinIdeal.nD Cert.OddinIdeal.τ).loc Cert.OddinIdeal.main_v0) = v0 c
          ∧ r.2.mem ((c.tc : Thread Cert.OddinIdeal.nD Cert.OddinIdeal.τ).loc Cert.OddinIdeal.main_arg0) = m ((c.tc : Thread Cert.OddinIdeal.nD Cert.OddinIdeal.τ).loc Cert.OddinIdeal.main_arg0)
          ∧ r.2.mem ((c.tc : Thread Cert.OddinIdeal.nD Cert.OddinIdeal.τ).loc Cert.OddinIdeal.main_arg1) = m ((c.tc : Thread Cert.OddinIdeal.nD Cert.OddinIdeal.τ).loc Cert.OddinIdeal.main_arg1)
          ∧ r.2.mem ((c.tc : Thread Cert.OddinIdeal.nD Cert.OddinIdeal.τ).loc Cert.OddinIdeal.main_arg2) = m ((c.tc : Thread Cert.OddinIdeal.nD Cert.OddinIdeal.τ).loc Cert.OddinIdeal.main_arg2))
      ∧ θ_run (Cert.RefoddinIdeal.defs (F := Ideal)) (onTc (τ := Cert.RefoddinIdeal.τ) (Cert.RefoddinIdeal.main (F := Ideal))) ⟨m', fun _ => 0, g'⟩ (fun r => ∀ c : Dev Cert.RefoddinIdeal.nD,
          r.2.mem ((c.tc : Thread Cert.RefoddinIdeal.nD Cert.RefoddinIdeal.τ).loc Cert.RefoddinIdeal.main_v13) = v0 c
          ∧ r.2.mem ((c.tc : Thread Cert.RefoddinIdeal.nD Cert.RefoddinIdeal.τ).loc Cert.RefoddinIdeal.main_arg0) = m' ((c.tc : Thread Cert.RefoddinIdeal.nD Cert.RefoddinIdeal.τ).loc Cert.RefoddinIdeal.main_arg0)
          ∧ r.2.mem ((c.tc : Thread Cert.RefoddinIdeal.nD Cert.RefoddinIdeal.τ).loc Cert.RefoddinIdeal.main_arg1) = m' ((c.tc : Thread Cert.RefoddinIdeal.nD Cert.RefoddinIdeal.τ).loc Cert.RefoddinIdeal.main_arg1)
          ∧ r.2.mem ((c.tc : Thread Cert.RefoddinIdeal.nD Cert.RefoddinIdeal.τ).loc Cert.RefoddinIdeal.main_arg2) = m' ((c.tc : Thread Cert.RefoddinIdeal.nD Cert.RefoddinIdeal.τ).loc Cert.RefoddinIdeal.main_arg2))

def preserves_Ffnact_FfnactIdeal : Prop :=
  True

def algebraic_FfnactIdeal_RefffnactIdeal [hFfnactIdeal : Cert.FfnactIdeal.Facts] [hRefffnactIdeal : Cert.RefffnactIdeal.Facts] : Prop :=
  ∀ (m : (ℓ : Loc Cert.FfnactIdeal.nD Cert.FfnactIdeal.τ Cert.FfnactIdeal.sig) → Buf (Elt Ideal) ℓ) (g : Dev Cert.FfnactIdeal.nD → PrngReg)
    (m' : (ℓ : Loc Cert.RefffnactIdeal.nD Cert.RefffnactIdeal.τ Cert.RefffnactIdeal.sig) → Buf (Elt Ideal) ℓ) (g' : Dev Cert.RefffnactIdeal.nD → PrngReg), Pre_FfnactIdeal m →
    (∀ c : Dev Cert.FfnactIdeal.nD,
      m' ((c.tc : Thread Cert.RefffnactIdeal.nD Cert.RefffnactIdeal.τ).loc Cert.RefffnactIdeal.main_arg0) = m ((c.tc : Thread Cert.FfnactIdeal.nD Cert.FfnactIdeal.τ).loc Cert.FfnactIdeal.main_arg0)
      ∧ m' ((c.tc : Thread Cert.RefffnactIdeal.nD Cert.RefffnactIdeal.τ).loc Cert.RefffnactIdeal.main_arg1) = m ((c.tc : Thread Cert.FfnactIdeal.nD Cert.FfnactIdeal.τ).loc Cert.FfnactIdeal.main_arg1)
      ∧ m' ((c.tc : Thread Cert.RefffnactIdeal.nD Cert.RefffnactIdeal.τ).loc Cert.RefffnactIdeal.main_arg2) = m ((c.tc : Thread Cert.FfnactIdeal.nD Cert.FfnactIdeal.τ).loc Cert.FfnactIdeal.main_arg2)
      ∧ m' ((c.tc : Thread Cert.RefffnactIdeal.nD Cert.RefffnactIdeal.τ).loc Cert.RefffnactIdeal.main_arg3) = m ((c.tc : Thread Cert.FfnactIdeal.nD Cert.FfnactIdeal.τ).loc Cert.FfnactIdeal.main_arg3)
      ∧ m' ((c.tc : Thread Cert.RefffnactIdeal.nD Cert.RefffnactIdeal.τ).loc Cert.RefffnactIdeal.main_arg4) = m ((c.tc : Thread Cert.FfnactIdeal.nD Cert.FfnactIdeal.τ).loc Cert.FfnactIdeal.main_arg4)
      ∧ m' ((c.tc : Thread Cert.RefffnactIdeal.nD Cert.RefffnactIdeal.τ).loc Cert.RefffnactIdeal.main_arg5) = m ((c.tc : Thread Cert.FfnactIdeal.nD Cert.FfnactIdeal.τ).loc Cert.FfnactIdeal.main_arg5)) →
    ∃ (v0 : (c : Dev Cert.FfnactIdeal.nD) → Buf (Elt Ideal) ((c.tc : Thread Cert.FfnactIdeal.nD Cert.FfnactIdeal.τ).loc Cert.FfnactIdeal.main_v0)),
      θ_run (Cert.FfnactIdeal.defs (F := Ideal)) (onTc (τ := Cert.FfnactIdeal.τ) (Cert.FfnactIdeal.main (F := Ideal))) ⟨m, fun _ => 0, g⟩ (fun r => ∀ c : Dev Cert.FfnactIdeal.nD,
          r.2.mem ((c.tc : Thread Cert.FfnactIdeal.nD Cert.FfnactIdeal.τ).loc Cert.FfnactIdeal.main_v0) = v0 c
          ∧ r.2.mem ((c.tc : Thread Cert.FfnactIdeal.nD Cert.FfnactIdeal.τ).loc Cert.FfnactIdeal.main_arg0) = m ((c.tc : Thread Cert.FfnactIdeal.nD Cert.FfnactIdeal.τ).loc Cert.FfnactIdeal.main_arg0)
          ∧ r.2.mem ((c.tc : Thread Cert.FfnactIdeal.nD Cert.FfnactIdeal.τ).loc Cert.FfnactIdeal.main_arg1) = m ((c.tc : Thread Cert.FfnactIdeal.nD Cert.FfnactIdeal.τ).loc Cert.FfnactIdeal.main_arg1)
          ∧ r.2.mem ((c.tc : Thread Cert.FfnactIdeal.nD Cert.FfnactIdeal.τ).loc Cert.FfnactIdeal.main_arg2) = m ((c.tc : Thread Cert.FfnactIdeal.nD Cert.FfnactIdeal.τ).loc Cert.FfnactIdeal.main_arg2)
          ∧ r.2.mem ((c.tc : Thread Cert.FfnactIdeal.nD Cert.FfnactIdeal.τ).loc Cert.FfnactIdeal.main_arg3) = m ((c.tc : Thread Cert.FfnactIdeal.nD Cert.FfnactIdeal.τ).loc Cert.FfnactIdeal.main_arg3)
          ∧ r.2.mem ((c.tc : Thread Cert.FfnactIdeal.nD Cert.FfnactIdeal.τ).loc Cert.FfnactIdeal.main_arg4) = m ((c.tc : Thread Cert.FfnactIdeal.nD Cert.FfnactIdeal.τ).loc Cert.FfnactIdeal.main_arg4)
          ∧ r.2.mem ((c.tc : Thread Cert.FfnactIdeal.nD Cert.FfnactIdeal.τ).loc Cert.FfnactIdeal.main_arg5) = m ((c.tc : Thread Cert.FfnactIdeal.nD Cert.FfnactIdeal.τ).loc Cert.FfnactIdeal.main_arg5))
      ∧ θ_run (Cert.RefffnactIdeal.defs (F := Ideal)) (onTc (τ := Cert.RefffnactIdeal.τ) (Cert.RefffnactIdeal.main (F := Ideal))) ⟨m', fun _ => 0, g'⟩ (fun r => ∀ c : Dev Cert.RefffnactIdeal.nD,
          r.2.mem ((c.tc : Thread Cert.RefffnactIdeal.nD Cert.RefffnactIdeal.τ).loc Cert.RefffnactIdeal.main_v55) = v0 c
          ∧ r.2.mem ((c.tc : Thread Cert.RefffnactIdeal.nD Cert.RefffnactIdeal.τ).loc Cert.RefffnactIdeal.main_arg0) = m' ((c.tc : Thread Cert.RefffnactIdeal.nD Cert.RefffnactIdeal.τ).loc Cert.RefffnactIdeal.main_arg0)
          ∧ r.2.mem ((c.tc : Thread Cert.RefffnactIdeal.nD Cert.RefffnactIdeal.τ).loc Cert.RefffnactIdeal.main_arg1) = m' ((c.tc : Thread Cert.RefffnactIdeal.nD Cert.RefffnactIdeal.τ).loc Cert.RefffnactIdeal.main_arg1)
          ∧ r.2.mem ((c.tc : Thread Cert.RefffnactIdeal.nD Cert.RefffnactIdeal.τ).loc Cert.RefffnactIdeal.main_arg2) = m' ((c.tc : Thread Cert.RefffnactIdeal.nD Cert.RefffnactIdeal.τ).loc Cert.RefffnactIdeal.main_arg2)
          ∧ r.2.mem ((c.tc : Thread Cert.RefffnactIdeal.nD Cert.RefffnactIdeal.τ).loc Cert.RefffnactIdeal.main_arg3) = m' ((c.tc : Thread Cert.RefffnactIdeal.nD Cert.RefffnactIdeal.τ).loc Cert.RefffnactIdeal.main_arg3)
          ∧ r.2.mem ((c.tc : Thread Cert.RefffnactIdeal.nD Cert.RefffnactIdeal.τ).loc Cert.RefffnactIdeal.main_arg4) = m' ((c.tc : Thread Cert.RefffnactIdeal.nD Cert.RefffnactIdeal.τ).loc Cert.RefffnactIdeal.main_arg4)
          ∧ r.2.mem ((c.tc : Thread Cert.RefffnactIdeal.nD Cert.RefffnactIdeal.τ).loc Cert.RefffnactIdeal.main_arg5) = m' ((c.tc : Thread Cert.RefffnactIdeal.nD Cert.RefffnactIdeal.τ).loc Cert.RefffnactIdeal.main_arg5))

def preserves_Fox_FoxIdeal : Prop :=
  True

def algebraic_FoxIdeal_ReffoxIdeal [hFoxIdeal : Cert.FoxIdeal.Facts] [hReffoxIdeal : Cert.ReffoxIdeal.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.ReffoxIdeal.nD Cert.ReffoxIdeal.τ Cert.ReffoxIdeal.sig) → Buf (Elt Ideal) ℓ) (g' : Dev Cert.ReffoxIdeal.nD → PrngReg), Pre_FoxIdeal m →
    (∀ c : Dev Cert.FoxIdeal.nD,
      m' ((c.tc : Thread Cert.ReffoxIdeal.nD Cert.ReffoxIdeal.τ).loc Cert.ReffoxIdeal.main_arg0) = m ((c.tc : Thread Cert.FoxIdeal.nD Cert.FoxIdeal.τ).loc Cert.FoxIdeal.main_arg0)
      ∧ m' ((c.tc : Thread Cert.ReffoxIdeal.nD Cert.ReffoxIdeal.τ).loc Cert.ReffoxIdeal.main_arg1) = m ((c.tc : Thread Cert.FoxIdeal.nD Cert.FoxIdeal.τ).loc Cert.FoxIdeal.main_arg1)
      ∧ m' ((c.tc : Thread Cert.ReffoxIdeal.nD Cert.ReffoxIdeal.τ).loc Cert.ReffoxIdeal.main_arg2) = m ((c.tc : Thread Cert.FoxIdeal.nD Cert.FoxIdeal.τ).loc Cert.FoxIdeal.main_arg2)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ θ_run (Cert.ReffoxIdeal.defs (F := Ideal)) (onTc (τ := Cert.ReffoxIdeal.τ) (Cert.ReffoxIdeal.main (F := Ideal))) ⟨m', fun _ => 0, g'⟩ (fun r => ∀ c : Dev Cert.ReffoxIdeal.nD,
          r.2.mem ((c.tc : Thread Cert.ReffoxIdeal.nD Cert.ReffoxIdeal.τ).loc Cert.ReffoxIdeal.main_v34) = v0 c
          ∧ r.2.mem ((c.tc : Thread Cert.ReffoxIdeal.nD Cert.ReffoxIdeal.τ).loc Cert.ReffoxIdeal.main_arg0) = m' ((c.tc : Thread Cert.ReffoxIdeal.nD Cert.ReffoxIdeal.τ).loc Cert.ReffoxIdeal.main_arg0)
          ∧ r.2.mem ((c.tc : Thread Cert.ReffoxIdeal.nD Cert.ReffoxIdeal.τ).loc Cert.ReffoxIdeal.main_arg1) = m' ((c.tc : Thread Cert.ReffoxIdeal.nD Cert.ReffoxIdeal.τ).loc Cert.ReffoxIdeal.main_arg1)
          ∧ r.2.mem ((c.tc : Thread Cert.ReffoxIdeal.nD Cert.ReffoxIdeal.τ).loc Cert.ReffoxIdeal.main_arg2) = m' ((c.tc : Thread Cert.ReffoxIdeal.nD Cert.ReffoxIdeal.τ).loc Cert.ReffoxIdeal.main_arg2))

def preserves_Oddout_OddoutIdeal : Prop :=
  True

def algebraic_OddoutIdeal_RefoddoutIdeal [hOddoutIdeal : Cert.OddoutIdeal.Facts] [hRefoddoutIdeal : Cert.RefoddoutIdeal.Facts] : Prop :=
  ∀ (m : (ℓ : Loc Cert.OddoutIdeal.nD Cert.OddoutIdeal.τ Cert.OddoutIdeal.sig) → Buf (Elt Ideal) ℓ) (g : Dev Cert.OddoutIdeal.nD → PrngReg)
    (m' : (ℓ : Loc Cert.RefoddoutIdeal.nD Cert.RefoddoutIdeal.τ Cert.RefoddoutIdeal.sig) → Buf (Elt Ideal) ℓ) (g' : Dev Cert.RefoddoutIdeal.nD → PrngReg), Pre_OddoutIdeal m →
    (∀ c : Dev Cert.OddoutIdeal.nD,
      m' ((c.tc : Thread Cert.RefoddoutIdeal.nD Cert.RefoddoutIdeal.τ).loc Cert.RefoddoutIdeal.main_arg0) = m ((c.tc : Thread Cert.OddoutIdeal.nD Cert.OddoutIdeal.τ).loc Cert.OddoutIdeal.main_arg0)
      ∧ m' ((c.tc : Thread Cert.RefoddoutIdeal.nD Cert.RefoddoutIdeal.τ).loc Cert.RefoddoutIdeal.main_arg1) = m ((c.tc : Thread Cert.OddoutIdeal.nD Cert.OddoutIdeal.τ).loc Cert.OddoutIdeal.main_arg1)
      ∧ m' ((c.tc : Thread Cert.RefoddoutIdeal.nD Cert.RefoddoutIdeal.τ).loc Cert.RefoddoutIdeal.main_arg2) = m ((c.tc : Thread Cert.OddoutIdeal.nD Cert.OddoutIdeal.τ).loc Cert.OddoutIdeal.main_arg2)
      ∧ m' ((c.tc : Thread Cert.RefoddoutIdeal.nD Cert.RefoddoutIdeal.τ).loc Cert.RefoddoutIdeal.main_arg3) = m ((c.tc : Thread Cert.OddoutIdeal.nD Cert.OddoutIdeal.τ).loc Cert.OddoutIdeal.main_arg3)
      ∧ m' ((c.tc : Thread Cert.RefoddoutIdeal.nD Cert.RefoddoutIdeal.τ).loc Cert.RefoddoutIdeal.main_arg4) = m ((c.tc : Thread Cert.OddoutIdeal.nD Cert.OddoutIdeal.τ).loc Cert.OddoutIdeal.main_arg4)
      ∧ m' ((c.tc : Thread Cert.RefoddoutIdeal.nD Cert.RefoddoutIdeal.τ).loc Cert.RefoddoutIdeal.main_arg5) = m ((c.tc : Thread Cert.OddoutIdeal.nD Cert.OddoutIdeal.τ).loc Cert.OddoutIdeal.main_arg5)
      ∧ m' ((c.tc : Thread Cert.RefoddoutIdeal.nD Cert.RefoddoutIdeal.τ).loc Cert.RefoddoutIdeal.main_arg6) = m ((c.tc : Thread Cert.OddoutIdeal.nD Cert.OddoutIdeal.τ).loc Cert.OddoutIdeal.main_arg6)
      ∧ m' ((c.tc : Thread Cert.RefoddoutIdeal.nD Cert.RefoddoutIdeal.τ).loc Cert.RefoddoutIdeal.main_arg7) = m ((c.tc : Thread Cert.OddoutIdeal.nD Cert.OddoutIdeal.τ).loc Cert.OddoutIdeal.main_arg7)
      ∧ m' ((c.tc : Thread Cert.RefoddoutIdeal.nD Cert.RefoddoutIdeal.τ).loc Cert.RefoddoutIdeal.main_arg8) = m ((c.tc : Thread Cert.OddoutIdeal.nD Cert.OddoutIdeal.τ).loc Cert.OddoutIdeal.main_arg8)) →
    ∃ (v0 : (c : Dev Cert.OddoutIdeal.nD) → Buf (Elt Ideal) ((c.tc : Thread Cert.OddoutIdeal.nD Cert.OddoutIdeal.τ).loc Cert.OddoutIdeal.main_v0)),
      θ_run (Cert.OddoutIdeal.defs (F := Ideal)) (onTc (τ := Cert.OddoutIdeal.τ) (Cert.OddoutIdeal.main (F := Ideal))) ⟨m, fun _ => 0, g⟩ (fun r => ∀ c : Dev Cert.OddoutIdeal.nD,
          r.2.mem ((c.tc : Thread Cert.OddoutIdeal.nD Cert.OddoutIdeal.τ).loc Cert.OddoutIdeal.main_v0) = v0 c
          ∧ r.2.mem ((c.tc : Thread Cert.OddoutIdeal.nD Cert.OddoutIdeal.τ).loc Cert.OddoutIdeal.main_arg0) = m ((c.tc : Thread Cert.OddoutIdeal.nD Cert.OddoutIdeal.τ).loc Cert.OddoutIdeal.main_arg0)
          ∧ r.2.mem ((c.tc : Thread Cert.OddoutIdeal.nD Cert.OddoutIdeal.τ).loc Cert.OddoutIdeal.main_arg1) = m ((c.tc : Thread Cert.OddoutIdeal.nD Cert.OddoutIdeal.τ).loc Cert.OddoutIdeal.main_arg1)
          ∧ r.2.mem ((c.tc : Thread Cert.OddoutIdeal.nD Cert.OddoutIdeal.τ).loc Cert.OddoutIdeal.main_arg2) = m ((c.tc : Thread Cert.OddoutIdeal.nD Cert.OddoutIdeal.τ).loc Cert.OddoutIdeal.main_arg2)
          ∧ r.2.mem ((c.tc : Thread Cert.OddoutIdeal.nD Cert.OddoutIdeal.τ).loc Cert.OddoutIdeal.main_arg3) = m ((c.tc : Thread Cert.OddoutIdeal.nD Cert.OddoutIdeal.τ).loc Cert.OddoutIdeal.main_arg3)
          ∧ r.2.mem ((c.tc : Thread Cert.OddoutIdeal.nD Cert.OddoutIdeal.τ).loc Cert.OddoutIdeal.main_arg4) = m ((c.tc : Thread Cert.OddoutIdeal.nD Cert.OddoutIdeal.τ).loc Cert.OddoutIdeal.main_arg4)
          ∧ r.2.mem ((c.tc : Thread Cert.OddoutIdeal.nD Cert.OddoutIdeal.τ).loc Cert.OddoutIdeal.main_arg5) = m ((c.tc : Thread Cert.OddoutIdeal.nD Cert.OddoutIdeal.τ).loc Cert.OddoutIdeal.main_arg5)
          ∧ r.2.mem ((c.tc : Thread Cert.OddoutIdeal.nD Cert.OddoutIdeal.τ).loc Cert.OddoutIdeal.main_arg6) = m ((c.tc : Thread Cert.OddoutIdeal.nD Cert.OddoutIdeal.τ).loc Cert.OddoutIdeal.main_arg6)
          ∧ r.2.mem ((c.tc : Thread Cert.OddoutIdeal.nD Cert.OddoutIdeal.τ).loc Cert.OddoutIdeal.main_arg7) = m ((c.tc : Thread Cert.OddoutIdeal.nD Cert.OddoutIdeal.τ).loc Cert.OddoutIdeal.main_arg7)
          ∧ r.2.mem ((c.tc : Thread Cert.OddoutIdeal.nD Cert.OddoutIdeal.τ).loc Cert.OddoutIdeal.main_arg8) = m ((c.tc : Thread Cert.OddoutIdeal.nD Cert.OddoutIdeal.τ).loc Cert.OddoutIdeal.main_arg8))
      ∧ θ_run (Cert.RefoddoutIdeal.defs (F := Ideal)) (onTc (τ := Cert.RefoddoutIdeal.τ) (Cert.RefoddoutIdeal.main (F := Ideal))) ⟨m', fun _ => 0, g'⟩ (fun r => ∀ c : Dev Cert.RefoddoutIdeal.nD,
          r.2.mem ((c.tc : Thread Cert.RefoddoutIdeal.nD Cert.RefoddoutIdeal.τ).loc Cert.RefoddoutIdeal.main_v28) = v0 c
          ∧ r.2.mem ((c.tc : Thread Cert.RefoddoutIdeal.nD Cert.RefoddoutIdeal.τ).loc Cert.RefoddoutIdeal.main_arg0) = m' ((c.tc : Thread Cert.RefoddoutIdeal.nD Cert.RefoddoutIdeal.τ).loc Cert.RefoddoutIdeal.main_arg0)
          ∧ r.2.mem ((c.tc : Thread Cert.RefoddoutIdeal.nD Cert.RefoddoutIdeal.τ).loc Cert.RefoddoutIdeal.main_arg1) = m' ((c.tc : Thread Cert.RefoddoutIdeal.nD Cert.RefoddoutIdeal.τ).loc Cert.RefoddoutIdeal.main_arg1)
          ∧ r.2.mem ((c.tc : Thread Cert.RefoddoutIdeal.nD Cert.RefoddoutIdeal.τ).loc Cert.RefoddoutIdeal.main_arg2) = m' ((c.tc : Thread Cert.RefoddoutIdeal.nD Cert.RefoddoutIdeal.τ).loc Cert.RefoddoutIdeal.main_arg2)
          ∧ r.2.mem ((c.tc : Thread Cert.RefoddoutIdeal.nD Cert.RefoddoutIdeal.τ).loc Cert.RefoddoutIdeal.main_arg3) = m' ((c.tc : Thread Cert.RefoddoutIdeal.nD Cert.RefoddoutIdeal.τ).loc Cert.RefoddoutIdeal.main_arg3)
          ∧ r.2.mem ((c.tc : Thread Cert.RefoddoutIdeal.nD Cert.RefoddoutIdeal.τ).loc Cert.RefoddoutIdeal.main_arg4) = m' ((c.tc : Thread Cert.RefoddoutIdeal.nD Cert.RefoddoutIdeal.τ).loc Cert.RefoddoutIdeal.main_arg4)
          ∧ r.2.mem ((c.tc : Thread Cert.RefoddoutIdeal.nD Cert.RefoddoutIdeal.τ).loc Cert.RefoddoutIdeal.main_arg5) = m' ((c.tc : Thread Cert.RefoddoutIdeal.nD Cert.RefoddoutIdeal.τ).loc Cert.RefoddoutIdeal.main_arg5)
          ∧ r.2.mem ((c.tc : Thread Cert.RefoddoutIdeal.nD Cert.RefoddoutIdeal.τ).loc Cert.RefoddoutIdeal.main_arg6) = m' ((c.tc : Thread Cert.RefoddoutIdeal.nD Cert.RefoddoutIdeal.τ).loc Cert.RefoddoutIdeal.main_arg6)
          ∧ r.2.mem ((c.tc : Thread Cert.RefoddoutIdeal.nD Cert.RefoddoutIdeal.τ).loc Cert.RefoddoutIdeal.main_arg7) = m' ((c.tc : Thread Cert.RefoddoutIdeal.nD Cert.RefoddoutIdeal.τ).loc Cert.RefoddoutIdeal.main_arg7)
          ∧ r.2.mem ((c.tc : Thread Cert.RefoddoutIdeal.nD Cert.RefoddoutIdeal.τ).loc Cert.RefoddoutIdeal.main_arg8) = m' ((c.tc : Thread Cert.RefoddoutIdeal.nD Cert.RefoddoutIdeal.τ).loc Cert.RefoddoutIdeal.main_arg8))

def preserves_Dsa_DsaIdeal : Prop :=
  True

def algebraic_DsaIdeal_RefdsaIdeal [hDsaIdeal : Cert.DsaIdeal.Facts] [hRefdsaIdeal : Cert.RefdsaIdeal.Facts] : Prop :=
  ∀ (m : (ℓ : Loc Cert.DsaIdeal.nD Cert.DsaIdeal.τ Cert.DsaIdeal.sig) → Buf (Elt Ideal) ℓ) (g : Dev Cert.DsaIdeal.nD → PrngReg)
    (m' : (ℓ : Loc Cert.RefdsaIdeal.nD Cert.RefdsaIdeal.τ Cert.RefdsaIdeal.sig) → Buf (Elt Ideal) ℓ) (g' : Dev Cert.RefdsaIdeal.nD → PrngReg), Pre_DsaIdeal m →
    (∀ c : Dev Cert.DsaIdeal.nD,
      m' ((c.tc : Thread Cert.RefdsaIdeal.nD Cert.RefdsaIdeal.τ).loc Cert.RefdsaIdeal.main_arg0) = m ((c.tc : Thread Cert.DsaIdeal.nD Cert.DsaIdeal.τ).loc Cert.DsaIdeal.main_arg0)
      ∧ m' ((c.tc : Thread Cert.RefdsaIdeal.nD Cert.RefdsaIdeal.τ).loc Cert.RefdsaIdeal.main_arg1) = m ((c.tc : Thread Cert.DsaIdeal.nD Cert.DsaIdeal.τ).loc Cert.DsaIdeal.main_arg1)
      ∧ m' ((c.tc : Thread Cert.RefdsaIdeal.nD Cert.RefdsaIdeal.τ).loc Cert.RefdsaIdeal.main_arg2) = m ((c.tc : Thread Cert.DsaIdeal.nD Cert.DsaIdeal.τ).loc Cert.DsaIdeal.main_arg2)
      ∧ m' ((c.tc : Thread Cert.RefdsaIdeal.nD Cert.RefdsaIdeal.τ).loc Cert.RefdsaIdeal.main_arg3) = m ((c.tc : Thread Cert.DsaIdeal.nD Cert.DsaIdeal.τ).loc Cert.DsaIdeal.main_arg3)) →
    ∃ (v0 : (c : Dev Cert.DsaIdeal.nD) → Buf (Elt Ideal) ((c.tc : Thread Cert.DsaIdeal.nD Cert.DsaIdeal.τ).loc Cert.DsaIdeal.main_v0)),
      θ_run (Cert.DsaIdeal.defs (F := Ideal)) (onTc (τ := Cert.DsaIdeal.τ) (Cert.DsaIdeal.main (F := Ideal))) ⟨m, fun _ => 0, g⟩ (fun r => ∀ c : Dev Cert.DsaIdeal.nD,
          r.2.mem ((c.tc : Thread Cert.DsaIdeal.nD Cert.DsaIdeal.τ).loc Cert.DsaIdeal.main_v0) = v0 c
          ∧ r.2.mem ((c.tc : Thread Cert.DsaIdeal.nD Cert.DsaIdeal.τ).loc Cert.DsaIdeal.main_arg0) = m ((c.tc : Thread Cert.DsaIdeal.nD Cert.DsaIdeal.τ).loc Cert.DsaIdeal.main_arg0)
          ∧ r.2.mem ((c.tc : Thread Cert.DsaIdeal.nD Cert.DsaIdeal.τ).loc Cert.DsaIdeal.main_arg1) = m ((c.tc : Thread Cert.DsaIdeal.nD Cert.DsaIdeal.τ).loc Cert.DsaIdeal.main_arg1)
          ∧ r.2.mem ((c.tc : Thread Cert.DsaIdeal.nD Cert.DsaIdeal.τ).loc Cert.DsaIdeal.main_arg2) = m ((c.tc : Thread Cert.DsaIdeal.nD Cert.DsaIdeal.τ).loc Cert.DsaIdeal.main_arg2)
          ∧ r.2.mem ((c.tc : Thread Cert.DsaIdeal.nD Cert.DsaIdeal.τ).loc Cert.DsaIdeal.main_arg3) = m ((c.tc : Thread Cert.DsaIdeal.nD Cert.DsaIdeal.τ).loc Cert.DsaIdeal.main_arg3))
      ∧ θ_run (Cert.RefdsaIdeal.defs (F := Ideal)) (onTc (τ := Cert.RefdsaIdeal.τ) (Cert.RefdsaIdeal.main (F := Ideal))) ⟨m', fun _ => 0, g'⟩ (fun r => ∀ c : Dev Cert.RefdsaIdeal.nD,
          r.2.mem ((c.tc : Thread Cert.RefdsaIdeal.nD Cert.RefdsaIdeal.τ).loc Cert.RefdsaIdeal.main_v40) = v0 c
          ∧ r.2.mem ((c.tc : Thread Cert.RefdsaIdeal.nD Cert.RefdsaIdeal.τ).loc Cert.RefdsaIdeal.main_arg0) = m' ((c.tc : Thread Cert.RefdsaIdeal.nD Cert.RefdsaIdeal.τ).loc Cert.RefdsaIdeal.main_arg0)
          ∧ r.2.mem ((c.tc : Thread Cert.RefdsaIdeal.nD Cert.RefdsaIdeal.τ).loc Cert.RefdsaIdeal.main_arg1) = m' ((c.tc : Thread Cert.RefdsaIdeal.nD Cert.RefdsaIdeal.τ).loc Cert.RefdsaIdeal.main_arg1)
          ∧ r.2.mem ((c.tc : Thread Cert.RefdsaIdeal.nD Cert.RefdsaIdeal.τ).loc Cert.RefdsaIdeal.main_arg2) = m' ((c.tc : Thread Cert.RefdsaIdeal.nD Cert.RefdsaIdeal.τ).loc Cert.RefdsaIdeal.main_arg2)
          ∧ r.2.mem ((c.tc : Thread Cert.RefdsaIdeal.nD Cert.RefdsaIdeal.τ).loc Cert.RefdsaIdeal.main_arg3) = m' ((c.tc : Thread Cert.RefdsaIdeal.nD Cert.RefdsaIdeal.τ).loc Cert.RefdsaIdeal.main_arg3))

def Claim : Prop :=
  ∃ (hDilone : Cert.Dilone.Facts) (hDiloneIdeal : Cert.DiloneIdeal.Facts) (hRefoneIdeal : Cert.RefoneIdeal.Facts) (hDilfour : Cert.Dilfour.Facts) (hDilfourIdeal : Cert.DilfourIdeal.Facts) (hReffourIdeal : Cert.ReffourIdeal.Facts) (hDilsixteen : Cert.Dilsixteen.Facts) (hDilsixteenIdeal : Cert.DilsixteenIdeal.Facts) (hRefsixteenIdeal : Cert.RefsixteenIdeal.Facts) (hPleout : Cert.Pleout.Facts) (hPleoutIdeal : Cert.PleoutIdeal.Facts) (hRefpleoutIdeal : Cert.RefpleoutIdeal.Facts) (hDownproj : Cert.Downproj.Facts) (hDownprojIdeal : Cert.DownprojIdeal.Facts) (hRefdownprojIdeal : Cert.RefdownprojIdeal.Facts) (hEvenout : Cert.Evenout.Facts) (hEvenoutIdeal : Cert.EvenoutIdeal.Facts) (hRefevenoutIdeal : Cert.RefevenoutIdeal.Facts) (hEvenin : Cert.Evenin.Facts) (hEveninIdeal : Cert.EveninIdeal.Facts) (hRefeveninIdeal : Cert.RefeveninIdeal.Facts) (hOddin : Cert.Oddin.Facts) (hOddinIdeal : Cert.OddinIdeal.Facts) (hRefoddinIdeal : Cert.RefoddinIdeal.Facts) (hFfnact : Cert.Ffnact.Facts) (hFfnactIdeal : Cert.FfnactIdeal.Facts) (hRefffnactIdeal : Cert.RefffnactIdeal.Facts) (hFox : Cert.Fox.Facts) (hFoxIdeal : Cert.FoxIdeal.Facts) (hReffoxIdeal : Cert.ReffoxIdeal.Facts) (hOddout : Cert.Oddout.Facts) (hOddoutIdeal : Cert.OddoutIdeal.Facts) (hRefoddoutIdeal : Cert.RefoddoutIdeal.Facts) (hDsa : Cert.Dsa.Facts) (hDsaIdeal : Cert.DsaIdeal.Facts) (hRefdsaIdeal : Cert.RefdsaIdeal.Facts),
    quiescent_Dilone (hDilone := hDilone)
    ∧ quiescent_DiloneIdeal (hDiloneIdeal := hDiloneIdeal)
    ∧ quiescent_RefoneIdeal (hRefoneIdeal := hRefoneIdeal)
    ∧ quiescent_Dilfour (hDilfour := hDilfour)
    ∧ quiescent_DilfourIdeal (hDilfourIdeal := hDilfourIdeal)
    ∧ quiescent_ReffourIdeal (hReffourIdeal := hReffourIdeal)
    ∧ quiescent_Dilsixteen (hDilsixteen := hDilsixteen)
    ∧ quiescent_DilsixteenIdeal (hDilsixteenIdeal := hDilsixteenIdeal)
    ∧ quiescent_RefsixteenIdeal (hRefsixteenIdeal := hRefsixteenIdeal)
    ∧ quiescent_Pleout (hPleout := hPleout)
    ∧ quiescent_PleoutIdeal (hPleoutIdeal := hPleoutIdeal)
    ∧ quiescent_RefpleoutIdeal (hRefpleoutIdeal := hRefpleoutIdeal)
    ∧ quiescent_Downproj (hDownproj := hDownproj)
    ∧ quiescent_DownprojIdeal (hDownprojIdeal := hDownprojIdeal)
    ∧ quiescent_RefdownprojIdeal (hRefdownprojIdeal := hRefdownprojIdeal)
    ∧ quiescent_Evenout (hEvenout := hEvenout)
    ∧ quiescent_EvenoutIdeal (hEvenoutIdeal := hEvenoutIdeal)
    ∧ quiescent_RefevenoutIdeal (hRefevenoutIdeal := hRefevenoutIdeal)
    ∧ quiescent_Evenin (hEvenin := hEvenin)
    ∧ quiescent_EveninIdeal (hEveninIdeal := hEveninIdeal)
    ∧ quiescent_RefeveninIdeal (hRefeveninIdeal := hRefeveninIdeal)
    ∧ quiescent_Oddin (hOddin := hOddin)
    ∧ quiescent_OddinIdeal (hOddinIdeal := hOddinIdeal)
    ∧ quiescent_RefoddinIdeal (hRefoddinIdeal := hRefoddinIdeal)
    ∧ quiescent_Ffnact (hFfnact := hFfnact)
    ∧ quiescent_FfnactIdeal (hFfnactIdeal := hFfnactIdeal)
    ∧ quiescent_RefffnactIdeal (hRefffnactIdeal := hRefffnactIdeal)
    ∧ quiescent_Fox (hFox := hFox)
    ∧ quiescent_FoxIdeal (hFoxIdeal := hFoxIdeal)
    ∧ quiescent_ReffoxIdeal (hReffoxIdeal := hReffoxIdeal)
    ∧ quiescent_Oddout (hOddout := hOddout)
    ∧ quiescent_OddoutIdeal (hOddoutIdeal := hOddoutIdeal)
    ∧ quiescent_RefoddoutIdeal (hRefoddoutIdeal := hRefoddoutIdeal)
    ∧ quiescent_Dsa (hDsa := hDsa)
    ∧ quiescent_DsaIdeal (hDsaIdeal := hDsaIdeal)
    ∧ quiescent_RefdsaIdeal (hRefdsaIdeal := hRefdsaIdeal)
    ∧ preserves_Dilone_DiloneIdeal
    ∧ algebraic_DiloneIdeal_RefoneIdeal (hDiloneIdeal := hDiloneIdeal) (hRefoneIdeal := hRefoneIdeal)
    ∧ preserves_Dilfour_DilfourIdeal
    ∧ algebraic_DilfourIdeal_ReffourIdeal (hDilfourIdeal := hDilfourIdeal) (hReffourIdeal := hReffourIdeal)
    ∧ preserves_Dilsixteen_DilsixteenIdeal
    ∧ algebraic_DilsixteenIdeal_RefsixteenIdeal (hDilsixteenIdeal := hDilsixteenIdeal) (hRefsixteenIdeal := hRefsixteenIdeal)
    ∧ preserves_Pleout_PleoutIdeal
    ∧ algebraic_PleoutIdeal_RefpleoutIdeal (hPleoutIdeal := hPleoutIdeal) (hRefpleoutIdeal := hRefpleoutIdeal)
    ∧ preserves_Downproj_DownprojIdeal
    ∧ algebraic_DownprojIdeal_RefdownprojIdeal (hDownprojIdeal := hDownprojIdeal) (hRefdownprojIdeal := hRefdownprojIdeal)
    ∧ preserves_Evenout_EvenoutIdeal
    ∧ algebraic_EvenoutIdeal_RefevenoutIdeal (hEvenoutIdeal := hEvenoutIdeal) (hRefevenoutIdeal := hRefevenoutIdeal)
    ∧ preserves_Evenin_EveninIdeal
    ∧ algebraic_EveninIdeal_RefeveninIdeal (hEveninIdeal := hEveninIdeal) (hRefeveninIdeal := hRefeveninIdeal)
    ∧ preserves_Oddin_OddinIdeal
    ∧ algebraic_OddinIdeal_RefoddinIdeal (hOddinIdeal := hOddinIdeal) (hRefoddinIdeal := hRefoddinIdeal)
    ∧ preserves_Ffnact_FfnactIdeal
    ∧ algebraic_FfnactIdeal_RefffnactIdeal (hFfnactIdeal := hFfnactIdeal) (hRefffnactIdeal := hRefffnactIdeal)
    ∧ preserves_Fox_FoxIdeal
    ∧ algebraic_FoxIdeal_ReffoxIdeal (hFoxIdeal := hFoxIdeal) (hReffoxIdeal := hReffoxIdeal)
    ∧ preserves_Oddout_OddoutIdeal
    ∧ algebraic_OddoutIdeal_RefoddoutIdeal (hOddoutIdeal := hOddoutIdeal) (hRefoddoutIdeal := hRefoddoutIdeal)
    ∧ preserves_Dsa_DsaIdeal
    ∧ algebraic_DsaIdeal_RefdsaIdeal (hDsaIdeal := hDsaIdeal) (hRefdsaIdeal := hRefdsaIdeal)
-- ==== Dilone.lean ====
abbrev S16384x1024 : Shape := ⟨2, ![16384, 1024]⟩
abbrev S16384x128 : Shape := ⟨2, ![16384, 128]⟩
abbrev S128x1024 : Shape := ⟨2, ![128, 1024]⟩
abbrev S128x128 : Shape := ⟨2, ![128, 128]⟩
abbrev S128x64 : Shape := ⟨2, ![128, 64]⟩
abbrev S128 : Shape := ⟨1, ![128]⟩
abbrev S128x1 : Shape := ⟨2, ![128, 1]⟩

abbrev nBuf : Space → Nat
  | .hbm => 5
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .f32⟩
  | .hbm, ⟨4, _⟩ => ⟨S16384x128, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | .local _ .vmem, ⟨12, _⟩ => ⟨S128x128, .f32⟩
  | .local _ .vmem, ⟨13, _⟩ => ⟨S128x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 128], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DiloneIdeal.lean ====
variable {F : FTy → Type} [FloatOps F] [Named F]
def κ : String → Option EReal := fun
  | "inv_ln2" => some (((Real.log 2)⁻¹ : ℝ) : EReal)
  | _ => none
-- ==== RefoneIdeal.lean ====
abbrev S16384x1024 : Shape := ⟨2, ![16384, 1024]⟩
abbrev S_ : Shape := ⟨0, ![]⟩
abbrev S16384x1x16x64 : Shape := ⟨4, ![16384, 1, 16, 64]⟩
abbrev S1x16384x16x64 : Shape := ⟨4, ![1, 16384, 16, 64]⟩
abbrev S1x128x128x16x64 : Shape := ⟨5, ![1, 128, 128, 16, 64]⟩
abbrev S1x129x128x16x64 : Shape := ⟨5, ![1, 129, 128, 16, 64]⟩
abbrev S1x128x256x16x64 : Shape := ⟨5, ![1, 128, 256, 16, 64]⟩
abbrev S1x128x16x128x256 : Shape := ⟨5, ![1, 128, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1x128x1x128x256 : Shape := ⟨5, ![1, 128, 1, 128, 256]⟩
abbrev S1x128x16x128 : Shape := ⟨4, ![1, 128, 16, 128]⟩
abbrev S1x128x16x128x1 : Shape := ⟨5, ![1, 128, 16, 128, 1]⟩
abbrev S1x128x16x64x128 : Shape := ⟨5, ![1, 128, 16, 64, 128]⟩
abbrev S1x128x128x16 : Shape := ⟨4, ![1, 128, 128, 16]⟩
abbrev S1x128x128x16x1 : Shape := ⟨5, ![1, 128, 128, 16, 1]⟩
abbrev S1x16384x1024 : Shape := ⟨3, ![1, 16384, 1024]⟩
abbrev S16384x1x1024 : Shape := ⟨3, ![16384, 1, 1024]⟩
abbrev S1x128x128x128 : Shape := ⟨4, ![1, 128, 128, 128]⟩
abbrev S1x16384x128 : Shape := ⟨3, ![1, 16384, 128]⟩
abbrev S16384x1x128 : Shape := ⟨3, ![16384, 1, 128]⟩
abbrev S16384x128 : Shape := ⟨2, ![16384, 128]⟩

abbrev nBuf : Space → Nat
  | .hbm => 99
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S_, .f32⟩
  | .hbm, ⟨4, _⟩ => ⟨S_, .f32⟩
  | .hbm, ⟨5, _⟩ => ⟨S16384x1024, .f32⟩
  | .hbm, ⟨6, _⟩ => ⟨S16384x1x16x64, .f32⟩
  | .hbm, ⟨7, _⟩ => ⟨S1x16384x16x64, .f32⟩
  | .hbm, ⟨8, _⟩ => ⟨S1x128x128x16x64, .f32⟩
  | .hbm, ⟨9, _⟩ => ⟨S16384x1024, .f32⟩
  | .hbm, ⟨10, _⟩ => ⟨S16384x1x16x64, .f32⟩
  | .hbm, ⟨11, _⟩ => ⟨S1x16384x16x64, .f32⟩
  | .hbm, ⟨12, _⟩ => ⟨S1x128x128x16x64, .f32⟩
  | .hbm, ⟨13, _⟩ => ⟨S_, .i32⟩
  | .hbm, ⟨14, _⟩ => ⟨S_, .f32⟩
  | .hbm, ⟨15, _⟩ => ⟨S1x129x128x16x64, .f32⟩
  | .hbm, ⟨16, _⟩ => ⟨S1x128x128x16x64, .f32⟩
  | .hbm, ⟨17, _⟩ => ⟨S1x128x256x16x64, .f32⟩
  | .hbm, ⟨18, _⟩ => ⟨S16384x1024, .f32⟩
  | .hbm, ⟨19, _⟩ => ⟨S16384x1x16x64, .f32⟩
  | .hbm, ⟨20, _⟩ => ⟨S1x16384x16x64, .f32⟩
  | .hbm, ⟨21, _⟩ => ⟨S1x128x128x16x64, .f32⟩
  | .hbm, ⟨22, _⟩ => ⟨S_, .i32⟩
  | .hbm, ⟨23, _⟩ => ⟨S_, .f32⟩
  | .hbm, ⟨24, _⟩ => ⟨S1x129x128x16x64, .f32⟩
  | .hbm, ⟨25, _⟩ => ⟨S1x128x128x16x64, .f32⟩
  | .hbm, ⟨26, _⟩ => ⟨S1x128x256x16x64, .f32⟩
  | .hbm, ⟨27, _⟩ => ⟨S1x128x16x128x256, .f32⟩
  | .hbm, ⟨28, _⟩ => ⟨S1x128x16x128x256, .f32⟩
  | .hbm, ⟨29, _⟩ => ⟨S1x128x16x128x256, .f32⟩
  | .hbm, ⟨30, _⟩ => ⟨S128, .i32⟩
  | .hbm, ⟨31, _⟩ => ⟨S128x1, .i32⟩
  | .hbm, ⟨32, _⟩ => ⟨S256, .i32⟩
  | .hbm, ⟨33, _⟩ => ⟨S1x256, .i32⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S128x256, .i1⟩
  | .hbm, ⟨47, _⟩ => ⟨S128, .i32⟩
  | .hbm, ⟨48, _⟩ => ⟨S_, .i32⟩
  | .hbm, ⟨49, _⟩ => ⟨S128, .i32⟩
  | .hbm, ⟨50, _⟩ => ⟨S128, .i1⟩
  | .hbm, ⟨51, _⟩ => ⟨S128x1x1, .i1⟩
  | .hbm, ⟨52, _⟩ => ⟨S_, .i32⟩
  | .hbm, ⟨53, _⟩ => ⟨S1x256, .i32⟩
  | .hbm, ⟨54, _⟩ => ⟨S1x256, .i1⟩
  | .hbm, ⟨55, _⟩ => ⟨S1x1x256, .i1⟩
  | .hbm, ⟨56, _⟩ => ⟨S128x1x256, .i1⟩
  | .hbm, ⟨57, _⟩ => ⟨S128x1x256, .i1⟩
  | .hbm, ⟨58, _⟩ => ⟨S128x1x256, .i1⟩
  | .hbm, ⟨59, _⟩ => ⟨S1x128x256, .i1⟩
  | .hbm, ⟨60, _⟩ => ⟨S128x1x256, .i1⟩
  | .hbm, ⟨61, _⟩ => ⟨S128x128x256, .i1⟩
  | .hbm, ⟨62, _⟩ => ⟨S128x128x256, .i1⟩
  | .hbm, ⟨63, _⟩ => ⟨S128x128x256, .i1⟩
  | .hbm, ⟨64, _⟩ => ⟨S1x128x1x128x256, .i1⟩
  | .hbm, ⟨65, _⟩ => ⟨S_, .f32⟩
  | .hbm, ⟨66, _⟩ => ⟨S_, .f32⟩
  | .hbm, ⟨67, _⟩ => ⟨S1x128x16x128x256, .i1⟩
  | .hbm, ⟨68, _⟩ => ⟨S1x128x16x128x256, .f32⟩
  | .hbm, ⟨69, _⟩ => ⟨S1x128x16x128x256, .f32⟩
  | .hbm, ⟨70, _⟩ => ⟨S_, .f32⟩
  | .hbm, ⟨71, _⟩ => ⟨S1x128x16x128, .f32⟩
  | .hbm, ⟨72, _⟩ => ⟨S1x128x16x128x1, .f32⟩
  | .hbm, ⟨73, _⟩ => ⟨S1x128x16x128x256, .f32⟩
  | .hbm, ⟨74, _⟩ => ⟨S1x128x16x128x256, .f32⟩
  | .hbm, ⟨75, _⟩ => ⟨S1x128x16x128x256, .f32⟩
  | .hbm, ⟨76, _⟩ => ⟨S_, .f32⟩
  | .hbm, ⟨77, _⟩ => ⟨S1x128x16x128, .f32⟩
  | .hbm, ⟨78, _⟩ => ⟨S1x128x16x64x128, .f32⟩
  | .hbm, ⟨79, _⟩ => ⟨S1x128x128x16x64, .f32⟩
  | .hbm, ⟨80, _⟩ => ⟨S1x128x128x16, .f32⟩
  | .hbm, ⟨81, _⟩ => ⟨S1x128x128x16x1, .f32⟩
  | .hbm, ⟨82, _⟩ => ⟨S1x128x128x16x64, .f32⟩
  | .hbm, ⟨83, _⟩ => ⟨S1x128x128x16x64, .f32⟩
  | .hbm, ⟨84, _⟩ => ⟨S1x128x16x128, .f32⟩
  | .hbm, ⟨85, _⟩ => ⟨S1x128x16x128, .f32⟩
  | .hbm, ⟨86, _⟩ => ⟨S1x128x16x128, .f32⟩
  | .hbm, ⟨87, _⟩ => ⟨S1x128x128x16, .f32⟩
  | .hbm, ⟨88, _⟩ => ⟨S1x16384x1024, .f32⟩
  | .hbm, ⟨89, _⟩ => ⟨S16384x1x1024, .f32⟩
  | .hbm, ⟨90, _⟩ => ⟨S16384x1024, .f32⟩
  | .hbm, ⟨91, _⟩ => ⟨S1x128x128x16, .f32⟩
  | .hbm, ⟨92, _⟩ => ⟨S1x128x128x16, .f32⟩
  | .hbm, ⟨93, _⟩ => ⟨S_, .i32⟩
  | .hbm, ⟨94, _⟩ => ⟨S_, .f32⟩
  | .hbm, ⟨95, _⟩ => ⟨S1x128x128x128, .f32⟩
  | .hbm, ⟨96, _⟩ => ⟨S1x16384x128, .f32⟩
  | .hbm, ⟨97, _⟩ => ⟨S16384x1x128, .f32⟩
  | .hbm, ⟨98, _⟩ => ⟨S16384x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_call1_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_c_9 : Ref sig .tc := ⟨.hbm, 93, rfl⟩
abbrev main_call3_v0 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Dilfour.lean ====
abbrev S16384x1024 : Shape := ⟨2, ![16384, 1024]⟩
abbrev S4096x4096 : Shape := ⟨2, ![4096, 4096]⟩
abbrev S4096x512 : Shape := ⟨2, ![4096, 512]⟩
abbrev S128x1024 : Shape := ⟨2, ![128, 1024]⟩
abbrev S128x128 : Shape := ⟨2, ![128, 128]⟩
abbrev S128x64 : Shape := ⟨2, ![128, 64]⟩
abbrev S128 : Shape := ⟨1, ![128]⟩
abbrev S128x1 : Shape := ⟨2, ![128, 1]⟩

abbrev nBuf : Space → Nat
  | .hbm => 8
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S4096x4096, .bf16⟩
  | .hbm, ⟨4, _⟩ => ⟨S4096x4096, .bf16⟩
  | .hbm, ⟨5, _⟩ => ⟨S4096x4096, .bf16⟩
  | .hbm, ⟨6, _⟩ => ⟨S4096x4096, .f32⟩
  | .hbm, ⟨7, _⟩ => ⟨S4096x512, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | .local _ .vmem, ⟨12, _⟩ => ⟨S128x128, .f32⟩
  | .local _ .vmem, ⟨13, _⟩ => ⟨S128x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DilfourIdeal.lean ====
variable {F : FTy → Type} [FloatOps F] [Named F]
def κ : String → Option EReal := fun
  | "inv_ln2" => some (((Real.log 2)⁻¹ : ℝ) : EReal)
  | _ => none
-- ==== ReffourIdeal.lean ====
abbrev S16384x1024 : Shape := ⟨2, ![16384, 1024]⟩
abbrev S_ : Shape := ⟨0, ![]⟩
abbrev S4096x4x16x64 : Shape := ⟨4, ![4096, 4, 16, 64]⟩
abbrev S4x4096x16x64 : Shape := ⟨4, ![4, 4096, 16, 64]⟩
abbrev S4x32x128x16x64 : Shape := ⟨5, ![4, 32, 128, 16, 64]⟩
abbrev S4x33x128x16x64 : Shape := ⟨5, ![4, 33, 128, 16, 64]⟩
abbrev S4x32x256x16x64 : Shape := ⟨5, ![4, 32, 256, 16, 64]⟩
abbrev S4x32x16x128x256 : Shape := ⟨5, ![4, 32, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x128x256 : Shape := ⟨5, ![1, 32, 1, 128, 256]⟩
abbrev S4x32x16x128 : Shape := ⟨4, ![4, 32, 16, 128]⟩
abbrev S4x32x16x128x1 : Shape := ⟨5, ![4, 32, 16, 128, 1]⟩
abbrev S4x32x16x64x128 : Shape := ⟨5, ![4, 32, 16, 64, 128]⟩
abbrev S4x32x128x16 : Shape := ⟨4, ![4, 32, 128, 16]⟩
abbrev S4x32x128x16x1 : Shape := ⟨5, ![4, 32, 128, 16, 1]⟩
abbrev S4x4096x1024 : Shape := ⟨3, ![4, 4096, 1024]⟩
abbrev S4096x4x1024 : Shape := ⟨3, ![4096, 4, 1024]⟩
abbrev S4096x4096 : Shape := ⟨2, ![4096, 4096]⟩
abbrev S4x32x128x128 : Shape := ⟨4, ![4, 32, 128, 128]⟩
abbrev S4x4096x128 : Shape := ⟨3, ![4, 4096, 128]⟩
abbrev S4096x4x128 : Shape := ⟨3, ![4096, 4, 128]⟩
abbrev S4096x512 : Shape := ⟨2, ![4096, 512]⟩

abbrev nBuf : Space → Nat
  | .hbm => 99
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S_, .f32⟩
  | .hbm, ⟨4, _⟩ => ⟨S_, .f32⟩
  | .hbm, ⟨5, _⟩ => ⟨S16384x1024, .f32⟩
  | .hbm, ⟨6, _⟩ => ⟨S4096x4x16x64, .f32⟩
  | .hbm, ⟨7, _⟩ => ⟨S4x4096x16x64, .f32⟩
  | .hbm, ⟨8, _⟩ => ⟨S4x32x128x16x64, .f32⟩
  | .hbm, ⟨9, _⟩ => ⟨S16384x1024, .f32⟩
  | .hbm, ⟨10, _⟩ => ⟨S4096x4x16x64, .f32⟩
  | .hbm, ⟨11, _⟩ => ⟨S4x4096x16x64, .f32⟩
  | .hbm, ⟨12, _⟩ => ⟨S4x32x128x16x64, .f32⟩
  | .hbm, ⟨13, _⟩ => ⟨S_, .i32⟩
  | .hbm, ⟨14, _⟩ => ⟨S_, .f32⟩
  | .hbm, ⟨15, _⟩ => ⟨S4x33x128x16x64, .f32⟩
  | .hbm, ⟨16, _⟩ => ⟨S4x32x128x16x64, .f32⟩
  | .hbm, ⟨17, _⟩ => ⟨S4x32x256x16x64, .f32⟩
  | .hbm, ⟨18, _⟩ => ⟨S16384x1024, .f32⟩
  | .hbm, ⟨19, _⟩ => ⟨S4096x4x16x64, .f32⟩
  | .hbm, ⟨20, _⟩ => ⟨S4x4096x16x64, .f32⟩
  | .hbm, ⟨21, _⟩ => ⟨S4x32x128x16x64, .f32⟩
  | .hbm, ⟨22, _⟩ => ⟨S_, .i32⟩
  | .hbm, ⟨23, _⟩ => ⟨S_, .f32⟩
  | .hbm, ⟨24, _⟩ => ⟨S4x33x128x16x64, .f32⟩
  | .hbm, ⟨25, _⟩ => ⟨S4x32x128x16x64, .f32⟩
  | .hbm, ⟨26, _⟩ => ⟨S4x32x256x16x64, .f32⟩
  | .hbm, ⟨27, _⟩ => ⟨S4x32x16x128x256, .f32⟩
  | .hbm, ⟨28, _⟩ => ⟨S4x32x16x128x256, .f32⟩
  | .hbm, ⟨29, _⟩ => ⟨S4x32x16x128x256, .f32⟩
  | .hbm, ⟨30, _⟩ => ⟨S128, .i32⟩
  | .hbm, ⟨31, _⟩ => ⟨S128x1, .i32⟩
  | .hbm, ⟨32, _⟩ => ⟨S256, .i32⟩
  | .hbm, ⟨33, _⟩ => ⟨S1x256, .i32⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S128x256, .i1⟩
  | .hbm, ⟨47, _⟩ => ⟨S32, .i32⟩
  | .hbm, ⟨48, _⟩ => ⟨S_, .i32⟩
  | .hbm, ⟨49, _⟩ => ⟨S32, .i32⟩
  | .hbm, ⟨50, _⟩ => ⟨S32, .i1⟩
  | .hbm, ⟨51, _⟩ => ⟨S32x1x1, .i1⟩
  | .hbm, ⟨52, _⟩ => ⟨S_, .i32⟩
  | .hbm, ⟨53, _⟩ => ⟨S1x256, .i32⟩
  | .hbm, ⟨54, _⟩ => ⟨S1x256, .i1⟩
  | .hbm, ⟨55, _⟩ => ⟨S1x1x256, .i1⟩
  | .hbm, ⟨56, _⟩ => ⟨S32x1x256, .i1⟩
  | .hbm, ⟨57, _⟩ => ⟨S32x1x256, .i1⟩
  | .hbm, ⟨58, _⟩ => ⟨S32x1x256, .i1⟩
  | .hbm, ⟨59, _⟩ => ⟨S1x128x256, .i1⟩
  | .hbm, ⟨60, _⟩ => ⟨S32x1x256, .i1⟩
  | .hbm, ⟨61, _⟩ => ⟨S32x128x256, .i1⟩
  | .hbm, ⟨62, _⟩ => ⟨S32x128x256, .i1⟩
  | .hbm, ⟨63, _⟩ => ⟨S32x128x256, .i1⟩
  | .hbm, ⟨64, _⟩ => ⟨S1x32x1x128x256, .i1⟩
  | .hbm, ⟨65, _⟩ => ⟨S_, .f32⟩
  | .hbm, ⟨66, _⟩ => ⟨S_, .f32⟩
  | .hbm, ⟨67, _⟩ => ⟨S4x32x16x128x256, .i1⟩
  | .hbm, ⟨68, _⟩ => ⟨S4x32x16x128x256, .f32⟩
  | .hbm, ⟨69, _⟩ => ⟨S4x32x16x128x256, .f32⟩
  | .hbm, ⟨70, _⟩ => ⟨S_, .f32⟩
  | .hbm, ⟨71, _⟩ => ⟨S4x32x16x128, .f32⟩
  | .hbm, ⟨72, _⟩ => ⟨S4x32x16x128x1, .f32⟩
  | .hbm, ⟨73, _⟩ => ⟨S4x32x16x128x256, .f32⟩
  | .hbm, ⟨74, _⟩ => ⟨S4x32x16x128x256, .f32⟩
  | .hbm, ⟨75, _⟩ => ⟨S4x32x16x128x256, .f32⟩
  | .hbm, ⟨76, _⟩ => ⟨S_, .f32⟩
  | .hbm, ⟨77, _⟩ => ⟨S4x32x16x128, .f32⟩
  | .hbm, ⟨78, _⟩ => ⟨S4x32x16x64x128, .f32⟩
  | .hbm, ⟨79, _⟩ => ⟨S4x32x128x16x64, .f32⟩
  | .hbm, ⟨80, _⟩ => ⟨S4x32x128x16, .f32⟩
  | .hbm, ⟨81, _⟩ => ⟨S4x32x128x16x1, .f32⟩
  | .hbm, ⟨82, _⟩ => ⟨S4x32x128x16x64, .f32⟩
  | .hbm, ⟨83, _⟩ => ⟨S4x32x128x16x64, .f32⟩
  | .hbm, ⟨84, _⟩ => ⟨S4x32x16x128, .f32⟩
  | .hbm, ⟨85, _⟩ => ⟨S4x32x16x128, .f32⟩
  | .hbm, ⟨86, _⟩ => ⟨S4x32x16x128, .f32⟩
  | .hbm, ⟨87, _⟩ => ⟨S4x32x128x16, .f32⟩
  | .hbm, ⟨88, _⟩ => ⟨S4x4096x1024, .f32⟩
  | .hbm, ⟨89, _⟩ => ⟨S4096x4x1024, .f32⟩
  | .hbm, ⟨90, _⟩ => ⟨S4096x4096, .f32⟩
  | .hbm, ⟨91, _⟩ => ⟨S4x32x128x16, .f32⟩
  | .hbm, ⟨92, _⟩ => ⟨S4x32x128x16, .f32⟩
  | .hbm, ⟨93, _⟩ => ⟨S_, .i32⟩
  | .hbm, ⟨94, _⟩ => ⟨S_, .f32⟩
  | .hbm, ⟨95, _⟩ => ⟨S4x32x128x128, .f32⟩
  | .hbm, ⟨96, _⟩ => ⟨S4x4096x128, .f32⟩
  | .hbm, ⟨97, _⟩ => ⟨S4096x4x128, .f32⟩
  | .hbm, ⟨98, _⟩ => ⟨S4096x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_call1_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_c_9 : Ref sig .tc := ⟨.hbm, 93, rfl⟩
abbrev main_call3_v0 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Dilsixteen.lean ====
abbrev S16384x1024 : Shape := ⟨2, ![16384, 1024]⟩
abbrev S1024x16384 : Shape := ⟨2, ![1024, 16384]⟩
abbrev S1024x2048 : Shape := ⟨2, ![1024, 2048]⟩
abbrev S128x1024 : Shape := ⟨2, ![128, 1024]⟩
abbrev S128x128 : Shape := ⟨2, ![128, 128]⟩
abbrev S128x64 : Shape := ⟨2, ![128, 64]⟩
abbrev S128 : Shape := ⟨1, ![128]⟩
abbrev S128x1 : Shape := ⟨2, ![128, 1]⟩

abbrev nBuf : Space → Nat
  | .hbm => 8
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S1024x16384, .bf16⟩
  | .hbm, ⟨4, _⟩ => ⟨S1024x16384, .bf16⟩
  | .hbm, ⟨5, _⟩ => ⟨S1024x16384, .bf16⟩
  | .hbm, ⟨6, _⟩ => ⟨S1024x16384, .f32⟩
  | .hbm, ⟨7, _⟩ => ⟨S1024x2048, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | .local _ .vmem, ⟨12, _⟩ => ⟨S128x128, .f32⟩
  | .local _ .vmem, ⟨13, _⟩ => ⟨S128x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DilsixteenIdeal.lean ====
variable {F : FTy → Type} [FloatOps F] [Named F]
def κ : String → Option EReal := fun
  | "inv_ln2" => some (((Real.log 2)⁻¹ : ℝ) : EReal)
  | _ => none
-- ==== RefsixteenIdeal.lean ====
abbrev S16384x1024 : Shape := ⟨2, ![16384, 1024]⟩
abbrev S_ : Shape := ⟨0, ![]⟩
abbrev S1024x16x16x64 : Shape := ⟨4, ![1024, 16, 16, 64]⟩
abbrev S16x1024x16x64 : Shape := ⟨4, ![16, 1024, 16, 64]⟩
abbrev S16x8x128x16x64 : Shape := ⟨5, ![16, 8, 128, 16, 64]⟩
abbrev S16x9x128x16x64 : Shape := ⟨5, ![16, 9, 128, 16, 64]⟩
abbrev S16x8x256x16x64 : Shape := ⟨5, ![16, 8, 256, 16, 64]⟩
abbrev S16x8x16x128x256 : Shape := ⟨5, ![16, 8, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S1x8x1x128x256 : Shape := ⟨5, ![1, 8, 1, 128, 256]⟩
abbrev S16x8x16x128 : Shape := ⟨4, ![16, 8, 16, 128]⟩
abbrev S16x8x16x128x1 : Shape := ⟨5, ![16, 8, 16, 128, 1]⟩
abbrev S16x8x16x64x128 : Shape := ⟨5, ![16, 8, 16, 64, 128]⟩
abbrev S16x8x128x16 : Shape := ⟨4, ![16, 8, 128, 16]⟩
abbrev S16x8x128x16x1 : Shape := ⟨5, ![16, 8, 128, 16, 1]⟩
abbrev S16x1024x1024 : Shape := ⟨3, ![16, 1024, 1024]⟩
abbrev S1024x16x1024 : Shape := ⟨3, ![1024, 16, 1024]⟩
abbrev S1024x16384 : Shape := ⟨2, ![1024, 16384]⟩
abbrev S16x8x128x128 : Shape := ⟨4, ![16, 8, 128, 128]⟩
abbrev S16x1024x128 : Shape := ⟨3, ![16, 1024, 128]⟩
abbrev S1024x16x128 : Shape := ⟨3, ![1024, 16, 128]⟩
abbrev S1024x2048 : Shape := ⟨2, ![1024, 2048]⟩

abbrev nBuf : Space → Nat
  | .hbm => 99
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S_, .f32⟩
  | .hbm, ⟨4, _⟩ => ⟨S_, .f32⟩
  | .hbm, ⟨5, _⟩ => ⟨S16384x1024, .f32⟩
  | .hbm, ⟨6, _⟩ => ⟨S1024x16x16x64, .f32⟩
  | .hbm, ⟨7, _⟩ => ⟨S16x1024x16x64, .f32⟩
  | .hbm, ⟨8, _⟩ => ⟨S16x8x128x16x64, .f32⟩
  | .hbm, ⟨9, _⟩ => ⟨S16384x1024, .f32⟩
  | .hbm, ⟨10, _⟩ => ⟨S1024x16x16x64, .f32⟩
  | .hbm, ⟨11, _⟩ => ⟨S16x1024x16x64, .f32⟩
  | .hbm, ⟨12, _⟩ => ⟨S16x8x128x16x64, .f32⟩
  | .hbm, ⟨13, _⟩ => ⟨S_, .i32⟩
  | .hbm, ⟨14, _⟩ => ⟨S_, .f32⟩
  | .hbm, ⟨15, _⟩ => ⟨S16x9x128x16x64, .f32⟩
  | .hbm, ⟨16, _⟩ => ⟨S16x8x128x16x64, .f32⟩
  | .hbm, ⟨17, _⟩ => ⟨S16x8x256x16x64, .f32⟩
  | .hbm, ⟨18, _⟩ => ⟨S16384x1024, .f32⟩
  | .hbm, ⟨19, _⟩ => ⟨S1024x16x16x64, .f32⟩
  | .hbm, ⟨20, _⟩ => ⟨S16x1024x16x64, .f32⟩
  | .hbm, ⟨21, _⟩ => ⟨S16x8x128x16x64, .f32⟩
  | .hbm, ⟨22, _⟩ => ⟨S_, .i32⟩
  | .hbm, ⟨23, _⟩ => ⟨S_, .f32⟩
  | .hbm, ⟨24, _⟩ => ⟨S16x9x128x16x64, .f32⟩
  | .hbm, ⟨25, _⟩ => ⟨S16x8x128x16x64, .f32⟩
  | .hbm, ⟨26, _⟩ => ⟨S16x8x256x16x64, .f32⟩
  | .hbm, ⟨27, _⟩ => ⟨S16x8x16x128x256, .f32⟩
  | .hbm, ⟨28, _⟩ => ⟨S16x8x16x128x256, .f32⟩
  | .hbm, ⟨29, _⟩ => ⟨S16x8x16x128x256, .f32⟩
  | .hbm, ⟨30, _⟩ => ⟨S128, .i32⟩
  | .hbm, ⟨31, _⟩ => ⟨S128x1, .i32⟩
  | .hbm, ⟨32, _⟩ => ⟨S256, .i32⟩
  | .hbm, ⟨33, _⟩ => ⟨S1x256, .i32⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S128x256, .i1⟩
  | .hbm, ⟨47, _⟩ => ⟨S8, .i32⟩
  | .hbm, ⟨48, _⟩ => ⟨S_, .i32⟩
  | .hbm, ⟨49, _⟩ => ⟨S8, .i32⟩
  | .hbm, ⟨50, _⟩ => ⟨S8, .i1⟩
  | .hbm, ⟨51, _⟩ => ⟨S8x1x1, .i1⟩
  | .hbm, ⟨52, _⟩ => ⟨S_, .i32⟩
  | .hbm, ⟨53, _⟩ => ⟨S1x256, .i32⟩
  | .hbm, ⟨54, _⟩ => ⟨S1x256, .i1⟩
  | .hbm, ⟨55, _⟩ => ⟨S1x1x256, .i1⟩
  | .hbm, ⟨56, _⟩ => ⟨S8x1x256, .i1⟩
  | .hbm, ⟨57, _⟩ => ⟨S8x1x256, .i1⟩
  | .hbm, ⟨58, _⟩ => ⟨S8x1x256, .i1⟩
  | .hbm, ⟨59, _⟩ => ⟨S1x128x256, .i1⟩
  | .hbm, ⟨60, _⟩ => ⟨S8x1x256, .i1⟩
  | .hbm, ⟨61, _⟩ => ⟨S8x128x256, .i1⟩
  | .hbm, ⟨62, _⟩ => ⟨S8x128x256, .i1⟩
  | .hbm, ⟨63, _⟩ => ⟨S8x128x256, .i1⟩
  | .hbm, ⟨64, _⟩ => ⟨S1x8x1x128x256, .i1⟩
  | .hbm, ⟨65, _⟩ => ⟨S_, .f32⟩
  | .hbm, ⟨66, _⟩ => ⟨S_, .f32⟩
  | .hbm, ⟨67, _⟩ => ⟨S16x8x16x128x256, .i1⟩
  | .hbm, ⟨68, _⟩ => ⟨S16x8x16x128x256, .f32⟩
  | .hbm, ⟨69, _⟩ => ⟨S16x8x16x128x256, .f32⟩
  | .hbm, ⟨70, _⟩ => ⟨S_, .f32⟩
  | .hbm, ⟨71, _⟩ => ⟨S16x8x16x128, .f32⟩
  | .hbm, ⟨72, _⟩ => ⟨S16x8x16x128x1, .f32⟩
  | .hbm, ⟨73, _⟩ => ⟨S16x8x16x128x256, .f32⟩
  | .hbm, ⟨74, _⟩ => ⟨S16x8x16x128x256, .f32⟩
  | .hbm, ⟨75, _⟩ => ⟨S16x8x16x128x256, .f32⟩
  | .hbm, ⟨76, _⟩ => ⟨S_, .f32⟩
  | .hbm, ⟨77, _⟩ => ⟨S16x8x16x128, .f32⟩
  | .hbm, ⟨78, _⟩ => ⟨S16x8x16x64x128, .f32⟩
  | .hbm, ⟨79, _⟩ => ⟨S16x8x128x16x64, .f32⟩
  | .hbm, ⟨80, _⟩ => ⟨S16x8x128x16, .f32⟩
  | .hbm, ⟨81, _⟩ => ⟨S16x8x128x16x1, .f32⟩
  | .hbm, ⟨82, _⟩ => ⟨S16x8x128x16x64, .f32⟩
  | .hbm, ⟨83, _⟩ => ⟨S16x8x128x16x64, .f32⟩
  | .hbm, ⟨84, _⟩ => ⟨S16x8x16x128, .f32⟩
  | .hbm, ⟨85, _⟩ => ⟨S16x8x16x128, .f32⟩
  | .hbm, ⟨86, _⟩ => ⟨S16x8x16x128, .f32⟩
  | .hbm, ⟨87, _⟩ => ⟨S16x8x128x16, .f32⟩
  | .hbm, ⟨88, _⟩ => ⟨S16x1024x1024, .f32⟩
  | .hbm, ⟨89, _⟩ => ⟨S1024x16x1024, .f32⟩
  | .hbm, ⟨90, _⟩ => ⟨S1024x16384, .f32⟩
  | .hbm, ⟨91, _⟩ => ⟨S16x8x128x16, .f32⟩
  | .hbm, ⟨92, _⟩ => ⟨S16x8x128x16, .f32⟩
  | .hbm, ⟨93, _⟩ => ⟨S_, .i32⟩
  | .hbm, ⟨94, _⟩ => ⟨S_, .f32⟩
  | .hbm, ⟨95, _⟩ => ⟨S16x8x128x128, .f32⟩
  | .hbm, ⟨96, _⟩ => ⟨S16x1024x128, .f32⟩
  | .hbm, ⟨97, _⟩ => ⟨S1024x16x128, .f32⟩
  | .hbm, ⟨98, _⟩ => ⟨S1024x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_call1_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_c_9 : Ref sig .tc := ⟨.hbm, 93, rfl⟩
abbrev main_call3_v0 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Pleout.lean ====
abbrev S16384x1024 : Shape := ⟨2, ![16384, 1024]⟩
abbrev S16384x256 : Shape := ⟨2, ![16384, 256]⟩
abbrev S1x1024 : Shape := ⟨2, ![1, 1024]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefpleoutIdeal.lean ====
abbrev S16384x1024 : Shape := ⟨2, ![16384, 1024]⟩
abbrev S16384x256 : Shape := ⟨2, ![16384, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1024x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S256x1024, .f32⟩
  | .hbm, ⟨31, _⟩ => ⟨S16384x1024, .f32⟩
  | .hbm, ⟨32, _⟩ => ⟨S16384x1024, .f32⟩
  | .hbm, ⟨33, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Downproj.lean ====
abbrev S16384x2816 : Shape := ⟨2, ![16384, 2816]⟩
abbrev S2816x1024 : Shape := ⟨2, ![2816, 1024]⟩
abbrev S16384x1024 : Shape := ⟨2, ![16384, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefdownprojIdeal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Evenout.lean ====
abbrev S16384x512 : Shape := ⟨2, ![16384, 512]⟩
abbrev S512x1024 : Shape := ⟨2, ![512, 1024]⟩
abbrev S16384x1024 : Shape := ⟨2, ![16384, 1024]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x512, .bf16⟩
  | .hbm, ⟨1, _⟩ => ⟨S512x1024, .bf16⟩
  | .hbm, ⟨2, _⟩ => ⟨S16384x512, .bf16⟩
  | .hbm, ⟨3, _⟩ => ⟨S512x1024, .bf16⟩
  | .hbm, ⟨4, _⟩ => ⟨S16384x1024, .f32⟩
  | .hbm, ⟨5, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x512, .bf16⟩
  | .local _ .vmem, ⟨4, _⟩ => ⟨S512x512, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefevenoutIdeal.lean ====
abbrev S16384x512 : Shape := ⟨2, ![16384, 512]⟩
abbrev S512x1024 : Shape := ⟨2, ![512, 1024]⟩
abbrev S16384x1024 : Shape := ⟨2, ![16384, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x1024, .bf16⟩
  | .hbm, ⟨2, _⟩ => ⟨S16384x512, .bf16⟩
  | .hbm, ⟨3, _⟩ => ⟨S512x1024, .bf16⟩
  | .hbm, ⟨4, _⟩ => ⟨S16384x1024, .f32⟩
  | .hbm, ⟨5, _⟩ => ⟨S16384x1024, .bf16⟩
  | .hbm, ⟨6, _⟩ => ⟨S16384x1024, .f32⟩
  | .hbm, ⟨7, _⟩ => ⟨S1024x1024, .bf16⟩
  | .hbm, ⟨8, _⟩ => ⟨S1024x1024, .f32⟩
  | .hbm, ⟨9, _⟩ => ⟨S16384x1024, .f32⟩
  | .hbm, ⟨10, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Evenin.lean ====
abbrev S16384x1024 : Shape := ⟨2, ![16384, 1024]⟩
abbrev S1x1024 : Shape := ⟨2, ![1, 1024]⟩
abbrev S1024x4224 : Shape := ⟨2, ![1024, 4224]⟩
abbrev S16384x4224 : Shape := ⟨2, ![16384, 4224]⟩
abbrev S512x1024 : Shape := ⟨2, ![512, 1024]⟩
abbrev S1024x1408 : Shape := ⟨2, ![1024, 1408]⟩
abbrev S512x1408 : Shape := ⟨2, ![512, 1408]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4224, .bf16⟩
  | .hbm, ⟨3, _⟩ => ⟨S16384x4224, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S512x1408, .f32⟩
  | .local _ .vmem, ⟨6, _⟩ => ⟨S512x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefeveninIdeal.lean ====
abbrev S16384x1024 : Shape := ⟨2, ![16384, 1024]⟩
abbrev S1x1024 : Shape := ⟨2, ![1, 1024]⟩
abbrev S1024x4224 : Shape := ⟨2, ![1024, 4224]⟩
abbrev S_ : Shape := ⟨0, ![]⟩
abbrev S16384 : Shape := ⟨1, ![16384]⟩
abbrev S16384x1 : Shape := ⟨2, ![16384, 1]⟩
abbrev S16384x4224 : Shape := ⟨2, ![16384, 4224]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4224, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1024x4224, .f32⟩
  | .hbm, ⟨19, _⟩ => ⟨S16384x4224, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Oddin.lean ====
abbrev S16384x1024 : Shape := ⟨2, ![16384, 1024]⟩
abbrev S1x1024 : Shape := ⟨2, ![1, 1024]⟩
abbrev S1024x3072 : Shape := ⟨2, ![1024, 3072]⟩
abbrev S16384x3072 : Shape := ⟨2, ![16384, 3072]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3072, .bf16⟩
  | .hbm, ⟨3, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefoddinIdeal.lean ====
abbrev S16384x1024 : Shape := ⟨2, ![16384, 1024]⟩
abbrev S1x1024 : Shape := ⟨2, ![1, 1024]⟩
abbrev S1024x3072 : Shape := ⟨2, ![1024, 3072]⟩
abbrev S_ : Shape := ⟨0, ![]⟩
abbrev S16384 : Shape := ⟨1, ![16384]⟩
abbrev S16384x1 : Shape := ⟨2, ![16384, 1]⟩
abbrev S16384x3072 : Shape := ⟨2, ![16384, 3072]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3072, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1024x3072, .f32⟩
  | .hbm, ⟨19, _⟩ => ⟨S16384x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Ffnact.lean ====
abbrev S16384x1024 : Shape := ⟨2, ![16384, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S16384x2816 : Shape := ⟨2, ![16384, 2816]⟩
abbrev S256x1024 : Shape := ⟨2, ![256, 1024]⟩
abbrev S8x1024 : Shape := ⟨2, ![8, 1024]⟩
abbrev S1024x1408 : Shape := ⟨2, ![1024, 1408]⟩
abbrev S3x1408 : Shape := ⟨2, ![3, 1408]⟩
abbrev S1x1408 : Shape := ⟨2, ![1, 1408]⟩
abbrev S256x1408 : Shape := ⟨2, ![256, 1408]⟩
abbrev S256 : Shape := ⟨1, ![256]⟩
abbrev S256x1 : Shape := ⟨2, ![256, 1]⟩
abbrev S8 : Shape := ⟨1, ![8]⟩
abbrev S8x1 : Shape := ⟨2, ![8, 1]⟩
abbrev S8x1408 : Shape := ⟨2, ![8, 1408]⟩

abbrev nBuf : Space → Nat
  | .hbm => 7
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S3x2816, .f32⟩
  | .hbm, ⟨5, _⟩ => ⟨S1x2816, .f32⟩
  | .hbm, ⟨6, _⟩ => ⟨S16384x2816, .bf16⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S3x1408, .f32⟩
  | .local _ .vmem, ⟨10, _⟩ => ⟨S3x1408, .f32⟩
  | .local _ .vmem, ⟨11, _⟩ => ⟨S1x1408, .f32⟩
  | .local _ .vmem, ⟨12, _⟩ => ⟨S1x1408, .f32⟩
  | .local _ .vmem, ⟨13, _⟩ => ⟨S256x1408, .bf16⟩
  | .local _ .vmem, ⟨14, _⟩ => ⟨S256x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefffnactIdeal.lean ====
abbrev S16384x1024 : Shape := ⟨2, ![16384, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S16386x2816 : Shape := ⟨2, ![16386, 2816]⟩
abbrev S2816 : Shape := ⟨1, ![2816]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S3x2816, .f32⟩
  | .hbm, ⟨5, _⟩ => ⟨S1x2816, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S1024x2816, .f32⟩
  | .hbm, ⟨22, _⟩ => ⟨S16384x2816, .f32⟩
  | .hbm, ⟨23, _⟩ => ⟨S_, .i32⟩
  | .hbm, ⟨24, _⟩ => ⟨S_, .f32⟩
  | .hbm, ⟨25, _⟩ => ⟨S16386x2816, .f32⟩
  | .hbm, ⟨26, _⟩ => ⟨S16384x2816, .f32⟩
  | .hbm, ⟨27, _⟩ => ⟨S1x2816, .f32⟩
  | .hbm, ⟨28, _⟩ => ⟨S2816, .f32⟩
  | .hbm, ⟨29, _⟩ => ⟨S1x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S1x2816, .f32⟩
  | .hbm, ⟨37, _⟩ => ⟨S2816, .f32⟩
  | .hbm, ⟨38, _⟩ => ⟨S1x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S1x2816, .f32⟩
  | .hbm, ⟨44, _⟩ => ⟨S2816, .f32⟩
  | .hbm, ⟨45, _⟩ => ⟨S1x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S_, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S_, .f32⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S_, .f32⟩
  | .hbm, ⟨62, _⟩ => ⟨S16384x2816, .f32⟩
  | .hbm, ⟨63, _⟩ => ⟨S16384x2816, .f32⟩
  | .hbm, ⟨64, _⟩ => ⟨S_, .f32⟩
  | .hbm, ⟨65, _⟩ => ⟨S16384x2816, .f32⟩
  | .hbm, ⟨66, _⟩ => ⟨S16384x2816, .f32⟩
  | .hbm, ⟨67, _⟩ => ⟨S16384x2816, .f32⟩
  | .hbm, ⟨68, _⟩ => ⟨S1024x2816, .f32⟩
  | .hbm, ⟨69, _⟩ => ⟨S16384x2816, .f32⟩
  | .hbm, ⟨70, _⟩ => ⟨S16384x2816, .f32⟩
  | .hbm, ⟨71, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Fox.lean ====
abbrev S8x16384x128 : Shape := ⟨3, ![8, 16384, 128]⟩
abbrev S8x128x16384 : Shape := ⟨3, ![8, 128, 16384]⟩
abbrev S16384x512 : Shape := ⟨2, ![16384, 512]⟩
abbrev S8x512x128 : Shape := ⟨3, ![8, 512, 128]⟩
abbrev S8x128x512 : Shape := ⟨3, ![8, 128, 512]⟩
abbrev S512x512 : Shape := ⟨2, ![512, 512]⟩
abbrev S8x8x512 : Shape := ⟨3, ![8, 8, 512]⟩
abbrev S1x512x128 : Shape := ⟨3, ![1, 512, 128]⟩
abbrev S512x128 : Shape := ⟨2, ![512, 128]⟩
abbrev S1x8x512 : Shape := ⟨3, ![1, 8, 512]⟩
abbrev S8x512 : Shape := ⟨2, ![8, 512]⟩
abbrev S1x512 : Shape := ⟨2, ![1, 512]⟩
abbrev S512 : Shape := ⟨1, ![512]⟩
abbrev S1x128x512 : Shape := ⟨3, ![1, 128, 512]⟩
abbrev S128x512 : Shape := ⟨2, ![128, 512]⟩
abbrev S64x512 : Shape := ⟨2, ![64, 512]⟩

abbrev nBuf : Space → Nat
  | .hbm => 4
  | .vmem => 10
  | .smem => 0
  | _ => 0

abbrev bufTy : (tb : Table) → Fin (tcTables nBuf tb) → BufTy
  | .hbm, ⟨0, _⟩ => ⟨S8x16384x128, .bf16⟩
  | .hbm, ⟨1, _⟩ => ⟨S8x16384x128, .bf16⟩
  | .hbm, ⟨2, _⟩ => ⟨S8x128x16384, .bf16⟩
  | .hbm, ⟨3, _⟩ => ⟨S16384x512, .bf16⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S8x128x512, .bf16⟩
  | .local _ .vmem, ⟨5, _⟩ => ⟨S8x128x512, .bf16⟩
  | .local _ .vmem, ⟨6, _⟩ => ⟨S512x512, .bf16⟩
  | .local _ .vmem, ⟨7, _⟩ => ⟨S512x512, .bf16⟩
  | .local _ .vmem, ⟨8, _⟩ => ⟨S8x8x512, .f32⟩
  | .local _ .vmem, ⟨9, _⟩ => ⟨S8x128x512, .f32⟩
  | _, _ => ⟨S8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 32], ![false, false]⟩

def k0_cond3 (i : grid0.Coords) : BitVec 1 :=
  let arg1 : BitVec 32 := BitVec.ofNat 32 (i 1).val
  let arg0 : BitVec 32 := BitVec.ofNat 32 (i 0).val
  let v6 : BitVec 1 := Scalar.cmpi .eq arg1 arg0
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReffoxIdeal.lean ====
abbrev S8x16384x128 : Shape := ⟨3, ![8, 16384, 128]⟩
abbrev S8x128x16384 : Shape := ⟨3, ![8, 128, 16384]⟩
abbrev S_ : Shape := ⟨0, ![]⟩
abbrev S8x64x16384 : Shape := ⟨3, ![8, 64, 16384]⟩
abbrev S8x1x16384 : Shape := ⟨3, ![8, 1, 16384]⟩
abbrev S8x16384 : Shape := ⟨2, ![8, 16384]⟩
abbrev S8x16384x16384 : Shape := ⟨3, ![8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384x1 : Shape := ⟨3, ![8, 16384, 1]⟩
abbrev S16384x8x64 : Shape := ⟨3, ![16384, 8, 64]⟩
abbrev S16384x8 : Shape := ⟨2, ![16384, 8]⟩
abbrev S16384x8x1 : Shape := ⟨3, ![16384, 8, 1]⟩
abbrev S16384x512 : Shape := ⟨2, ![16384, 512]⟩

abbrev nBuf : Space → Nat
  | .hbm => 44
  | .vmem => 0
  | .smem => 0
  | _ => 0

abbrev bufTy : (tb : Table) → Fin (tcTables nBuf tb) → BufTy
  | .hbm, ⟨0, _⟩ => ⟨S8x16384x128, .bf16⟩
  | .hbm, ⟨1, _⟩ => ⟨S8x16384x128, .bf16⟩
  | .hbm, ⟨2, _⟩ => ⟨S8x128x16384, .bf16⟩
  | .hbm, ⟨3, _⟩ => ⟨S_, .f32⟩
  | .hbm, ⟨4, _⟩ => ⟨S_, .f32⟩
  | .hbm, ⟨5, _⟩ => ⟨S8x64x16384, .bf16⟩
  | .hbm, ⟨6, _⟩ => ⟨S8x64x16384, .f32⟩
  | .hbm, ⟨7, _⟩ => ⟨S8x1x16384, .bf16⟩
  | .hbm, ⟨8, _⟩ => ⟨S8x16384, .bf16⟩
  | .hbm, ⟨9, _⟩ => ⟨S8x16384, .f32⟩
  | .hbm, ⟨10, _⟩ => ⟨S8x16384x128, .f32⟩
  | .hbm, ⟨11, _⟩ => ⟨S8x16384x128, .f32⟩
  | .hbm, ⟨12, _⟩ => ⟨S8x16384x16384, .f32⟩
  | .hbm, ⟨13, _⟩ => ⟨S8x16384x16384, .f32⟩
  | .hbm, ⟨14, _⟩ => ⟨S8x16384x16384, .f32⟩
  | .hbm, ⟨15, _⟩ => ⟨S16384, .i32⟩
  | .hbm, ⟨16, _⟩ => ⟨S1x16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i1⟩
  | .hbm, ⟨21, _⟩ => ⟨S1x16384x16384, .i1⟩
  | .hbm, ⟨22, _⟩ => ⟨S_, .f32⟩
  | .hbm, ⟨23, _⟩ => ⟨S_, .f32⟩
  | .hbm, ⟨24, _⟩ => ⟨S8x16384x16384, .i1⟩
  | .hbm, ⟨25, _⟩ => ⟨S8x16384x16384, .f32⟩
  | .hbm, ⟨26, _⟩ => ⟨S8x16384x16384, .f32⟩
  | .hbm, ⟨27, _⟩ => ⟨S_, .f32⟩
  | .hbm, ⟨28, _⟩ => ⟨S8x16384, .f32⟩
  | .hbm, ⟨29, _⟩ => ⟨S8x16384x1, .f32⟩
  | .hbm, ⟨30, _⟩ => ⟨S8x16384x16384, .f32⟩
  | .hbm, ⟨31, _⟩ => ⟨S8x16384x16384, .f32⟩
  | .hbm, ⟨32, _⟩ => ⟨S8x16384x16384, .f32⟩
  | .hbm, ⟨33, _⟩ => ⟨S8x16384x16384, .bf16⟩
  | .hbm, ⟨34, _⟩ => ⟨S8x16384x16384, .f32⟩
  | .hbm, ⟨35, _⟩ => ⟨S8x64x16384, .f32⟩
  | .hbm, ⟨36, _⟩ => ⟨S16384x8x64, .f32⟩
  | .hbm, ⟨37, _⟩ => ⟨S8x16384, .f32⟩
  | .hbm, ⟨38, _⟩ => ⟨S16384x8, .f32⟩
  | .hbm, ⟨39, _⟩ => ⟨S16384x8x1, .f32⟩
  | .hbm, ⟨40, _⟩ => ⟨S16384x8x64, .f32⟩
  | .hbm, ⟨41, _⟩ => ⟨S16384x8x64, .f32⟩
  | .hbm, ⟨42, _⟩ => ⟨S16384x512, .f32⟩
  | .hbm, ⟨43, _⟩ => ⟨S16384x512, .bf16⟩
  | _, _ => ⟨S8x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Oddout.lean ====
abbrev S16384x1024 : Shape := ⟨2, ![16384, 1024]⟩
abbrev S16384x128 : Shape := ⟨2, ![16384, 128]⟩
abbrev S128x1024 : Shape := ⟨2, ![128, 1024]⟩
abbrev S1024x1024 : Shape := ⟨2, ![1024, 1024]⟩
abbrev S256x1024 : Shape := ⟨2, ![256, 1024]⟩
abbrev S256x128 : Shape := ⟨2, ![256, 128]⟩

abbrev nBuf : Space → Nat
  | .hbm => 10
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S128x1024, .bf16⟩
  | .hbm, ⟨7, _⟩ => ⟨S1024x1024, .bf16⟩
  | .hbm, ⟨8, _⟩ => ⟨S16384x1024, .f32⟩
  | .hbm, ⟨9, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S128x1024, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefoddoutIdeal.lean ====
abbrev S16384x1024 : Shape := ⟨2, ![16384, 1024]⟩
abbrev S16384x128 : Shape := ⟨2, ![16384, 128]⟩
abbrev S128x1024 : Shape := ⟨2, ![128, 1024]⟩
abbrev S1024x1024 : Shape := ⟨2, ![1024, 1024]⟩
abbrev S1x16384x128 : Shape := ⟨3, ![1, 16384, 128]⟩
abbrev S3x16384x128 : Shape := ⟨3, ![3, 16384, 128]⟩
abbrev S_ : Shape := ⟨0, ![]⟩
abbrev S3x16384x1024 : Shape := ⟨3, ![3, 16384, 1024]⟩
abbrev S1x16384x1024 : Shape := ⟨3, ![1, 16384, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S128x1024, .bf16⟩
  | .hbm, ⟨7, _⟩ => ⟨S1024x1024, .bf16⟩
  | .hbm, ⟨8, _⟩ => ⟨S16384x1024, .f32⟩
  | .hbm, ⟨9, _⟩ => ⟨S1x16384x128, .f32⟩
  | .hbm, ⟨10, _⟩ => ⟨S1x16384x128, .f32⟩
  | .hbm, ⟨11, _⟩ => ⟨S1x16384x128, .f32⟩
  | .hbm, ⟨12, _⟩ => ⟨S3x16384x128, .f32⟩
  | .hbm, ⟨13, _⟩ => ⟨S_, .f32⟩
  | .hbm, ⟨14, _⟩ => ⟨S_, .f32⟩
  | .hbm, ⟨15, _⟩ => ⟨S3x16384x128, .f32⟩
  | .hbm, ⟨16, _⟩ => ⟨S3x16384x128, .f32⟩
  | .hbm, ⟨17, _⟩ => ⟨S_, .f32⟩
  | .hbm, ⟨18, _⟩ => ⟨S16384x128, .f32⟩
  | .hbm, ⟨19, _⟩ => ⟨S1x16384x128, .f32⟩
  | .hbm, ⟨20, _⟩ => ⟨S3x16384x128, .f32⟩
  | .hbm, ⟨21, _⟩ => ⟨S3x16384x128, .f32⟩
  | .hbm, ⟨22, _⟩ => ⟨S3x16384x128, .f32⟩
  | .hbm, ⟨23, _⟩ => ⟨S_, .f32⟩
  | .hbm, ⟨24, _⟩ => ⟨S16384x128, .f32⟩
  | .hbm, ⟨25, _⟩ => ⟨S_, .f32⟩
  | .hbm, ⟨26, _⟩ => ⟨S16384x128, .f32⟩
  | .hbm, ⟨27, _⟩ => ⟨S16384x128, .f32⟩
  | .hbm, ⟨28, _⟩ => ⟨S1x16384x128, .f32⟩
  | .hbm, ⟨29, _⟩ => ⟨S3x16384x128, .f32⟩
  | .hbm, ⟨30, _⟩ => ⟨S3x16384x128, .f32⟩
  | .hbm, ⟨31, _⟩ => ⟨S128x1024, .f32⟩
  | .hbm, ⟨32, _⟩ => ⟨S3x16384x1024, .f32⟩
  | .hbm, ⟨33, _⟩ => ⟨S1x16384x1024, .f32⟩
  | .hbm, ⟨34, _⟩ => ⟨S1x16384x1024, .f32⟩
  | .hbm, ⟨35, _⟩ => ⟨S1x16384x1024, .f32⟩
  | .hbm, ⟨36, _⟩ => ⟨S3x16384x1024, .f32⟩
  | .hbm, ⟨37, _⟩ => ⟨S3x16384x1024, .f32⟩
  | .hbm, ⟨38, _⟩ => ⟨S_, .f32⟩
  | .hbm, ⟨39, _⟩ => ⟨S16384x1024, .f32⟩
  | .hbm, ⟨40, _⟩ => ⟨S1024x1024, .f32⟩
  | .hbm, ⟨41, _⟩ => ⟨S16384x1024, .f32⟩
  | .hbm, ⟨42, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Dsa.lean ====
abbrev S8x16384x128 : Shape := ⟨3, ![8, 16384, 128]⟩
abbrev S8x128x16384 : Shape := ⟨3, ![8, 128, 16384]⟩
abbrev S128x16384x128 : Shape := ⟨3, ![128, 16384, 128]⟩
abbrev S16384x512 : Shape := ⟨2, ![16384, 512]⟩
abbrev S8x512x128 : Shape := ⟨3, ![8, 512, 128]⟩
abbrev S8x128x512 : Shape := ⟨3, ![8, 128, 512]⟩
abbrev S4x512x128 : Shape := ⟨3, ![4, 512, 128]⟩
abbrev S512x512 : Shape := ⟨2, ![512, 512]⟩
abbrev S8x8x512 : Shape := ⟨3, ![8, 8, 512]⟩
abbrev S1x512x128 : Shape := ⟨3, ![1, 512, 128]⟩
abbrev S512x128 : Shape := ⟨2, ![512, 128]⟩
abbrev S1x8x512 : Shape := ⟨3, ![1, 8, 512]⟩
abbrev S8x512 : Shape := ⟨2, ![8, 512]⟩
abbrev S1x512 : Shape := ⟨2, ![1, 512]⟩
abbrev S512 : Shape := ⟨1, ![512]⟩
abbrev S1x128x512 : Shape := ⟨3, ![1, 128, 512]⟩
abbrev S128x512 : Shape := ⟨2, ![128, 512]⟩
abbrev S64x512 : Shape := ⟨2, ![64, 512]⟩

abbrev nBuf : Space → Nat
  | .hbm => 5
  | .vmem => 12
  | .smem => 0
  | _ => 0

abbrev bufTy : (tb : Table) → Fin (tcTables nBuf tb) → BufTy
  | .hbm, ⟨0, _⟩ => ⟨S8x16384x128, .bf16⟩
  | .hbm, ⟨1, _⟩ => ⟨S8x16384x128, .bf16⟩
  | .hbm, ⟨2, _⟩ => ⟨S8x128x16384, .bf16⟩
  | .hbm, ⟨3, _⟩ => ⟨S128x16384x128, .bf16⟩
  | .hbm, ⟨4, _⟩ => ⟨S16384x512, .bf16⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S8x128x512, .bf16⟩
  | .local _ .vmem, ⟨5, _⟩ => ⟨S8x128x512, .bf16⟩
  | .local _ .vmem, ⟨6, _⟩ => ⟨S4x512x128, .bf16⟩
  | .local _ .vmem, ⟨7, _⟩ => ⟨S4x512x128, .bf16⟩
  | .local _ .vmem, ⟨8, _⟩ => ⟨S512x512, .bf16⟩
  | .local _ .vmem, ⟨9, _⟩ => ⟨S512x512, .bf16⟩
  | .local _ .vmem, ⟨10, _⟩ => ⟨S8x8x512, .f32⟩
  | .local _ .vmem, ⟨11, _⟩ => ⟨S8x128x512, .f32⟩
  | _, _ => ⟨S8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 32], ![false, false]⟩

def k0_cond3 (i : grid0.Coords) : BitVec 1 :=
  let arg1 : BitVec 32 := BitVec.ofNat 32 (i 1).val
  let arg0 : BitVec 32 := BitVec.ofNat 32 (i 0).val
  let v6 : BitVec 1 := Scalar.cmpi .eq arg1 arg0
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  let c0_i32_0 : BitVec 32 := 0#32
  ![arg0.toNat, v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== RefdsaIdeal.lean ====
abbrev S8x16384x128 : Shape := ⟨3, ![8, 16384, 128]⟩
abbrev S8x128x16384 : Shape := ⟨3, ![8, 128, 16384]⟩
abbrev S128x16384x128 : Shape := ⟨3, ![128, 16384, 128]⟩
abbrev S_ : Shape := ⟨0, ![]⟩
abbrev S8x64x16384 : Shape := ⟨3, ![8, 64, 16384]⟩
abbrev S8x1x16384 : Shape := ⟨3, ![8, 1, 16384]⟩
abbrev S8x16384 : Shape := ⟨2, ![8, 16384]⟩
abbrev S128x128x16384 : Shape := ⟨3, ![128, 128, 16384]⟩
abbrev S16384x16384 : Shape := ⟨2, ![16384, 16384]⟩
abbrev S8x16384x16384 : Shape := ⟨3, ![8, 16384, 16384]⟩
abbrev S1x16384x16384 : Shape := ⟨3, ![1, 16384, 16384]⟩
abbrev S16384 : Shape := ⟨1, ![16384]⟩
abbrev S1x16384 : Shape := ⟨2, ![1, 16384]⟩
abbrev S16384x1 : Shape := ⟨2, ![16384, 1]⟩
abbrev S8x16384x1 : Shape := ⟨3, ![8, 16384, 1]⟩
abbrev S16384x8x64 : Shape := ⟨3, ![16384, 8, 64]⟩
abbrev S16384x8 : Shape := ⟨2, ![16384, 8]⟩
abbrev S16384x8x1 : Shape := ⟨3, ![16384, 8, 1]⟩
abbrev S16384x512 : Shape := ⟨2, ![16384, 512]⟩

abbrev nBuf : Space → Nat
  | .hbm => 51
  | .vmem => 0
  | .smem => 0
  | _ => 0

abbrev bufTy : (tb : Table) → Fin (tcTables nBuf tb) → BufTy
  | .hbm, ⟨0, _⟩ => ⟨S8x16384x128, .bf16⟩
  | .hbm, ⟨1, _⟩ => ⟨S8x16384x128, .bf16⟩
  | .hbm, ⟨2, _⟩ => ⟨S8x128x16384, .bf16⟩
  | .hbm, ⟨3, _⟩ => ⟨S128x16384x128, .bf16⟩
  | .hbm, ⟨4, _⟩ => ⟨S_, .f32⟩
  | .hbm, ⟨5, _⟩ => ⟨S_, .f32⟩
  | .hbm, ⟨6, _⟩ => ⟨S8x64x16384, .bf16⟩
  | .hbm, ⟨7, _⟩ => ⟨S8x64x16384, .f32⟩
  | .hbm, ⟨8, _⟩ => ⟨S8x1x16384, .bf16⟩
  | .hbm, ⟨9, _⟩ => ⟨S8x16384, .bf16⟩
  | .hbm, ⟨10, _⟩ => ⟨S8x16384, .f32⟩
  | .hbm, ⟨11, _⟩ => ⟨S128x16384x128, .f32⟩
  | .hbm, ⟨12, _⟩ => ⟨S128x128x16384, .f32⟩
  | .hbm, ⟨13, _⟩ => ⟨S16384x16384, .f32⟩
  | .hbm, ⟨14, _⟩ => ⟨S8x16384x128, .f32⟩
  | .hbm, ⟨15, _⟩ => ⟨S8x16384x128, .f32⟩
  | .hbm, ⟨16, _⟩ => ⟨S8x16384x16384, .f32⟩
  | .hbm, ⟨17, _⟩ => ⟨S1x16384x16384, .f32⟩
  | .hbm, ⟨18, _⟩ => ⟨S8x16384x16384, .f32⟩
  | .hbm, ⟨19, _⟩ => ⟨S8x16384x16384, .f32⟩
  | .hbm, ⟨20, _⟩ => ⟨S8x16384x16384, .f32⟩
  | .hbm, ⟨21, _⟩ => ⟨S8x16384x16384, .f32⟩
  | .hbm, ⟨22, _⟩ => ⟨S16384, .i32⟩
  | .hbm, ⟨23, _⟩ => ⟨S1x16384, .i32⟩
  | .hbm, ⟨24, _⟩ => ⟨S16384x1, .i32⟩
  | .hbm, ⟨25, _⟩ => ⟨S16384x16384, .i32⟩
  | .hbm, ⟨26, _⟩ => ⟨S16384x16384, .i32⟩
  | .hbm, ⟨27, _⟩ => ⟨S16384x16384, .i1⟩
  | .hbm, ⟨28, _⟩ => ⟨S1x16384x16384, .i1⟩
  | .hbm, ⟨29, _⟩ => ⟨S_, .f32⟩
  | .hbm, ⟨30, _⟩ => ⟨S_, .f32⟩
  | .hbm, ⟨31, _⟩ => ⟨S8x16384x16384, .i1⟩
  | .hbm, ⟨32, _⟩ => ⟨S8x16384x16384, .f32⟩
  | .hbm, ⟨33, _⟩ => ⟨S8x16384x16384, .f32⟩
  | .hbm, ⟨34, _⟩ => ⟨S_, .f32⟩
  | .hbm, ⟨35, _⟩ => ⟨S8x16384, .f32⟩
  | .hbm, ⟨36, _⟩ => ⟨S8x16384x1, .f32⟩
  | .hbm, ⟨37, _⟩ => ⟨S8x16384x16384, .f32⟩
  | .hbm, ⟨38, _⟩ => ⟨S8x16384x16384, .f32⟩
  | .hbm, ⟨39, _⟩ => ⟨S8x16384x16384, .f32⟩
  | .hbm, ⟨40, _⟩ => ⟨S8x16384x16384, .bf16⟩
  | .hbm, ⟨41, _⟩ => ⟨S8x16384x16384, .f32⟩
  | .hbm, ⟨42, _⟩ => ⟨S8x64x16384, .f32⟩
  | .hbm, ⟨43, _⟩ => ⟨S16384x8x64, .f32⟩
  | .hbm, ⟨44, _⟩ => ⟨S8x16384, .f32⟩
  | .hbm, ⟨45, _⟩ => ⟨S16384x8, .f32⟩
  | .hbm, ⟨46, _⟩ => ⟨S16384x8x1, .f32⟩
  | .hbm, ⟨47, _⟩ => ⟨S16384x8x64, .f32⟩
  | .hbm, ⟨48, _⟩ => ⟨S16384x8x64, .f32⟩
  | .hbm, ⟨49, _⟩ => ⟨S16384x512, .f32⟩
  | .hbm, ⟨50, _⟩ => ⟨S16384x512, .bf16⟩
  | _, _ => ⟨S8x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Proof.DilSpec.lean ====
/-
  The mathematics of one head of the causal dilated window attention, over the extended reals.

  `Head` holds what one block of 128 queries of one head reads: its queries, its own 128 keys and values, the 128 keys
  and values of the block before it, and whether there is a block before it.  Two formulas over it are given.  `kO`/`kL`
  follow the exponentials to base two that the kernel takes, with the two key blocks kept apart; `rO`/`rL` are the softmax
  of the reference over a window of 256 keys, its scores multiplied by log 2 and its exponentials to base e.
  `rO_eq` and `rL_eq` say that the two agree at every extended real input.
-/
module

public import Idealize.ShloMosaic.PureOps.Ideal.Laws
public import Mathlib.Analysis.SpecialFunctions.Pow.Real

@[expose] public section

noncomputable section

namespace Dil

open Idealize.ShloMosaic

/-! ## Scaling by a positive real -/

/-- log 2, as an extended real. -/
def ln2 : EReal := ((Real.log 2 : ℝ) : EReal)

theorem log_two_pos : 0 < Real.log 2 := Real.log_pos (by norm_num)

/-- Multiplication by log 2 keeps `⊥`. -/
theorem bot_mul_ln2 : (⊥ : EReal) * ln2 = ⊥ := EReal.bot_mul_coe_of_pos log_two_pos

/-- Multiplication by log 2 keeps `⊤`. -/
theorem top_mul_ln2 : (⊤ : EReal) * ln2 = ⊤ := EReal.top_mul_coe_of_pos log_two_pos

/-- Multiplication by log 2 is monotone. -/
theorem mul_ln2_mono : Monotone fun a : EReal => a * ln2 := fun _ _ h =>
  mul_le_mul_of_nonneg_right h (EReal.coe_nonneg.mpr log_two_pos.le)

/-- Multiplication by log 2 commutes with the larger of two. -/
theorem max_mul_ln2 (a b : EReal) : max a b * ln2 = max (a * ln2) (b * ln2) := mul_ln2_mono.map_max

/-- Multiplication by log 2 distributes over a difference. -/
theorem sub_mul_ln2 (a b : EReal) : a * ln2 - b * ln2 = (a - b) * ln2 := by
  have c (r : ℝ) : (r : EReal) * ln2 = ((r * Real.log 2 : ℝ) : EReal) := (EReal.coe_mul _ _).symm
  induction a using EReal.rec <;> induction b using EReal.rec <;>
    simp only [bot_mul_ln2, top_mul_ln2, c, ← EReal.coe_sub, EReal.bot_sub, EReal.coe_sub_bot, EReal.top_sub_coe,
      EReal.top_sub_bot, EReal.sub_top, sub_mul]

/-- An exponential to base e of a multiple of log 2 is an exponential to base two. -/
theorem exp_mul_ln2 (a : EReal) : Ideal.exp (a * ln2) = Ideal.exp2 a := by
  induction a using EReal.rec with
  | bot => rw [bot_mul_ln2]; rfl
  | top => rw [top_mul_ln2]; rfl
  | coe r =>
    show Ideal.exp ((r : EReal) * ((Real.log 2 : ℝ) : EReal)) = _
    rw [← EReal.coe_mul]
    show ((Real.exp (r * Real.log 2) : ℝ) : EReal) = ((Real.rpow 2 r : ℝ) : EReal)
    congr 1
    rw [mul_comm]
    exact (Real.rpow_def_of_pos (by norm_num : (0 : ℝ) < 2) r).symm

/-- Dividing the sum of a multiple of log 2 and any number by log 2. -/
theorem div_ln2 (a b : EReal) : Ideal.div (a * ln2 + b) ln2 = a + b * (((Real.log 2)⁻¹ : ℝ) : EReal) := by
  have h0 : Real.log 2 ≠ 0 := log_two_pos.ne'
  have hi : 0 < (Real.log 2)⁻¹ := inv_pos.mpr log_two_pos
  have e : Ideal.div (a * ln2 + b) ln2 = (a * ln2 + b) * (((Real.log 2)⁻¹ : ℝ) : EReal) := by
    rw [ln2, Ideal.div_coe h0, one_div]
  rw [e]
  have c (r : ℝ) : (r : EReal) * ln2 = ((r * Real.log 2 : ℝ) : EReal) := (EReal.coe_mul _ _).symm
  induction a using EReal.rec <;> induction b using EReal.rec <;>
    simp only [bot_mul_ln2, top_mul_ln2, EReal.bot_mul_coe_of_pos hi, EReal.top_mul_coe_of_pos hi, c, ← EReal.coe_mul,
      ← EReal.coe_add, EReal.bot_add, EReal.add_bot, EReal.top_add_top, EReal.top_add_coe, EReal.coe_add_top]
  congr 1
  field_simp

/-! ## The two formulas -/

/-- What one block of queries of one head reads. -/
structure Head where
  /-- the queries -/
  q : Fin 128 → Fin 64 → EReal
  /-- the keys of the block -/
  kc : Fin 128 → Fin 64 → EReal
  /-- the keys of the block before -/
  kp : Fin 128 → Fin 64 → EReal
  /-- the values of the block -/
  vc : Fin 128 → Fin 64 → EReal
  /-- the values of the block before -/
  vp : Fin 128 → Fin 64 → EReal
  /-- there is a block before -/
  prev : Prop

namespace Head

open Classical in
/-- The score of query `i` with key `j` of its own block, `⊥` where the key comes after the query. -/
def sC (H : Head) (i j : Fin 128) : EReal := if j ≤ i then ∑ d, H.q i d * H.kc j d else ⊥

open Classical in
/-- The score of query `i` with key `j` of the block before, `⊥` where the key is out of the window. -/
def sP (H : Head) (i j : Fin 128) : EReal := if i ≤ j ∧ H.prev then ∑ d, H.q i d * H.kp j d else ⊥

/-- The largest score of query `i`. -/
def mx (H : Head) (i : Fin 128) : EReal := max (Finset.univ.fold max ⊥ (H.sC i)) (Finset.univ.fold max ⊥ (H.sP i))

/-- The weight of key `j` of the own block, before the division. -/
def eC (H : Head) (i j : Fin 128) : EReal := Ideal.exp2 (H.sC i j - H.mx i)

/-- The weight of key `j` of the block before, before the division. -/
def eP (H : Head) (i j : Fin 128) : EReal := Ideal.exp2 (H.sP i j - H.mx i)

/-- The sum of the weights. -/
def den (H : Head) (i : Fin 128) : EReal := (∑ j, H.eC i j) + ∑ j, H.eP i j

/-- The attention of query `i` at coordinate `d`. -/
def kO (H : Head) (i : Fin 128) (d : Fin 64) : EReal :=
  Ideal.div ((∑ j, H.eC i j * H.vc j d) + ∑ j, H.eP i j * H.vp j d) (H.den i)

/-- The logarithm to base two of the sum of the exponentials of the scores. -/
def kL (H : Head) (i : Fin 128) : EReal := H.mx i + Ideal.log (H.den i) * (((Real.log 2)⁻¹ : ℝ) : EReal)

/-- A window of 256 keys that continues the 128 keys of the block before by the 128 of the block itself; where there is
    no block before, its first half may hold anything. -/
structure Window (H : Head) (k v : Fin 256 → Fin 64 → EReal) : Prop where
  kc : ∀ j : Fin 128, k (Fin.natAdd 128 j) = H.kc j
  vc : ∀ j : Fin 128, v (Fin.natAdd 128 j) = H.vc j
  kp : H.prev → ∀ j : Fin 128, k (Fin.castAdd 128 j) = H.kp j
  vp : H.prev → ∀ j : Fin 128, v (Fin.castAdd 128 j) = H.vp j

variable (H : Head) (k v : Fin 256 → Fin 64 → EReal)

open Classical in
/-- The score of query `i` with key `j` of the window, multiplied by log 2; `⊥` where the key is masked. -/
def rS (i : Fin 128) (j : Fin 256) : EReal :=
  if j.val ≤ i.val + 128 ∧ i.val ≤ j.val ∧ (128 ≤ j.val ∨ H.prev) then (∑ d, H.q i d * k j d) * ln2 else ⊥

/-- The largest score over the window. -/
def rM (i : Fin 128) : EReal := Finset.univ.fold max ⊥ (H.rS k i)

/-- The weight of key `j` of the window, before the division. -/
def rE (i : Fin 128) (j : Fin 256) : EReal := Ideal.exp (H.rS k i j - H.rM k i)

/-- The sum of the weights over the window. -/
def rD (i : Fin 128) : EReal := ∑ j, H.rE k i j

/-- The attention of query `i` at coordinate `d`, over the window. -/
def rO (i : Fin 128) (d : Fin 64) : EReal := Ideal.div (∑ j, v j d * H.rE k i j) (H.rD k i)

/-- The logarithm to base two of the sum of exponentials, from logarithms to base e. -/
def rL (i : Fin 128) : EReal := Ideal.div (H.rM k i + Ideal.log (H.rD k i)) ln2

/-! ## They agree -/

variable {H k v}

theorem rS_cur (W : Window H k v) (i j : Fin 128) : H.rS k i (Fin.natAdd 128 j) = H.sC i j * ln2 := by
  unfold rS sC
  by_cases h : j ≤ i
  · have h' : j.val ≤ i.val := h
    rw [if_pos h, if_pos ⟨by simp; omega, by simp; omega, Or.inl (by simp)⟩, W.kc]
  · have h' : ¬ j.val ≤ i.val := h
    rw [if_neg h, if_neg (by simp; omega), bot_mul_ln2]

theorem rS_prev (W : Window H k v) (i j : Fin 128) : H.rS k i (Fin.castAdd 128 j) = H.sP i j * ln2 := by
  unfold rS sP
  by_cases h : i ≤ j ∧ H.prev
  · have h' : i.val ≤ j.val := h.1
    rw [if_pos h, if_pos ⟨by simp; omega, by simpa using h', Or.inr h.2⟩, W.kp h.2]
  · rw [if_neg h, if_neg, bot_mul_ln2]
    rintro ⟨-, h1, h2⟩
    refine h ⟨by simpa using h1, h2.resolve_left ?_⟩
    simp

theorem fold_max_eq_sup {n : Nat} (f : Fin n → EReal) : Finset.univ.fold max ⊥ f = Finset.univ.sup f := rfl

theorem rM_eq (W : Window H k v) (i : Fin 128) : H.rM k i = H.mx i * ln2 := by
  have s (f : Fin 128 → EReal) : Finset.univ.sup f * ln2 = Finset.univ.sup fun j => f j * ln2 :=
    Finset.comp_sup_eq_sup_comp (fun a : EReal => a * ln2) (fun a b => max_mul_ln2 a b) bot_mul_ln2
  unfold rM mx
  simp only [fold_max_eq_sup]
  rw [max_mul_ln2, s, s]
  apply le_antisymm
  · refine Finset.sup_le fun j _ => ?_
    induction j using Fin.addCases (m := 128) (n := 128) with
    | left j => rw [rS_prev W]; exact le_max_of_le_right (Finset.le_sup (f := fun j => H.sP i j * ln2) (Finset.mem_univ j))
    | right j => rw [rS_cur W]; exact le_max_of_le_left (Finset.le_sup (f := fun j => H.sC i j * ln2) (Finset.mem_univ j))
  · refine max_le (Finset.sup_le fun j _ => ?_) (Finset.sup_le fun j _ => ?_)
    · rw [← rS_cur W]; exact Finset.le_sup (Finset.mem_univ _)
    · rw [← rS_prev W]; exact Finset.le_sup (Finset.mem_univ _)

theorem rE_cur (W : Window H k v) (i j : Fin 128) : H.rE k i (Fin.natAdd 128 j) = H.eC i j := by
  unfold rE eC
  rw [rS_cur W, rM_eq W, sub_mul_ln2, exp_mul_ln2]

theorem rE_prev (W : Window H k v) (i j : Fin 128) : H.rE k i (Fin.castAdd 128 j) = H.eP i j := by
  unfold rE eP
  rw [rS_prev W, rM_eq W, sub_mul_ln2, exp_mul_ln2]

theorem rD_eq (W : Window H k v) (i : Fin 128) : H.rD k i = H.den i := by
  unfold rD den
  rw [Fin.sum_univ_add (a := 128) (b := 128), add_comm]
  simp only [rE_cur W, rE_prev W]

/-- A masked key has weight zero. -/
theorem eP_zero (h : ¬ H.prev) (i j : Fin 128) : H.eP i j = 0 := by
  unfold eP sP
  rw [if_neg (fun h' => h h'.2), EReal.bot_sub]
  rfl

/-- The reference's attention is the kernel's. -/
theorem rO_eq (W : Window H k v) (i : Fin 128) (d : Fin 64) : H.rO k v i d = H.kO i d := by
  unfold rO kO
  rw [rD_eq W, Fin.sum_univ_add (a := 128) (b := 128), add_comm]
  simp only [rE_cur W, rE_prev W, W.vc]
  congr 2
  · exact Finset.sum_congr rfl fun j _ => mul_comm _ _
  · refine Finset.sum_congr rfl fun j _ => ?_
    by_cases h : H.prev
    · rw [W.vp h, mul_comm]
    · rw [eP_zero h, mul_zero, zero_mul]

/-- The reference's logarithm of the sum of exponentials is the kernel's. -/
theorem rL_eq (W : Window H k v) (i : Fin 128) : H.rL k i = H.kL i := by
  unfold rL kL
  rw [rD_eq W, rM_eq W, div_ln2]

end Head

end Dil

end
-- ==== Proof.DilBlock.lean ====
/-
  One head's block of the dilated attention as the kernel computes it, on whole vectors: the functions `attn` (the
  attention of 128 queries) and `lse` (the logarithm of the sum of the exponentials), over any float format.  `attn_apply`
  and `lse_apply` read them at an index over the extended reals: they are the formulas `kO` and `kL` of `DilSpec`.
-/
module

public import proofs.«01_k».proof.Proof.DilSpec
public import Idealize.ShloMosaic.Lib.MatmulPlain
public import Idealize.ShloMosaic.Lib.Pipeline.Value
public import Idealize.ShloMosaic.Lib.ValueIdx
public import Idealize.ShloMosaic.Lib.Pipeline.ValueKit.Tiles
public import Idealize.ShloMosaic.PureOps.Ideal.Laws
public import Idealize.ShloMosaic.Lib.Pointwise
public import Idealize.ShloMosaic.Lib.WordCmp
public import Idealize.ShloMosaic.Lib.WordArith

@[expose] public section

set_option maxRecDepth 16384

noncomputable section

namespace Dil.Block

open Idealize.ShloMosaic Idealize.ShloMosaic.TcCoe

/-- 128 rows of one head. -/
abbrev SH : Shape := ⟨2, ![128, 64]⟩
/-- 128 queries by 128 keys. -/
abbrev SS : Shape := ⟨2, ![128, 128]⟩
/-- One column over 128 queries. -/
abbrev SC : Shape := ⟨2, ![128, 1]⟩
/-- One number per query. -/
abbrev SV : Shape := ⟨1, ![128]⟩
/-- 128 rows of all the sixteen heads. -/
abbrev SB : Shape := ⟨2, ![128, 1024]⟩

theorem iota0 : SS.Iotas .tc 32 [0] := by decide
theorem iota1 : SS.Iotas .tc 32 [1] := by decide
theorem red : SS.Reduces [1] SV := by decide
theorem redTo : SV.ShapeCasts SC := by decide
theorem castH : SH.ShapeCasts SH := by decide
theorem castC : SC.ShapeCasts SC := by decide
theorem bcS : SC.Broadcasts SS := by decide
theorem bcH : SC.Broadcasts SH := by decide

section Any
variable {F : FTy → Type} [FloatOps F]

/-- The keys of the own block that a query may see: those not after it. -/
def maskC : IVec SS 1 := cmpi .sle (iota .tc SS 32 [1] iota1) (iota .tc SS 32 [0] iota0)

/-- The keys of the block before that a query may see: the last 128 positions, if the block number `b` is not zero. -/
def maskP (b : BitVec 32) : IVec SS 1 :=
  andi (cmpi .sge (iota .tc SS 32 [1] iota1) (iota .tc SS 32 [0] iota0)) (broadcast SS (Scalar.cmpi .sgt b 0#32))

/-- The scores of queries and keys, minus infinity off the mask. -/
def score (mask : IVec SS 1) (q k : Vec F SH .bf16) : FVec F SS .f32 :=
  select mask (matmul (DotDims.transposedRhs 128 64 128) none (shapeCast SH q castH : FVec F SH .bf16)
    (shapeCast SH k castH : FVec F SH .bf16) (constant SS .f32 0x00000000#32)) (broadcast SS (Scalar.ofBits .f32 0xFF800000#32))

/-- The larger of two score blocks' row maxima, as a column. -/
def top (c p : FVec F SS .f32) : FVec F SC .f32 :=
  maximumf (shapeCast SC (multiReduction .maximumf [1] SV c 0xFF800000#32 red (.inl rfl) rfl) redTo)
    (shapeCast SC (multiReduction .maximumf [1] SV p 0xFF800000#32 red (.inl rfl) rfl) redTo)

/-- The exponentials to base two of scores less a column. -/
def wts (s : FVec F SS .f32) (m : FVec F SC .f32) : FVec F SS .f32 := exp2 (subf s (broadcastTo SS m bcS))

/-- The sum of two weight blocks over their rows. -/
def tot (c p : FVec F SS .f32) : FVec F SC .f32 :=
  addf (shapeCast SC (multiReduction .add [1] SV c 0x00000000#32 red (.inl rfl) rfl) redTo)
    (shapeCast SC (multiReduction .add [1] SV p 0x00000000#32 red (.inl rfl) rfl) redTo)

/-- Weights times values. -/
def mix (e : FVec F SS .f32) (v : Vec F SH .bf16) : FVec F SH .f32 :=
  matmul (DotDims.plain 128 128 64) none (truncf .bf16 e (by decide)) (shapeCast SH v castH : FVec F SH .bf16)
    (constant SH .f32 0x00000000#32)

variable (b : BitVec 32) (q kc kp vc vp : Vec F SH .bf16)

/-- The largest scores of the queries of a head. -/
def mx : FVec F SC .f32 := top (score maskC q kc) (score (maskP b) q kp)

/-- The sums of the weights of the queries of a head. -/
def den : FVec F SC .f32 := tot (wts (score maskC q kc) (mx b q kc kp)) (wts (score (maskP b) q kp) (mx b q kc kp))

/-- The attention of the queries of a head. -/
def attn : FVec F SH .f32 :=
  divf (addf (mix (wts (score maskC q kc) (mx b q kc kp)) vc) (mix (wts (score (maskP b) q kp) (mx b q kc kp)) vp))
    (broadcastTo SH (den b q kc kp) bcH)

/-- The logarithms to base two of the sums of exponentials; `c` is the factor of the natural logarithm. -/
def lse (c : F .f32) : FVec F SC .f32 := addf (mx b q kc kp) (mulf (log (den b q kc kp)) (broadcast SC c))

/-- A block of columns with column `h` replaced by `l`. -/
def put (h : BitVec 32) (l : FVec F SC .f32) (old : FVec F SS .f32) : FVec F SS .f32 :=
  select (cmpi .eq (iota .tc SS 32 [1] iota1) (broadcast SS h)) (broadcastTo SS (shapeCast SC l castC) bcS) old

end Any

/-! ## Read at an index, over the extended reals -/

theorem ofBits_zero : (FloatOps.ofBits .f32 0x00000000#32 : Ideal .f32) = 0 := by
  show Ideal.ofBits .f32 0x00000000#32 = 0
  simp [Ideal.ofBits, Ideal.ieee]

theorem ofBits_neg_inf : (FloatOps.ofBits .f32 0xFF800000#32 : Ideal .f32) = ⊥ := by
  show Ideal.ofBits .f32 0xFF800000#32 = ⊥
  simp [Ideal.ofBits, Ideal.ieee]

/-- The index of row `i` and column `j`. -/
abbrev ij {m n : ℕ} (i : Fin m) (j : Fin n) : (⟨2, ![m, n]⟩ : Shape).Idx := ValueIdx.ix2 i j

theorem maskC_apply (i j : Fin 128) : maskC (ij i j) = BitVec.ofBool (decide (j.val ≤ i.val)) := by
  have hi := i.isLt
  have hj := j.isLt
  unfold maskC
  rw [cmpi_apply, iota_apply, iota_apply]
  show IntOp.cmpi .sle (BitVec.ofNat 32 (0 * 128 + j.val)) (BitVec.ofNat 32 (0 * 128 + i.val)) = _
  simp only [Nat.zero_mul, Nat.zero_add]
  exact WordCmp.cmpi_sle_ofNat (by omega) (by omega)

theorem maskP_apply (c : Nat) (hc : c < 2 ^ 31) (i j : Fin 128) :
    maskP (BitVec.ofNat 32 c) (ij i j) = BitVec.ofBool (decide (i.val ≤ j.val ∧ 0 < c)) := by
  have hi := i.isLt
  have hj := j.isLt
  unfold maskP
  show IntOp.andi (IntOp.cmpi .sge (BitVec.ofNat 32 (0 * 128 + j.val)) (BitVec.ofNat 32 (0 * 128 + i.val)))
    (IntOp.cmpi .sgt (BitVec.ofNat 32 c) (BitVec.ofNat 32 0)) = _
  simp only [Nat.zero_mul, Nat.zero_add]
  rw [WordCmp.cmpi_sge_ofNat (by omega) (by omega), WordCmp.cmpi_sgt_ofNat (by omega) (by omega), WordArith.andi_ofBool,
    Bool.decide_and]

variable (q kc kp vc vp : Vec Ideal SH .bf16) (c : Nat)

/-- What a block's arrays hold of one head, as the formulas of `DilSpec` read it. -/
def head : Head where
  q i d := q (ij i d)
  kc i d := kc (ij i d)
  kp i d := kp (ij i d)
  vc i d := vc (ij i d)
  vp i d := vp (ij i d)
  prev := 0 < c

theorem castH_apply (x : Vec Ideal SH .bf16) : (shapeCast SH x castH : FVec Ideal SH .bf16) = x := shapeCast_self x castH

/-- A row of scores off the mask is `⊥`, on it the product of the query with the key. -/
theorem score_apply (mask : IVec SS 1) (k : Vec Ideal SH .bf16) (i j : Fin 128) :
    score mask q k (ij i j) = Scalar.select (mask (ij i j)) (∑ d : Fin 64, q (ij i d) * k (ij j d)) ⊥ := by
  unfold score
  rw [castH_apply, castH_apply]
  show Scalar.select (mask (ij i j)) (FloatOps.matmul (F := Ideal) (φ₁ := .bf16) (φ₂ := .bf16) (DotDims.transposedRhs 128 64 128) none q k (constant SS .f32 0x00000000#32) (ij i j))
    (FloatOps.ofBits .f32 0xFF800000#32) = _
  rw [Ideal.matmul_transposedRhs_apply (φ₁ := .bf16) (φ₂ := .bf16), ofBits_neg_inf,
    show (constant SS .f32 0x00000000#32 : FVec Ideal SS .f32) (ij i j) = 0 from ofBits_zero, zero_add]

theorem scoreC_apply (i j : Fin 128) : score maskC q kc (ij i j) = (head q kc kp vc vp c).sC i j := by
  rw [score_apply, maskC_apply, WordCmp.select_ofBool]
  simp only [decide_eq_true_eq]
  unfold Head.sC
  congr

theorem scoreP_apply (hc : c < 2 ^ 31) (i j : Fin 128) :
    score (maskP (BitVec.ofNat 32 c)) q kp (ij i j) = (head q kc kp vc vp c).sP i j := by
  rw [score_apply, maskP_apply c hc, WordCmp.select_ofBool]
  simp only [decide_eq_true_eq]
  unfold Head.sP
  congr

/-- A vector over the queries as a column, read at a row. -/
theorem redTo_apply (x : FVec Ideal SV .f32) (i : Fin 128) : shapeCast SC x redTo (ij i (0 : Fin 1)) = x (ValueIdx.ix1 i) :=
  shapeCast_apply x redTo _ _ (by
    rewrite [Shape.rowMajor_val_one, Shape.rowMajor_val_two]
    show i.val = i.val * 1 + 0
    omega)

/-- A column spread over the keys, read at an index. -/
theorem bcS_apply (x : FVec Ideal SC .f32) (i j : Fin 128) : broadcastTo SS x bcS (ij i j) = x (ij i (0 : Fin 1)) :=
  broadcastTo_apply x bcS _ _ fun a => match a with
    | ⟨0, _⟩ => rfl
    | ⟨1, _⟩ => rfl

/-- A column spread over the coordinates of a head, read at an index. -/
theorem bcH_apply (x : FVec Ideal SC .f32) (i : Fin 128) (d : Fin 64) : broadcastTo SH x bcH (ij i d) = x (ij i (0 : Fin 1)) :=
  broadcastTo_apply x bcH _ _ fun a => match a with
    | ⟨0, _⟩ => rfl
    | ⟨1, _⟩ => rfl

/-- The index of row `i` with `j` put in on the axis reduced over. -/
theorem lift_red (i j : Fin 128) : red.lift (ValueIdx.ix1 i) j = ij i j := by
  funext a
  match a with
  | ⟨0, _⟩ => exact Fin.ext rfl
  | ⟨1, _⟩ => exact Fin.ext rfl

theorem rowMax_apply (x : FVec Ideal SS .f32) (i : Fin 128) :
    multiReduction .maximumf [1] SV x 0xFF800000#32 red (.inl rfl) rfl (ValueIdx.ix1 i)
      = Finset.univ.fold max ⊥ fun j : Fin 128 => x (ij i j) := by
  refine (Ideal.multiReduction_maximumf_single (a := 1) x _ red (.inl rfl) rfl (ValueIdx.ix1 i)).trans ?_
  rw [show (FloatOps.ofBits .f32 (FKind.maximumf.neutral .f32 (.inl rfl)) : Ideal .f32) = ⊥ from ofBits_neg_inf]
  exact congrArg (fun f => Finset.univ.fold max ⊥ f) (funext fun j => congrArg x (lift_red i j))

theorem rowSum_apply (x : FVec Ideal SS .f32) (i : Fin 128) :
    multiReduction .add [1] SV x 0x00000000#32 red (.inl rfl) rfl (ValueIdx.ix1 i) = ∑ j : Fin 128, x (ij i j) := by
  refine (Ideal.multiReduction_add_single (a := 1) x _ red (.inl rfl) rfl (ValueIdx.ix1 i)).trans ?_
  exact Finset.sum_congr rfl fun j _ => congrArg x (lift_red i j)

theorem mx_apply (hc : c < 2 ^ 31) (i : Fin 128) :
    mx (BitVec.ofNat 32 c) q kc kp (ij i (0 : Fin 1)) = (head q kc kp vc vp c).mx i := by
  unfold mx top
  show max (shapeCast SC _ redTo (ij i (0 : Fin 1))) (shapeCast SC _ redTo (ij i (0 : Fin 1))) = _
  rw [redTo_apply, redTo_apply, rowMax_apply, rowMax_apply]
  simp only [scoreC_apply q kc kp vc vp c, scoreP_apply q kc kp vc vp c hc]
  rfl

theorem eC_apply (hc : c < 2 ^ 31) (i j : Fin 128) :
    wts (score maskC q kc) (mx (BitVec.ofNat 32 c) q kc kp) (ij i j) = (head q kc kp vc vp c).eC i j := by
  unfold wts
  show Ideal.exp2 (score maskC q kc (ij i j) - broadcastTo SS _ bcS (ij i j)) = _
  rw [bcS_apply, mx_apply q kc kp vc vp c hc, scoreC_apply q kc kp vc vp c]
  rfl

theorem eP_apply (hc : c < 2 ^ 31) (i j : Fin 128) :
    wts (score (maskP (BitVec.ofNat 32 c)) q kp) (mx (BitVec.ofNat 32 c) q kc kp) (ij i j) = (head q kc kp vc vp c).eP i j := by
  unfold wts
  show Ideal.exp2 (score (maskP (BitVec.ofNat 32 c)) q kp (ij i j) - broadcastTo SS _ bcS (ij i j)) = _
  rw [bcS_apply, mx_apply q kc kp vc vp c hc, scoreP_apply q kc kp vc vp c hc]
  rfl

theorem den_apply (hc : c < 2 ^ 31) (i : Fin 128) :
    den (BitVec.ofNat 32 c) q kc kp (ij i (0 : Fin 1)) = (head q kc kp vc vp c).den i := by
  unfold den tot
  show shapeCast SC _ redTo (ij i (0 : Fin 1)) + shapeCast SC _ redTo (ij i (0 : Fin 1)) = _
  rw [redTo_apply, redTo_apply, rowSum_apply, rowSum_apply]
  simp only [eC_apply q kc kp vc vp c hc, eP_apply q kc kp vc vp c hc]
  rfl

theorem mix_apply (e : FVec Ideal SS .f32) (v : Vec Ideal SH .bf16) (i : Fin 128) (d : Fin 64) :
    mix e v (ij i d) = ∑ j : Fin 128, e (ij i j) * v (ij j d) := by
  unfold mix
  rw [castH_apply]
  show FloatOps.matmul (DotDims.plain 128 128 64) none (truncf .bf16 e _) v (constant SH .f32 0x00000000#32) (ij i d) = _
  rw [Ideal.matmul_plain_apply (φ₁ := .bf16) (φ₂ := .bf16),
    show (constant SH .f32 0x00000000#32 : FVec Ideal SH .f32) (ij i d) = 0 from ofBits_zero, zero_add]
  rfl

/-- The attention of a head, read at a query and a coordinate. -/
theorem attn_apply (hc : c < 2 ^ 31) (i : Fin 128) (d : Fin 64) :
    attn (BitVec.ofNat 32 c) q kc kp vc vp (ij i d) = (head q kc kp vc vp c).kO i d := by
  unfold attn
  show Ideal.div ((mix _ _ : FVec Ideal SH .f32) (ij i d) + (mix _ _ : FVec Ideal SH .f32) (ij i d) : EReal)
    (broadcastTo SH _ bcH (ij i d)) = _
  rw [bcH_apply, den_apply q kc kp vc vp c hc, mix_apply, mix_apply]
  simp only [eC_apply q kc kp vc vp c hc, eP_apply q kc kp vc vp c hc]
  rfl

/-- The logarithm of the sum of exponentials of a head, read at a query. -/
theorem lse_apply (hc : c < 2 ^ 31) (w : Ideal .f32) (hw : w = (((Real.log 2)⁻¹ : ℝ) : EReal)) (i : Fin 128) :
    lse (BitVec.ofNat 32 c) q kc kp w (ij i (0 : Fin 1)) = (head q kc kp vc vp c).kL i := by
  unfold lse
  show ((mx _ _ _ _ : FVec Ideal SC .f32) (ij i (0 : Fin 1)) + Ideal.log ((den _ _ _ _ : FVec Ideal SC .f32) (ij i (0 : Fin 1))) * w : EReal) = _
  rw [mx_apply q kc kp vc vp c hc, den_apply q kc kp vc vp c hc, hw]
  rfl

/-- A block of columns with one replaced, read at an index. -/
theorem put_apply (h : Nat) (hh : h < 2 ^ 32) (l : FVec Ideal SC .f32) (old : FVec Ideal SS .f32) (i j : Fin 128) :
    put (BitVec.ofNat 32 h) l old (ij i j) = if j.val = h then l (ij i (0 : Fin 1)) else old (ij i j) := by
  have hj := j.isLt
  unfold put
  rw [shapeCast_self]
  show Scalar.select (IntOp.cmpi .eq (BitVec.ofNat 32 (0 * 128 + j.val)) (BitVec.ofNat 32 h)) (broadcastTo SS l bcS (ij i j))
    (old (ij i j)) = _
  rw [bcS_apply, Nat.zero_mul, Nat.zero_add, WordCmp.cmpi_eq_ofNat (by omega) hh, WordCmp.select_ofBool]
  simp only [decide_eq_true_eq]

end Dil.Block

end
-- ==== Proof.DilArray.lean ====
/-
  The dilated window attention over whole arrays.

  The rows of the three arguments (16384 tokens by 16 heads of 64) are dealt to `D` residues: token `n * D + r` is position
  `n` of residue `r`, and 128 positions make a chunk.  `headOf` is what the block of chunk `c` of residue `r` reads of head
  `h`, and `win` the 256 keys (or values) its queries see: the chunk before, zeros where there is none, and the chunk
  itself.  `outK`/`lseK` and `outR`/`lseR` are the two results index by index by the formulas of kernel and reference;
  they are equal.
-/
module

public import proofs.«01_k».proof.Proof.DilSpec
public import proofs.«01_k».proof.Proof.DilBlock

@[expose] public section

set_option maxRecDepth 16384

noncomputable section

namespace Dil

open Idealize.ShloMosaic Idealize.ShloMosaic.TcCoe

/-- An argument array as a function of two numbers, zero outside the array. -/
def arr (x : (⟨2, ![16384, 1024]⟩ : Shape).Idx → EReal) (a b : Nat) : EReal :=
  if h : a < 16384 ∧ b < 1024 then x (ValueIdx.ix2 ⟨a, h.1⟩ ⟨b, h.2⟩) else 0

/-- An argument array at an index whose coordinates are known. -/
theorem arr_of (x : (⟨2, ![16384, 1024]⟩ : Shape).Idx → EReal) (j : (⟨2, ![16384, 1024]⟩ : Shape).Idx) (a b : Nat)
    (h0 : (j 0).val = a) (h1 : (j 1).val = b) : x j = arr x a b := by
  have hb : b < 1024 := h1 ▸ (j 1).isLt
  have ha : a < 16384 := h0 ▸ (j 0).isLt
  unfold arr
  rw [dif_pos ⟨ha, hb⟩]
  exact congrArg x (funext fun d => match d with
    | ⟨0, _⟩ => Fin.ext h0
    | ⟨1, _⟩ => Fin.ext h1)

/-- What chunk `c` of residue `r` reads of head `h`. -/
def headOf (D : Nat) (q k v : Nat → Nat → EReal) (r c h : Nat) : Head where
  q i d := q ((128 * c + i) * D + r) (64 * h + d)
  kc i d := k ((128 * c + i) * D + r) (64 * h + d)
  kp i d := k ((128 * (c - 1) + i) * D + r) (64 * h + d)
  vc i d := v ((128 * c + i) * D + r) (64 * h + d)
  vp i d := v ((128 * (c - 1) + i) * D + r) (64 * h + d)
  prev := 0 < c

/-- The window of chunk `c` of residue `r` in head `h`. -/
def win (D : Nat) (a : Nat → Nat → EReal) (r c h : Nat) (j : Fin 256) (d : Fin 64) : EReal :=
  if j.val < 128 then if c = 0 then 0 else a ((128 * (c - 1) + j) * D + r) (64 * h + d)
  else a ((128 * c + (j - 128)) * D + r) (64 * h + d)

theorem window (D : Nat) (q k v : Nat → Nat → EReal) (r c h : Nat) :
    (headOf D q k v r c h).Window (win D k r c h) (win D v r c h) where
  kc j := by
    funext d
    show win D k r c h ⟨128 + j.val, _⟩ d = _
    unfold win
    rw [if_neg (by simp), show 128 + j.val - 128 = j.val by omega]
    rfl
  kp hp j := by
    funext d
    have hc : c ≠ 0 := Nat.pos_iff_ne_zero.mp hp
    show win D k r c h ⟨j.val, _⟩ d = _
    unfold win
    rw [if_pos j.isLt, if_neg hc]
    rfl
  vc j := by
    funext d
    show win D v r c h ⟨128 + j.val, _⟩ d = _
    unfold win
    rw [if_neg (by simp), show 128 + j.val - 128 = j.val by omega]
    rfl
  vp hp j := by
    funext d
    have hc : c ≠ 0 := Nat.pos_iff_ne_zero.mp hp
    show win D v r c h ⟨j.val, _⟩ d = _
    unfold win
    rw [if_pos j.isLt, if_neg hc]
    rfl

/-- The attention at row `n` and column `x` by the kernel's formula. -/
def outK (D : Nat) (q k v : Nat → Nat → EReal) (n x : Nat) : EReal :=
  (headOf D q k v (x / 1024) (n / 128) (x % 1024 / 64)).kO ⟨n % 128, Nat.mod_lt _ (by decide)⟩ ⟨x % 64, Nat.mod_lt _ (by decide)⟩

/-- The logarithms at row `n` and lane `x` by the kernel's formula: one lane of the first sixteen per head, zero in the others. -/
def lseK (D : Nat) (q k v : Nat → Nat → EReal) (n x : Nat) : EReal :=
  if x % 128 < 16 then (headOf D q k v (x / 128) (n / 128) (x % 128)).kL ⟨n % 128, Nat.mod_lt _ (by decide)⟩ else 0

/-- The attention at row `n` and column `x` by the reference's formula. -/
def outR (D : Nat) (q k v : Nat → Nat → EReal) (n x : Nat) : EReal :=
  (headOf D q k v (x / 1024) (n / 128) (x % 1024 / 64)).rO (win D k (x / 1024) (n / 128) (x % 1024 / 64))
    (win D v (x / 1024) (n / 128) (x % 1024 / 64)) ⟨n % 128, Nat.mod_lt _ (by decide)⟩ ⟨x % 64, Nat.mod_lt _ (by decide)⟩

/-- The logarithms at row `n` and lane `x` by the reference's formula. -/
def lseR (D : Nat) (q k v : Nat → Nat → EReal) (n x : Nat) : EReal :=
  if x % 128 < 16 then (headOf D q k v (x / 128) (n / 128) (x % 128)).rL (win D k (x / 128) (n / 128) (x % 128))
    ⟨n % 128, Nat.mod_lt _ (by decide)⟩ else 0

/-- The two attentions are equal, -/
theorem outR_eq (D : Nat) (q k v : Nat → Nat → EReal) (n x : Nat) : outR D q k v n x = outK D q k v n x :=
  Head.rO_eq (window ..) _ _

/-- and so are the logarithms. -/
theorem lseR_eq (D : Nat) (q k v : Nat → Nat → EReal) (n x : Nat) : lseR D q k v n x = lseK D q k v n x := by
  unfold lseR lseK
  rw [Head.rL_eq (window ..)]

namespace Block

/-! ## The blocks of all heads -/

/-- Head `h`'s columns of a block. -/
abbrev hd (h : Fin 16) : Rect SB := Rect.unit ![0, 64 * h.val] ![128, 64] (fun a => by revert a; revert h; decide)

section Any
variable {F : FTy → Type} [FloatOps F]
variable (b : BitVec 32) (x0 x1 x2 x3 x4 : Vec F SB .bf16)

/-- The sixteen attentions, the last head first. -/
def pieces : List (View.Piece (Elt F) SB .f32) :=
  List.ofFn fun h : Fin 16 => ⟨hd h.rev, attn b (View.ld x0 (hd h.rev)) (View.ld x1 (hd h.rev)) (View.ld x2 (hd h.rev))
    (View.ld x3 (hd h.rev)) (View.ld x4 (hd h.rev))⟩

/-- The first `n` columns at the given ones, the others zero. -/
def cols (l : Nat → FVec F SC .f32) : Nat → FVec F SS .f32
  | 0 => broadcast SS (Scalar.ofBits .f32 0x00000000#32)
  | n + 1 => put (BitVec.ofNat 32 n) (l n) (cols l n)

/-- The sixteen columns of logarithms. -/
def lses (w : F .f32) : FVec F SS .f32 :=
  cols (fun h => lse b (View.ld x0 (hd (Fin.ofNat 16 h))) (View.ld x1 (hd (Fin.ofNat 16 h))) (View.ld x2 (hd (Fin.ofNat 16 h))) w) 16

end Any

/-- The columns read at an index. -/
theorem cols_apply (l : Nat → FVec Ideal SC .f32) (n : Nat) (hn : n < 2 ^ 32) (i j : Fin 128) :
    cols l n (ij i j) = if j.val < n then l j.val (ij i (0 : Fin 1)) else 0 := by
  induction n with
  | zero => rw [if_neg (Nat.not_lt_zero _)]; exact ofBits_zero
  | succ n ih =>
    show put (BitVec.ofNat 32 n) (l n) (cols l n) (ij i j) = _
    rw [put_apply n (by omega), ih (by omega)]
    by_cases h : j.val = n
    · rw [if_pos h, if_pos (by omega), h]
    · rw [if_neg h]
      by_cases h' : j.val < n
      · rw [if_pos h', if_pos (by omega)]
      · rw [if_neg h', if_neg (by omega)]

section Read
variable (D r c : Nat) (q k v : Nat → Nat → EReal) (x0 x1 x2 x3 x4 : Vec Ideal SB .bf16)

/-- The five blocks are those of chunk `c` of residue `r`. -/
structure Blocks : Prop where
  q : ∀ (i : Fin 128) (x : Fin 1024), x0 (ValueIdx.ix2 i x) = q ((128 * c + i) * D + r) x
  kc : ∀ (i : Fin 128) (x : Fin 1024), x1 (ValueIdx.ix2 i x) = k ((128 * c + i) * D + r) x
  kp : ∀ (i : Fin 128) (x : Fin 1024), x2 (ValueIdx.ix2 i x) = k ((128 * (c - 1) + i) * D + r) x
  vc : ∀ (i : Fin 128) (x : Fin 1024), x3 (ValueIdx.ix2 i x) = v ((128 * c + i) * D + r) x
  vp : ∀ (i : Fin 128) (x : Fin 1024), x4 (ValueIdx.ix2 i x) = v ((128 * (c - 1) + i) * D + r) x

/-- A head's columns of a block, read at an index. -/
theorem ld_hd (x : Vec Ideal SB .bf16) (h : Fin 16) (i : Fin 128) (d : Fin 64) (hx : 64 * h.val + d.val < 1024) :
    View.ld x (hd h) (ij i d) = x (ValueIdx.ix2 i ⟨64 * h.val + d.val, hx⟩) :=
  View.ld_unit_apply_of x _ _ _ _ _ fun a => match a with
    | ⟨0, _⟩ => (Nat.zero_add _).symm
    | ⟨1, _⟩ => rfl

variable {D r c q k v x0 x1 x2 x3 x4}

/-- The head the loads of the blocks make is the head of the chunk. -/
theorem head_eq (B : Blocks D r c q k v x0 x1 x2 x3 x4) (h : Fin 16) :
    head (View.ld x0 (hd h)) (View.ld x1 (hd h)) (View.ld x2 (hd h)) (View.ld x3 (hd h)) (View.ld x4 (hd h)) c
      = headOf D q k v r c h := by
  have hx (d : Fin 64) : 64 * h.val + d.val < 1024 := by omega
  unfold head headOf
  congr 1
  · funext i d; exact (ld_hd x0 h i d (hx d)).trans (B.q i _)
  · funext i d; exact (ld_hd x1 h i d (hx d)).trans (B.kc i _)
  · funext i d; exact (ld_hd x2 h i d (hx d)).trans (B.kp i _)
  · funext i d; exact (ld_hd x3 h i d (hx d)).trans (B.vc i _)
  · funext i d; exact (ld_hd x4 h i d (hx d)).trans (B.vp i _)

/-- The block of attentions read at an index. -/
theorem pieces_apply (B : Blocks D r c q k v x0 x1 x2 x3 x4) (hc : c < 2 ^ 31) (n x : Nat) (i : Fin 128) (y : Fin 1024)
    (hn : n = 128 * c + i.val) (hx : x = 1024 * r + y.val) :
    View.canon (Val := Elt Ideal) (pieces (F := Ideal) (BitVec.ofNat 32 c) x0 x1 x2 x3 x4) (ValueIdx.ix2 i y) = outK D q k v n x := by
  have hy := y.isLt
  have hi := i.isLt
  unfold pieces
  refine View.canon_ofFn_unit_eq_of_forall (Val := Elt Ideal) (S := SB) (fun h : Fin 16 => ![0, 64 * h.rev.val]) ![128, 64]
    (fun h a => by revert a; revert h; decide) _ (ValueIdx.ix2 i y) _ ?_ ?_
  · refine ⟨(⟨y.val / 64, by omega⟩ : Fin 16).rev, fun a => ?_⟩
    rw [Fin.rev_rev]
    match a with
    | ⟨0, _⟩ => exact ⟨Nat.zero_le _, by show i.val < 0 + 128; omega⟩
    | ⟨1, _⟩ => exact ⟨by show 64 * (y.val / 64) ≤ y.val; omega, by show y.val < 64 * (y.val / 64) + 64; omega⟩
  · intro h z hz
    have h0 : i.val = 0 + (z 0).val := hz 0
    have h1 : y.val = 64 * h.rev.val + (z 1).val := hz 1
    have z1 : (z 1).val < 64 := (z 1).isLt
    have hh : h.rev.val < 16 := h.rev.isLt
    rw [show z = ij (⟨(z 0).val, by omega⟩ : Fin 128) (⟨(z 1).val, z1⟩ : Fin 64) from ValueIdx.eq_ix2 z]
    rw [attn_apply _ _ _ _ _ c hc, head_eq B]
    unfold outK
    rw [show x / 1024 = r by omega, show n / 128 = c by omega, show x % 1024 / 64 = h.rev.val by omega]
    congr 1 <;> refine Fin.ext ?_ <;> show _ = _ <;> simp only <;> omega

/-- The block of logarithms read at an index. -/
theorem lses_apply (B : Blocks D r c q k v x0 x1 x2 x3 x4) (hc : c < 2 ^ 31) (w : Ideal .f32)
    (hw : w = (((Real.log 2)⁻¹ : ℝ) : EReal)) (n x : Nat) (i y : Fin 128)
    (hn : n = 128 * c + i.val) (hx : x = 128 * r + y.val) :
    lses (BitVec.ofNat 32 c) x0 x1 x2 w (ij i y) = lseK D q k v n x := by
  have hy := y.isLt
  have hi := i.isLt
  unfold lses
  rw [cols_apply _ _ (by decide)]
  unfold lseK
  rw [show x % 128 = y.val by omega, show x / 128 = r by omega, show n / 128 = c by omega]
  by_cases h : y.val < 16
  · rw [if_pos h, if_pos h, lse_apply _ _ _ (View.ld x3 (hd (Fin.ofNat 16 y.val))) (View.ld x4 (hd (Fin.ofNat 16 y.val))) c hc w hw,
      head_eq B]
    rw [show (Fin.ofNat 16 y.val).val = y.val from Nat.mod_eq_of_lt h]
    congr 1
    exact Fin.ext (by simp only; omega)
  · rw [if_neg h, if_neg h]

end Read

end Block

end Dil

end
-- ==== Proof.DilK1.lean ====
/-
  What the kernel of dilation one computes: its two result arrays at every index.
-/
module

public import proofs.«01_k».proof.Proof.DilArray
public import proofs.«01_k».proof.Proof.Gen.DiloneIdeal.Value
public import Idealize.ShloMosaic.Lib.Pipeline.Value
public import Idealize.ShloMosaic.Lib.Claim

@[expose] public section

set_option maxRecDepth 65536

noncomputable section

namespace Cert.DiloneIdeal.RefValue

open Cert.DiloneIdeal Cert.DiloneIdeal.Gen Idealize.ShloMosaic Idealize.ShloMosaic.TcCoe Idealize.SL.Sem
open Idealize.ShloMosaic.Pipeline (Dat)

section Any
variable {F : FTy → Type} [FloatOps F] [Named F]

/-! ## The parts of a head as this kernel writes them: its rectangles are not reshaped to the shape they have -/

namespace Plain

open Dil.Block

/-- The scores of queries and keys, minus infinity off the mask. -/
def score (mask : IVec SS 1) (q k : Vec F SH .bf16) : FVec F SS .f32 :=
  select mask (matmul (DotDims.transposedRhs 128 64 128) none (q : FVec F SH .bf16) (k : FVec F SH .bf16)
    (constant SS .f32 0x00000000#32)) (broadcast SS (Scalar.ofBits .f32 0xFF800000#32))

/-- Weights times values. -/
def mix (e : FVec F SS .f32) (v : Vec F SH .bf16) : FVec F SH .f32 :=
  matmul (DotDims.plain 128 128 64) none (truncf .bf16 e (by decide)) (v : FVec F SH .bf16) (constant SH .f32 0x00000000#32)

theorem score_eq : Dil.Block.score (F := F) = score := by
  funext mask q k
  unfold Dil.Block.score score
  rw [shapeCast_self, shapeCast_self]

theorem mix_eq : Dil.Block.mix (F := F) = mix := by
  funext e v
  unfold Dil.Block.mix mix
  rw [shapeCast_self]

variable (b : BitVec 32) (q kc kp vc vp : Vec F SH .bf16)

/-- The largest scores of the queries of a head. -/
def mx : FVec F SC .f32 := top (score maskC q kc) (score (maskP b) q kp)

/-- The sums of the weights of the queries of a head. -/
def den : FVec F SC .f32 := tot (wts (score maskC q kc) (mx b q kc kp)) (wts (score (maskP b) q kp) (mx b q kc kp))

/-- The attention of the queries of a head. -/
def attn : FVec F SH .f32 :=
  divf (addf (mix (wts (score maskC q kc) (mx b q kc kp)) vc) (mix (wts (score (maskP b) q kp) (mx b q kc kp)) vp))
    (broadcastTo SH (den b q kc kp) bcH)

/-- The logarithms to base two of the sums of exponentials. -/
def lse (c : F .f32) : FVec F SC .f32 := addf (mx b q kc kp) (mulf (log (den b q kc kp)) (broadcast SC c))

theorem attn_eq : Dil.Block.attn (F := F) = attn := by
  funext b q kc kp vc vp
  unfold Dil.Block.attn Dil.Block.den Dil.Block.mx
  rw [score_eq, mix_eq]
  rfl

theorem lse_eq : Dil.Block.lse (F := F) = lse := by
  funext b q kc kp c
  unfold Dil.Block.lse Dil.Block.den Dil.Block.mx
  rw [score_eq]
  rfl

end Plain

/-- The block of attentions a point stores is the sixteen heads' side by side. -/
theorem out5_eq (i : grid0.Coords) (x0 x1 x2 x3 x4 : Vec F S128x1024 .bf16) :
    out0_5 i x0 x1 x2 x3 x4 = View.canon (Dil.Block.pieces (BitVec.ofNat 32 (i 1)) x0 x1 x2 x3 x4) := by
  unfold Dil.Block.pieces
  rw [Plain.attn_eq]
  unfold_out out0_5
  rfl

theorem hz : (![0, 0] : Fin 2 → Nat) = fun _ => 0 := funext fun a => by fin_cases a <;> rfl

/-- The block of logarithms a point stores is the sixteen heads' columns. -/
theorem out6_eq (i : grid0.Coords) (x0 x1 x2 x3 x4 : Vec F S128x1024 .bf16) :
    out0_6 i x0 x1 x2 x3 x4 = Dil.Block.lses (BitVec.ofNat 32 (i 1)) x0 x1 x2 (Named.named κ "inv_ln2" 0x3FB8AA3B#32) := by
  unfold Dil.Block.lses
  rw [Plain.lse_eq]
  unfold_out out0_6
  rw [View.canon_unit_zero hz]
  rfl

end Any

variable (m : (ℓ : Loc nD τ sig) → Buf (Elt Ideal) ℓ) (ρ : Dev nD → PrngReg)

/-- The residue and the chunk of a point, and the places of its blocks. -/
theorem idx_facts : ∀ t : Fin cfg0.N,
    ((grid0.coords t 0).val < 1 ∧ (grid0.coords t 1).val < 128)
    ∧ (win0_0.index t 0 = (grid0.coords t 1).val ∧ win0_0.index t 1 = (grid0.coords t 0).val)
    ∧ (win0_1.index t 0 = (grid0.coords t 1).val ∧ win0_1.index t 1 = (grid0.coords t 0).val)
    ∧ (win0_2.index t 0 = (grid0.coords t 1).val - 1 ∧ win0_2.index t 1 = (grid0.coords t 0).val)
    ∧ (win0_3.index t 0 = (grid0.coords t 1).val ∧ win0_3.index t 1 = (grid0.coords t 0).val)
    ∧ (win0_4.index t 0 = (grid0.coords t 1).val - 1 ∧ win0_4.index t 1 = (grid0.coords t 0).val)
    ∧ (win0_5.index t 0 = (grid0.coords t 1).val ∧ win0_5.index t 1 = (grid0.coords t 0).val)
    ∧ (win0_6.index t 0 = (grid0.coords t 1).val ∧ win0_6.index t 1 = (grid0.coords t 0).val) :=
  (by decide +kernel : ∀ t : Fin grid0.N, _)

/-- Every chunk of every residue has its point. -/
theorem point : ∀ (r : Fin 1) (c : Fin 128), ∃ t : Fin cfg0.N, (grid0.coords t 0).val = r.val ∧ (grid0.coords t 1).val = c.val :=
  (by decide +kernel : ∀ (r : Fin 1) (c : Fin 128), ∃ t : Fin grid0.N, _)

/-- The arguments as functions of row and column. -/
abbrev q (c : Dev nD) : Nat → Nat → EReal := Dil.arr (m ((c : Thread nD τ).loc main_arg0))
abbrev k (c : Dev nD) : Nat → Nat → EReal := Dil.arr (m ((c : Thread nD τ).loc main_arg1))
abbrev v (c : Dev nD) : Nat → Nat → EReal := Dil.arr (m ((c : Thread nD τ).loc main_arg2))

/-- The blocks a point reads are those of its chunk and residue. -/
theorem blocks (c : Dev nD) (t : Fin cfg0.N) :
    Dil.Block.Blocks 1 (grid0.coords t 0).val (grid0.coords t 1).val (q m c) (k m c) (v m c)
      (iblk m c 0 t) (iblk m c 1 t) (iblk m c 2 t) (iblk m c 3 t) (iblk m c 4 t) where
  q i x := by
    obtain ⟨⟨hr, -⟩, ⟨e0, e1⟩, -⟩ := idx_facts t
    show m ((c : Thread nD τ).loc main_arg0) ((win0_0.rect t).idx (ValueIdx.ix2 i x)) = _
    refine Dil.arr_of _ _ _ _ ?_ ?_
    · show win0_0.index t 0 * 128 + 1 * i.val = _
      rw [e0]; omega
    · show win0_0.index t 1 * 1024 + 1 * x.val = _
      rw [e1]; omega
  kc i x := by
    obtain ⟨⟨hr, -⟩, -, ⟨e0, e1⟩, -⟩ := idx_facts t
    show m ((c : Thread nD τ).loc main_arg1) ((win0_1.rect t).idx (ValueIdx.ix2 i x)) = _
    refine Dil.arr_of _ _ _ _ ?_ ?_
    · show win0_1.index t 0 * 128 + 1 * i.val = _
      rw [e0]; omega
    · show win0_1.index t 1 * 1024 + 1 * x.val = _
      rw [e1]; omega
  kp i x := by
    obtain ⟨⟨hr, -⟩, -, -, ⟨e0, e1⟩, -⟩ := idx_facts t
    show m ((c : Thread nD τ).loc main_arg1) ((win0_2.rect t).idx (ValueIdx.ix2 i x)) = _
    refine Dil.arr_of _ _ _ _ ?_ ?_
    · show win0_2.index t 0 * 128 + 1 * i.val = _
      rw [e0]; omega
    · show win0_2.index t 1 * 1024 + 1 * x.val = _
      rw [e1]; omega
  vc i x := by
    obtain ⟨⟨hr, -⟩, -, -, -, ⟨e0, e1⟩, -⟩ := idx_facts t
    show m ((c : Thread nD τ).loc main_arg2) ((win0_3.rect t).idx (ValueIdx.ix2 i x)) = _
    refine Dil.arr_of _ _ _ _ ?_ ?_
    · show win0_3.index t 0 * 128 + 1 * i.val = _
      rw [e0]; omega
    · show win0_3.index t 1 * 1024 + 1 * x.val = _
      rw [e1]; omega
  vp i x := by
    obtain ⟨⟨hr, -⟩, -, -, -, -, ⟨e0, e1⟩, -⟩ := idx_facts t
    show m ((c : Thread nD τ).loc main_arg2) ((win0_4.rect t).idx (ValueIdx.ix2 i x)) = _
    refine Dil.arr_of _ _ _ _ ?_ ?_
    · show win0_4.index t 0 * 128 + 1 * i.val = _
      rw [e0]; omega
    · show win0_4.index t 1 * 1024 + 1 * x.val = _
      rw [e1]; omega

/-- The named factor is 1 / log 2. -/
theorem inv_ln2 : Named.named (F := Ideal) κ "inv_ln2" (φ := .f32) 0x3FB8AA3B#32 = (((Real.log 2)⁻¹ : ℝ) : EReal) :=
  IdealRules.named_const.ideal_named_scalar _ _ _ _ rfl

/-- The attention the kernel leaves, and its logarithms. -/
def out (c : Dev nD) : Buf (Elt Ideal) ((c : Thread nD τ).loc main_v0_0) := fun i => Dil.outK 1 (q m c) (k m c) (v m c) (i 0).val (i 1).val
def lse (c : Dev nD) : Buf (Elt Ideal) ((c : Thread nD τ).loc main_v0_1) := fun i => Dil.lseK 1 (q m c) (k m c) (v m c) (i 0).val (i 1).val

/-- What a point writes back is its block of the attention, -/
theorem flushed5_eq (c : Dev nD) (t : Fin cfg0.N) :
    (dats m 0 c).flushed 5 t = ((cfg0.win 5).blk t).view.read (Elt Ideal) (out m c) := by
  rw [Value.flushed5, out5_eq]
  obtain ⟨⟨hr, hc⟩, -, -, -, -, -, ⟨e0, e1⟩, -⟩ := idx_facts t
  funext i
  show View.canon (Val := Elt Ideal) _ i = out m c ((win0_5.rect t).idx i)
  rw [ValueIdx.eq_ix2 (n0 := 128) (n1 := 1024) i]
  refine Dil.Block.pieces_apply (blocks m c t) (by omega) _ _ _ _ ?_ ?_
  · show win0_5.index t 0 * 128 + 1 * (i 0).val = _
    rw [e0]; show _ = 128 * (grid0.coords t 1).val + (i 0).val; omega
  · show win0_5.index t 1 * 1024 + 1 * (i 1).val = _
    rw [e1]; show _ = 1024 * (grid0.coords t 0).val + (i 1).val; omega

/-- and of the logarithms. -/
theorem flushed6_eq (c : Dev nD) (t : Fin cfg0.N) :
    (dats m 0 c).flushed 6 t = ((cfg0.win 6).blk t).view.read (Elt Ideal) (lse m c) := by
  rw [Value.flushed6, out6_eq]
  obtain ⟨⟨hr, hc⟩, -, -, -, -, -, -, ⟨e0, e1⟩⟩ := idx_facts t
  funext i
  show Dil.Block.lses (F := Ideal) _ _ _ _ _ i = lse m c ((win0_6.rect t).idx i)
  rw [ValueIdx.eq_ix2 (n0 := 128) (n1 := 128) i]
  refine Dil.Block.lses_apply (blocks m c t) (by omega) _ inv_ln2 _ _ _ _ ?_ ?_
  · show win0_6.index t 0 * 128 + 1 * (i 0).val = _
    rw [e0]; show _ = 128 * (grid0.coords t 1).val + (i 0).val; omega
  · show win0_6.index t 1 * 128 + 1 * (i 1).val = _
    rw [e1]; show _ = 128 * (grid0.coords t 0).val + (i 1).val; omega

/-- Every entry of the attention is in the block of a point, -/
theorem cover5 (i : S16384x1024.Idx) : ∃ t : Fin cfg0.N, (cfg0.win 5).flush t = true ∧ i ∈ ((cfg0.win 5).blk t).view.set := by
  have h0 : (i 0 : Nat) < 16384 := (i 0).isLt
  have h1 : (i 1 : Nat) < 1024 := (i 1).isLt
  obtain ⟨t, ht0, ht1⟩ := point ⟨(i 1).val / 1024, by omega⟩ ⟨(i 0).val / 128, by omega⟩
  obtain ⟨-, -, -, -, -, -, ⟨e0, e1⟩, -⟩ := idx_facts t
  refine ⟨t, flush0_5 t, ?_⟩
  show i ∈ ((View.whole main_v0_0).slice (win0_5.rect t)).set
  rw [View.set_slice_whole, Rect.mem_set_unit]
  intro a
  match a with
  | ⟨0, _⟩ =>
    show win0_5.index t 0 * 128 ≤ (i 0).val ∧ (i 0).val < win0_5.index t 0 * 128 + 128
    rw [e0, ht1]; show (i 0).val / 128 * 128 ≤ _ ∧ _ < (i 0).val / 128 * 128 + 128; omega
  | ⟨1, _⟩ =>
    show win0_5.index t 1 * 1024 ≤ (i 1).val ∧ (i 1).val < win0_5.index t 1 * 1024 + 1024
    rw [e1, ht0]; show (i 1).val / 1024 * 1024 ≤ _ ∧ _ < (i 1).val / 1024 * 1024 + 1024; omega

/-- and every entry of the logarithms. -/
theorem cover6 (i : S16384x128.Idx) : ∃ t : Fin cfg0.N, (cfg0.win 6).flush t = true ∧ i ∈ ((cfg0.win 6).blk t).view.set := by
  have h0 : (i 0 : Nat) < 16384 := (i 0).isLt
  have h1 : (i 1 : Nat) < 128 := (i 1).isLt
  obtain ⟨t, ht0, ht1⟩ := point ⟨(i 1).val / 128, by omega⟩ ⟨(i 0).val / 128, by omega⟩
  obtain ⟨-, -, -, -, -, -, -, ⟨e0, e1⟩⟩ := idx_facts t
  refine ⟨t, flush0_6 t, ?_⟩
  show i ∈ ((View.whole main_v0_1).slice (win0_6.rect t)).set
  rw [View.set_slice_whole, Rect.mem_set_unit]
  intro a
  match a with
  | ⟨0, _⟩ =>
    show win0_6.index t 0 * 128 ≤ (i 0).val ∧ (i 0).val < win0_6.index t 0 * 128 + 128
    rw [e0, ht1]; show (i 0).val / 128 * 128 ≤ _ ∧ _ < (i 0).val / 128 * 128 + 128; omega
  | ⟨1, _⟩ =>
    show win0_6.index t 1 * 128 ≤ (i 1).val ∧ (i 1).val < win0_6.index t 1 * 128 + 128
    rw [e1, ht0]; show (i 1).val / 128 * 128 ≤ _ ∧ _ < (i 1).val / 128 * 128 + 128; omega

/-- The run: the two results at the kernel's formulas, the arguments unchanged. -/
theorem run : θ_run defs (onTc (τ := τ) (main (F := Ideal))) ⟨m, fun _ => 0, ρ⟩ fun r => ∀ c : Dev nD,
      r.2.mem ((c : Thread nD τ).loc main_v0_0) = out m c
      ∧ r.2.mem ((c : Thread nD τ).loc main_v0_1) = lse m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c).1.trans ((dats m 0 c).arrAt_eq_of_cover 5 (out m c) (fun t _ => flushed5_eq m c t) cover5),
      (h c).2.1.trans ((dats m 0 c).arrAt_eq_of_cover 6 (lse m c) (fun t _ => flushed6_eq m c t) cover6), (h c).2.2⟩)
    (Value.run_blocks m ρ)

end Cert.DiloneIdeal.RefValue

end
-- ==== Proof.DilRef.lean ====
/-
  What the reference's operations are at an index, shared by the three dilations: its mask of a chunk, a query and a key
  as an integer comparison, its constants, and the argument arrays read at a row and a column.
-/
module

public import proofs.«01_k».proof.Proof.DilArray
public import Idealize.ShloMosaic.Lib.WordCmp
public import Idealize.ShloMosaic.Lib.WordArith
public import Idealize.ShloMosaic.Lib.KernelVsHost
public import Idealize.ShloMosaic.Lib.Pipeline.Value

@[expose] public section

noncomputable section

namespace Dil.Ref

open Idealize.ShloMosaic Idealize.ShloMosaic.TcCoe

/-- The distance of query `i` to key `j` as a word. -/
abbrev dist (i j : Nat) : BitVec 32 := IntOp.subi (IntOp.addi (BitVec.ofNat 32 i) 128#32) (BitVec.ofNat 32 j)

theorem dist_toInt (i j : Nat) (hi : i < 128) (hj : j < 256) : (dist i j).toInt = (i : Int) + 128 - j := by
  have h : IntOp.addi (BitVec.ofNat 32 i) 128#32 = BitVec.ofNat 32 (i + 128) := (BitVec.ofNat_add i 128).symm
  have e1 : (BitVec.ofNat 32 (i + 128)).toInt = ((i + 128 : Nat) : Int) := WordArith.toInt_ofNat_small _ (by omega)
  have e2 : (BitVec.ofNat 32 j).toInt = (j : Int) := WordArith.toInt_ofNat_small _ (by omega)
  unfold dist
  rw [h, WordArith.toInt_subi_of_nonneg _ _ (by omega) (by omega), e1, e2]
  push_cast
  ring

/-- The reference's mask of chunk `c`, query `i` and key `j`: the key is at most 128 before the query and not after it,
    and is no padding. -/
theorem mask (c i j : Nat) (hc : c < 2 ^ 31) (hi : i < 128) (hj : j < 256) :
    IntOp.andi (IntOp.andi (IntOp.cmpi .sge (dist i j) 0#32) (IntOp.cmpi .sle (dist i j) 128#32))
        (~~~(IntOp.andi (IntOp.cmpi .eq (BitVec.ofNat 32 c) 0#32) (IntOp.cmpi .slt (BitVec.ofNat 32 j) 128#32)))
      = BitVec.ofBool (decide (j ≤ i + 128 ∧ i ≤ j ∧ (128 ≤ j ∨ 0 < c))) := by
  have z : (0#32).toInt = 0 := rfl
  have n : (128#32).toInt = 128 := rfl
  have e2 : (BitVec.ofNat 32 j).toInt = (j : Int) := WordArith.toInt_ofNat_small _ (by omega)
  have e3 : IntOp.cmpi .eq (BitVec.ofNat 32 c) 0#32 = BitVec.ofBool (decide (c = 0)) :=
    WordCmp.cmpi_eq_ofNat (a := c) (b := 0) (by omega) (by decide)
  rw [WordCmp.cmpi_sge_eq, WordCmp.cmpi_sle_eq, WordCmp.cmpi_slt_eq, e3, dist_toInt i j hi hj, z, n, e2, WordArith.andi_ofBool,
    WordArith.andi_ofBool, show ∀ b : Bool, ~~~(BitVec.ofBool b) = BitVec.ofBool (!b) by decide, WordArith.andi_ofBool]
  congr 1
  rw [Bool.eq_iff_iff]
  simp only [Bool.and_eq_true, Bool.not_eq_true', Bool.and_eq_false_iff, decide_eq_true_eq, decide_eq_false_iff_not]
  omega

/-- The logarithm of the constant two is log 2. -/
theorem log_two : (FloatOps.hostUnary .log (FloatOps.ofBits .f32 0x40000000#32 : Ideal .f32) : Ideal .f32) = ln2 := by
  have h : (FloatOps.ofBits .f32 0x40000000#32 : Ideal .f32) = ((2 : ℝ) : EReal) := by
    show Ideal.ofBits .f32 0x40000000#32 = _
    simp [Ideal.ofBits, Ideal.ieee]
    rw [← EReal.coe_mul]
    norm_num
  rw [h]
  show Ideal.log ((2 : ℝ) : EReal) = ((Real.log 2 : ℝ) : EReal)
  rw [Ideal.log_coe, if_neg (by norm_num)]

/-- A score the mask keeps, -/
theorem rS_pos {H : Head} {k : Fin 256 → Fin 64 → EReal} {i : Fin 128} {j : Fin 256}
    (h : j.val ≤ i.val + 128 ∧ i.val ≤ j.val ∧ (128 ≤ j.val ∨ H.prev)) : H.rS k i j = (∑ d, H.q i d * k j d) * ln2 := if_pos h

/-- and one it does not. -/
theorem rS_neg {H : Head} {k : Fin 256 → Fin 64 → EReal} {i : Fin 128} {j : Fin 256}
    (h : ¬(j.val ≤ i.val + 128 ∧ i.val ≤ j.val ∧ (128 ≤ j.val ∨ H.prev))) : H.rS k i j = ⊥ := if_neg h

/-- The padding value is zero. -/
theorem pad_zero : (FloatOps.sitofp .f32 (0#32 : BitVec 32) : Ideal .f32) = 0 := by
  show (((0#32 : BitVec 32).toInt : ℝ) : EReal) = 0
  simp

end Dil.Ref

end
-- ==== Proof.DilR1.lean ====
/-
  What the reference of dilation one computes: its two results at every index.
-/
module

public import proofs.«01_k».proof.Proof.DilRef
public import proofs.«01_k».proof.Proof.Gen.RefoneIdeal.Run
public import proofs.«01_k».proof.Proof.Gen.RefoneIdeal.Read

@[expose] public section

set_option maxRecDepth 65536

noncomputable section

namespace Cert.RefoneIdeal.RefValue

open Cert.RefoneIdeal Cert.RefoneIdeal.Gen Cert.RefoneIdeal.Read Idealize.ShloMosaic Idealize.ShloMosaic.TcCoe Idealize.SL.Sem

/-- An argument array. -/
abbrev Arg : Type := (⟨S16384x1024, .bf16⟩ : BufTy).Contents (Elt Ideal)

variable (x x0 x1 x2 : Arg)

/-! ## The arguments by residue, chunk, position, head and coordinate -/

/-- The queries (and, before the padding, the keys and values). -/
theorem v4_apply (i : S1x128x128x16x64.Idx) :
    val_main_v4 (F := Ideal) x i = Dil.arr x ((128 * (i 1).val + (i 2).val) * 1 + (i 0).val) (64 * (i 3).val + (i 4).val) := by
  have h0 : (i 0).val < 1 := (i 0).isLt
  have h1 : (i 1).val < 128 := (i 1).isLt
  have h2 : (i 2).val < 128 := (i 2).isLt
  have h3 : (i 3).val < 16 := (i 3).isLt
  have h4 : (i 4).val < 64 := (i 4).isLt
  rw [val_main_v4_apply, val_main_v3_apply, val_main_v2_apply]
  have e0 : (idx_main_v4 i 0).val = (i 0).val := by show 0 = _; omega
  have e1 : (idx_main_v4 i 1).val = 128 * (i 1).val + (i 2).val := by show _ / _ % _ = _; omega
  have e2 : (idx_main_v4 i 2).val = (i 3).val := by show _ / _ % _ = _; omega
  have e3 : (idx_main_v4 i 3).val = (i 4).val := by show _ % _ = _; omega
  refine Dil.arr_of x _ _ _ ?_ ?_
  · show ((((idx_main_v4 i 1).val * 1 + (idx_main_v4 i 0).val) * 16 + (idx_main_v4 i 2).val) * 64 + (idx_main_v4 i 3).val) / 1024 = _
    rw [e0, e1, e2, e3]; omega
  · show ((((idx_main_v4 i 1).val * 1 + (idx_main_v4 i 0).val) * 16 + (idx_main_v4 i 2).val) * 64 + (idx_main_v4 i 3).val) % 1024 = _
    rw [e0, e1, e2, e3]; omega

/-- The chunks with one of zeros before the first. -/
theorem v9_apply (i : S1x129x128x16x64.Idx) :
    val_main_v9 (F := Ideal) x i = if (i 1).val = 0 then 0 else
      Dil.arr x ((128 * ((i 1).val - 1) + (i 2).val) * 1 + (i 0).val) (64 * (i 3).val + (i 4).val) := by
  have h1 : (i 1).val < 129 := (i 1).isLt
  unfold val_main_v9
  by_cases h : (i 1).val = 0
  · rw [if_pos h]
    refine (pad_apply_of_not_inside _ _ _ _ _ _ _ i (1 : Fin 5) (fun hin => ?_)).trans Dil.Ref.pad_zero
    have := hin.1
    change 1 ≤ (i 1).val at this
    omega
  · rw [if_neg h]
    refine (pad_apply_of_inside _ _ _ _ _ _ _ i (ValueIdx.ix5 (i 0) ⟨(i 1).val - 1, by omega⟩ (i 2) (i 3) (i 4)) (fun a => ?_)).trans
      (v4_apply x (ValueIdx.ix5 (i 0) ⟨(i 1).val - 1, by omega⟩ (i 2) (i 3) (i 4)))
    match a with
    | ⟨0, _⟩ => show (i 0).val = 0 + (i 0).val * 1; omega
    | ⟨1, _⟩ => show (i 1).val = 1 + ((i 1).val - 1) * 1; omega
    | ⟨2, _⟩ => show (i 2).val = 0 + (i 2).val * 1; omega
    | ⟨3, _⟩ => show (i 3).val = 0 + (i 3).val * 1; omega
    | ⟨4, _⟩ => show (i 4).val = 0 + (i 4).val * 1; omega

/-- The windows of keys: the chunk before and the chunk. -/
theorem v11_apply (i : S1x128x256x16x64.Idx) :
    val_main_v11 (F := Ideal) x i = Dil.win 1 (Dil.arr x) (i 0).val (i 1).val (i 3).val (i 2) (i 4) := by
  have h1 : (i 1).val < 128 := (i 1).isLt
  have h2 : (i 2).val < 256 := (i 2).isLt
  unfold val_main_v11 Dil.win
  by_cases h : (i 2).val < 128
  · rw [if_pos h]
    refine (concatenate_pair_apply_left (s₁ := S1x128x128x16x64) _ _ _ _ i rfl (ValueIdx.ix5 (n2 := 128) (i 0) (i 1) ⟨(i 2).val, h⟩ (i 3) (i 4)) (fun b => ?_)).trans ?_
    · match b with
      | ⟨0, _⟩ => rfl
      | ⟨1, _⟩ => rfl
      | ⟨2, _⟩ => rfl
      | ⟨3, _⟩ => rfl
      | ⟨4, _⟩ => rfl
    · rw [val_main_v10_apply]
      exact v9_apply x _
  · rw [if_neg h]
    refine (concatenate_pair_apply_right (s₁ := S1x128x128x16x64) (s₂ := S1x128x128x16x64) _ _ _ _ i rfl rfl (ValueIdx.ix5 (n2 := 128) (i 0) (i 1) ⟨(i 2).val - 128, by omega⟩ (i 3) (i 4))
      (fun b hb => ?_) ?_).trans ?_
    · match b with
      | ⟨0, _⟩ => rfl
      | ⟨1, _⟩ => rfl
      | ⟨2, _⟩ => exact absurd rfl hb
      | ⟨3, _⟩ => rfl
      | ⟨4, _⟩ => rfl
    · show (i 2).val - 128 + 128 = (i 2).val
      omega
    · exact v4_apply x _

/-- The windows of values are made in the same way. -/
theorem v18_apply (i : S1x128x256x16x64.Idx) :
    val_main_v18 (F := Ideal) x i = Dil.win 1 (Dil.arr x) (i 0).val (i 1).val (i 3).val (i 2) (i 4) :=
  (show val_main_v18 (F := Ideal) x i = val_main_v11 (F := Ideal) x i from rfl).trans (v11_apply x i)

/-! ## The scores -/

/-- The mask at a chunk, a query and a key. -/
theorem mask_apply (i : S1x128x16x128x256.Idx) :
    val_main_call2_v1 (F := Ideal) i
      = BitVec.ofBool (decide ((i 4).val ≤ (i 3).val + 128 ∧ (i 3).val ≤ (i 4).val ∧ (128 ≤ (i 4).val ∨ 0 < (i 1).val))) := by
  have h1 : (i 1).val < 128 := (i 1).isLt
  rw [← Dil.Ref.mask (i 1).val (i 3).val (i 4).val (by omega) (i 3).isLt (i 4).isLt]
  simp only [val_main_call2_v1_apply, val_main_v51_apply, val_main_v50_apply, val_main_v48_apply, val_main_v46_apply,
    val_main_v35_apply, val_main_v32_apply, val_main_v34_apply, val_main_v30_apply, val_main_v31_apply, val_main_v33_apply,
    val_main_v28_apply, val_main_v29_apply, val_main_v27_apply, val_main_v23_apply, val_main_v22_apply, val_main_v26_apply,
    val_main_v25_apply, val_main_v24_apply, val_main_v49_apply, val_main_v47_apply, val_main_v45_apply, val_main_v43_apply,
    val_main_v39_apply, val_main_v38_apply, val_main_v36_apply, val_main_v37_apply, val_main_v44_apply, val_main_v42_apply,
    val_main_v41_apply, val_main_v40_apply, val_main_c_1_apply, val_main_c_2_apply, val_main_c_3_apply, val_main_c_4_apply,
    val_main_c_5_apply]

variable (v : Nat → Nat → EReal)

/-- The head of an index. -/
abbrev H (r c h : Nat) : Dil.Head := Dil.headOf 1 (Dil.arr x0) (Dil.arr x1) v r c h
/-- Its keys. -/
abbrev K (r c h : Nat) : Fin 256 → Fin 64 → EReal := Dil.win 1 (Dil.arr x1) r c h

/-- The masked scores. -/
theorem v52_apply (i : S1x128x16x128x256.Idx) :
    val_main_v52 (F := Ideal) x0 x1 i
      = (H x0 x1 v (i 0).val (i 1).val (i 2).val).rS (K x1 (i 0).val (i 1).val (i 2).val) (i 3) (i 4) := by
  rw [val_main_v52_apply, mask_apply, WordCmp.select_ofBool]
  by_cases h : (i 4).val ≤ (i 3).val + 128 ∧ (i 3).val ≤ (i 4).val ∧ (128 ≤ (i 4).val ∨ 0 < (i 1).val)
  · rw [if_pos (by simpa using h), val_main_v21_apply, val_main_v20_apply, val_main_v0_apply, val_main_v19_apply]
    refine Eq.trans ?_ (Dil.Ref.rS_pos h).symm
    refine congrArg₂ (fun a b : EReal => a * b) (Finset.sum_congr rfl fun d _ => ?_) Dil.Ref.log_two
    rw [v4_apply, v11_apply]
    rfl
  · rw [if_neg (by simpa using h), val_main_call2_v2_apply, val_main_call2_v0_apply]
    exact Eq.trans Dil.Block.ofBits_neg_inf (Dil.Ref.rS_neg h).symm

/-- The largest score of a query. -/
theorem v53_apply (i : S1x128x16x128.Idx) :
    val_main_v53 (F := Ideal) x0 x1 i
      = (H x0 x1 v (i 0).val (i 1).val (i 2).val).rM (K x1 (i 0).val (i 1).val (i 2).val) (i 3) := by
  have red : S1x128x16x128x256.Reduces [(4 : Fin 5)] S1x128x16x128 := by decide
  have h52 := v52_apply x0 x1 v
  unfold val_main_v53 val_main_cst_7
  generalize val_main_v52 (F := Ideal) x0 x1 = y at h52
  have e := hostReduce_maximumf_eq_multiReduction (F := Ideal) (φ := .f32) (u := S_) y (0xFF800000#32 : BitVec (FTy.bits .f32))
    reducesTo_S1x128x16x128x256_S1x128x16x128_d4 h_S_ red (.inl rfl) rfl
  refine (congrFun e i).trans ?_
  refine (Ideal.multiReduction_maximumf_single (a := 4) _ _ red (.inl rfl) rfl i).trans ?_
  rw [show (FloatOps.ofBits .f32 (FKind.maximumf.neutral .f32 (.inl rfl)) : Ideal .f32) = ⊥ from Dil.Block.ofBits_neg_inf]
  unfold Dil.Head.rM
  refine Finset.fold_congr fun j _ => ?_
  exact h52 (red.lift i j)

/-- The same at an index whose coordinates are known. -/
theorem v53_at (i : S1x128x16x128.Idx) (r c h : Nat) (p : Fin 128) (e0 : (i 0).val = r) (e1 : (i 1).val = c)
    (e2 : (i 2).val = h) (e3 : (i 3).val = p.val) :
    val_main_v53 (F := Ideal) x0 x1 i = (H x0 x1 v r c h).rM (K x1 r c h) p := by
  subst e0 e1 e2
  obtain rfl : i 3 = p := Fin.ext e3
  exact v53_apply x0 x1 v i

/-- The exponentials. -/
theorem v57_apply (i : S1x128x16x128x256.Idx) :
    val_main_v57 (F := Ideal) x0 x1 i
      = (H x0 x1 v (i 0).val (i 1).val (i 2).val).rE (K x1 (i 0).val (i 1).val (i 2).val) (i 3) (i 4) := by
  have h0 : (i 0).val < 1 := (i 0).isLt
  have h1 : (i 1).val < 128 := (i 1).isLt
  rw [val_main_v57_apply, val_main_v56_apply, val_main_v55_apply, val_main_v54_apply, v52_apply x0 x1 v,
    v53_at x0 x1 v _ (i 0).val (i 1).val (i 2).val (i 3) (by show 0 = _; omega) rfl rfl rfl]
  rfl

/-- Their sum. -/
theorem v58_apply (i : S1x128x16x128.Idx) :
    val_main_v58 (F := Ideal) x0 x1 i
      = (H x0 x1 v (i 0).val (i 1).val (i 2).val).rD (K x1 (i 0).val (i 1).val (i 2).val) (i 3) := by
  rw [val_main_v58_apply, val_main_cst_8_apply, Dil.Block.ofBits_zero, zero_add]
  unfold Dil.Head.rD
  refine Finset.sum_congr rfl fun j _ => ?_
  rw [v57_apply x0 x1 v]
  rfl

/-- The same at an index whose coordinates are known. -/
theorem v58_at (i : S1x128x16x128.Idx) (r c h : Nat) (p : Fin 128) (e0 : (i 0).val = r) (e1 : (i 1).val = c)
    (e2 : (i 2).val = h) (e3 : (i 3).val = p.val) :
    val_main_v58 (F := Ideal) x0 x1 i = (H x0 x1 v r c h).rD (K x1 r c h) p := by
  subst e0 e1 e2
  obtain rfl : i 3 = p := Fin.ext e3
  exact v58_apply x0 x1 v i

/-! ## The two results -/

/-- The attention by residue, chunk, position, head and coordinate. -/
theorem v64_apply (i : S1x128x128x16x64.Idx) :
    val_main_v64 (F := Ideal) x0 x1 x2 i
      = (H x0 x1 v (i 0).val (i 1).val (i 3).val).rO (K x1 (i 0).val (i 1).val (i 3).val)
          (Dil.win 1 (Dil.arr x2) (i 0).val (i 1).val (i 3).val) (i 2) (i 4) := by
  have h0 : (i 0).val < 1 := (i 0).isLt
  rw [val_main_v64_apply, val_main_v63_apply, val_main_v62_apply, val_main_v61_apply,
    v58_at x0 x1 v _ (i 0).val (i 1).val (i 3).val (i 2) (by show 0 = _; omega) rfl rfl rfl, val_main_v60_apply, val_main_v59_apply]
  unfold Dil.Head.rO
  refine congrArg₂ Ideal.div (Finset.sum_congr rfl fun j _ => ?_) rfl
  rw [v18_apply, v57_apply x0 x1 v]
  rfl

/-- The same at an index whose coordinates are known. -/
theorem v64_at (i : S1x128x128x16x64.Idx) (r c h : Nat) (p : Fin 128) (d : Fin 64) (e0 : (i 0).val = r) (e1 : (i 1).val = c)
    (e2 : (i 2).val = p.val) (e3 : (i 3).val = h) (e4 : (i 4).val = d.val) :
    val_main_v64 (F := Ideal) x0 x1 x2 i = (H x0 x1 v r c h).rO (K x1 r c h) (Dil.win 1 (Dil.arr x2) r c h) p d := by
  subst e0 e1 e3
  obtain rfl : i 2 = p := Fin.ext e2
  obtain rfl : i 4 = d := Fin.ext e4
  exact v64_apply x0 x1 x2 v i

/-- The first result. -/
theorem v71_apply (i : S16384x1024.Idx) :
    val_main_v71 (F := Ideal) x0 x1 x2 i = Dil.outR 1 (Dil.arr x0) (Dil.arr x1) (Dil.arr x2) (i 0).val (i 1).val := by
  have h0 : (i 0).val < 16384 := (i 0).isLt
  have h1 : (i 1).val < 1024 := (i 1).isLt
  rw [val_main_v71_apply, val_main_v70_apply, val_main_v69_apply]
  have f0 : (idx_main_v71 i 0).val = (i 0).val := by show _ / _ = _; omega
  have f1 : (idx_main_v71 i 1).val = (i 1).val / 1024 := by show 0 = _; omega
  have f2 : (idx_main_v71 i 2).val = (i 1).val % 1024 := by show _ % _ = _; omega
  generalize idx_main_v71 i = j at f0 f1 f2
  refine v64_at x0 x1 x2 _ _ _ _ _ _ _ ?_ ?_ ?_ ?_ ?_
  · show 0 = _; omega
  · show (((j 1).val * 16384 + (j 0).val) * 1024 + (j 2).val) / _ % _ = _; rw [f0, f1, f2]; omega
  · show (((j 1).val * 16384 + (j 0).val) * 1024 + (j 2).val) / _ % _ = (i 0).val % 128; rw [f0, f1, f2]; omega
  · show (((j 1).val * 16384 + (j 0).val) * 1024 + (j 2).val) / _ % _ = _; rw [f0, f1, f2]; omega
  · show (((j 1).val * 16384 + (j 0).val) * 1024 + (j 2).val) % _ = (i 1).val % 64; rw [f0, f1, f2]; omega

/-- The logarithms by residue, chunk, position and head. -/
theorem v73_apply (i : S1x128x128x16.Idx) :
    val_main_v73 (F := Ideal) x0 x1 i
      = (H x0 x1 v (i 0).val (i 1).val (i 3).val).rL (K x1 (i 0).val (i 1).val (i 3).val) (i 2) := by
  have h0 : (i 0).val < 1 := (i 0).isLt
  have h1 : (i 1).val < 128 := (i 1).isLt
  have h2 : (i 2).val < 128 := (i 2).isLt
  have h3 : (i 3).val < 16 := (i 3).isLt
  rw [val_main_v73_apply, val_main_v72_apply, val_main_v0_apply, val_main_v68_apply, val_main_v67_apply, val_main_v66_apply,
    v58_apply x0 x1 v, val_main_v65_apply, val_main_v54_apply]
  have e : idx_main_v54 (idx_main_v65 (idx_main_v68 i)) = idx_main_v68 i := funext fun a => Fin.ext (by
    match a with
    | ⟨0, _⟩ => show 0 = (i 0).val; omega
    | ⟨1, _⟩ => show ((((i 0).val * 128 + (i 1).val) * 16 + (i 3).val) * 128 + (i 2).val) / _ % _ = (i 1).val; omega
    | ⟨2, _⟩ => show ((((i 0).val * 128 + (i 1).val) * 16 + (i 3).val) * 128 + (i 2).val) / _ % _ = (i 3).val; omega
    | ⟨3, _⟩ => show ((((i 0).val * 128 + (i 1).val) * 16 + (i 3).val) * 128 + (i 2).val) / _ % _ = (i 2).val; omega)
  rw [e, v53_apply x0 x1 v]
  unfold Dil.Head.rL
  exact congrArg₂ Ideal.div rfl Dil.Ref.log_two

/-- The same with zeros in the lanes past the heads. -/
theorem v74_apply (i : S1x128x128x128.Idx) :
    val_main_v74 (F := Ideal) x0 x1 i
      = if (i 3).val < 16 then (H x0 x1 v (i 0).val (i 1).val (i 3).val).rL (K x1 (i 0).val (i 1).val (i 3).val) (i 2) else 0 := by
  unfold val_main_v74
  by_cases h : (i 3).val < 16
  · rw [if_pos h]
    refine (pad_apply_of_inside _ _ _ _ _ _ _ i (ValueIdx.ix4 (i 0) (i 1) (i 2) ⟨(i 3).val, h⟩) (fun a => ?_)).trans
      (v73_apply x0 x1 v (ValueIdx.ix4 (i 0) (i 1) (i 2) ⟨(i 3).val, h⟩))
    match a with
    | ⟨0, _⟩ => show (i 0).val = 0 + (i 0).val * 1; omega
    | ⟨1, _⟩ => show (i 1).val = 0 + (i 1).val * 1; omega
    | ⟨2, _⟩ => show (i 2).val = 0 + (i 2).val * 1; omega
    | ⟨3, _⟩ => show (i 3).val = 0 + (i 3).val * 1; omega
  · rw [if_neg h]
    refine (pad_apply_of_not_inside _ _ _ _ _ _ _ i (3 : Fin 4) (fun hin => ?_)).trans Dil.Ref.pad_zero
    have := hin.2.2
    change ((i 3).val - 0) / 1 < 16 at this
    omega

/-- The same at an index whose coordinates are known. -/
theorem v74_at (i : S1x128x128x128.Idx) (r c h : Nat) (p : Fin 128) (e0 : (i 0).val = r) (e1 : (i 1).val = c)
    (e2 : (i 2).val = p.val) (e3 : (i 3).val = h) :
    val_main_v74 (F := Ideal) x0 x1 i = if h < 16 then (H x0 x1 v r c h).rL (K x1 r c h) p else 0 := by
  subst e0 e1 e3
  obtain rfl : i 2 = p := Fin.ext e2
  exact v74_apply x0 x1 v i

/-- The second result. -/
theorem v77_apply (i : S16384x128.Idx) :
    val_main_v77 (F := Ideal) x0 x1 i = Dil.lseR 1 (Dil.arr x0) (Dil.arr x1) v (i 0).val (i 1).val := by
  have h0 : (i 0).val < 16384 := (i 0).isLt
  have h1 : (i 1).val < 128 := (i 1).isLt
  rw [val_main_v77_apply, val_main_v76_apply, val_main_v75_apply]
  have f0 : (idx_main_v77 i 0).val = (i 0).val := by show _ / _ = _; omega
  have f1 : (idx_main_v77 i 1).val = (i 1).val / 128 := by show 0 = _; omega
  have f2 : (idx_main_v77 i 2).val = (i 1).val % 128 := by show _ % _ = _; omega
  generalize idx_main_v77 i = j at f0 f1 f2
  refine v74_at x0 x1 v _ _ _ _ _ ?_ ?_ ?_ ?_
  · show 0 = _; omega
  · show (((j 1).val * 16384 + (j 0).val) * 128 + (j 2).val) / _ % _ = _; rw [f0, f1, f2]; omega
  · show (((j 1).val * 16384 + (j 0).val) * 128 + (j 2).val) / _ % _ = (i 0).val % 128; rw [f0, f1, f2]; omega
  · show (((j 1).val * 16384 + (j 0).val) * 128 + (j 2).val) % _ = _; rw [f0, f1, f2]; omega

end Cert.RefoneIdeal.RefValue

end
-- ==== Proof.DilK4.lean ====
/-
  What the kernel of dilation four computes: its two result arrays at every index.
-/
module

public import proofs.«01_k».proof.Proof.DilArray
public import proofs.«01_k».proof.Proof.Gen.DilfourIdeal.Value
public import Idealize.ShloMosaic.Lib.Pipeline.Value
public import Idealize.ShloMosaic.Lib.Claim

@[expose] public section

set_option maxRecDepth 65536

noncomputable section

namespace Cert.DilfourIdeal.RefValue

open Cert.DilfourIdeal Cert.DilfourIdeal.Gen Idealize.ShloMosaic Idealize.ShloMosaic.TcCoe Idealize.SL.Sem
open Idealize.ShloMosaic.Pipeline (Dat)

section Any
variable {F : FTy → Type} [FloatOps F] [Named F]

/-- The block of attentions a point stores is the sixteen heads' side by side. -/
theorem out5_eq (i : grid0.Coords) (x0 x1 x2 x3 x4 : Vec F S128x1024 .bf16) :
    out0_5 i x0 x1 x2 x3 x4 = View.canon (Dil.Block.pieces (BitVec.ofNat 32 (i 1)) x0 x1 x2 x3 x4) := by
  unfold_out out0_5
  rfl

theorem hz : (![0, 0] : Fin 2 → Nat) = fun _ => 0 := funext fun a => by fin_cases a <;> rfl

/-- The block of logarithms a point stores is the sixteen heads' columns. -/
theorem out6_eq (i : grid0.Coords) (x0 x1 x2 x3 x4 : Vec F S128x1024 .bf16) :
    out0_6 i x0 x1 x2 x3 x4 = Dil.Block.lses (BitVec.ofNat 32 (i 1)) x0 x1 x2 (Named.named κ "inv_ln2" 0x3FB8AA3B#32) := by
  unfold_out out0_6
  rw [View.canon_unit_zero hz]
  rfl

end Any

variable (m : (ℓ : Loc nD τ sig) → Buf (Elt Ideal) ℓ) (ρ : Dev nD → PrngReg)

/-- The residue and the chunk of a point, and the places of its blocks. -/
theorem idx_facts : ∀ t : Fin cfg0.N,
    ((grid0.coords t 0).val < 4 ∧ (grid0.coords t 1).val < 32)
    ∧ (win0_0.index t 0 = (grid0.coords t 1).val ∧ win0_0.index t 1 = (grid0.coords t 0).val)
    ∧ (win0_1.index t 0 = (grid0.coords t 1).val ∧ win0_1.index t 1 = (grid0.coords t 0).val)
    ∧ (win0_2.index t 0 = (grid0.coords t 1).val - 1 ∧ win0_2.index t 1 = (grid0.coords t 0).val)
    ∧ (win0_3.index t 0 = (grid0.coords t 1).val ∧ win0_3.index t 1 = (grid0.coords t 0).val)
    ∧ (win0_4.index t 0 = (grid0.coords t 1).val - 1 ∧ win0_4.index t 1 = (grid0.coords t 0).val)
    ∧ (win0_5.index t 0 = (grid0.coords t 1).val ∧ win0_5.index t 1 = (grid0.coords t 0).val)
    ∧ (win0_6.index t 0 = (grid0.coords t 1).val ∧ win0_6.index t 1 = (grid0.coords t 0).val) :=
  (by decide +kernel : ∀ t : Fin grid0.N, _)

/-- Every chunk of every residue has its point. -/
theorem point : ∀ (r : Fin 4) (c : Fin 32), ∃ t : Fin cfg0.N, (grid0.coords t 0).val = r.val ∧ (grid0.coords t 1).val = c.val :=
  (by decide +kernel : ∀ (r : Fin 4) (c : Fin 32), ∃ t : Fin grid0.N, _)

/-- The arguments as functions of row and column. -/
abbrev q (c : Dev nD) : Nat → Nat → EReal := Dil.arr (m ((c : Thread nD τ).loc main_arg0))
abbrev k (c : Dev nD) : Nat → Nat → EReal := Dil.arr (m ((c : Thread nD τ).loc main_arg1))
abbrev v (c : Dev nD) : Nat → Nat → EReal := Dil.arr (m ((c : Thread nD τ).loc main_arg2))

/-- An argument seen with four tokens to a row, read at an index. -/
theorem view_apply (x : (⟨2, ![16384, 1024]⟩ : Shape).Idx → EReal) (n r y : Nat) (i : S4096x4096.Idx) (hr : r < 4) (hy : y < 1024)
    (h0 : (i 0 : Nat) = n) (h1 : (i 1 : Nat) = r * 1024 + y) :
    shapeCast S4096x4096 x shapeCasts_S16384x1024_S4096x4096 i = Dil.arr x (n * 4 + r) y := by
  have hn : (i 0 : Nat) < 4096 := (i 0).isLt
  unfold Dil.arr
  rw [dif_pos ⟨by omega, hy⟩]
  refine shapeCast_apply x _ _ _ ?_
  rewrite [Shape.rowMajor_val_two, Shape.rowMajor_val_two]
  show (n * 4 + r) * 1024 + y = (i 0).val * 4096 + (i 1).val
  omega

/-- The blocks a point reads are those of its chunk and residue. -/
theorem blocks (c : Dev nD) (t : Fin cfg0.N) :
    Dil.Block.Blocks 4 (grid0.coords t 0).val (grid0.coords t 1).val (q m c) (k m c) (v m c)
      (iblk m c 0 t) (iblk m c 1 t) (iblk m c 2 t) (iblk m c 3 t) (iblk m c 4 t) where
  q i x := by
    obtain ⟨⟨hr, -⟩, ⟨e0, e1⟩, -⟩ := idx_facts t
    show V m c main_v0 ((win0_0.rect t).idx (ValueIdx.ix2 i x)) = _
    entry_read
    refine view_apply _ _ _ _ _ hr x.isLt ?_ ?_
    · show win0_0.index t 0 * 128 + 1 * i.val = _
      rw [e0]; omega
    · show win0_0.index t 1 * 1024 + 1 * x.val = _
      rw [e1]; omega
  kc i x := by
    obtain ⟨⟨hr, -⟩, -, ⟨e0, e1⟩, -⟩ := idx_facts t
    show V m c main_v1 ((win0_1.rect t).idx (ValueIdx.ix2 i x)) = _
    entry_read
    refine view_apply _ _ _ _ _ hr x.isLt ?_ ?_
    · show win0_1.index t 0 * 128 + 1 * i.val = _
      rw [e0]; omega
    · show win0_1.index t 1 * 1024 + 1 * x.val = _
      rw [e1]; omega
  kp i x := by
    obtain ⟨⟨hr, -⟩, -, -, ⟨e0, e1⟩, -⟩ := idx_facts t
    show V m c main_v1 ((win0_2.rect t).idx (ValueIdx.ix2 i x)) = _
    entry_read
    refine view_apply _ _ _ _ _ hr x.isLt ?_ ?_
    · show win0_2.index t 0 * 128 + 1 * i.val = _
      rw [e0]; omega
    · show win0_2.index t 1 * 1024 + 1 * x.val = _
      rw [e1]; omega
  vc i x := by
    obtain ⟨⟨hr, -⟩, -, -, -, ⟨e0, e1⟩, -⟩ := idx_facts t
    show V m c main_v2 ((win0_3.rect t).idx (ValueIdx.ix2 i x)) = _
    entry_read
    refine view_apply _ _ _ _ _ hr x.isLt ?_ ?_
    · show win0_3.index t 0 * 128 + 1 * i.val = _
      rw [e0]; omega
    · show win0_3.index t 1 * 1024 + 1 * x.val = _
      rw [e1]; omega
  vp i x := by
    obtain ⟨⟨hr, -⟩, -, -, -, -, ⟨e0, e1⟩, -⟩ := idx_facts t
    show V m c main_v2 ((win0_4.rect t).idx (ValueIdx.ix2 i x)) = _
    entry_read
    refine view_apply _ _ _ _ _ hr x.isLt ?_ ?_
    · show win0_4.index t 0 * 128 + 1 * i.val = _
      rw [e0]; omega
    · show win0_4.index t 1 * 1024 + 1 * x.val = _
      rw [e1]; omega

/-- The named factor is 1 / log 2. -/
theorem inv_ln2 : Named.named (F := Ideal) κ "inv_ln2" (φ := .f32) 0x3FB8AA3B#32 = (((Real.log 2)⁻¹ : ℝ) : EReal) :=
  IdealRules.named_const.ideal_named_scalar _ _ _ _ rfl

/-- The attention the kernel leaves, and its logarithms. -/
def out (c : Dev nD) : Buf (Elt Ideal) ((c : Thread nD τ).loc main_v3_0) := fun i => Dil.outK 4 (q m c) (k m c) (v m c) (i 0).val (i 1).val
def lse (c : Dev nD) : Buf (Elt Ideal) ((c : Thread nD τ).loc main_v3_1) := fun i => Dil.lseK 4 (q m c) (k m c) (v m c) (i 0).val (i 1).val

/-- What a point writes back is its block of the attention, -/
theorem flushed5_eq (c : Dev nD) (t : Fin cfg0.N) :
    (dats m 0 c).flushed 5 t = ((cfg0.win 5).blk t).view.read (Elt Ideal) (out m c) := by
  rw [Value.flushed5, out5_eq]
  obtain ⟨⟨hr, hc⟩, -, -, -, -, -, ⟨e0, e1⟩, -⟩ := idx_facts t
  funext i
  show View.canon (Val := Elt Ideal) _ i = out m c ((win0_5.rect t).idx i)
  rw [ValueIdx.eq_ix2 (n0 := 128) (n1 := 1024) i]
  refine Dil.Block.pieces_apply (blocks m c t) (by omega) _ _ _ _ ?_ ?_
  · show win0_5.index t 0 * 128 + 1 * (i 0).val = _
    rw [e0]; show _ = 128 * (grid0.coords t 1).val + (i 0).val; omega
  · show win0_5.index t 1 * 1024 + 1 * (i 1).val = _
    rw [e1]; show _ = 1024 * (grid0.coords t 0).val + (i 1).val; omega

/-- and of the logarithms. -/
theorem flushed6_eq (c : Dev nD) (t : Fin cfg0.N) :
    (dats m 0 c).flushed 6 t = ((cfg0.win 6).blk t).view.read (Elt Ideal) (lse m c) := by
  rw [Value.flushed6, out6_eq]
  obtain ⟨⟨hr, hc⟩, -, -, -, -, -, -, ⟨e0, e1⟩⟩ := idx_facts t
  funext i
  show Dil.Block.lses (F := Ideal) _ _ _ _ _ i = lse m c ((win0_6.rect t).idx i)
  rw [ValueIdx.eq_ix2 (n0 := 128) (n1 := 128) i]
  refine Dil.Block.lses_apply (blocks m c t) (by omega) _ inv_ln2 _ _ _ _ ?_ ?_
  · show win0_6.index t 0 * 128 + 1 * (i 0).val = _
    rw [e0]; show _ = 128 * (grid0.coords t 1).val + (i 0).val; omega
  · show win0_6.index t 1 * 128 + 1 * (i 1).val = _
    rw [e1]; show _ = 128 * (grid0.coords t 0).val + (i 1).val; omega

/-- Every entry of the attention is in the block of a point, -/
theorem cover5 (i : S4096x4096.Idx) : ∃ t : Fin cfg0.N, (cfg0.win 5).flush t = true ∧ i ∈ ((cfg0.win 5).blk t).view.set := by
  have h0 : (i 0 : Nat) < 4096 := (i 0).isLt
  have h1 : (i 1 : Nat) < 4096 := (i 1).isLt
  obtain ⟨t, ht0, ht1⟩ := point ⟨(i 1).val / 1024, by omega⟩ ⟨(i 0).val / 128, by omega⟩
  obtain ⟨-, -, -, -, -, -, ⟨e0, e1⟩, -⟩ := idx_facts t
  refine ⟨t, flush0_5 t, ?_⟩
  show i ∈ ((View.whole main_v3_0).slice (win0_5.rect t)).set
  rw [View.set_slice_whole, Rect.mem_set_unit]
  intro a
  match a with
  | ⟨0, _⟩ =>
    show win0_5.index t 0 * 128 ≤ (i 0).val ∧ (i 0).val < win0_5.index t 0 * 128 + 128
    rw [e0, ht1]; show (i 0).val / 128 * 128 ≤ _ ∧ _ < (i 0).val / 128 * 128 + 128; omega
  | ⟨1, _⟩ =>
    show win0_5.index t 1 * 1024 ≤ (i 1).val ∧ (i 1).val < win0_5.index t 1 * 1024 + 1024
    rw [e1, ht0]; show (i 1).val / 1024 * 1024 ≤ _ ∧ _ < (i 1).val / 1024 * 1024 + 1024; omega

/-- and every entry of the logarithms. -/
theorem cover6 (i : S4096x512.Idx) : ∃ t : Fin cfg0.N, (cfg0.win 6).flush t = true ∧ i ∈ ((cfg0.win 6).blk t).view.set := by
  have h0 : (i 0 : Nat) < 4096 := (i 0).isLt
  have h1 : (i 1 : Nat) < 512 := (i 1).isLt
  obtain ⟨t, ht0, ht1⟩ := point ⟨(i 1).val / 128, by omega⟩ ⟨(i 0).val / 128, by omega⟩
  obtain ⟨-, -, -, -, -, -, -, ⟨e0, e1⟩⟩ := idx_facts t
  refine ⟨t, flush0_6 t, ?_⟩
  show i ∈ ((View.whole main_v3_1).slice (win0_6.rect t)).set
  rw [View.set_slice_whole, Rect.mem_set_unit]
  intro a
  match a with
  | ⟨0, _⟩ =>
    show win0_6.index t 0 * 128 ≤ (i 0).val ∧ (i 0).val < win0_6.index t 0 * 128 + 128
    rw [e0, ht1]; show (i 0).val / 128 * 128 ≤ _ ∧ _ < (i 0).val / 128 * 128 + 128; omega
  | ⟨1, _⟩ =>
    show win0_6.index t 1 * 128 ≤ (i 1).val ∧ (i 1).val < win0_6.index t 1 * 128 + 128
    rw [e1, ht0]; show (i 1).val / 128 * 128 ≤ _ ∧ _ < (i 1).val / 128 * 128 + 128; omega

/-- The run: the two results at the kernel's formulas, the arguments unchanged. -/
theorem run : θ_run defs (onTc (τ := τ) (main (F := Ideal))) ⟨m, fun _ => 0, ρ⟩ fun r => ∀ c : Dev nD,
      r.2.mem ((c : Thread nD τ).loc main_v3_0) = out m c
      ∧ r.2.mem ((c : Thread nD τ).loc main_v3_1) = lse m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c).1.trans ((dats m 0 c).arrAt_eq_of_cover 5 (out m c) (fun t _ => flushed5_eq m c t) cover5),
      (h c).2.1.trans ((dats m 0 c).arrAt_eq_of_cover 6 (lse m c) (fun t _ => flushed6_eq m c t) cover6), (h c).2.2⟩)
    (Value.run_blocks m ρ)

end Cert.DilfourIdeal.RefValue

end
-- ==== Proof.DilR4.lean ====
/-
  What the reference of dilation four computes: its two results at every index.
-/
module

public import proofs.«01_k».proof.Proof.DilRef
public import proofs.«01_k».proof.Proof.Gen.ReffourIdeal.Run
public import proofs.«01_k».proof.Proof.Gen.ReffourIdeal.Read

@[expose] public section

set_option maxRecDepth 65536

noncomputable section

namespace Cert.ReffourIdeal.RefValue

open Cert.ReffourIdeal Cert.ReffourIdeal.Gen Cert.ReffourIdeal.Read Idealize.ShloMosaic Idealize.ShloMosaic.TcCoe Idealize.SL.Sem

/-- An argument array. -/
abbrev Arg : Type := (⟨S16384x1024, .bf16⟩ : BufTy).Contents (Elt Ideal)

variable (x x0 x1 x2 : Arg)

/-! ## The arguments by residue, chunk, position, head and coordinate -/

/-- The queries (and, before the padding, the keys and values). -/
theorem v4_apply (i : S4x32x128x16x64.Idx) :
    val_main_v4 (F := Ideal) x i = Dil.arr x ((128 * (i 1).val + (i 2).val) * 4 + (i 0).val) (64 * (i 3).val + (i 4).val) := by
  have h0 : (i 0).val < 4 := (i 0).isLt
  have h1 : (i 1).val < 32 := (i 1).isLt
  have h2 : (i 2).val < 128 := (i 2).isLt
  have h3 : (i 3).val < 16 := (i 3).isLt
  have h4 : (i 4).val < 64 := (i 4).isLt
  rw [val_main_v4_apply, val_main_v3_apply, val_main_v2_apply]
  have e0 : (idx_main_v4 i 0).val = (i 0).val := by show _ / _ = _; omega
  have e1 : (idx_main_v4 i 1).val = 128 * (i 1).val + (i 2).val := by show _ / _ % _ = _; omega
  have e2 : (idx_main_v4 i 2).val = (i 3).val := by show _ / _ % _ = _; omega
  have e3 : (idx_main_v4 i 3).val = (i 4).val := by show _ % _ = _; omega
  refine Dil.arr_of x _ _ _ ?_ ?_
  · show ((((idx_main_v4 i 1).val * 4 + (idx_main_v4 i 0).val) * 16 + (idx_main_v4 i 2).val) * 64 + (idx_main_v4 i 3).val) / 1024 = _
    rw [e0, e1, e2, e3]; omega
  · show ((((idx_main_v4 i 1).val * 4 + (idx_main_v4 i 0).val) * 16 + (idx_main_v4 i 2).val) * 64 + (idx_main_v4 i 3).val) % 1024 = _
    rw [e0, e1, e2, e3]; omega

/-- The chunks with one of zeros before the first. -/
theorem v9_apply (i : S4x33x128x16x64.Idx) :
    val_main_v9 (F := Ideal) x i = if (i 1).val = 0 then 0 else
      Dil.arr x ((128 * ((i 1).val - 1) + (i 2).val) * 4 + (i 0).val) (64 * (i 3).val + (i 4).val) := by
  have h1 : (i 1).val < 33 := (i 1).isLt
  unfold val_main_v9
  by_cases h : (i 1).val = 0
  · rw [if_pos h]
    refine (pad_apply_of_not_inside _ _ _ _ _ _ _ i (1 : Fin 5) (fun hin => ?_)).trans Dil.Ref.pad_zero
    have := hin.1
    change 1 ≤ (i 1).val at this
    omega
  · rw [if_neg h]
    refine (pad_apply_of_inside _ _ _ _ _ _ _ i (ValueIdx.ix5 (i 0) ⟨(i 1).val - 1, by omega⟩ (i 2) (i 3) (i 4)) (fun a => ?_)).trans
      (v4_apply x (ValueIdx.ix5 (i 0) ⟨(i 1).val - 1, by omega⟩ (i 2) (i 3) (i 4)))
    match a with
    | ⟨0, _⟩ => show (i 0).val = 0 + (i 0).val * 1; omega
    | ⟨1, _⟩ => show (i 1).val = 1 + ((i 1).val - 1) * 1; omega
    | ⟨2, _⟩ => show (i 2).val = 0 + (i 2).val * 1; omega
    | ⟨3, _⟩ => show (i 3).val = 0 + (i 3).val * 1; omega
    | ⟨4, _⟩ => show (i 4).val = 0 + (i 4).val * 1; omega

/-- The windows of keys: the chunk before and the chunk. -/
theorem v11_apply (i : S4x32x256x16x64.Idx) :
    val_main_v11 (F := Ideal) x i = Dil.win 4 (Dil.arr x) (i 0).val (i 1).val (i 3).val (i 2) (i 4) := by
  have h1 : (i 1).val < 32 := (i 1).isLt
  have h2 : (i 2).val < 256 := (i 2).isLt
  unfold val_main_v11 Dil.win
  by_cases h : (i 2).val < 128
  · rw [if_pos h]
    refine (concatenate_pair_apply_left (s₁ := S4x32x128x16x64) _ _ _ _ i rfl (ValueIdx.ix5 (n2 := 128) (i 0) (i 1) ⟨(i 2).val, h⟩ (i 3) (i 4)) (fun b => ?_)).trans ?_
    · match b with
      | ⟨0, _⟩ => rfl
      | ⟨1, _⟩ => rfl
      | ⟨2, _⟩ => rfl
      | ⟨3, _⟩ => rfl
      | ⟨4, _⟩ => rfl
    · rw [val_main_v10_apply]
      exact v9_apply x _
  · rw [if_neg h]
    refine (concatenate_pair_apply_right (s₁ := S4x32x128x16x64) (s₂ := S4x32x128x16x64) _ _ _ _ i rfl rfl (ValueIdx.ix5 (n2 := 128) (i 0) (i 1) ⟨(i 2).val - 128, by omega⟩ (i 3) (i 4))
      (fun b hb => ?_) ?_).trans ?_
    · match b with
      | ⟨0, _⟩ => rfl
      | ⟨1, _⟩ => rfl
      | ⟨2, _⟩ => exact absurd rfl hb
      | ⟨3, _⟩ => rfl
      | ⟨4, _⟩ => rfl
    · show (i 2).val - 128 + 128 = (i 2).val
      omega
    · exact v4_apply x _

/-- The windows of values are made in the same way. -/
theorem v18_apply (i : S4x32x256x16x64.Idx) :
    val_main_v18 (F := Ideal) x i = Dil.win 4 (Dil.arr x) (i 0).val (i 1).val (i 3).val (i 2) (i 4) :=
  (show val_main_v18 (F := Ideal) x i = val_main_v11 (F := Ideal) x i from rfl).trans (v11_apply x i)

/-! ## The scores -/

/-- The mask at a chunk, a query and a key. -/
theorem mask_apply (i : S4x32x16x128x256.Idx) :
    val_main_call2_v1 (F := Ideal) i
      = BitVec.ofBool (decide ((i 4).val ≤ (i 3).val + 128 ∧ (i 3).val ≤ (i 4).val ∧ (128 ≤ (i 4).val ∨ 0 < (i 1).val))) := by
  have h1 : (i 1).val < 32 := (i 1).isLt
  rw [← Dil.Ref.mask (i 1).val (i 3).val (i 4).val (by omega) (i 3).isLt (i 4).isLt]
  simp only [val_main_call2_v1_apply, val_main_v51_apply, val_main_v50_apply, val_main_v48_apply, val_main_v46_apply,
    val_main_v35_apply, val_main_v32_apply, val_main_v34_apply, val_main_v30_apply, val_main_v31_apply, val_main_v33_apply,
    val_main_v28_apply, val_main_v29_apply, val_main_v27_apply, val_main_v23_apply, val_main_v22_apply, val_main_v26_apply,
    val_main_v25_apply, val_main_v24_apply, val_main_v49_apply, val_main_v47_apply, val_main_v45_apply, val_main_v43_apply,
    val_main_v39_apply, val_main_v38_apply, val_main_v36_apply, val_main_v37_apply, val_main_v44_apply, val_main_v42_apply,
    val_main_v41_apply, val_main_v40_apply, val_main_c_1_apply, val_main_c_2_apply, val_main_c_3_apply, val_main_c_4_apply,
    val_main_c_5_apply]

variable (v : Nat → Nat → EReal)

/-- The head of an index. -/
abbrev H (r c h : Nat) : Dil.Head := Dil.headOf 4 (Dil.arr x0) (Dil.arr x1) v r c h
/-- Its keys. -/
abbrev K (r c h : Nat) : Fin 256 → Fin 64 → EReal := Dil.win 4 (Dil.arr x1) r c h

/-- The masked scores. -/
theorem v52_apply (i : S4x32x16x128x256.Idx) :
    val_main_v52 (F := Ideal) x0 x1 i
      = (H x0 x1 v (i 0).val (i 1).val (i 2).val).rS (K x1 (i 0).val (i 1).val (i 2).val) (i 3) (i 4) := by
  rw [val_main_v52_apply, mask_apply, WordCmp.select_ofBool]
  by_cases h : (i 4).val ≤ (i 3).val + 128 ∧ (i 3).val ≤ (i 4).val ∧ (128 ≤ (i 4).val ∨ 0 < (i 1).val)
  · rw [if_pos (by simpa using h), val_main_v21_apply, val_main_v20_apply, val_main_v0_apply, val_main_v19_apply]
    refine Eq.trans ?_ (Dil.Ref.rS_pos h).symm
    refine congrArg₂ (fun a b : EReal => a * b) (Finset.sum_congr rfl fun d _ => ?_) Dil.Ref.log_two
    rw [v4_apply, v11_apply]
    rfl
  · rw [if_neg (by simpa using h), val_main_call2_v2_apply, val_main_call2_v0_apply]
    exact Eq.trans Dil.Block.ofBits_neg_inf (Dil.Ref.rS_neg h).symm

/-- The largest score of a query. -/
theorem v53_apply (i : S4x32x16x128.Idx) :
    val_main_v53 (F := Ideal) x0 x1 i
      = (H x0 x1 v (i 0).val (i 1).val (i 2).val).rM (K x1 (i 0).val (i 1).val (i 2).val) (i 3) := by
  have red : S4x32x16x128x256.Reduces [(4 : Fin 5)] S4x32x16x128 := by decide
  have h52 := v52_apply x0 x1 v
  unfold val_main_v53 val_main_cst_7
  generalize val_main_v52 (F := Ideal) x0 x1 = y at h52
  have e := hostReduce_maximumf_eq_multiReduction (F := Ideal) (φ := .f32) (u := S_) y (0xFF800000#32 : BitVec (FTy.bits .f32))
    reducesTo_S4x32x16x128x256_S4x32x16x128_d4 h_S_ red (.inl rfl) rfl
  refine (congrFun e i).trans ?_
  refine (Ideal.multiReduction_maximumf_single (a := 4) _ _ red (.inl rfl) rfl i).trans ?_
  rw [show (FloatOps.ofBits .f32 (FKind.maximumf.neutral .f32 (.inl rfl)) : Ideal .f32) = ⊥ from Dil.Block.ofBits_neg_inf]
  unfold Dil.Head.rM
  refine Finset.fold_congr fun j _ => ?_
  exact h52 (red.lift i j)

/-- The exponentials. -/
theorem v57_apply (i : S4x32x16x128x256.Idx) :
    val_main_v57 (F := Ideal) x0 x1 i
      = (H x0 x1 v (i 0).val (i 1).val (i 2).val).rE (K x1 (i 0).val (i 1).val (i 2).val) (i 3) (i 4) := by
  rw [val_main_v57_apply, val_main_v56_apply, val_main_v55_apply, val_main_v54_apply, v52_apply x0 x1 v, v53_apply x0 x1 v]
  rfl

/-- Their sum. -/
theorem v58_apply (i : S4x32x16x128.Idx) :
    val_main_v58 (F := Ideal) x0 x1 i
      = (H x0 x1 v (i 0).val (i 1).val (i 2).val).rD (K x1 (i 0).val (i 1).val (i 2).val) (i 3) := by
  rw [val_main_v58_apply, val_main_cst_8_apply, Dil.Block.ofBits_zero, zero_add]
  unfold Dil.Head.rD
  refine Finset.sum_congr rfl fun j _ => ?_
  rw [v57_apply x0 x1 v]
  rfl

/-! ## The two results -/

/-- The attention by residue, chunk, position, head and coordinate. -/
theorem v64_apply (i : S4x32x128x16x64.Idx) :
    val_main_v64 (F := Ideal) x0 x1 x2 i
      = (H x0 x1 v (i 0).val (i 1).val (i 3).val).rO (K x1 (i 0).val (i 1).val (i 3).val)
          (Dil.win 4 (Dil.arr x2) (i 0).val (i 1).val (i 3).val) (i 2) (i 4) := by
  rw [val_main_v64_apply, val_main_v63_apply, val_main_v62_apply, val_main_v61_apply, v58_apply x0 x1 v, val_main_v60_apply,
    val_main_v59_apply]
  unfold Dil.Head.rO
  refine congrArg₂ Ideal.div (Finset.sum_congr rfl fun j _ => ?_) rfl
  rw [v18_apply, v57_apply x0 x1 v]
  rfl

/-- The same at an index whose coordinates are known. -/
theorem v64_at (i : S4x32x128x16x64.Idx) (r c h : Nat) (p : Fin 128) (d : Fin 64) (e0 : (i 0).val = r) (e1 : (i 1).val = c)
    (e2 : (i 2).val = p.val) (e3 : (i 3).val = h) (e4 : (i 4).val = d.val) :
    val_main_v64 (F := Ideal) x0 x1 x2 i = (H x0 x1 v r c h).rO (K x1 r c h) (Dil.win 4 (Dil.arr x2) r c h) p d := by
  subst e0 e1 e3
  obtain rfl : i 2 = p := Fin.ext e2
  obtain rfl : i 4 = d := Fin.ext e4
  exact v64_apply x0 x1 x2 v i

/-- The first result. -/
theorem v71_apply (i : S4096x4096.Idx) :
    val_main_v71 (F := Ideal) x0 x1 x2 i = Dil.outR 4 (Dil.arr x0) (Dil.arr x1) (Dil.arr x2) (i 0).val (i 1).val := by
  have h0 : (i 0).val < 4096 := (i 0).isLt
  have h1 : (i 1).val < 4096 := (i 1).isLt
  rw [val_main_v71_apply, val_main_v70_apply, val_main_v69_apply]
  have f0 : (idx_main_v71 i 0).val = (i 0).val := by show _ / _ = _; omega
  have f1 : (idx_main_v71 i 1).val = (i 1).val / 1024 := by show _ / _ % _ = _; omega
  have f2 : (idx_main_v71 i 2).val = (i 1).val % 1024 := by show _ % _ = _; omega
  generalize idx_main_v71 i = j at f0 f1 f2
  refine v64_at x0 x1 x2 _ _ _ _ _ _ _ ?_ ?_ ?_ ?_ ?_
  · show (((j 1).val * 4096 + (j 0).val) * 1024 + (j 2).val) / _ = _; rw [f0, f1, f2]; omega
  · show (((j 1).val * 4096 + (j 0).val) * 1024 + (j 2).val) / _ % _ = _; rw [f0, f1, f2]; omega
  · show (((j 1).val * 4096 + (j 0).val) * 1024 + (j 2).val) / _ % _ = (i 0).val % 128; rw [f0, f1, f2]; omega
  · show (((j 1).val * 4096 + (j 0).val) * 1024 + (j 2).val) / _ % _ = _; rw [f0, f1, f2]; omega
  · show (((j 1).val * 4096 + (j 0).val) * 1024 + (j 2).val) % _ = (i 1).val % 64; rw [f0, f1, f2]; omega

/-- The logarithms by residue, chunk, position and head. -/
theorem v73_apply (i : S4x32x128x16.Idx) :
    val_main_v73 (F := Ideal) x0 x1 i
      = (H x0 x1 v (i 0).val (i 1).val (i 3).val).rL (K x1 (i 0).val (i 1).val (i 3).val) (i 2) := by
  have h0 : (i 0).val < 4 := (i 0).isLt
  have h1 : (i 1).val < 32 := (i 1).isLt
  have h2 : (i 2).val < 128 := (i 2).isLt
  have h3 : (i 3).val < 16 := (i 3).isLt
  rw [val_main_v73_apply, val_main_v72_apply, val_main_v0_apply, val_main_v68_apply, val_main_v67_apply, val_main_v66_apply,
    v58_apply x0 x1 v, val_main_v65_apply, val_main_v54_apply]
  have e : idx_main_v54 (idx_main_v65 (idx_main_v68 i)) = idx_main_v68 i := funext fun a => Fin.ext (by
    match a with
    | ⟨0, _⟩ => show ((((i 0).val * 32 + (i 1).val) * 16 + (i 3).val) * 128 + (i 2).val) / _ = (i 0).val; omega
    | ⟨1, _⟩ => show ((((i 0).val * 32 + (i 1).val) * 16 + (i 3).val) * 128 + (i 2).val) / _ % _ = (i 1).val; omega
    | ⟨2, _⟩ => show ((((i 0).val * 32 + (i 1).val) * 16 + (i 3).val) * 128 + (i 2).val) / _ % _ = (i 3).val; omega
    | ⟨3, _⟩ => show ((((i 0).val * 32 + (i 1).val) * 16 + (i 3).val) * 128 + (i 2).val) / _ % _ = (i 2).val; omega)
  rw [e, v53_apply x0 x1 v]
  unfold Dil.Head.rL
  exact congrArg₂ Ideal.div rfl Dil.Ref.log_two

/-- The same with zeros in the lanes past the heads. -/
theorem v74_apply (i : S4x32x128x128.Idx) :
    val_main_v74 (F := Ideal) x0 x1 i
      = if (i 3).val < 16 then (H x0 x1 v (i 0).val (i 1).val (i 3).val).rL (K x1 (i 0).val (i 1).val (i 3).val) (i 2) else 0 := by
  unfold val_main_v74
  by_cases h : (i 3).val < 16
  · rw [if_pos h]
    refine (pad_apply_of_inside _ _ _ _ _ _ _ i (ValueIdx.ix4 (i 0) (i 1) (i 2) ⟨(i 3).val, h⟩) (fun a => ?_)).trans
      (v73_apply x0 x1 v (ValueIdx.ix4 (i 0) (i 1) (i 2) ⟨(i 3).val, h⟩))
    match a with
    | ⟨0, _⟩ => show (i 0).val = 0 + (i 0).val * 1; omega
    | ⟨1, _⟩ => show (i 1).val = 0 + (i 1).val * 1; omega
    | ⟨2, _⟩ => show (i 2).val = 0 + (i 2).val * 1; omega
    | ⟨3, _⟩ => show (i 3).val = 0 + (i 3).val * 1; omega
  · rw [if_neg h]
    refine (pad_apply_of_not_inside _ _ _ _ _ _ _ i (3 : Fin 4) (fun hin => ?_)).trans Dil.Ref.pad_zero
    have := hin.2.2
    change ((i 3).val - 0) / 1 < 16 at this
    omega

/-- The same at an index whose coordinates are known. -/
theorem v74_at (i : S4x32x128x128.Idx) (r c h : Nat) (p : Fin 128) (e0 : (i 0).val = r) (e1 : (i 1).val = c)
    (e2 : (i 2).val = p.val) (e3 : (i 3).val = h) :
    val_main_v74 (F := Ideal) x0 x1 i = if h < 16 then (H x0 x1 v r c h).rL (K x1 r c h) p else 0 := by
  subst e0 e1 e3
  obtain rfl : i 2 = p := Fin.ext e2
  exact v74_apply x0 x1 v i

/-- The second result. -/
theorem v77_apply (i : S4096x512.Idx) :
    val_main_v77 (F := Ideal) x0 x1 i = Dil.lseR 4 (Dil.arr x0) (Dil.arr x1) v (i 0).val (i 1).val := by
  have h0 : (i 0).val < 4096 := (i 0).isLt
  have h1 : (i 1).val < 512 := (i 1).isLt
  rw [val_main_v77_apply, val_main_v76_apply, val_main_v75_apply]
  have f0 : (idx_main_v77 i 0).val = (i 0).val := by show _ / _ = _; omega
  have f1 : (idx_main_v77 i 1).val = (i 1).val / 128 := by show _ / _ % _ = _; omega
  have f2 : (idx_main_v77 i 2).val = (i 1).val % 128 := by show _ % _ = _; omega
  generalize idx_main_v77 i = j at f0 f1 f2
  refine v74_at x0 x1 v _ _ _ _ _ ?_ ?_ ?_ ?_
  · show (((j 1).val * 4096 + (j 0).val) * 128 + (j 2).val) / _ = _; rw [f0, f1, f2]; omega
  · show (((j 1).val * 4096 + (j 0).val) * 128 + (j 2).val) / _ % _ = _; rw [f0, f1, f2]; omega
  · show (((j 1).val * 4096 + (j 0).val) * 128 + (j 2).val) / _ % _ = (i 0).val % 128; rw [f0, f1, f2]; omega
  · show (((j 1).val * 4096 + (j 0).val) * 128 + (j 2).val) % _ = _; rw [f0, f1, f2]; omega

end Cert.ReffourIdeal.RefValue

end
-- ==== Proof.DilK16.lean ====
/-
  What the kernel of dilation sixteen computes: its two result arrays at every index.
-/
module

public import proofs.«01_k».proof.Proof.DilArray
public import proofs.«01_k».proof.Proof.Gen.DilsixteenIdeal.Value
public import Idealize.ShloMosaic.Lib.Pipeline.Value
public import Idealize.ShloMosaic.Lib.Claim

@[expose] public section

set_option maxRecDepth 65536

noncomputable section

namespace Cert.DilsixteenIdeal.RefValue

open Cert.DilsixteenIdeal Cert.DilsixteenIdeal.Gen Idealize.ShloMosaic Idealize.ShloMosaic.TcCoe Idealize.SL.Sem
open Idealize.ShloMosaic.Pipeline (Dat)

section Any
variable {F : FTy → Type} [FloatOps F] [Named F]

/-- The block of attentions a point stores is the sixteen heads' side by side. -/
theorem out5_eq (i : grid0.Coords) (x0 x1 x2 x3 x4 : Vec F S128x1024 .bf16) :
    out0_5 i x0 x1 x2 x3 x4 = View.canon (Dil.Block.pieces (BitVec.ofNat 32 (i 1)) x0 x1 x2 x3 x4) := by
  unfold_out out0_5
  rfl

theorem hz : (![0, 0] : Fin 2 → Nat) = fun _ => 0 := funext fun a => by fin_cases a <;> rfl

/-- The block of logarithms a point stores is the sixteen heads' columns. -/
theorem out6_eq (i : grid0.Coords) (x0 x1 x2 x3 x4 : Vec F S128x1024 .bf16) :
    out0_6 i x0 x1 x2 x3 x4 = Dil.Block.lses (BitVec.ofNat 32 (i 1)) x0 x1 x2 (Named.named κ "inv_ln2" 0x3FB8AA3B#32) := by
  unfold_out out0_6
  rw [View.canon_unit_zero hz]
  rfl

end Any

variable (m : (ℓ : Loc nD τ sig) → Buf (Elt Ideal) ℓ) (ρ : Dev nD → PrngReg)

/-- The residue and the chunk of a point, and the places of its blocks. -/
theorem idx_facts : ∀ t : Fin cfg0.N,
    ((grid0.coords t 0).val < 16 ∧ (grid0.coords t 1).val < 8)
    ∧ (win0_0.index t 0 = (grid0.coords t 1).val ∧ win0_0.index t 1 = (grid0.coords t 0).val)
    ∧ (win0_1.index t 0 = (grid0.coords t 1).val ∧ win0_1.index t 1 = (grid0.coords t 0).val)
    ∧ (win0_2.index t 0 = (grid0.coords t 1).val - 1 ∧ win0_2.index t 1 = (grid0.coords t 0).val)
    ∧ (win0_3.index t 0 = (grid0.coords t 1).val ∧ win0_3.index t 1 = (grid0.coords t 0).val)
    ∧ (win0_4.index t 0 = (grid0.coords t 1).val - 1 ∧ win0_4.index t 1 = (grid0.coords t 0).val)
    ∧ (win0_5.index t 0 = (grid0.coords t 1).val ∧ win0_5.index t 1 = (grid0.coords t 0).val)
    ∧ (win0_6.index t 0 = (grid0.coords t 1).val ∧ win0_6.index t 1 = (grid0.coords t 0).val) :=
  (by decide +kernel : ∀ t : Fin grid0.N, _)

/-- Every chunk of every residue has its point. -/
theorem point : ∀ (r : Fin 16) (c : Fin 8), ∃ t : Fin cfg0.N, (grid0.coords t 0).val = r.val ∧ (grid0.coords t 1).val = c.val :=
  (by decide +kernel : ∀ (r : Fin 16) (c : Fin 8), ∃ t : Fin grid0.N, _)

/-- The arguments as functions of row and column. -/
abbrev q (c : Dev nD) : Nat → Nat → EReal := Dil.arr (m ((c : Thread nD τ).loc main_arg0))
abbrev k (c : Dev nD) : Nat → Nat → EReal := Dil.arr (m ((c : Thread nD τ).loc main_arg1))
abbrev v (c : Dev nD) : Nat → Nat → EReal := Dil.arr (m ((c : Thread nD τ).loc main_arg2))

/-- An argument seen with sixteen tokens to a row, read at an index. -/
theorem view_apply (x : (⟨2, ![16384, 1024]⟩ : Shape).Idx → EReal) (n r y : Nat) (i : S1024x16384.Idx) (hr : r < 16) (hy : y < 1024)
    (h0 : (i 0 : Nat) = n) (h1 : (i 1 : Nat) = r * 1024 + y) :
    shapeCast S1024x16384 x shapeCasts_S16384x1024_S1024x16384 i = Dil.arr x (n * 16 + r) y := by
  have hn : (i 0 : Nat) < 1024 := (i 0).isLt
  unfold Dil.arr
  rw [dif_pos ⟨by omega, hy⟩]
  refine shapeCast_apply x _ _ _ ?_
  rewrite [Shape.rowMajor_val_two, Shape.rowMajor_val_two]
  show (n * 16 + r) * 1024 + y = (i 0).val * 16384 + (i 1).val
  omega

/-- The blocks a point reads are those of its chunk and residue. -/
theorem blocks (c : Dev nD) (t : Fin cfg0.N) :
    Dil.Block.Blocks 16 (grid0.coords t 0).val (grid0.coords t 1).val (q m c) (k m c) (v m c)
      (iblk m c 0 t) (iblk m c 1 t) (iblk m c 2 t) (iblk m c 3 t) (iblk m c 4 t) where
  q i x := by
    obtain ⟨⟨hr, -⟩, ⟨e0, e1⟩, -⟩ := idx_facts t
    show V m c main_v0 ((win0_0.rect t).idx (ValueIdx.ix2 i x)) = _
    entry_read
    refine view_apply _ _ _ _ _ hr x.isLt ?_ ?_
    · show win0_0.index t 0 * 128 + 1 * i.val = _
      rw [e0]; omega
    · show win0_0.index t 1 * 1024 + 1 * x.val = _
      rw [e1]; omega
  kc i x := by
    obtain ⟨⟨hr, -⟩, -, ⟨e0, e1⟩, -⟩ := idx_facts t
    show V m c main_v1 ((win0_1.rect t).idx (ValueIdx.ix2 i x)) = _
    entry_read
    refine view_apply _ _ _ _ _ hr x.isLt ?_ ?_
    · show win0_1.index t 0 * 128 + 1 * i.val = _
      rw [e0]; omega
    · show win0_1.index t 1 * 1024 + 1 * x.val = _
      rw [e1]; omega
  kp i x := by
    obtain ⟨⟨hr, -⟩, -, -, ⟨e0, e1⟩, -⟩ := idx_facts t
    show V m c main_v1 ((win0_2.rect t).idx (ValueIdx.ix2 i x)) = _
    entry_read
    refine view_apply _ _ _ _ _ hr x.isLt ?_ ?_
    · show win0_2.index t 0 * 128 + 1 * i.val = _
      rw [e0]; omega
    · show win0_2.index t 1 * 1024 + 1 * x.val = _
      rw [e1]; omega
  vc i x := by
    obtain ⟨⟨hr, -⟩, -, -, -, ⟨e0, e1⟩, -⟩ := idx_facts t
    show V m c main_v2 ((win0_3.rect t).idx (ValueIdx.ix2 i x)) = _
    entry_read
    refine view_apply _ _ _ _ _ hr x.isLt ?_ ?_
    · show win0_3.index t 0 * 128 + 1 * i.val = _
      rw [e0]; omega
    · show win0_3.index t 1 * 1024 + 1 * x.val = _
      rw [e1]; omega
  vp i x := by
    obtain ⟨⟨hr, -⟩, -, -, -, -, ⟨e0, e1⟩, -⟩ := idx_facts t
    show V m c main_v2 ((win0_4.rect t).idx (ValueIdx.ix2 i x)) = _
    entry_read
    refine view_apply _ _ _ _ _ hr x.isLt ?_ ?_
    · show win0_4.index t 0 * 128 + 1 * i.val = _
      rw [e0]; omega
    · show win0_4.index t 1 * 1024 + 1 * x.val = _
      rw [e1]; omega

/-- The named factor is 1 / log 2. -/
theorem inv_ln2 : Named.named (F := Ideal) κ "inv_ln2" (φ := .f32) 0x3FB8AA3B#32 = (((Real.log 2)⁻¹ : ℝ) : EReal) :=
  IdealRules.named_const.ideal_named_scalar _ _ _ _ rfl

/-- The attention the kernel leaves, and its logarithms. -/
def out (c : Dev nD) : Buf (Elt Ideal) ((c : Thread nD τ).loc main_v3_0) := fun i => Dil.outK 16 (q m c) (k m c) (v m c) (i 0).val (i 1).val
def lse (c : Dev nD) : Buf (Elt Ideal) ((c : Thread nD τ).loc main_v3_1) := fun i => Dil.lseK 16 (q m c) (k m c) (v m c) (i 0).val (i 1).val

/-- What a point writes back is its block of the attention, -/
theorem flushed5_eq (c : Dev nD) (t : Fin cfg0.N) :
    (dats m 0 c).flushed 5 t = ((cfg0.win 5).blk t).view.read (Elt Ideal) (out m c) := by
  rw [Value.flushed5, out5_eq]
  obtain ⟨⟨hr, hc⟩, -, -, -, -, -, ⟨e0, e1⟩, -⟩ := idx_facts t
  funext i
  show View.canon (Val := Elt Ideal) _ i = out m c ((win0_5.rect t).idx i)
  rw [ValueIdx.eq_ix2 (n0 := 128) (n1 := 1024) i]
  refine Dil.Block.pieces_apply (blocks m c t) (by omega) _ _ _ _ ?_ ?_
  · show win0_5.index t 0 * 128 + 1 * (i 0).val = _
    rw [e0]; show _ = 128 * (grid0.coords t 1).val + (i 0).val; omega
  · show win0_5.index t 1 * 1024 + 1 * (i 1).val = _
    rw [e1]; show _ = 1024 * (grid0.coords t 0).val + (i 1).val; omega

/-- and of the logarithms. -/
theorem flushed6_eq (c : Dev nD) (t : Fin cfg0.N) :
    (dats m 0 c).flushed 6 t = ((cfg0.win 6).blk t).view.read (Elt Ideal) (lse m c) := by
  rw [Value.flushed6, out6_eq]
  obtain ⟨⟨hr, hc⟩, -, -, -, -, -, -, ⟨e0, e1⟩⟩ := idx_facts t
  funext i
  show Dil.Block.lses (F := Ideal) _ _ _ _ _ i = lse m c ((win0_6.rect t).idx i)
  rw [ValueIdx.eq_ix2 (n0 := 128) (n1 := 128) i]
  refine Dil.Block.lses_apply (blocks m c t) (by omega) _ inv_ln2 _ _ _ _ ?_ ?_
  · show win0_6.index t 0 * 128 + 1 * (i 0).val = _
    rw [e0]; show _ = 128 * (grid0.coords t 1).val + (i 0).val; omega
  · show win0_6.index t 1 * 128 + 1 * (i 1).val = _
    rw [e1]; show _ = 128 * (grid0.coords t 0).val + (i 1).val; omega

/-- Every entry of the attention is in the block of a point, -/
theorem cover5 (i : S1024x16384.Idx) : ∃ t : Fin cfg0.N, (cfg0.win 5).flush t = true ∧ i ∈ ((cfg0.win 5).blk t).view.set := by
  have h0 : (i 0 : Nat) < 1024 := (i 0).isLt
  have h1 : (i 1 : Nat) < 16384 := (i 1).isLt
  obtain ⟨t, ht0, ht1⟩ := point ⟨(i 1).val / 1024, by omega⟩ ⟨(i 0).val / 128, by omega⟩
  obtain ⟨-, -, -, -, -, -, ⟨e0, e1⟩, -⟩ := idx_facts t
  refine ⟨t, flush0_5 t, ?_⟩
  show i ∈ ((View.whole main_v3_0).slice (win0_5.rect t)).set
  rw [View.set_slice_whole, Rect.mem_set_unit]
  intro a
  match a with
  | ⟨0, _⟩ =>
    show win0_5.index t 0 * 128 ≤ (i 0).val ∧ (i 0).val < win0_5.index t 0 * 128 + 128
    rw [e0, ht1]; show (i 0).val / 128 * 128 ≤ _ ∧ _ < (i 0).val / 128 * 128 + 128; omega
  | ⟨1, _⟩ =>
    show win0_5.index t 1 * 1024 ≤ (i 1).val ∧ (i 1).val < win0_5.index t 1 * 1024 + 1024
    rw [e1, ht0]; show (i 1).val / 1024 * 1024 ≤ _ ∧ _ < (i 1).val / 1024 * 1024 + 1024; omega

/-- and every entry of the logarithms. -/
theorem cover6 (i : S1024x2048.Idx) : ∃ t : Fin cfg0.N, (cfg0.win 6).flush t = true ∧ i ∈ ((cfg0.win 6).blk t).view.set := by
  have h0 : (i 0 : Nat) < 1024 := (i 0).isLt
  have h1 : (i 1 : Nat) < 2048 := (i 1).isLt
  obtain ⟨t, ht0, ht1⟩ := point ⟨(i 1).val / 128, by omega⟩ ⟨(i 0).val / 128, by omega⟩
  obtain ⟨-, -, -, -, -, -, -, ⟨e0, e1⟩⟩ := idx_facts t
  refine ⟨t, flush0_6 t, ?_⟩
  show i ∈ ((View.whole main_v3_1).slice (win0_6.rect t)).set
  rw [View.set_slice_whole, Rect.mem_set_unit]
  intro a
  match a with
  | ⟨0, _⟩ =>
    show win0_6.index t 0 * 128 ≤ (i 0).val ∧ (i 0).val < win0_6.index t 0 * 128 + 128
    rw [e0, ht1]; show (i 0).val / 128 * 128 ≤ _ ∧ _ < (i 0).val / 128 * 128 + 128; omega
  | ⟨1, _⟩ =>
    show win0_6.index t 1 * 128 ≤ (i 1).val ∧ (i 1).val < win0_6.index t 1 * 128 + 128
    rw [e1, ht0]; show (i 1).val / 128 * 128 ≤ _ ∧ _ < (i 1).val / 128 * 128 + 128; omega

/-- The run: the two results at the kernel's formulas, the arguments unchanged. -/
theorem run : θ_run defs (onTc (τ := τ) (main (F := Ideal))) ⟨m, fun _ => 0, ρ⟩ fun r => ∀ c : Dev nD,
      r.2.mem ((c : Thread nD τ).loc main_v3_0) = out m c
      ∧ r.2.mem ((c : Thread nD τ).loc main_v3_1) = lse m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c).1.trans ((dats m 0 c).arrAt_eq_of_cover 5 (out m c) (fun t _ => flushed5_eq m c t) cover5),
      (h c).2.1.trans ((dats m 0 c).arrAt_eq_of_cover 6 (lse m c) (fun t _ => flushed6_eq m c t) cover6), (h c).2.2⟩)
    (Value.run_blocks m ρ)

end Cert.DilsixteenIdeal.RefValue

end
-- ==== Proof.DilR16.lean ====
/-
  What the reference of dilation sixteen computes: its two results at every index.
-/
module

public import proofs.«01_k».proof.Proof.DilRef
public import proofs.«01_k».proof.Proof.Gen.RefsixteenIdeal.Run
public import proofs.«01_k».proof.Proof.Gen.RefsixteenIdeal.Read

@[expose] public section

set_option maxRecDepth 65536

noncomputable section

namespace Cert.RefsixteenIdeal.RefValue

open Cert.RefsixteenIdeal Cert.RefsixteenIdeal.Gen Cert.RefsixteenIdeal.Read Idealize.ShloMosaic Idealize.ShloMosaic.TcCoe Idealize.SL.Sem

/-- An argument array. -/
abbrev Arg : Type := (⟨S16384x1024, .bf16⟩ : BufTy).Contents (Elt Ideal)

variable (x x0 x1 x2 : Arg)

/-! ## The arguments by residue, chunk, position, head and coordinate -/

/-- The queries (and, before the padding, the keys and values). -/
theorem v4_apply (i : S16x8x128x16x64.Idx) :
    val_main_v4 (F := Ideal) x i = Dil.arr x ((128 * (i 1).val + (i 2).val) * 16 + (i 0).val) (64 * (i 3).val + (i 4).val) := by
  have h0 : (i 0).val < 16 := (i 0).isLt
  have h1 : (i 1).val < 8 := (i 1).isLt
  have h2 : (i 2).val < 128 := (i 2).isLt
  have h3 : (i 3).val < 16 := (i 3).isLt
  have h4 : (i 4).val < 64 := (i 4).isLt
  rw [val_main_v4_apply, val_main_v3_apply, val_main_v2_apply]
  have e0 : (idx_main_v4 i 0).val = (i 0).val := by show _ / _ = _; omega
  have e1 : (idx_main_v4 i 1).val = 128 * (i 1).val + (i 2).val := by show _ / _ % _ = _; omega
  have e2 : (idx_main_v4 i 2).val = (i 3).val := by show _ / _ % _ = _; omega
  have e3 : (idx_main_v4 i 3).val = (i 4).val := by show _ % _ = _; omega
  refine Dil.arr_of x _ _ _ ?_ ?_
  · show ((((idx_main_v4 i 1).val * 16 + (idx_main_v4 i 0).val) * 16 + (idx_main_v4 i 2).val) * 64 + (idx_main_v4 i 3).val) / 1024 = _
    rw [e0, e1, e2, e3]; omega
  · show ((((idx_main_v4 i 1).val * 16 + (idx_main_v4 i 0).val) * 16 + (idx_main_v4 i 2).val) * 64 + (idx_main_v4 i 3).val) % 1024 = _
    rw [e0, e1, e2, e3]; omega

/-- The chunks with one of zeros before the first. -/
theorem v9_apply (i : S16x9x128x16x64.Idx) :
    val_main_v9 (F := Ideal) x i = if (i 1).val = 0 then 0 else
      Dil.arr x ((128 * ((i 1).val - 1) + (i 2).val) * 16 + (i 0).val) (64 * (i 3).val + (i 4).val) := by
  have h1 : (i 1).val < 9 := (i 1).isLt
  unfold val_main_v9
  by_cases h : (i 1).val = 0
  · rw [if_pos h]
    refine (pad_apply_of_not_inside _ _ _ _ _ _ _ i (1 : Fin 5) (fun hin => ?_)).trans Dil.Ref.pad_zero
    have := hin.1
    change 1 ≤ (i 1).val at this
    omega
  · rw [if_neg h]
    refine (pad_apply_of_inside _ _ _ _ _ _ _ i (ValueIdx.ix5 (i 0) ⟨(i 1).val - 1, by omega⟩ (i 2) (i 3) (i 4)) (fun a => ?_)).trans
      (v4_apply x (ValueIdx.ix5 (i 0) ⟨(i 1).val - 1, by omega⟩ (i 2) (i 3) (i 4)))
    match a with
    | ⟨0, _⟩ => show (i 0).val = 0 + (i 0).val * 1; omega
    | ⟨1, _⟩ => show (i 1).val = 1 + ((i 1).val - 1) * 1; omega
    | ⟨2, _⟩ => show (i 2).val = 0 + (i 2).val * 1; omega
    | ⟨3, _⟩ => show (i 3).val = 0 + (i 3).val * 1; omega
    | ⟨4, _⟩ => show (i 4).val = 0 + (i 4).val * 1; omega

/-- The windows of keys: the chunk before and the chunk. -/
theorem v11_apply (i : S16x8x256x16x64.Idx) :
    val_main_v11 (F := Ideal) x i = Dil.win 16 (Dil.arr x) (i 0).val (i 1).val (i 3).val (i 2) (i 4) := by
  have h1 : (i 1).val < 8 := (i 1).isLt
  have h2 : (i 2).val < 256 := (i 2).isLt
  unfold val_main_v11 Dil.win
  by_cases h : (i 2).val < 128
  · rw [if_pos h]
    refine (concatenate_pair_apply_left (s₁ := S16x8x128x16x64) _ _ _ _ i rfl (ValueIdx.ix5 (n2 := 128) (i 0) (i 1) ⟨(i 2).val, h⟩ (i 3) (i 4)) (fun b => ?_)).trans ?_
    · match b with
      | ⟨0, _⟩ => rfl
      | ⟨1, _⟩ => rfl
      | ⟨2, _⟩ => rfl
      | ⟨3, _⟩ => rfl
      | ⟨4, _⟩ => rfl
    · rw [val_main_v10_apply]
      exact v9_apply x _
  · rw [if_neg h]
    refine (concatenate_pair_apply_right (s₁ := S16x8x128x16x64) (s₂ := S16x8x128x16x64) _ _ _ _ i rfl rfl (ValueIdx.ix5 (n2 := 128) (i 0) (i 1) ⟨(i 2).val - 128, by omega⟩ (i 3) (i 4))
      (fun b hb => ?_) ?_).trans ?_
    · match b with
      | ⟨0, _⟩ => rfl
      | ⟨1, _⟩ => rfl
      | ⟨2, _⟩ => exact absurd rfl hb
      | ⟨3, _⟩ => rfl
      | ⟨4, _⟩ => rfl
    · show (i 2).val - 128 + 128 = (i 2).val
      omega
    · exact v4_apply x _

/-- The windows of values are made in the same way. -/
theorem v18_apply (i : S16x8x256x16x64.Idx) :
    val_main_v18 (F := Ideal) x i = Dil.win 16 (Dil.arr x) (i 0).val (i 1).val (i 3).val (i 2) (i 4) :=
  (show val_main_v18 (F := Ideal) x i = val_main_v11 (F := Ideal) x i from rfl).trans (v11_apply x i)

/-! ## The scores -/

/-- The mask at a chunk, a query and a key. -/
theorem mask_apply (i : S16x8x16x128x256.Idx) :
    val_main_call2_v1 (F := Ideal) i
      = BitVec.ofBool (decide ((i 4).val ≤ (i 3).val + 128 ∧ (i 3).val ≤ (i 4).val ∧ (128 ≤ (i 4).val ∨ 0 < (i 1).val))) := by
  have h1 : (i 1).val < 8 := (i 1).isLt
  rw [← Dil.Ref.mask (i 1).val (i 3).val (i 4).val (by omega) (i 3).isLt (i 4).isLt]
  simp only [val_main_call2_v1_apply, val_main_v51_apply, val_main_v50_apply, val_main_v48_apply, val_main_v46_apply,
    val_main_v35_apply, val_main_v32_apply, val_main_v34_apply, val_main_v30_apply, val_main_v31_apply, val_main_v33_apply,
    val_main_v28_apply, val_main_v29_apply, val_main_v27_apply, val_main_v23_apply, val_main_v22_apply, val_main_v26_apply,
    val_main_v25_apply, val_main_v24_apply, val_main_v49_apply, val_main_v47_apply, val_main_v45_apply, val_main_v43_apply,
    val_main_v39_apply, val_main_v38_apply, val_main_v36_apply, val_main_v37_apply, val_main_v44_apply, val_main_v42_apply,
    val_main_v41_apply, val_main_v40_apply, val_main_c_1_apply, val_main_c_2_apply, val_main_c_3_apply, val_main_c_4_apply,
    val_main_c_5_apply]

variable (v : Nat → Nat → EReal)

/-- The head of an index. -/
abbrev H (r c h : Nat) : Dil.Head := Dil.headOf 16 (Dil.arr x0) (Dil.arr x1) v r c h
/-- Its keys. -/
abbrev K (r c h : Nat) : Fin 256 → Fin 64 → EReal := Dil.win 16 (Dil.arr x1) r c h

/-- The masked scores. -/
theorem v52_apply (i : S16x8x16x128x256.Idx) :
    val_main_v52 (F := Ideal) x0 x1 i
      = (H x0 x1 v (i 0).val (i 1).val (i 2).val).rS (K x1 (i 0).val (i 1).val (i 2).val) (i 3) (i 4) := by
  rw [val_main_v52_apply, mask_apply, WordCmp.select_ofBool]
  by_cases h : (i 4).val ≤ (i 3).val + 128 ∧ (i 3).val ≤ (i 4).val ∧ (128 ≤ (i 4).val ∨ 0 < (i 1).val)
  · rw [if_pos (by simpa using h), val_main_v21_apply, val_main_v20_apply, val_main_v0_apply, val_main_v19_apply]
    refine Eq.trans ?_ (Dil.Ref.rS_pos h).symm
    refine congrArg₂ (fun a b : EReal => a * b) (Finset.sum_congr rfl fun d _ => ?_) Dil.Ref.log_two
    rw [v4_apply, v11_apply]
    rfl
  · rw [if_neg (by simpa using h), val_main_call2_v2_apply, val_main_call2_v0_apply]
    exact Eq.trans Dil.Block.ofBits_neg_inf (Dil.Ref.rS_neg h).symm

/-- The largest score of a query. -/
theorem v53_apply (i : S16x8x16x128.Idx) :
    val_main_v53 (F := Ideal) x0 x1 i
      = (H x0 x1 v (i 0).val (i 1).val (i 2).val).rM (K x1 (i 0).val (i 1).val (i 2).val) (i 3) := by
  have red : S16x8x16x128x256.Reduces [(4 : Fin 5)] S16x8x16x128 := by decide
  have h52 := v52_apply x0 x1 v
  unfold val_main_v53 val_main_cst_7
  generalize val_main_v52 (F := Ideal) x0 x1 = y at h52
  have e := hostReduce_maximumf_eq_multiReduction (F := Ideal) (φ := .f32) (u := S_) y (0xFF800000#32 : BitVec (FTy.bits .f32))
    reducesTo_S16x8x16x128x256_S16x8x16x128_d4 h_S_ red (.inl rfl) rfl
  refine (congrFun e i).trans ?_
  refine (Ideal.multiReduction_maximumf_single (a := 4) _ _ red (.inl rfl) rfl i).trans ?_
  rw [show (FloatOps.ofBits .f32 (FKind.maximumf.neutral .f32 (.inl rfl)) : Ideal .f32) = ⊥ from Dil.Block.ofBits_neg_inf]
  unfold Dil.Head.rM
  refine Finset.fold_congr fun j _ => ?_
  exact h52 (red.lift i j)

/-- The exponentials. -/
theorem v57_apply (i : S16x8x16x128x256.Idx) :
    val_main_v57 (F := Ideal) x0 x1 i
      = (H x0 x1 v (i 0).val (i 1).val (i 2).val).rE (K x1 (i 0).val (i 1).val (i 2).val) (i 3) (i 4) := by
  rw [val_main_v57_apply, val_main_v56_apply, val_main_v55_apply, val_main_v54_apply, v52_apply x0 x1 v, v53_apply x0 x1 v]
  rfl

/-- Their sum. -/
theorem v58_apply (i : S16x8x16x128.Idx) :
    val_main_v58 (F := Ideal) x0 x1 i
      = (H x0 x1 v (i 0).val (i 1).val (i 2).val).rD (K x1 (i 0).val (i 1).val (i 2).val) (i 3) := by
  rw [val_main_v58_apply, val_main_cst_8_apply, Dil.Block.ofBits_zero, zero_add]
  unfold Dil.Head.rD
  refine Finset.sum_congr rfl fun j _ => ?_
  rw [v57_apply x0 x1 v]
  rfl

/-! ## The two results -/

/-- The attention by residue, chunk, position, head and coordinate. -/
theorem v64_apply (i : S16x8x128x16x64.Idx) :
    val_main_v64 (F := Ideal) x0 x1 x2 i
      = (H x0 x1 v (i 0).val (i 1).val (i 3).val).rO (K x1 (i 0).val (i 1).val (i 3).val)
          (Dil.win 16 (Dil.arr x2) (i 0).val (i 1).val (i 3).val) (i 2) (i 4) := by
  rw [val_main_v64_apply, val_main_v63_apply, val_main_v62_apply, val_main_v61_apply, v58_apply x0 x1 v, val_main_v60_apply,
    val_main_v59_apply]
  unfold Dil.Head.rO
  refine congrArg₂ Ideal.div (Finset.sum_congr rfl fun j _ => ?_) rfl
  rw [v18_apply, v57_apply x0 x1 v]
  rfl

/-- The same at an index whose coordinates are known. -/
theorem v64_at (i : S16x8x128x16x64.Idx) (r c h : Nat) (p : Fin 128) (d : Fin 64) (e0 : (i 0).val = r) (e1 : (i 1).val = c)
    (e2 : (i 2).val = p.val) (e3 : (i 3).val = h) (e4 : (i 4).val = d.val) :
    val_main_v64 (F := Ideal) x0 x1 x2 i = (H x0 x1 v r c h).rO (K x1 r c h) (Dil.win 16 (Dil.arr x2) r c h) p d := by
  subst e0 e1 e3
  obtain rfl : i 2 = p := Fin.ext e2
  obtain rfl : i 4 = d := Fin.ext e4
  exact v64_apply x0 x1 x2 v i

/-- The first result. -/
theorem v71_apply (i : S1024x16384.Idx) :
    val_main_v71 (F := Ideal) x0 x1 x2 i = Dil.outR 16 (Dil.arr x0) (Dil.arr x1) (Dil.arr x2) (i 0).val (i 1).val := by
  have h0 : (i 0).val < 1024 := (i 0).isLt
  have h1 : (i 1).val < 16384 := (i 1).isLt
  rw [val_main_v71_apply, val_main_v70_apply, val_main_v69_apply]
  have f0 : (idx_main_v71 i 0).val = (i 0).val := by show _ / _ = _; omega
  have f1 : (idx_main_v71 i 1).val = (i 1).val / 1024 := by show _ / _ % _ = _; omega
  have f2 : (idx_main_v71 i 2).val = (i 1).val % 1024 := by show _ % _ = _; omega
  generalize idx_main_v71 i = j at f0 f1 f2
  refine v64_at x0 x1 x2 _ _ _ _ _ _ _ ?_ ?_ ?_ ?_ ?_
  · show (((j 1).val * 1024 + (j 0).val) * 1024 + (j 2).val) / _ = _; rw [f0, f1, f2]; omega
  · show (((j 1).val * 1024 + (j 0).val) * 1024 + (j 2).val) / _ % _ = _; rw [f0, f1, f2]; omega
  · show (((j 1).val * 1024 + (j 0).val) * 1024 + (j 2).val) / _ % _ = (i 0).val % 128; rw [f0, f1, f2]; omega
  · show (((j 1).val * 1024 + (j 0).val) * 1024 + (j 2).val) / _ % _ = _; rw [f0, f1, f2]; omega
  · show (((j 1).val * 1024 + (j 0).val) * 1024 + (j 2).val) % _ = (i 1).val % 64; rw [f0, f1, f2]; omega

/-- The logarithms by residue, chunk, position and head. -/
theorem v73_apply (i : S16x8x128x16.Idx) :
    val_main_v73 (F := Ideal) x0 x1 i
      = (H x0 x1 v (i 0).val (i 1).val (i 3).val).rL (K x1 (i 0).val (i 1).val (i 3).val) (i 2) := by
  have h0 : (i 0).val < 16 := (i 0).isLt
  have h1 : (i 1).val < 8 := (i 1).isLt
  have h2 : (i 2).val < 128 := (i 2).isLt
  have h3 : (i 3).val < 16 := (i 3).isLt
  rw [val_main_v73_apply, val_main_v72_apply, val_main_v0_apply, val_main_v68_apply, val_main_v67_apply, val_main_v66_apply,
    v58_apply x0 x1 v, val_main_v65_apply, val_main_v54_apply]
  have e : idx_main_v54 (idx_main_v65 (idx_main_v68 i)) = idx_main_v68 i := funext fun a => Fin.ext (by
    match a with
    | ⟨0, _⟩ => show ((((i 0).val * 8 + (i 1).val) * 16 + (i 3).val) * 128 + (i 2).val) / _ = (i 0).val; omega
    | ⟨1, _⟩ => show ((((i 0).val * 8 + (i 1).val) * 16 + (i 3).val) * 128 + (i 2).val) / _ % _ = (i 1).val; omega
    | ⟨2, _⟩ => show ((((i 0).val * 8 + (i 1).val) * 16 + (i 3).val) * 128 + (i 2).val) / _ % _ = (i 3).val; omega
    | ⟨3, _⟩ => show ((((i 0).val * 8 + (i 1).val) * 16 + (i 3).val) * 128 + (i 2).val) / _ % _ = (i 2).val; omega)
  rw [e, v53_apply x0 x1 v]
  unfold Dil.Head.rL
  exact congrArg₂ Ideal.div rfl Dil.Ref.log_two

/-- The same with zeros in the lanes past the heads. -/
theorem v74_apply (i : S16x8x128x128.Idx) :
    val_main_v74 (F := Ideal) x0 x1 i
      = if (i 3).val < 16 then (H x0 x1 v (i 0).val (i 1).val (i 3).val).rL (K x1 (i 0).val (i 1).val (i 3).val) (i 2) else 0 := by
  unfold val_main_v74
  by_cases h : (i 3).val < 16
  · rw [if_pos h]
    refine (pad_apply_of_inside _ _ _ _ _ _ _ i (ValueIdx.ix4 (i 0) (i 1) (i 2) ⟨(i 3).val, h⟩) (fun a => ?_)).trans
      (v73_apply x0 x1 v (ValueIdx.ix4 (i 0) (i 1) (i 2) ⟨(i 3).val, h⟩))
    match a with
    | ⟨0, _⟩ => show (i 0).val = 0 + (i 0).val * 1; omega
    | ⟨1, _⟩ => show (i 1).val = 0 + (i 1).val * 1; omega
    | ⟨2, _⟩ => show (i 2).val = 0 + (i 2).val * 1; omega
    | ⟨3, _⟩ => show (i 3).val = 0 + (i 3).val * 1; omega
  · rw [if_neg h]
    refine (pad_apply_of_not_inside _ _ _ _ _ _ _ i (3 : Fin 4) (fun hin => ?_)).trans Dil.Ref.pad_zero
    have := hin.2.2
    change ((i 3).val - 0) / 1 < 16 at this
    omega

/-- The same at an index whose coordinates are known. -/
theorem v74_at (i : S16x8x128x128.Idx) (r c h : Nat) (p : Fin 128) (e0 : (i 0).val = r) (e1 : (i 1).val = c)
    (e2 : (i 2).val = p.val) (e3 : (i 3).val = h) :
    val_main_v74 (F := Ideal) x0 x1 i = if h < 16 then (H x0 x1 v r c h).rL (K x1 r c h) p else 0 := by
  subst e0 e1 e3
  obtain rfl : i 2 = p := Fin.ext e2
  exact v74_apply x0 x1 v i

/-- The second result. -/
theorem v77_apply (i : S1024x2048.Idx) :
    val_main_v77 (F := Ideal) x0 x1 i = Dil.lseR 16 (Dil.arr x0) (Dil.arr x1) v (i 0).val (i 1).val := by
  have h0 : (i 0).val < 1024 := (i 0).isLt
  have h1 : (i 1).val < 2048 := (i 1).isLt
  rw [val_main_v77_apply, val_main_v76_apply, val_main_v75_apply]
  have f0 : (idx_main_v77 i 0).val = (i 0).val := by show _ / _ = _; omega
  have f1 : (idx_main_v77 i 1).val = (i 1).val / 128 := by show _ / _ % _ = _; omega
  have f2 : (idx_main_v77 i 2).val = (i 1).val % 128 := by show _ % _ = _; omega
  generalize idx_main_v77 i = j at f0 f1 f2
  refine v74_at x0 x1 v _ _ _ _ _ ?_ ?_ ?_ ?_
  · show (((j 1).val * 1024 + (j 0).val) * 128 + (j 2).val) / _ = _; rw [f0, f1, f2]; omega
  · show (((j 1).val * 1024 + (j 0).val) * 128 + (j 2).val) / _ % _ = _; rw [f0, f1, f2]; omega
  · show (((j 1).val * 1024 + (j 0).val) * 128 + (j 2).val) / _ % _ = (i 0).val % 128; rw [f0, f1, f2]; omega
  · show (((j 1).val * 1024 + (j 0).val) * 128 + (j 2).val) % _ = _; rw [f0, f1, f2]; omega

end Cert.RefsixteenIdeal.RefValue

end
-- ==== Proof.DilClaims.lean ====
/-
  The claims about the dilated attention at its three dilations.
-/
module

public import proofs.«01_k».proof.Defs
public import proofs.«01_k».proof.Proof.DilK1
public import proofs.«01_k».proof.Proof.DilR1
public import proofs.«01_k».proof.Proof.DilK4
public import proofs.«01_k».proof.Proof.DilR4
public import proofs.«01_k».proof.Proof.DilK16
public import proofs.«01_k».proof.Proof.DilR16
public import proofs.«01_k».proof.Proof.Gen.Dilone.Frame
public import proofs.«01_k».proof.Proof.Gen.Dilfour.Frame
public import proofs.«01_k».proof.Proof.Gen.Dilsixteen.Frame

@[expose] public section

noncomputable section

namespace Cert.Proof.DilClaims

open Idealize.ShloMosaic Idealize.ShloMosaic.TcCoe Idealize.SL.Sem

/-! ## Dilation one -/

/-- The kernel runs and leaves its arguments, on words and over the extended reals, -/
theorem frame_p_one : Cert.quiescent_Dilone := fun m ρ _ => Cert.Dilone.Gen.frame m ρ
theorem frame_pi_one : Cert.quiescent_DiloneIdeal := fun m ρ _ => Cert.DiloneIdeal.Gen.frame m ρ
/-- and so does the reference. -/
theorem frame_ri_one : Cert.quiescent_RefoneIdeal := fun m ρ _ =>
  (θ_run Cert.RefoneIdeal.defs _ _).mono (fun r h => ⟨fun c => (h c).2.2, sem_eq_zero_of_no_sems (by decide) r.2⟩)
    (Cert.RefoneIdeal.Value.run (F := Ideal) m ρ)

/-- The one constant named is 1 / log 2 rounded. -/
theorem preserves_one : Cert.preserves_Dilone_DiloneIdeal :=
  IdealRules.named_const.statement Cert.DiloneIdeal.κ "inv_ln2" .f32 0x3FB8AA3B#32 (((Real.log 2)⁻¹ : ℝ) : EReal) rfl

/-- Kernel and reference end with the same attention and the same logarithms. -/
theorem algebraic_one : Cert.algebraic_DiloneIdeal_RefoneIdeal := by
  intro m ρ m' ρ' _ hagree
  refine ⟨fun c => Cert.DiloneIdeal.RefValue.out m c, fun c => Cert.DiloneIdeal.RefValue.lse m c, ?_, ?_⟩
  · exact Cert.DiloneIdeal.RefValue.run m ρ
  · refine (θ_run Cert.RefoneIdeal.defs _ _).mono (fun _ h c => ⟨(h c).1.trans ?_, (h c).2.1.trans ?_, (h c).2.2⟩)
      (Cert.RefoneIdeal.Value.run (F := Ideal) m' ρ')
    · rw [Cert.RefoneIdeal.Read.val_main_v71_eq, (hagree c).1, (hagree c).2.1, (hagree c).2.2]
      funext i
      exact (Cert.RefoneIdeal.RefValue.v71_apply _ _ _ i).trans (Dil.outR_eq ..)
    · rw [Cert.RefoneIdeal.Read.val_main_v77_eq, (hagree c).1, (hagree c).2.1]
      funext i
      exact (Cert.RefoneIdeal.RefValue.v77_apply _ _ (Cert.DiloneIdeal.RefValue.v m c) i).trans (Dil.lseR_eq ..)

/-! ## Dilation four -/

/-- The kernel runs and leaves its arguments, on words and over the extended reals, -/
theorem frame_p_four : Cert.quiescent_Dilfour := fun m ρ _ => Cert.Dilfour.Gen.frame m ρ
theorem frame_pi_four : Cert.quiescent_DilfourIdeal := fun m ρ _ => Cert.DilfourIdeal.Gen.frame m ρ
/-- and so does the reference. -/
theorem frame_ri_four : Cert.quiescent_ReffourIdeal := fun m ρ _ =>
  (θ_run Cert.ReffourIdeal.defs _ _).mono (fun r h => ⟨fun c => (h c).2.2, sem_eq_zero_of_no_sems (by decide) r.2⟩)
    (Cert.ReffourIdeal.Value.run (F := Ideal) m ρ)

/-- The one constant named is 1 / log 2 rounded. -/
theorem preserves_four : Cert.preserves_Dilfour_DilfourIdeal :=
  IdealRules.named_const.statement Cert.DilfourIdeal.κ "inv_ln2" .f32 0x3FB8AA3B#32 (((Real.log 2)⁻¹ : ℝ) : EReal) rfl

/-- Kernel and reference end with the same attention and the same logarithms. -/
theorem algebraic_four : Cert.algebraic_DilfourIdeal_ReffourIdeal := by
  intro m ρ m' ρ' _ hagree
  refine ⟨fun c => Cert.DilfourIdeal.RefValue.out m c, fun c => Cert.DilfourIdeal.RefValue.lse m c, ?_, ?_⟩
  · exact Cert.DilfourIdeal.RefValue.run m ρ
  · refine (θ_run Cert.ReffourIdeal.defs _ _).mono (fun _ h c => ⟨(h c).1.trans ?_, (h c).2.1.trans ?_, (h c).2.2⟩)
      (Cert.ReffourIdeal.Value.run (F := Ideal) m' ρ')
    · rw [Cert.ReffourIdeal.Read.val_main_v71_eq, (hagree c).1, (hagree c).2.1, (hagree c).2.2]
      funext i
      exact (Cert.ReffourIdeal.RefValue.v71_apply _ _ _ i).trans (Dil.outR_eq ..)
    · rw [Cert.ReffourIdeal.Read.val_main_v77_eq, (hagree c).1, (hagree c).2.1]
      funext i
      exact (Cert.ReffourIdeal.RefValue.v77_apply _ _ (Cert.DilfourIdeal.RefValue.v m c) i).trans (Dil.lseR_eq ..)

/-! ## Dilation sixteen -/

/-- The kernel runs and leaves its arguments, on words and over the extended reals, -/
theorem frame_p_sixteen : Cert.quiescent_Dilsixteen := fun m ρ _ => Cert.Dilsixteen.Gen.frame m ρ
theorem frame_pi_sixteen : Cert.quiescent_DilsixteenIdeal := fun m ρ _ => Cert.DilsixteenIdeal.Gen.frame m ρ
/-- and so does the reference. -/
theorem frame_ri_sixteen : Cert.quiescent_RefsixteenIdeal := fun m ρ _ =>
  (θ_run Cert.RefsixteenIdeal.defs _ _).mono (fun r h => ⟨fun c => (h c).2.2, sem_eq_zero_of_no_sems (by decide) r.2⟩)
    (Cert.RefsixteenIdeal.Value.run (F := Ideal) m ρ)

/-- The one constant named is 1 / log 2 rounded. -/
theorem preserves_sixteen : Cert.preserves_Dilsixteen_DilsixteenIdeal :=
  IdealRules.named_const.statement Cert.DilsixteenIdeal.κ "inv_ln2" .f32 0x3FB8AA3B#32 (((Real.log 2)⁻¹ : ℝ) : EReal) rfl

/-- Kernel and reference end with the same attention and the same logarithms. -/
theorem algebraic_sixteen : Cert.algebraic_DilsixteenIdeal_RefsixteenIdeal := by
  intro m ρ m' ρ' _ hagree
  refine ⟨fun c => Cert.DilsixteenIdeal.RefValue.out m c, fun c => Cert.DilsixteenIdeal.RefValue.lse m c, ?_, ?_⟩
  · exact Cert.DilsixteenIdeal.RefValue.run m ρ
  · refine (θ_run Cert.RefsixteenIdeal.defs _ _).mono (fun _ h c => ⟨(h c).1.trans ?_, (h c).2.1.trans ?_, (h c).2.2⟩)
      (Cert.RefsixteenIdeal.Value.run (F := Ideal) m' ρ')
    · rw [Cert.RefsixteenIdeal.Read.val_main_v71_eq, (hagree c).1, (hagree c).2.1, (hagree c).2.2]
      funext i
      exact (Cert.RefsixteenIdeal.RefValue.v71_apply _ _ _ i).trans (Dil.outR_eq ..)
    · rw [Cert.RefsixteenIdeal.Read.val_main_v77_eq, (hagree c).1, (hagree c).2.1]
      funext i
      exact (Cert.RefsixteenIdeal.RefValue.v77_apply _ _ (Cert.DilsixteenIdeal.RefValue.v m c) i).trans (Dil.lseR_eq ..)

end Cert.Proof.DilClaims

end
-- ==== Proof.Rows.lean ====
/-
  Row norms and matrix products: what the blocks of the layer's projections compute, on whole vectors and entry by entry.

  `norm x g` is the layer's norm of the rows of `x` with the gain `g`, and `mm K a b` the product of matrices whose inner
  dimension is `K`; matrices are functions of row and column.  `rms` and `prod` are the same on vectors, as the kernels
  write them; `rms_apply` and `prod_apply` read them at an index.
-/
module

public import Idealize.ShloMosaic.Lib.MatmulPlain
public import Idealize.ShloMosaic.Lib.Pipeline.Value
public import Idealize.ShloMosaic.Lib.ValueIdx
public import Idealize.ShloMosaic.Lib.Pipeline.ValueKit.Tiles
public import Idealize.ShloMosaic.PureOps.Ideal.Laws
public import Idealize.ShloMosaic.Lib.Pointwise

@[expose] public section

set_option maxRecDepth 16384

noncomputable section

namespace Rows

open Idealize.ShloMosaic Idealize.ShloMosaic.TcCoe

/-- The shape of `n` rows and `d` columns. -/
abbrev Sh (n d : Nat) : Shape := ⟨2, ![n, d]⟩

/-- An array as a function of row and column, zero outside. -/
def mat {n d : Nat} (x : (Sh n d).Idx → EReal) (a b : Nat) : EReal :=
  if h : a < n ∧ b < d then x (ValueIdx.ix2 ⟨a, h.1⟩ ⟨b, h.2⟩) else 0

/-- An array at an index whose coordinates are known. -/
theorem mat_of {n d : Nat} (x : (Sh n d).Idx → EReal) (j : (Sh n d).Idx) (a b : Nat) (h0 : (j 0).val = a) (h1 : (j 1).val = b) :
    x j = mat x a b := by
  have ha : a < n := h0 ▸ (j 0).isLt
  have hb : b < d := h1 ▸ (j 1).isLt
  unfold mat
  rw [dif_pos ⟨ha, hb⟩]
  exact congrArg x (funext fun d => match d with
    | ⟨0, _⟩ => Fin.ext h0
    | ⟨1, _⟩ => Fin.ext h1)

/-- The term added to a row's mean square, and the number of its entries. -/
def eps : EReal := (FloatOps.ofBits .f32 0x358637BD#32 : Ideal .f32)
def wid : EReal := (FloatOps.ofBits .f32 0x44800000#32 : Ideal .f32)

/-- The reciprocal of the root of row `a`'s mean square. -/
def inv (x : Nat → Nat → EReal) (a : Nat) : EReal := Ideal.rsqrt (Ideal.div (∑ j : Fin 1024, x a j * x a j) wid + eps)

/-- The rows of `x` divided by their root mean squares, times the gain. -/
def norm (x g : Nat → Nat → EReal) (a b : Nat) : EReal := x a b * inv x a * g 0 b

/-- The matrix product with inner dimension `K`. -/
def mm (K : Nat) (x y : Nat → Nat → EReal) (a b : Nat) : EReal := ∑ j : Fin K, x a j * y j b

section Any
variable {F : FTy → Type} [FloatOps F]

/-- The norm of a block of rows, as the kernels write it. -/
def rms {n : Nat} (hr : (Sh n 1024).Reduces [1] ⟨1, ![n]⟩) (hs : (⟨1, ![n]⟩ : Shape).ShapeCasts (Sh n 1))
    (hb : (Sh n 1).Broadcasts (Sh n 1024)) (hg : (Sh 1 1024).Broadcasts (Sh n 1024))
    (x : Vec F (Sh n 1024) .f32) (g : Vec F (Sh 1 1024) .f32) : FVec F (Sh n 1024) .f32 :=
  mulf (mulf x (broadcastTo (Sh n 1024) (rsqrt (addf (divf
      (shapeCast (Sh n 1) (multiReduction .add [1] ⟨1, ![n]⟩ (mulf x x : FVec F (Sh n 1024) .f32) 0x00000000#32 hr (.inl rfl) rfl) hs)
      (broadcast (Sh n 1) (Scalar.ofBits .f32 0x44800000#32))) (broadcast (Sh n 1) (Scalar.ofBits .f32 0x358637BD#32))) : FVec F (Sh n 1) .f32) hb))
    (broadcastTo (Sh n 1024) g hg)

/-- A product of two blocks, started at zero. -/
def prod {M K N : Nat} (x : FVec F (Sh M K) .bf16) (y : FVec F (Sh K N) .bf16) : FVec F (Sh M N) .f32 :=
  matmul (DotDims.plain M K N) none x y (constant (Sh M N) .f32 0x00000000#32)

end Any

theorem ofBits_zero : (FloatOps.ofBits .f32 0x00000000#32 : Ideal .f32) = 0 := by
  show Ideal.ofBits .f32 _ = 0
  simp [Ideal.ofBits, Ideal.ieee]

theorem ofBits_one : (FloatOps.ofBits .f32 0x3F800000#32 : Ideal .f32) = (1 : EReal) := by
  show Ideal.ofBits .f32 _ = 1
  simp [Ideal.ofBits, Ideal.ieee]
  rw [← EReal.coe_mul]
  norm_num

/-- The product of two blocks, read at an index. -/
theorem prod_apply {M K N : Nat} (x : FVec Ideal (Sh M K) .bf16) (y : FVec Ideal (Sh K N) .bf16) (i : Fin M) (j : Fin N) :
    prod x y (ValueIdx.ix2 i j) = ∑ k : Fin K, (x (ValueIdx.ix2 i k) * y (ValueIdx.ix2 k j) : EReal) := by
  unfold prod
  show FloatOps.matmul (DotDims.plain M K N) none x y (constant (Sh M N) .f32 0x00000000#32) (ValueIdx.ix2 i j) = _
  rw [Ideal.matmul_plain_apply (φ₁ := .bf16) (φ₂ := .bf16),
    show (constant (Sh M N) .f32 0x00000000#32 : FVec Ideal (Sh M N) .f32) (ValueIdx.ix2 i j) = 0 from ofBits_zero, zero_add]

/-- The norm of a block of rows, read at an index. -/
theorem rms_apply {n : Nat} (hr : (Sh n 1024).Reduces [1] ⟨1, ![n]⟩) (hs : (⟨1, ![n]⟩ : Shape).ShapeCasts (Sh n 1))
    (hb : (Sh n 1).Broadcasts (Sh n 1024)) (hg : (Sh 1 1024).Broadcasts (Sh n 1024))
    (x : Vec Ideal (Sh n 1024) .f32) (g : Vec Ideal (Sh 1 1024) .f32) (X G : Nat → Nat → EReal) (r : Nat)
    (hX : ∀ (i : Fin n) (j : Fin 1024), x (ValueIdx.ix2 i j) = X (r + i) j) (hG : ∀ j : Fin 1024, g (ValueIdx.ix2 (0 : Fin 1) j) = G 0 j)
    (i : Fin n) (j : Fin 1024) : rms hr hs hb hg x g (ValueIdx.ix2 i j) = norm X G (r + i) j := by
  have sum : multiReduction .add [1] ⟨1, ![n]⟩ (mulf x x : FVec Ideal (Sh n 1024) .f32) 0x00000000#32 hr (.inl rfl) rfl (ValueIdx.ix1 i)
      = ∑ j : Fin 1024, (X (r + i) j * X (r + i) j : EReal) := by
    refine (Ideal.multiReduction_add_single (a := 1) _ _ hr (.inl rfl) rfl (ValueIdx.ix1 i)).trans ?_
    refine Finset.sum_congr rfl fun j _ => ?_
    have e : hr.lift (ValueIdx.ix1 i) j = ValueIdx.ix2 i j := by
      funext a
      match a with
      | ⟨0, _⟩ => exact Fin.ext rfl
      | ⟨1, _⟩ => exact Fin.ext rfl
    rw [e]
    exact congrArg (fun y : EReal => y * y) (hX i j)
  have cast : ∀ y : FVec Ideal ⟨1, ![n]⟩ .f32, shapeCast (Sh n 1) y hs (ValueIdx.ix2 i (0 : Fin 1)) = y (ValueIdx.ix1 i) := fun y =>
    shapeCast_apply y hs _ _ (by
      rewrite [Shape.rowMajor_val_one, Shape.rowMajor_val_two]
      show i.val = i.val * 1 + 0
      omega)
  have col : ∀ y : FVec Ideal (Sh n 1) .f32, broadcastTo (Sh n 1024) y hb (ValueIdx.ix2 i j) = y (ValueIdx.ix2 i (0 : Fin 1)) := fun y =>
    broadcastTo_apply y hb _ _ fun a => match a with
      | ⟨0, _⟩ => by show i.val = if n = 1 then 0 else i.val; split <;> omega
      | ⟨1, _⟩ => rfl
  have row : broadcastTo (Sh n 1024) g hg (ValueIdx.ix2 i j) = g (ValueIdx.ix2 (0 : Fin 1) j) :=
    broadcastTo_apply g hg _ _ fun a => match a with
      | ⟨0, _⟩ => rfl
      | ⟨1, _⟩ => rfl
  unfold rms
  show (x (ValueIdx.ix2 i j) * broadcastTo (Sh n 1024) _ hb (ValueIdx.ix2 i j) * broadcastTo (Sh n 1024) g hg (ValueIdx.ix2 i j) : EReal) = _
  rw [col, row, hX, hG]
  show (X (r + i) j * Ideal.rsqrt (Ideal.div (shapeCast (Sh n 1) _ hs (ValueIdx.ix2 i (0 : Fin 1))) wid + eps) * G 0 j : EReal) = _
  rw [cast, sum]
  rfl

/-- What the last projection adds to a row: the products `z` passed through the logistic function, times the products `y`. -/
def gate (z y : EReal) : EReal := Ideal.div 1 (1 + Ideal.exp (-z)) * y

/-- The product of two blocks that read two matrices. -/
theorem prod_mm {M K N : Nat} (x : FVec Ideal (Sh M K) .bf16) (y : FVec Ideal (Sh K N) .bf16) (X Y : Nat → Nat → EReal) (r s : Nat)
    (hX : ∀ (i : Fin M) (k : Fin K), x (ValueIdx.ix2 i k) = X (r + i) k) (hY : ∀ (k : Fin K) (j : Fin N), y (ValueIdx.ix2 k j) = Y k (s + j))
    (i : Fin M) (j : Fin N) : prod x y (ValueIdx.ix2 i j) = mm K X Y (r + i) (s + j) := by
  rw [prod_apply]
  exact Finset.sum_congr rfl fun k _ => by rw [hX, hY]

/-- The same where the left block is rounded first, which over the extended reals it is not. -/
theorem prod_tr {M K N : Nat} (h : FTy.bits .bf16 < FTy.bits .f32) (x : FVec Ideal (Sh M K) .f32) (y : FVec Ideal (Sh K N) .bf16) (X Y : Nat → Nat → EReal) (r s : Nat)
    (hX : ∀ (i : Fin M) (k : Fin K), x (ValueIdx.ix2 i k) = X (r + i) k) (hY : ∀ (k : Fin K) (j : Fin N), y (ValueIdx.ix2 k j) = Y k (s + j))
    (i : Fin M) (j : Fin N) : prod (truncf .bf16 x h) y (ValueIdx.ix2 i j) = mm K X Y (r + i) (s + j) :=
  prod_mm (truncf .bf16 x h) y X Y r s hX hY i j

/-- The same where the left block is the norm of a block of rows. -/
theorem prod_rms {n N : Nat} (hr : (Sh n 1024).Reduces [1] ⟨1, ![n]⟩) (hs : (⟨1, ![n]⟩ : Shape).ShapeCasts (Sh n 1))
    (hb : (Sh n 1).Broadcasts (Sh n 1024)) (hg : (Sh 1 1024).Broadcasts (Sh n 1024)) (h : FTy.bits .bf16 < FTy.bits .f32)
    (x : Vec Ideal (Sh n 1024) .f32) (g : Vec Ideal (Sh 1 1024) .f32) (y : FVec Ideal (Sh 1024 N) .bf16) (X G Y : Nat → Nat → EReal) (r s : Nat)
    (hX : ∀ (i : Fin n) (j : Fin 1024), x (ValueIdx.ix2 i j) = X (r + i) j) (hG : ∀ j : Fin 1024, g (ValueIdx.ix2 (0 : Fin 1) j) = G 0 j)
    (hY : ∀ (k : Fin 1024) (j : Fin N), y (ValueIdx.ix2 k j) = Y k (s + j)) (i : Fin n) (j : Fin N) :
    prod (truncf .bf16 (rms hr hs hb hg x g) h) y (ValueIdx.ix2 i j) = mm 1024 (norm X G) Y (r + i) (s + j) :=
  prod_tr h _ y (norm X G) Y r s (rms_apply hr hs hb hg x g X G r hX hG) hY i j

end Rows

end
-- ==== Proof.Ple.lean ====
/-
  The per-layer embedding's gate: the kernel's blocks of 512 rows and the reference give the same array,
  `x + sigmoid(norm x @ wg) * (p @ wp)`.
-/
module

public import proofs.«01_k».proof.Proof.Rows
public import proofs.«01_k».proof.Proof.Gen.PleoutIdeal.Value
public import proofs.«01_k».proof.Proof.Gen.RefpleoutIdeal.Run
public import proofs.«01_k».proof.Proof.Gen.RefpleoutIdeal.Read
public import Idealize.ShloMosaic.Lib.Claim

@[expose] public section

set_option maxRecDepth 65536

noncomputable section

namespace Rows

/-- The result at row `a` and column `b`. -/
def ple (x p g wg wp : Nat → Nat → EReal) (a b : Nat) : EReal := x a b + gate (mm 1024 (norm x g) wg a b) (mm 256 p wp a b)

end Rows

namespace Cert.PleoutIdeal.RefValue

open Cert.PleoutIdeal Cert.PleoutIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

section Any
variable {F : FTy → Type} [FloatOps F]

/-- The block a point stores. -/
theorem out_eq (x : Vec F S512x1024 .f32) (p : Vec F S512x256 .f32) (g : Vec F S1x1024 .f32) (wg : Vec F S1024x1024 .bf16) (wp : Vec F S256x1024 .bf16) :
    out0_5 x p g wg wp = addf x (mulf (divf (broadcast S512x1024 (Scalar.ofBits .f32 0x3F800000#32)) (addf (broadcast S512x1024 (Scalar.ofBits .f32 0x3F800000#32))
      (exp (subf (broadcast S512x1024 (Scalar.ofBits .f32 0x00000000#32))
        (Rows.prod (truncf .bf16 (Rows.rms reduces_S512x1024_S512 shapeCasts_S512_S512x1 broadcasts_S512x1_S512x1024 broadcasts_S1x1024_S512x1024 x g) bitsLt_bf16_f32) wg)))))
      (Rows.prod (truncf .bf16 p bitsLt_bf16_f32) wp : FVec F S512x1024 .f32)) := by
  unfold out0_5
  rw [View.canon_unit_zero hz, show View.ld x r0_0 = x from View.ld_unit_zero hz _ x, show View.ld g r0_1 = g from View.ld_unit_zero hz _ g,
    show View.ld wg r0_2 = wg from View.ld_unit_zero hz _ wg, show View.ld p r0_3 = p from View.ld_unit_zero hz _ p,
    show View.ld wp r0_4 = wp from View.ld_unit_zero hz _ wp]
  rfl

end Any

variable (m : (ℓ : Loc nD τ sig) → Buf (Elt Ideal) ℓ) (ρ : Dev nD → PrngReg)

/-- The places of a point's blocks. -/
theorem idx_facts : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0) :=
  (by decide +kernel : ∀ t : Fin grid0.N, _)

/-- The arguments as functions of row and column. -/
abbrev x (c : Dev nD) : Nat → Nat → EReal := Rows.mat (n := 16384) (d := 1024) (m ((c : Thread nD τ).loc main_arg0))
abbrev p (c : Dev nD) : Nat → Nat → EReal := Rows.mat (n := 16384) (d := 256) (m ((c : Thread nD τ).loc main_arg1))
abbrev g (c : Dev nD) : Nat → Nat → EReal := Rows.mat (n := 1) (d := 1024) (m ((c : Thread nD τ).loc main_arg2))
abbrev wg (c : Dev nD) : Nat → Nat → EReal := Rows.mat (n := 1024) (d := 1024) (m ((c : Thread nD τ).loc main_arg3))
abbrev wp (c : Dev nD) : Nat → Nat → EReal := Rows.mat (n := 256) (d := 1024) (m ((c : Thread nD τ).loc main_arg4))

theorem blk_x (c : Dev nD) (t : Fin cfg0.N) (i : Fin 512) (j : Fin 1024) : iblk m c 0 t (ValueIdx.ix2 i j) = x m c (512 * t.val + i) j := by
  obtain ⟨⟨e0, e1⟩, -⟩ := idx_facts t
  show V m c main_arg0 ((win0_0.rect t).idx (ValueIdx.ix2 i j)) = _
  rw [V_main_arg0]
  refine Rows.mat_of (n := 16384) (d := 1024) _ _ _ _ ?_ ?_
  · show win0_0.index t 0 * 512 + 1 * i.val = _
    rw [e0]; omega
  · show win0_0.index t 1 * 1024 + 1 * j.val = _
    rw [e1]; omega

theorem blk_p (c : Dev nD) (t : Fin cfg0.N) (i : Fin 512) (j : Fin 256) : iblk m c 1 t (ValueIdx.ix2 i j) = p m c (512 * t.val + i) j := by
  obtain ⟨-, ⟨e0, e1⟩, -⟩ := idx_facts t
  show V m c main_arg1 ((win0_1.rect t).idx (ValueIdx.ix2 i j)) = _
  rw [V_main_arg1]
  refine Rows.mat_of (n := 16384) (d := 256) _ _ _ _ ?_ ?_
  · show win0_1.index t 0 * 512 + 1 * i.val = _
    rw [e0]; omega
  · show win0_1.index t 1 * 256 + 1 * j.val = _
    rw [e1]; omega

theorem blk_g (c : Dev nD) (t : Fin cfg0.N) (j : Fin 1024) : iblk m c 2 t (ValueIdx.ix2 (0 : Fin 1) j) = g m c 0 j := by
  obtain ⟨-, -, ⟨e0, e1⟩, -⟩ := idx_facts t
  show V m c main_arg2 ((win0_2.rect t).idx (ValueIdx.ix2 (0 : Fin 1) j)) = _
  rw [V_main_arg2]
  refine Rows.mat_of (n := 1) (d := 1024) _ _ _ _ ?_ ?_
  · show win0_2.index t 0 * 1 + 1 * 0 = _
    rw [e0]
  · show win0_2.index t 1 * 1024 + 1 * j.val = _
    rw [e1]; omega

theorem blk_wg (c : Dev nD) (t : Fin cfg0.N) (i j : Fin 1024) : iblk m c 3 t (ValueIdx.ix2 i j) = wg m c i (0 + j) := by
  obtain ⟨-, -, -, ⟨e0, e1⟩, -⟩ := idx_facts t
  show V m c main_arg3 ((win0_3.rect t).idx (ValueIdx.ix2 i j)) = _
  rw [V_main_arg3]
  refine Rows.mat_of (n := 1024) (d := 1024) _ _ _ _ ?_ ?_
  · show win0_3.index t 0 * 1024 + 1 * i.val = _
    rw [e0]; omega
  · show win0_3.index t 1 * 1024 + 1 * j.val = _
    rw [e1]; omega

theorem blk_wp (c : Dev nD) (t : Fin cfg0.N) (i : Fin 256) (j : Fin 1024) : iblk m c 4 t (ValueIdx.ix2 i j) = wp m c i (0 + j) := by
  obtain ⟨-, -, -, -, ⟨e0, e1⟩, -⟩ := idx_facts t
  show V m c main_arg4 ((win0_4.rect t).idx (ValueIdx.ix2 i j)) = _
  rw [V_main_arg4]
  refine Rows.mat_of (n := 256) (d := 1024) _ _ _ _ ?_ ?_
  · show win0_4.index t 0 * 256 + 1 * i.val = _
    rw [e0]; omega
  · show win0_4.index t 1 * 1024 + 1 * j.val = _
    rw [e1]; omega

/-- The array the kernel leaves. -/
def out (c : Dev nD) : Buf (Elt Ideal) ((c : Thread nD τ).loc main_v0) :=
  fun i => Rows.ple (x m c) (p m c) (g m c) (wg m c) (wp m c) (i 0).val (i 1).val

/-- What a point writes back is its block of that array. -/
theorem flushed_eq (c : Dev nD) (t : Fin cfg0.N) :
    (dats m 0 c).flushed 5 t = ((cfg0.win 5).blk t).view.read (Elt Ideal) (out m c) := by
  rw [Value.flushed5, out_eq]
  obtain ⟨-, -, -, -, -, ⟨e0, e1⟩⟩ := idx_facts t
  funext i
  have hi : (i 0 : Nat) < 512 := (i 0).isLt
  have h0 : ((win0_5.rect t).idx i 0).val = 512 * t.val + (i 0).val := by
    show win0_5.index t 0 * 512 + 1 * (i 0).val = _
    rw [e0]; omega
  have h1 : ((win0_5.rect t).idx i 1).val = 0 + (i 1).val := by
    show win0_5.index t 1 * 1024 + 1 * (i 1).val = _
    rw [e1]; omega
  show _ = out m c ((win0_5.rect t).idx i)
  unfold out
  rw [h0, h1]
  obtain ⟨a, b, rfl⟩ : ∃ (a : Fin 512) (b : Fin 1024), i = ValueIdx.ix2 a b := ⟨i 0, i 1, ValueIdx.eq_ix2 (n0 := 512) (n1 := 1024) i⟩
  show HAdd.hAdd (α := EReal) (β := EReal) (γ := EReal) (iblk m c 0 t (ValueIdx.ix2 a b))
    (Ideal.div (FloatOps.ofBits .f32 0x3F800000#32 : Ideal .f32) ((FloatOps.ofBits .f32 0x3F800000#32 : Ideal .f32)
      + Ideal.exp ((FloatOps.ofBits .f32 0x00000000#32 : Ideal .f32) - Rows.prod (F := Ideal) (M := 512) (K := 1024) (N := 1024) _ _ (ValueIdx.ix2 a b)))
    * Rows.prod (F := Ideal) (M := 512) (K := 256) (N := 1024) _ _ (ValueIdx.ix2 a b))
    = Rows.ple (x m c) (p m c) (g m c) (wg m c) (wp m c) (512 * t.val + a.val) (0 + b.val)
  rw [Rows.ofBits_one, Rows.ofBits_zero, zero_sub, blk_x,
    Rows.prod_rms _ _ _ _ _ _ _ _ (x m c) (g m c) (wg m c) (512 * t.val) 0 (blk_x m c t) (blk_g m c t) (blk_wg m c t),
    Rows.prod_tr _ _ _ (p m c) (wp m c) (512 * t.val) 0 (blk_p m c t) (blk_wp m c t)]
  unfold Rows.ple Rows.gate
  rw [zero_add]

/-- Every entry is in the block of a point. -/
theorem cover (i : S16384x1024.Idx) : ∃ t : Fin cfg0.N, (cfg0.win 5).flush t = true ∧ i ∈ ((cfg0.win 5).blk t).view.set := by
  have h0 : (i 0 : Nat) < 16384 := (i 0).isLt
  have h1 : (i 1 : Nat) < 1024 := (i 1).isLt
  have hN : cfg0.N = 32 := by decide +kernel
  let t : Fin cfg0.N := ⟨(i 0).val / 512, by rw [hN]; omega⟩
  obtain ⟨-, -, -, -, -, ⟨e0, e1⟩⟩ := idx_facts t
  refine ⟨t, flush0_5 t, ?_⟩
  show i ∈ ((View.whole main_v0).slice (win0_5.rect t)).set
  rw [View.set_slice_whole, Rect.mem_set_unit]
  intro a
  match a with
  | ⟨0, _⟩ =>
    show win0_5.index t 0 * 512 ≤ (i 0).val ∧ (i 0).val < win0_5.index t 0 * 512 + 512
    rw [e0]; show (i 0).val / 512 * 512 ≤ _ ∧ _ < (i 0).val / 512 * 512 + 512; omega
  | ⟨1, _⟩ =>
    show win0_5.index t 1 * 1024 ≤ (i 1).val ∧ (i 1).val < win0_5.index t 1 * 1024 + 1024
    rw [e1]; omega

/-- The run: the result at the formula, the arguments unchanged. -/
theorem run : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨(h c).1.trans ((dats m 0 c).arrAt_eq_of_cover 5 (out m c) (fun t _ => flushed_eq m c t) cover), (h c).2⟩)
    (Value.run_blocks m ρ)

end Cert.PleoutIdeal.RefValue

namespace Cert.RefpleoutIdeal.RefValue

open Cert.RefpleoutIdeal Cert.RefpleoutIdeal.Gen Cert.RefpleoutIdeal.Read Idealize.ShloMosaic Idealize.ShloMosaic.TcCoe

variable (x0 : (⟨S16384x1024, .f32⟩ : BufTy).Contents (Elt Ideal)) (x1 : (⟨S16384x256, .f32⟩ : BufTy).Contents (Elt Ideal))
  (x2 : (⟨S1x1024, .f32⟩ : BufTy).Contents (Elt Ideal)) (x3 : (⟨S1024x1024, .bf16⟩ : BufTy).Contents (Elt Ideal))
  (x4 : (⟨S256x1024, .bf16⟩ : BufTy).Contents (Elt Ideal))

/-- The reciprocal roots of the rows' mean squares. -/
theorem v7_apply (i : S16384x1.Idx) : val_main_v7 (F := Ideal) x0 i = Rows.inv (Rows.mat x0) (i 0).val := by
  rw [val_main_v7_apply, val_main_v6_apply, val_main_v5_apply, val_main_cst_1_apply, val_main_v4_apply, val_main_v3_apply,
    val_main_cst_0_apply, val_main_v2_apply, val_main_v1_apply]
  simp only [val_main_v0_apply, val_main_cst_apply]
  show Ideal.rsqrt (Ideal.div ((FloatOps.ofBits .f32 0x00000000#32 : Ideal .f32) + _) Rows.wid + Rows.eps) = _
  rw [Rows.ofBits_zero, zero_add]
  unfold Rows.inv
  congr 3
  refine Finset.sum_congr rfl fun j _ => ?_
  exact congrArg (fun y : EReal => y * y) (Rows.mat_of x0 _ _ _ rfl rfl)

/-- The normed rows. -/
theorem v11_apply (i : S16384x1024.Idx) : val_main_v11 (F := Ideal) x0 x2 i = Rows.norm (Rows.mat x0) (Rows.mat x2) (i 0).val (i 1).val := by
  rw [val_main_v11_apply, val_main_v10_apply, val_main_v9_apply, val_main_v8_apply, v7_apply,
    Rows.mat_of x0 i _ _ rfl rfl, Rows.mat_of x2 (idx_main_v10 i) 0 (i 1).val rfl rfl]
  rfl

/-- The reference's result at an index. -/
theorem v23_apply (i : S16384x1024.Idx) : val_main_v23 (F := Ideal) x0 x1 x2 x3 x4 i
    = Rows.ple (Rows.mat x0) (Rows.mat x1) (Rows.mat x2) (Rows.mat x3) (Rows.mat x4) (i 0).val (i 1).val := by
  have z : val_main_v13 (F := Ideal) x0 x2 x3 i = Rows.mm 1024 (Rows.norm (Rows.mat x0) (Rows.mat x2)) (Rows.mat x3) (i 0).val (i 1).val := by
    rw [val_main_v13_apply]
    refine Finset.sum_congr rfl fun k _ => ?_
    rw [v11_apply, val_main_v12_apply]
    exact congrArg (fun y : EReal => _ * y) (Rows.mat_of x3 (ridx_main_v13 i k) k (i 1).val rfl rfl)
  have y : val_main_v21 (F := Ideal) x1 x4 i = Rows.mm 256 (Rows.mat x1) (Rows.mat x4) (i 0).val (i 1).val := by
    rw [val_main_v21_apply]
    refine Finset.sum_congr rfl fun k _ => ?_
    rw [val_main_v20_apply, Rows.mat_of x1 (lidx_main_v21 i k) (i 0).val k rfl rfl]
    exact congrArg (fun y : EReal => _ * y) (Rows.mat_of x4 (ridx_main_v21 i k) k (i 1).val rfl rfl)
  rw [val_main_v23_apply, val_main_v22_apply, y, val_main_v19_apply, val_main_v18_apply, val_main_cst_3_apply, val_main_v17_apply,
    val_main_v16_apply, val_main_cst_2_apply, val_main_v15_apply, val_main_v14_apply, z, Rows.mat_of x0 i _ _ rfl rfl]
  show (_ + Ideal.div (FloatOps.ofBits .f32 0x3F800000#32 : Ideal .f32) ((FloatOps.ofBits .f32 0x3F800000#32 : Ideal .f32) + Ideal.exp (-_)) * _ : EReal) = _
  rw [Rows.ofBits_one]
  rfl

end Cert.RefpleoutIdeal.RefValue

end
-- ==== Proof.Down.lean ====
/-
  The projections added to the residual: the one of the feed-forward layer, and the one of the even layers, whose left
  factor comes in two halves.  The kernels' blocks of 512 rows and the references give the same arrays.
-/
module

public import proofs.«01_k».proof.Proof.Rows
public import proofs.«01_k».proof.Proof.Gen.DownprojIdeal.Value
public import proofs.«01_k».proof.Proof.Gen.RefdownprojIdeal.Run
public import proofs.«01_k».proof.Proof.Gen.RefdownprojIdeal.Read
public import proofs.«01_k».proof.Proof.Gen.EvenoutIdeal.Value
public import proofs.«01_k».proof.Proof.Gen.RefevenoutIdeal.Run
public import proofs.«01_k».proof.Proof.Gen.RefevenoutIdeal.Read
public import Idealize.ShloMosaic.Lib.Claim

@[expose] public section

set_option maxRecDepth 65536

noncomputable section

namespace Rows

theorem hz : (![0, 0] : Fin 2 → Nat) = fun _ => 0 := funext fun a => by fin_cases a <;> rfl

/-- The feed-forward projection's result at row `a` and column `b`. -/
def down (u w r : Nat → Nat → EReal) (a b : Nat) : EReal := r a b + mm 2816 u w a b

/-- The even layers' result: the residual and the products of the two halves. -/
def evenOut (u wu v wv r : Nat → Nat → EReal) (a b : Nat) : EReal := r a b + mm 512 u wu a b + mm 512 v wv a b

end Rows

namespace Cert.DownprojIdeal.RefValue

open Cert.DownprojIdeal Cert.DownprojIdeal.Gen Idealize.ShloMosaic Idealize.ShloMosaic.TcCoe Idealize.SL.Sem
open Idealize.ShloMosaic.Pipeline (Dat)

section Any
variable {F : FTy → Type} [FloatOps F]

/-- The block a point stores. -/
theorem out_eq (u : Vec F S512x2816 .bf16) (w : Vec F S2816x1024 .bf16) (r : Vec F S512x1024 .f32) :
    out0_3 u w r = addf r (Rows.prod u w : FVec F S512x1024 .f32) := by
  unfold out0_3
  rw [View.canon_unit_zero Rows.hz, show View.ld r r0_0 = r from View.ld_unit_zero Rows.hz _ r,
    show View.ld u r0_1 = u from View.ld_unit_zero Rows.hz _ u, show View.ld w r0_2 = w from View.ld_unit_zero Rows.hz _ w]
  rfl

end Any

variable (m : (ℓ : Loc nD τ sig) → Buf (Elt Ideal) ℓ) (ρ : Dev nD → PrngReg)

/-- The places of a point's blocks. -/
theorem idx_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) :=
  (by decide +kernel : ∀ t : Fin grid0.N, _)

/-- The arguments as functions of row and column. -/
abbrev u (c : Dev nD) : Nat → Nat → EReal := Rows.mat (n := 16384) (d := 2816) (m ((c : Thread nD τ).loc main_arg0))
abbrev w (c : Dev nD) : Nat → Nat → EReal := Rows.mat (n := 2816) (d := 1024) (m ((c : Thread nD τ).loc main_arg1))
abbrev r (c : Dev nD) : Nat → Nat → EReal := Rows.mat (n := 16384) (d := 1024) (m ((c : Thread nD τ).loc main_arg2))

theorem blk_u (c : Dev nD) (t : Fin cfg0.N) (i : Fin 512) (j : Fin 2816) : iblk m c 0 t (ValueIdx.ix2 i j) = u m c (512 * t.val + i) j := by
  obtain ⟨⟨e0, e1⟩, -⟩ := idx_facts t
  show V m c main_arg0 ((win0_0.rect t).idx (ValueIdx.ix2 i j)) = _
  rw [V_main_arg0]
  refine Rows.mat_of (n := 16384) (d := 2816) _ _ _ _ ?_ ?_
  · show win0_0.index t 0 * 512 + 1 * i.val = _
    rw [e0]; omega
  · show win0_0.index t 1 * 2816 + 1 * j.val = _
    rw [e1]; omega

theorem blk_w (c : Dev nD) (t : Fin cfg0.N) (i : Fin 2816) (j : Fin 1024) : iblk m c 1 t (ValueIdx.ix2 i j) = w m c i (0 + j) := by
  obtain ⟨-, ⟨e0, e1⟩, -⟩ := idx_facts t
  show V m c main_arg1 ((win0_1.rect t).idx (ValueIdx.ix2 i j)) = _
  rw [V_main_arg1]
  refine Rows.mat_of (n := 2816) (d := 1024) _ _ _ _ ?_ ?_
  · show win0_1.index t 0 * 2816 + 1 * i.val = _
    rw [e0]; omega
  · show win0_1.index t 1 * 1024 + 1 * j.val = _
    rw [e1]; omega

theorem blk_r (c : Dev nD) (t : Fin cfg0.N) (i : Fin 512) (j : Fin 1024) : iblk m c 2 t (ValueIdx.ix2 i j) = r m c (512 * t.val + i) (0 + j) := by
  obtain ⟨-, -, ⟨e0, e1⟩, -⟩ := idx_facts t
  show V m c main_arg2 ((win0_2.rect t).idx (ValueIdx.ix2 i j)) = _
  rw [V_main_arg2]
  refine Rows.mat_of (n := 16384) (d := 1024) _ _ _ _ ?_ ?_
  · show win0_2.index t 0 * 512 + 1 * i.val = _
    rw [e0]; omega
  · show win0_2.index t 1 * 1024 + 1 * j.val = _
    rw [e1]; omega

/-- The array the kernel leaves. -/
def out (c : Dev nD) : Buf (Elt Ideal) ((c : Thread nD τ).loc main_v0) := fun i => Rows.down (u m c) (w m c) (r m c) (i 0).val (i 1).val

/-- What a point writes back is its block of that array. -/
theorem flushed_eq (c : Dev nD) (t : Fin cfg0.N) :
    (dats m 0 c).flushed 3 t = ((cfg0.win 3).blk t).view.read (Elt Ideal) (out m c) := by
  rw [Value.flushed3, out_eq]
  obtain ⟨-, -, -, ⟨e0, e1⟩⟩ := idx_facts t
  funext i
  have h0 : ((win0_3.rect t).idx i 0).val = 512 * t.val + (i 0).val := by
    show win0_3.index t 0 * 512 + 1 * (i 0).val = _
    rw [e0]; omega
  have h1 : ((win0_3.rect t).idx i 1).val = 0 + (i 1).val := by
    show win0_3.index t 1 * 1024 + 1 * (i 1).val = _
    rw [e1]; omega
  show _ = out m c ((win0_3.rect t).idx i)
  unfold out
  rw [h0, h1]
  obtain ⟨a, b, rfl⟩ : ∃ (a : Fin 512) (b : Fin 1024), i = ValueIdx.ix2 a b := ⟨i 0, i 1, ValueIdx.eq_ix2 (n0 := 512) (n1 := 1024) i⟩
  show HAdd.hAdd (α := EReal) (β := EReal) (γ := EReal) (iblk m c 2 t (ValueIdx.ix2 a b))
    (Rows.prod (F := Ideal) (M := 512) (K := 2816) (N := 1024) _ _ (ValueIdx.ix2 a b))
    = Rows.down (u m c) (w m c) (r m c) (512 * t.val + a.val) (0 + b.val)
  rw [blk_r, Rows.prod_mm _ _ (u m c) (w m c) (512 * t.val) 0 (blk_u m c t) (blk_w m c t)]
  rfl

/-- Every entry is in the block of a point. -/
theorem cover (i : S16384x1024.Idx) : ∃ t : Fin cfg0.N, (cfg0.win 3).flush t = true ∧ i ∈ ((cfg0.win 3).blk t).view.set := by
  have h0 : (i 0 : Nat) < 16384 := (i 0).isLt
  have h1 : (i 1 : Nat) < 1024 := (i 1).isLt
  have hN : cfg0.N = 32 := by decide +kernel
  let t : Fin cfg0.N := ⟨(i 0).val / 512, by rw [hN]; omega⟩
  obtain ⟨-, -, -, ⟨e0, e1⟩⟩ := idx_facts t
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [e0]; show (i 0).val / 512 * 512 ≤ _ ∧ _ < (i 0).val / 512 * 512 + 512; omega
  | ⟨1, _⟩ =>
    show win0_3.index t 1 * 1024 ≤ (i 1).val ∧ (i 1).val < win0_3.index t 1 * 1024 + 1024
    rw [e1]; omega

/-- The run: the result at the formula, the arguments unchanged. -/
theorem run : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c).1.trans ((dats m 0 c).arrAt_eq_of_cover 3 (out m c) (fun t _ => flushed_eq m c t) cover), (h c).2⟩)
    (Value.run_blocks m ρ)

end Cert.DownprojIdeal.RefValue

namespace Cert.RefdownprojIdeal.RefValue

open Cert.RefdownprojIdeal Cert.RefdownprojIdeal.Gen Cert.RefdownprojIdeal.Read Idealize.ShloMosaic Idealize.ShloMosaic.TcCoe

/-- The reference's result at an index. -/
theorem v3_apply (x0 : (⟨S16384x2816, .bf16⟩ : BufTy).Contents (Elt Ideal)) (x1 : (⟨S2816x1024, .bf16⟩ : BufTy).Contents (Elt Ideal))
    (x2 : (⟨S16384x1024, .f32⟩ : BufTy).Contents (Elt Ideal)) (i : S16384x1024.Idx) :
    val_main_v3 (F := Ideal) x0 x1 x2 i = Rows.down (Rows.mat x0) (Rows.mat x1) (Rows.mat x2) (i 0).val (i 1).val := by
  rw [val_main_v3_apply, val_main_v2_apply, Rows.mat_of x2 i _ _ rfl rfl]
  refine congrArg (fun y : EReal => _ + y) (Finset.sum_congr rfl fun k _ => ?_)
  exact congrArg₂ (fun y z : EReal => y * z) (Rows.mat_of x0 (lidx_main_v2 i k) (i 0).val k rfl rfl)
    (Rows.mat_of x1 (ridx_main_v2 i k) k (i 1).val rfl rfl)

end Cert.RefdownprojIdeal.RefValue

namespace Cert.EvenoutIdeal.RefValue

open Cert.EvenoutIdeal Cert.EvenoutIdeal.Gen Idealize.ShloMosaic Idealize.ShloMosaic.TcCoe Idealize.SL.Sem
open Idealize.ShloMosaic.Pipeline (Dat)

section Any
variable {F : FTy → Type} [FloatOps F]

/-- The block a point stores. -/
theorem out_eq (u : Vec F S512x512 .bf16) (wu : Vec F S512x1024 .bf16) (v : Vec F S512x512 .bf16) (wv : Vec F S512x1024 .bf16) (r : Vec F S512x1024 .f32) :
    out0_5 u wu v wv r = addf (addf r (Rows.prod u wu : FVec F S512x1024 .f32)) (Rows.prod v wv : FVec F S512x1024 .f32) := by
  unfold out0_5
  rw [View.canon_unit_zero Rows.hz]
  rw [show View.ld r r0_0 = r from View.ld_unit_zero Rows.hz _ r, show View.ld u r0_1 = u from View.ld_unit_zero Rows.hz _ u,
    show View.ld wu r0_0 = wu from View.ld_unit_zero Rows.hz _ wu, show View.ld v r0_1 = v from View.ld_unit_zero Rows.hz _ v,
    show View.ld wv r0_0 = wv from View.ld_unit_zero Rows.hz _ wv]
  rfl

end Any

variable (m : (ℓ : Loc nD τ sig) → Buf (Elt Ideal) ℓ) (ρ : Dev nD → PrngReg)

/-- The places of a point's blocks. -/
theorem idx_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) :=
  (by decide +kernel : ∀ t : Fin grid0.N, _)

/-- The arguments as functions of row and column. -/
abbrev u (c : Dev nD) : Nat → Nat → EReal := Rows.mat (n := 16384) (d := 512) (m ((c : Thread nD τ).loc main_arg0))
abbrev wu (c : Dev nD) : Nat → Nat → EReal := Rows.mat (n := 512) (d := 1024) (m ((c : Thread nD τ).loc main_arg1))
abbrev v (c : Dev nD) : Nat → Nat → EReal := Rows.mat (n := 16384) (d := 512) (m ((c : Thread nD τ).loc main_arg2))
abbrev wv (c : Dev nD) : Nat → Nat → EReal := Rows.mat (n := 512) (d := 1024) (m ((c : Thread nD τ).loc main_arg3))
abbrev r (c : Dev nD) : Nat → Nat → EReal := Rows.mat (n := 16384) (d := 1024) (m ((c : Thread nD τ).loc main_arg4))

theorem blk_u (c : Dev nD) (t : Fin cfg0.N) (i : Fin 512) (j : Fin 512) : iblk m c 0 t (ValueIdx.ix2 i j) = u m c (512 * t.val + i) j := by
  obtain ⟨⟨e0, e1⟩, -⟩ := idx_facts t
  show V m c main_arg0 ((win0_0.rect t).idx (ValueIdx.ix2 i j)) = _
  rw [V_main_arg0]
  refine Rows.mat_of (n := 16384) (d := 512) _ _ _ _ ?_ ?_
  · show win0_0.index t 0 * 512 + 1 * i.val = _
    rw [e0]; omega
  · show win0_0.index t 1 * 512 + 1 * j.val = _
    rw [e1]; omega

theorem blk_wu (c : Dev nD) (t : Fin cfg0.N) (i : Fin 512) (j : Fin 1024) : iblk m c 1 t (ValueIdx.ix2 i j) = wu m c i (0 + j) := by
  obtain ⟨-, ⟨e0, e1⟩, -⟩ := idx_facts t
  show V m c main_arg1 ((win0_1.rect t).idx (ValueIdx.ix2 i j)) = _
  rw [V_main_arg1]
  refine Rows.mat_of (n := 512) (d := 1024) _ _ _ _ ?_ ?_
  · show win0_1.index t 0 * 512 + 1 * i.val = _
    rw [e0]; omega
  · show win0_1.index t 1 * 1024 + 1 * j.val = _
    rw [e1]; omega

theorem blk_v (c : Dev nD) (t : Fin cfg0.N) (i : Fin 512) (j : Fin 512) : iblk m c 2 t (ValueIdx.ix2 i j) = v m c (512 * t.val + i) j := by
  obtain ⟨-, -, ⟨e0, e1⟩, -⟩ := idx_facts t
  show V m c main_arg2 ((win0_2.rect t).idx (ValueIdx.ix2 i j)) = _
  rw [V_main_arg2]
  refine Rows.mat_of (n := 16384) (d := 512) _ _ _ _ ?_ ?_
  · show win0_2.index t 0 * 512 + 1 * i.val = _
    rw [e0]; omega
  · show win0_2.index t 1 * 512 + 1 * j.val = _
    rw [e1]; omega

theorem blk_wv (c : Dev nD) (t : Fin cfg0.N) (i : Fin 512) (j : Fin 1024) : iblk m c 3 t (ValueIdx.ix2 i j) = wv m c i (0 + j) := by
  obtain ⟨-, -, -, ⟨e0, e1⟩, -⟩ := idx_facts t
  show V m c main_arg3 ((win0_3.rect t).idx (ValueIdx.ix2 i j)) = _
  rw [V_main_arg3]
  refine Rows.mat_of (n := 512) (d := 1024) _ _ _ _ ?_ ?_
  · show win0_3.index t 0 * 512 + 1 * i.val = _
    rw [e0]; omega
  · show win0_3.index t 1 * 1024 + 1 * j.val = _
    rw [e1]; omega

theorem blk_r (c : Dev nD) (t : Fin cfg0.N) (i : Fin 512) (j : Fin 1024) : iblk m c 4 t (ValueIdx.ix2 i j) = r m c (512 * t.val + i) (0 + j) := by
  obtain ⟨-, -, -, -, ⟨e0, e1⟩, -⟩ := idx_facts t
  show V m c main_arg4 ((win0_4.rect t).idx (ValueIdx.ix2 i j)) = _
  rw [V_main_arg4]
  refine Rows.mat_of (n := 16384) (d := 1024) _ _ _ _ ?_ ?_
  · show win0_4.index t 0 * 512 + 1 * i.val = _
    rw [e0]; omega
  · show win0_4.index t 1 * 1024 + 1 * j.val = _
    rw [e1]; omega

/-- The array the kernel leaves. -/
def out (c : Dev nD) : Buf (Elt Ideal) ((c : Thread nD τ).loc main_v0) :=
  fun i => Rows.evenOut (u m c) (wu m c) (v m c) (wv m c) (r m c) (i 0).val (i 1).val

/-- What a point writes back is its block of that array. -/
theorem flushed_eq (c : Dev nD) (t : Fin cfg0.N) :
    (dats m 0 c).flushed 5 t = ((cfg0.win 5).blk t).view.read (Elt Ideal) (out m c) := by
  rw [Value.flushed5, out_eq]
  obtain ⟨-, -, -, -, -, ⟨e0, e1⟩⟩ := idx_facts t
  funext i
  have h0 : ((win0_5.rect t).idx i 0).val = 512 * t.val + (i 0).val := by
    show win0_5.index t 0 * 512 + 1 * (i 0).val = _
    rw [e0]; omega
  have h1 : ((win0_5.rect t).idx i 1).val = 0 + (i 1).val := by
    show win0_5.index t 1 * 1024 + 1 * (i 1).val = _
    rw [e1]; omega
  show _ = out m c ((win0_5.rect t).idx i)
  unfold out
  rw [h0, h1]
  obtain ⟨a, b, rfl⟩ : ∃ (a : Fin 512) (b : Fin 1024), i = ValueIdx.ix2 a b := ⟨i 0, i 1, ValueIdx.eq_ix2 (n0 := 512) (n1 := 1024) i⟩
  show HAdd.hAdd (α := EReal) (β := EReal) (γ := EReal) (HAdd.hAdd (α := EReal) (β := EReal) (γ := EReal) (iblk m c 4 t (ValueIdx.ix2 a b))
    (Rows.prod (F := Ideal) (M := 512) (K := 512) (N := 1024) _ _ (ValueIdx.ix2 a b)))
    (Rows.prod (F := Ideal) (M := 512) (K := 512) (N := 1024) _ _ (ValueIdx.ix2 a b))
    = Rows.evenOut (u m c) (wu m c) (v m c) (wv m c) (r m c) (512 * t.val + a.val) (0 + b.val)
  rw [blk_r, Rows.prod_mm _ _ (u m c) (wu m c) (512 * t.val) 0 (blk_u m c t) (blk_wu m c t),
    Rows.prod_mm _ _ (v m c) (wv m c) (512 * t.val) 0 (blk_v m c t) (blk_wv m c t)]
  rfl

/-- Every entry is in the block of a point. -/
theorem cover (i : S16384x1024.Idx) : ∃ t : Fin cfg0.N, (cfg0.win 5).flush t = true ∧ i ∈ ((cfg0.win 5).blk t).view.set := by
  have h0 : (i 0 : Nat) < 16384 := (i 0).isLt
  have h1 : (i 1 : Nat) < 1024 := (i 1).isLt
  have hN : cfg0.N = 32 := by decide +kernel
  let t : Fin cfg0.N := ⟨(i 0).val / 512, by rw [hN]; omega⟩
  obtain ⟨-, -, -, -, -, ⟨e0, e1⟩⟩ := idx_facts t
  refine ⟨t, flush0_5 t, ?_⟩
  show i ∈ ((View.whole main_v0).slice (win0_5.rect t)).set
  rw [View.set_slice_whole, Rect.mem_set_unit]
  intro a
  match a with
  | ⟨0, _⟩ =>
    show win0_5.index t 0 * 512 ≤ (i 0).val ∧ (i 0).val < win0_5.index t 0 * 512 + 512
    rw [e0]; show (i 0).val / 512 * 512 ≤ _ ∧ _ < (i 0).val / 512 * 512 + 512; omega
  | ⟨1, _⟩ =>
    show win0_5.index t 1 * 1024 ≤ (i 1).val ∧ (i 1).val < win0_5.index t 1 * 1024 + 1024
    rw [e1]; omega

/-- The run: the result at the formula, the arguments unchanged. -/
theorem run : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨(h c).1.trans ((dats m 0 c).arrAt_eq_of_cover 5 (out m c) (fun t _ => flushed_eq m c t) cover), (h c).2⟩)
    (Value.run_blocks m ρ)

end Cert.EvenoutIdeal.RefValue

namespace Cert.RefevenoutIdeal.RefValue

open Cert.RefevenoutIdeal Cert.RefevenoutIdeal.Gen Cert.RefevenoutIdeal.Read Idealize.ShloMosaic Idealize.ShloMosaic.TcCoe

variable (x0 x2 : (⟨S16384x512, .bf16⟩ : BufTy).Contents (Elt Ideal)) (x1 x3 : (⟨S512x1024, .bf16⟩ : BufTy).Contents (Elt Ideal))
  (x4 : (⟨S16384x1024, .f32⟩ : BufTy).Contents (Elt Ideal))

/-- The two halves side by side, in the first. -/
theorem v0_left (a : Fin 16384) (k : Fin 512) (j : S16384x1024.Idx) (h0 : (j 0).val = a.val) (h1 : (j 1).val = k.val) :
    val_main_v0 (F := Ideal) x0 x2 j = Rows.mat x0 a k := by
  refine Eq.trans ?_ (Rows.mat_of x0 (ValueIdx.ix2 a k) a k rfl rfl)
  exact concatenate_pair_apply_left (s₁ := S16384x512) (s₂ := S16384x512) _ _ _ _ j rfl (ValueIdx.ix2 a k) (fun b => match b with
    | ⟨0, _⟩ => h0.symm
    | ⟨1, _⟩ => h1.symm)

/-- The two halves side by side, in the second. -/
theorem v0_right (a : Fin 16384) (k : Fin 512) (j : S16384x1024.Idx) (h0 : (j 0).val = a.val) (h1 : (j 1).val = 512 + k.val) :
    val_main_v0 (F := Ideal) x0 x2 j = Rows.mat x2 a k := by
  refine Eq.trans ?_ (Rows.mat_of x2 (ValueIdx.ix2 a k) a k rfl rfl)
  refine concatenate_pair_apply_right (s₁ := S16384x512) (s₂ := S16384x512) _ _ _ _ j rfl rfl (ValueIdx.ix2 a k) (fun b hb => ?_) ?_
  · match b with
    | ⟨0, _⟩ => exact h0.symm
    | ⟨1, _⟩ => exact absurd rfl hb
  · show k.val + 512 = (j 1).val
    omega

/-- The two weights one above the other, in the first. -/
theorem v2_left (b : Fin 1024) (k : Fin 512) (j : S1024x1024.Idx) (h0 : (j 0).val = k.val) (h1 : (j 1).val = b.val) :
    val_main_v2 (F := Ideal) x1 x3 j = Rows.mat x1 k b := by
  refine Eq.trans ?_ (Rows.mat_of x1 (ValueIdx.ix2 k b) k b rfl rfl)
  exact concatenate_pair_apply_left (s₁ := S512x1024) (s₂ := S512x1024) _ _ _ _ j rfl (ValueIdx.ix2 k b) (fun b => match b with
    | ⟨0, _⟩ => h0.symm
    | ⟨1, _⟩ => h1.symm)

/-- The two weights one above the other, in the second. -/
theorem v2_right (b : Fin 1024) (k : Fin 512) (j : S1024x1024.Idx) (h0 : (j 0).val = 512 + k.val) (h1 : (j 1).val = b.val) :
    val_main_v2 (F := Ideal) x1 x3 j = Rows.mat x3 k b := by
  refine Eq.trans ?_ (Rows.mat_of x3 (ValueIdx.ix2 k b) k b rfl rfl)
  refine concatenate_pair_apply_right (s₁ := S512x1024) (s₂ := S512x1024) _ _ _ _ j rfl rfl (ValueIdx.ix2 k b) (fun b hb => ?_) ?_
  · match b with
    | ⟨0, _⟩ => exact absurd rfl hb
    | ⟨1, _⟩ => exact h1.symm
  · show k.val + 512 = (j 0).val
    omega

/-- The reference's result at an index: the long product is the sum of the two halves' products. -/
theorem v5_apply (i : S16384x1024.Idx) : val_main_v5 (F := Ideal) x0 x1 x2 x3 x4 i
    = Rows.evenOut (Rows.mat x0) (Rows.mat x1) (Rows.mat x2) (Rows.mat x3) (Rows.mat x4) (i 0).val (i 1).val := by
  have p : val_main_v4 (F := Ideal) x0 x1 x2 x3 i = Rows.mm 512 (Rows.mat x0) (Rows.mat x1) (i 0).val (i 1).val
      + Rows.mm 512 (Rows.mat x2) (Rows.mat x3) (i 0).val (i 1).val := by
    rw [val_main_v4_apply]
    refine (Fin.sum_univ_add (a := 512) (b := 512) _).trans (congrArg₂ (fun y z : EReal => y + z) ?_ ?_)
    · refine Finset.sum_congr rfl fun k _ => ?_
      exact congrArg₂ (fun y z : EReal => y * z) (v0_left x0 x2 (i 0) k _ rfl rfl) (v2_left x1 x3 (i 1) k _ rfl rfl)
    · refine Finset.sum_congr rfl fun k _ => ?_
      exact congrArg₂ (fun y z : EReal => y * z) (v0_right x0 x2 (i 0) k _ rfl rfl) (v2_right x1 x3 (i 1) k _ rfl rfl)
  rw [val_main_v5_apply, p, Rows.mat_of x4 i _ _ rfl rfl]
  exact (add_assoc _ _ _).symm

end Cert.RefevenoutIdeal.RefValue

end
-- ==== Proof.NormIn.lean ====
/-
  The projections at a layer's entrance: the normed rows times the layer's weights.  The kernels run over the columns'
  tiles and, inside, the rows' tiles; the references take the whole product.
-/
module

public import proofs.«01_k».proof.Proof.Ple
public import proofs.«01_k».proof.Proof.Down
public import proofs.«01_k».proof.Proof.Gen.EveninIdeal.Value
public import proofs.«01_k».proof.Proof.Gen.RefeveninIdeal.Run
public import proofs.«01_k».proof.Proof.Gen.RefeveninIdeal.Read
public import proofs.«01_k».proof.Proof.Gen.OddinIdeal.Value
public import proofs.«01_k».proof.Proof.Gen.RefoddinIdeal.Run
public import proofs.«01_k».proof.Proof.Gen.RefoddinIdeal.Read
public import Idealize.ShloMosaic.Lib.Claim

@[expose] public section

set_option maxRecDepth 65536

noncomputable section

namespace Cert.EveninIdeal.RefValue

open Cert.EveninIdeal Cert.EveninIdeal.Gen Idealize.ShloMosaic Idealize.ShloMosaic.TcCoe Idealize.SL.Sem
open Idealize.ShloMosaic.Pipeline (Dat)

section Any
variable {F : FTy → Type} [FloatOps F]

/-- The block a point stores. -/
theorem out_eq (x : Vec F S512x1024 .f32) (g : Vec F S1x1024 .f32) (w : Vec F S1024x1408 .bf16) :
    out0_3 x g w = (Rows.prod (truncf .bf16 (Rows.rms reduces_S512x1024_S512 shapeCasts_S512_S512x1 broadcasts_S512x1_S512x1024 broadcasts_S1x1024_S512x1024 x g) bitsLt_bf16_f32) w
      : FVec F S512x1408 .f32) := by
  unfold out0_3
  rw [View.canon_unit_zero Rows.hz, show View.ld x r0_0 = x from View.ld_unit_zero Rows.hz _ x,
    show View.ld g r0_1 = g from View.ld_unit_zero Rows.hz _ g, show View.ld w r0_2 = w from View.ld_unit_zero Rows.hz _ w]
  rfl

end Any

variable (m : (ℓ : Loc nD τ sig) → Buf (Elt Ideal) ℓ) (ρ : Dev nD → PrngReg)

/-- The places of a point's blocks: point `t` is at column tile `t / 32` and row tile `t % 32`. -/
theorem idx_facts : ∀ t : Fin cfg0.N,
    (win0_0.index t 0 = t.val % 32 ∧ win0_0.index t 1 = 0) ∧ (win0_1.index t 0 = 0 ∧ win0_1.index t 1 = 0)
    ∧ (win0_2.index t 0 = 0 ∧ win0_2.index t 1 = t.val / 32) ∧ (win0_3.index t 0 = t.val % 32 ∧ win0_3.index t 1 = t.val / 32) :=
  (by decide +kernel : ∀ t : Fin grid0.N, _)

/-- The arguments as functions of row and column. -/
abbrev x (c : Dev nD) : Nat → Nat → EReal := Rows.mat (n := 16384) (d := 1024) (m ((c : Thread nD τ).loc main_arg0))
abbrev g (c : Dev nD) : Nat → Nat → EReal := Rows.mat (n := 1) (d := 1024) (m ((c : Thread nD τ).loc main_arg1))
abbrev w (c : Dev nD) : Nat → Nat → EReal := Rows.mat (n := 1024) (d := 4224) (m ((c : Thread nD τ).loc main_arg2))

theorem blk_x (c : Dev nD) (t : Fin cfg0.N) (i : Fin 512) (j : Fin 1024) :
    iblk m c 0 t (ValueIdx.ix2 i j) = x m c (512 * (t.val % 32) + i) j := by
  obtain ⟨⟨e0, e1⟩, -⟩ := idx_facts t
  show V m c main_arg0 ((win0_0.rect t).idx (ValueIdx.ix2 i j)) = _
  rw [V_main_arg0]
  refine Rows.mat_of (n := 16384) (d := 1024) _ _ _ _ ?_ ?_
  · show win0_0.index t 0 * 512 + 1 * i.val = _
    rw [e0]; omega
  · show win0_0.index t 1 * 1024 + 1 * j.val = _
    rw [e1]; omega

theorem blk_g (c : Dev nD) (t : Fin cfg0.N) (j : Fin 1024) : iblk m c 1 t (ValueIdx.ix2 (0 : Fin 1) j) = g m c 0 j := by
  obtain ⟨-, ⟨e0, e1⟩, -⟩ := idx_facts t
  show V m c main_arg1 ((win0_1.rect t).idx (ValueIdx.ix2 (0 : Fin 1) j)) = _
  rw [V_main_arg1]
  refine Rows.mat_of (n := 1) (d := 1024) _ _ _ _ ?_ ?_
  · show win0_1.index t 0 * 1 + 1 * 0 = _
    rw [e0]
  · show win0_1.index t 1 * 1024 + 1 * j.val = _
    rw [e1]; omega

theorem blk_w (c : Dev nD) (t : Fin cfg0.N) (i : Fin 1024) (j : Fin 1408) :
    iblk m c 2 t (ValueIdx.ix2 i j) = w m c i (1408 * (t.val / 32) + j) := by
  obtain ⟨-, -, ⟨e0, e1⟩, -⟩ := idx_facts t
  show V m c main_arg2 ((win0_2.rect t).idx (ValueIdx.ix2 i j)) = _
  rw [V_main_arg2]
  refine Rows.mat_of (n := 1024) (d := 4224) _ _ _ _ ?_ ?_
  · show win0_2.index t 0 * 1024 + 1 * i.val = _
    rw [e0]; omega
  · show win0_2.index t 1 * 1408 + 1 * j.val = _
    rw [e1]; omega

/-- The array the kernel leaves. -/
def out (c : Dev nD) : Buf (Elt Ideal) ((c : Thread nD τ).loc main_v0) :=
  fun i => Rows.mm 1024 (Rows.norm (x m c) (g m c)) (w m c) (i 0).val (i 1).val

/-- What a point writes back is its block of that array. -/
theorem flushed_eq (c : Dev nD) (t : Fin cfg0.N) :
    (dats m 0 c).flushed 3 t = ((cfg0.win 3).blk t).view.read (Elt Ideal) (out m c) := by
  rw [Value.flushed3, out_eq]
  obtain ⟨-, -, -, ⟨e0, e1⟩⟩ := idx_facts t
  funext i
  have h0 : ((win0_3.rect t).idx i 0).val = 512 * (t.val % 32) + (i 0).val := by
    show win0_3.index t 0 * 512 + 1 * (i 0).val = _
    rw [e0]; omega
  have h1 : ((win0_3.rect t).idx i 1).val = 1408 * (t.val / 32) + (i 1).val := by
    show win0_3.index t 1 * 1408 + 1 * (i 1).val = _
    rw [e1]; omega
  show _ = out m c ((win0_3.rect t).idx i)
  unfold out
  rw [h0, h1]
  obtain ⟨a, b, rfl⟩ : ∃ (a : Fin 512) (b : Fin 1408), i = ValueIdx.ix2 a b := ⟨i 0, i 1, ValueIdx.eq_ix2 (n0 := 512) (n1 := 1408) i⟩
  exact Rows.prod_rms _ _ _ _ _ _ _ _ (x m c) (g m c) (w m c) (512 * (t.val % 32)) (1408 * (t.val / 32)) (blk_x m c t) (blk_g m c t) (blk_w m c t) a b

/-- Every entry is in the block of a point. -/
theorem cover (i : S16384x4224.Idx) : ∃ t : Fin cfg0.N, (cfg0.win 3).flush t = true ∧ i ∈ ((cfg0.win 3).blk t).view.set := by
  have h0 : (i 0 : Nat) < 16384 := (i 0).isLt
  have h1 : (i 1 : Nat) < 4224 := (i 1).isLt
  have hN : cfg0.N = 96 := by decide +kernel
  let t : Fin cfg0.N := ⟨(i 1).val / 1408 * 32 + (i 0).val / 512, by rw [hN]; omega⟩
  have ht : t.val = (i 1).val / 1408 * 32 + (i 0).val / 512 := rfl
  obtain ⟨-, -, -, ⟨e0, e1⟩⟩ := idx_facts t
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [e0, ht]; omega
  | ⟨1, _⟩ =>
    show win0_3.index t 1 * 1408 ≤ (i 1).val ∧ (i 1).val < win0_3.index t 1 * 1408 + 1408
    rw [e1, ht]; omega

/-- The run: the result at the formula, the arguments unchanged. -/
theorem run : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c).1.trans ((dats m 0 c).arrAt_eq_of_cover 3 (out m c) (fun t _ => flushed_eq m c t) cover), (h c).2⟩)
    (Value.run_blocks m ρ)

end Cert.EveninIdeal.RefValue

namespace Cert.RefeveninIdeal.RefValue

open Cert.RefeveninIdeal Cert.RefeveninIdeal.Gen Cert.RefeveninIdeal.Read Idealize.ShloMosaic Idealize.ShloMosaic.TcCoe

/-- The reference's result at an index. -/
theorem v13_apply (x0 : (⟨S16384x1024, .f32⟩ : BufTy).Contents (Elt Ideal)) (x1 : (⟨S1x1024, .f32⟩ : BufTy).Contents (Elt Ideal))
    (x2 : (⟨S1024x4224, .bf16⟩ : BufTy).Contents (Elt Ideal)) (i : S16384x4224.Idx) :
    val_main_v13 (F := Ideal) x0 x1 x2 i = Rows.mm 1024 (Rows.norm (Rows.mat x0) (Rows.mat x1)) (Rows.mat x2) (i 0).val (i 1).val := by
  rw [val_main_v13_apply]
  refine Finset.sum_congr rfl fun k _ => ?_
  exact congrArg₂ (fun y z : EReal => y * z) (Cert.RefpleoutIdeal.RefValue.v11_apply x0 x1 (lidx_main_v13 i k))
    (Rows.mat_of x2 (ridx_main_v13 i k) k (i 1).val rfl rfl)

end Cert.RefeveninIdeal.RefValue

namespace Cert.OddinIdeal.RefValue

open Cert.OddinIdeal Cert.OddinIdeal.Gen Idealize.ShloMosaic Idealize.ShloMosaic.TcCoe Idealize.SL.Sem
open Idealize.ShloMosaic.Pipeline (Dat)

section Any
variable {F : FTy → Type} [FloatOps F]

/-- The block a point stores. -/
theorem out_eq (x : Vec F S512x1024 .f32) (g : Vec F S1x1024 .f32) (w : Vec F S1024x1024 .bf16) :
    out0_3 x g w = (Rows.prod (truncf .bf16 (Rows.rms reduces_S512x1024_S512 shapeCasts_S512_S512x1 broadcasts_S512x1_S512x1024 broadcasts_S1x1024_S512x1024 x g) bitsLt_bf16_f32) w
      : FVec F S512x1024 .f32) := by
  unfold out0_3
  rw [View.canon_unit_zero Rows.hz, show View.ld x r0_0 = x from View.ld_unit_zero Rows.hz _ x,
    show View.ld g r0_1 = g from View.ld_unit_zero Rows.hz _ g, show View.ld w r0_2 = w from View.ld_unit_zero Rows.hz _ w]
  rfl

end Any

variable (m : (ℓ : Loc nD τ sig) → Buf (Elt Ideal) ℓ) (ρ : Dev nD → PrngReg)

/-- The places of a point's blocks: point `t` is at column tile `t / 32` and row tile `t % 32`. -/
theorem idx_facts : ∀ t : Fin cfg0.N,
    (win0_0.index t 0 = t.val % 32 ∧ win0_0.index t 1 = 0) ∧ (win0_1.index t 0 = 0 ∧ win0_1.index t 1 = 0)
    ∧ (win0_2.index t 0 = 0 ∧ win0_2.index t 1 = t.val / 32) ∧ (win0_3.index t 0 = t.val % 32 ∧ win0_3.index t 1 = t.val / 32) :=
  (by decide +kernel : ∀ t : Fin grid0.N, _)

/-- The arguments as functions of row and column. -/
abbrev x (c : Dev nD) : Nat → Nat → EReal := Rows.mat (n := 16384) (d := 1024) (m ((c : Thread nD τ).loc main_arg0))
abbrev g (c : Dev nD) : Nat → Nat → EReal := Rows.mat (n := 1) (d := 1024) (m ((c : Thread nD τ).loc main_arg1))
abbrev w (c : Dev nD) : Nat → Nat → EReal := Rows.mat (n := 1024) (d := 3072) (m ((c : Thread nD τ).loc main_arg2))

theorem blk_x (c : Dev nD) (t : Fin cfg0.N) (i : Fin 512) (j : Fin 1024) :
    iblk m c 0 t (ValueIdx.ix2 i j) = x m c (512 * (t.val % 32) + i) j := by
  obtain ⟨⟨e0, e1⟩, -⟩ := idx_facts t
  show V m c main_arg0 ((win0_0.rect t).idx (ValueIdx.ix2 i j)) = _
  rw [V_main_arg0]
  refine Rows.mat_of (n := 16384) (d := 1024) _ _ _ _ ?_ ?_
  · show win0_0.index t 0 * 512 + 1 * i.val = _
    rw [e0]; omega
  · show win0_0.index t 1 * 1024 + 1 * j.val = _
    rw [e1]; omega

theorem blk_g (c : Dev nD) (t : Fin cfg0.N) (j : Fin 1024) : iblk m c 1 t (ValueIdx.ix2 (0 : Fin 1) j) = g m c 0 j := by
  obtain ⟨-, ⟨e0, e1⟩, -⟩ := idx_facts t
  show V m c main_arg1 ((win0_1.rect t).idx (ValueIdx.ix2 (0 : Fin 1) j)) = _
  rw [V_main_arg1]
  refine Rows.mat_of (n := 1) (d := 1024) _ _ _ _ ?_ ?_
  · show win0_1.index t 0 * 1 + 1 * 0 = _
    rw [e0]
  · show win0_1.index t 1 * 1024 + 1 * j.val = _
    rw [e1]; omega

theorem blk_w (c : Dev nD) (t : Fin cfg0.N) (i : Fin 1024) (j : Fin 1024) :
    iblk m c 2 t (ValueIdx.ix2 i j) = w m c i (1024 * (t.val / 32) + j) := by
  obtain ⟨-, -, ⟨e0, e1⟩, -⟩ := idx_facts t
  show V m c main_arg2 ((win0_2.rect t).idx (ValueIdx.ix2 i j)) = _
  rw [V_main_arg2]
  refine Rows.mat_of (n := 1024) (d := 3072) _ _ _ _ ?_ ?_
  · show win0_2.index t 0 * 1024 + 1 * i.val = _
    rw [e0]; omega
  · show win0_2.index t 1 * 1024 + 1 * j.val = _
    rw [e1]; omega

/-- The array the kernel leaves. -/
def out (c : Dev nD) : Buf (Elt Ideal) ((c : Thread nD τ).loc main_v0) :=
  fun i => Rows.mm 1024 (Rows.norm (x m c) (g m c)) (w m c) (i 0).val (i 1).val

/-- What a point writes back is its block of that array. -/
theorem flushed_eq (c : Dev nD) (t : Fin cfg0.N) :
    (dats m 0 c).flushed 3 t = ((cfg0.win 3).blk t).view.read (Elt Ideal) (out m c) := by
  rw [Value.flushed3, out_eq]
  obtain ⟨-, -, -, ⟨e0, e1⟩⟩ := idx_facts t
  funext i
  have h0 : ((win0_3.rect t).idx i 0).val = 512 * (t.val % 32) + (i 0).val := by
    show win0_3.index t 0 * 512 + 1 * (i 0).val = _
    rw [e0]; omega
  have h1 : ((win0_3.rect t).idx i 1).val = 1024 * (t.val / 32) + (i 1).val := by
    show win0_3.index t 1 * 1024 + 1 * (i 1).val = _
    rw [e1]; omega
  show _ = out m c ((win0_3.rect t).idx i)
  unfold out
  rw [h0, h1]
  obtain ⟨a, b, rfl⟩ : ∃ (a : Fin 512) (b : Fin 1024), i = ValueIdx.ix2 a b := ⟨i 0, i 1, ValueIdx.eq_ix2 (n0 := 512) (n1 := 1024) i⟩
  exact Rows.prod_rms _ _ _ _ _ _ _ _ (x m c) (g m c) (w m c) (512 * (t.val % 32)) (1024 * (t.val / 32)) (blk_x m c t) (blk_g m c t) (blk_w m c t) a b

/-- Every entry is in the block of a point. -/
theorem cover (i : S16384x3072.Idx) : ∃ t : Fin cfg0.N, (cfg0.win 3).flush t = true ∧ i ∈ ((cfg0.win 3).blk t).view.set := by
  have h0 : (i 0 : Nat) < 16384 := (i 0).isLt
  have h1 : (i 1 : Nat) < 3072 := (i 1).isLt
  have hN : cfg0.N = 96 := by decide +kernel
  let t : Fin cfg0.N := ⟨(i 1).val / 1024 * 32 + (i 0).val / 512, by rw [hN]; omega⟩
  have ht : t.val = (i 1).val / 1024 * 32 + (i 0).val / 512 := rfl
  obtain ⟨-, -, -, ⟨e0, e1⟩⟩ := idx_facts t
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [e0, ht]; omega
  | ⟨1, _⟩ =>
    show win0_3.index t 1 * 1024 ≤ (i 1).val ∧ (i 1).val < win0_3.index t 1 * 1024 + 1024
    rw [e1, ht]; omega

/-- The run: the result at the formula, the arguments unchanged. -/
theorem run : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c).1.trans ((dats m 0 c).arrAt_eq_of_cover 3 (out m c) (fun t _ => flushed_eq m c t) cover), (h c).2⟩)
    (Value.run_blocks m ρ)

end Cert.OddinIdeal.RefValue

namespace Cert.RefoddinIdeal.RefValue

open Cert.RefoddinIdeal Cert.RefoddinIdeal.Gen Cert.RefoddinIdeal.Read Idealize.ShloMosaic Idealize.ShloMosaic.TcCoe

/-- The reference's result at an index. -/
theorem v13_apply (x0 : (⟨S16384x1024, .f32⟩ : BufTy).Contents (Elt Ideal)) (x1 : (⟨S1x1024, .f32⟩ : BufTy).Contents (Elt Ideal))
    (x2 : (⟨S1024x3072, .bf16⟩ : BufTy).Contents (Elt Ideal)) (i : S16384x3072.Idx) :
    val_main_v13 (F := Ideal) x0 x1 x2 i = Rows.mm 1024 (Rows.norm (Rows.mat x0) (Rows.mat x1)) (Rows.mat x2) (i 0).val (i 1).val := by
  rw [val_main_v13_apply]
  refine Finset.sum_congr rfl fun k _ => ?_
  exact congrArg₂ (fun y z : EReal => y * z) (Cert.RefpleoutIdeal.RefValue.v11_apply x0 x1 (lidx_main_v13 i k))
    (Rows.mat_of x2 (ridx_main_v13 i k) k (i 1).val rfl rfl)

end Cert.RefoddinIdeal.RefValue

end
-- ==== Proof.Act.lean ====
/-
  The feed-forward layer's activation: `gelu(conv(norm x @ wg)) * (norm x @ wu)`, the convolution over the three latest
  rows.  The kernel's blocks take the two rows above them from a halo of eight rows, and zero at the top; the reference
  pads the whole product with two rows of zeros and adds three shifted slices.  Both give the same array.
-/
module

public import proofs.«01_k».proof.Proof.NormIn
public import proofs.«01_k».proof.Proof.Gen.FfnactIdeal.Value
public import proofs.«01_k».proof.Proof.Gen.RefffnactIdeal.Run
public import proofs.«01_k».proof.Proof.Gen.RefffnactIdeal.Read
public import Idealize.ShloMosaic.Lib.KernelVsHost
public import Idealize.ShloMosaic.Lib.WordCmp
public import Idealize.ShloMosaic.Lib.Claim

@[expose] public section

set_option maxRecDepth 65536

noncomputable section

namespace Rows

open Idealize.ShloMosaic Idealize.ShloMosaic.TcCoe

/-- Row `a - k` of `z`, zero above the first row. -/
def prev (k : Nat) (z : Nat → Nat → EReal) (a b : Nat) : EReal := if k ≤ a then z (a - k) b else 0

/-- The convolution over the three latest rows, with the weights' rows `0`, `1`, `2` for the rows two above, one above and
    the row itself. -/
def conv (z cw cb : Nat → Nat → EReal) (a b : Nat) : EReal := cw 2 b * z a b + cw 1 b * prev 1 z a b + cw 0 b * prev 2 z a b + cb 0 b

/-- The constants of `gelu`: one half, the cube's coefficient and the root of `2 / π`. -/
def half : EReal := (FloatOps.ofBits .f32 0x3F000000#32 : Ideal .f32)
def cube : EReal := (FloatOps.ofBits .f32 0x3D372713#32 : Ideal .f32)
def root : EReal := (FloatOps.ofBits .f32 0x3F4C422A#32 : Ideal .f32)
def one : EReal := (FloatOps.ofBits .f32 0x3F800000#32 : Ideal .f32)

/-- The activation function. -/
def gelu (c : EReal) : EReal := half * c * (one + Ideal.tanh (root * (c + cube * (c * c * c))))

/-- The layer's value at row `a` and column `b`. -/
def act (x g wg wu cw cb : Nat → Nat → EReal) (a b : Nat) : EReal :=
  gelu (conv (mm 1024 (norm x g) wg) cw cb a b) * mm 1024 (norm x g) wu a b

section Ops
variable {α : Type}

/-- A row repeated over the rows of a block. -/
theorem bc_row {M N : Nat} (hN : N ≠ 1) (y : (Sh 1 N).Idx → α) (h : (Sh 1 N).Broadcasts (Sh M N)) (i : Fin M) (j : Fin N) :
    broadcastTo (Sh M N) y h (ValueIdx.ix2 i j) = y (ValueIdx.ix2 (0 : Fin 1) j) :=
  broadcastTo_apply y h _ _ fun a => match a with
    | ⟨0, _⟩ => rfl
    | ⟨1, _⟩ => (if_neg hN).symm

/-- One row cut out of a block. -/
theorem cut_row {M N : Nat} (o : Nat) (k : Fin M) (hk : k.val = o) (y : (Sh M N).Idx → α) (h : (Sh M N).Slices ![o, 0] (Sh 1 N)) (j : Fin N) :
    extractStridedSlice (Sh 1 N) ![o, 0] y h (ValueIdx.ix2 (0 : Fin 1) j) = y (ValueIdx.ix2 k j) :=
  extractStridedSlice_apply _ y h _ _ fun a => match a with
    | ⟨0, _⟩ => hk
    | ⟨1, _⟩ => (Nat.zero_add _).symm

/-- A block rotated down by `s` rows, at a row where no row has come round. -/
theorem rot_row {M N : Nat} (s : Nat) (hs : (BitVec.ofNat 32 s).toNat = s) (y : (Sh M N).Idx → α) (h : (Sh M N).Rotates 0 none)
    (i k : Fin M) (hk : k.val + s = i.val) (j : Fin N) :
    dynamicRotate 0 (BitVec.ofNat 32 s) none y h (ValueIdx.ix2 i j) = y (ValueIdx.ix2 k j) :=
  dynamicRotate_apply 0 _ y h _ _ fun a => match a with
    | ⟨0, _⟩ => by
      show k.val = (i.val + M - (BitVec.ofNat 32 s).toNat % M) % M
      have hi := i.isLt
      rw [hs, Nat.mod_eq_of_lt (show s < M by omega), show i.val + M - s = k.val + M by omega, Nat.add_mod_right,
        Nat.mod_eq_of_lt k.isLt]
    | ⟨1, _⟩ => rfl

end Ops

end Rows

namespace Cert.FfnactIdeal.RefValue

open Cert.FfnactIdeal Cert.FfnactIdeal.Gen Idealize.ShloMosaic Idealize.ShloMosaic.TcCoe Idealize.SL.Sem
open Idealize.ShloMosaic.Pipeline (Dat)

section Any
variable {F : FTy → Type} [FloatOps F]

/-- The products of a block's normed rows. -/
def prodX (x : Vec F S256x1024 .f32) (g : Vec F S1x1024 .f32) (w : Vec F S1024x1408 .bf16) : FVec F S256x1408 .f32 :=
  Rows.prod (truncf .bf16 (Rows.rms reduces_S256x1024_S256 shapeCasts_S256_S256x1 broadcasts_S256x1_S256x1024 broadcasts_S1x1024_S256x1024 x g) bitsLt_bf16_f32) w

/-- The products of the halo's normed rows. -/
def prodH (x : Vec F S8x1024 .f32) (g : Vec F S1x1024 .f32) (w : Vec F S1024x1408 .bf16) : FVec F S8x1408 .f32 :=
  Rows.prod (truncf .bf16 (Rows.rms reduces_S8x1024_S8 shapeCasts_S8_S8x1 broadcasts_S8x1_S8x1024 broadcasts_S1x1024_S8x1024 x g) bitsLt_bf16_f32) w

/-- The halo's products, zero where the block is the first. -/
def halo (i : grid0.Coords) (x : Vec F S8x1024 .f32) (g : Vec F S1x1024 .f32) (w : Vec F S1024x1408 .bf16) : FVec F S8x1408 .f32 :=
  Scalar.select (Scalar.cmpi .sgt (BitVec.ofNat 32 (i 1).val) 0#32) (prodH x g w) (broadcast S8x1408 (Scalar.ofBits .f32 0x00000000#32))

/-- The block a point stores. -/
theorem out_eq (i : grid0.Coords) (x : Vec F S256x1024 .f32) (h : Vec F S8x1024 .f32) (g : Vec F S1x1024 .f32) (wg wu : Vec F S1024x1408 .bf16)
    (cw : Vec F S3x1408 .f32) (cb : Vec F S1x1408 .f32) :
    out0_7 i x h g wg wu cw cb
      = k0_pay1 (prodX x g wu) (k0_pay7 (prodX x g wg) (halo i h g wg) cw cb) (k0_pay8 (prodX x g wg) (halo i h g wg) cw cb) := by
  unfold_out out0_7
  rw [View.canon_unit_zero Rows.hz, show View.ld x r0_0 = x from View.ld_unit_zero Rows.hz _ x,
    show View.ld g r0_1 = g from View.ld_unit_zero Rows.hz _ g, show View.ld wg r0_3 = wg from View.ld_unit_zero Rows.hz _ wg,
    show View.ld wu r0_3 = wu from View.ld_unit_zero Rows.hz _ wu, show View.ld h r0_2 = h from View.ld_unit_zero Rows.hz _ h,
    show View.ld cw r0_4 = cw from View.ld_unit_zero Rows.hz _ cw, show View.ld cb r0_5 = cb from View.ld_unit_zero Rows.hz _ cb]
  rfl

end Any

/-- The convolution of a block at an index: the block holds rows `r`, `r + 1`, … of `z`, the halo's last two rows the rows
    above `r`, or zero. -/
theorem conv_apply (V : FVec Ideal S256x1408 .f32) (H : FVec Ideal S8x1408 .f32) (cw : Vec Ideal S3x1408 .f32) (cb : Vec Ideal S1x1408 .f32)
    (z CW CB : Nat → Nat → EReal) (r s : Nat) (hV : ∀ (i : Fin 256) (j : Fin 1408), V (ValueIdx.ix2 i j) = z (r + i) (s + j))
    (h7 : ∀ j : Fin 1408, H (ValueIdx.ix2 (7 : Fin 8) j) = Rows.prev 1 z r (s + j)) (h6 : ∀ j : Fin 1408, H (ValueIdx.ix2 (6 : Fin 8) j) = Rows.prev 2 z r (s + j))
    (hC : ∀ (k : Fin 3) (j : Fin 1408), cw (ValueIdx.ix2 k j) = CW k (s + j)) (hB : ∀ j : Fin 1408, cb (ValueIdx.ix2 (0 : Fin 1) j) = CB 0 (s + j))
    (i : Fin 256) (j : Fin 1408) : k0_pay6 V H cw cb (ValueIdx.ix2 i j) = Rows.conv z CW CB (r + i) (s + j) := by
  have bit : ∀ n : Nat, n < 256 → cmpi .eq (iota .tc S256x1408 32 [0] iota_S256x1408_d0_w32) (broadcast S256x1408 (BitVec.ofNat 32 n)) (ValueIdx.ix2 i j)
      = BitVec.ofBool (decide (i.val = n)) := fun n hn => by
    rw [cmpi_apply, iota_apply]
    have hi := i.isLt
    show IntOp.cmpi .eq (BitVec.ofNat 32 (0 * 256 + i.val)) (BitVec.ofNat 32 n) = _
    rw [Nat.zero_mul, Nat.zero_add]
    exact WordCmp.cmpi_eq_ofNat (w := 32) (a := i.val) (b := n) (by omega) (by omega)
  have same : ∀ y : FVec Ideal S1x1408 .f32, shapeCast S1x1408 y shapeCasts_S1x1408_S1x1408 = y := fun y => funext fun k => shapeCast_apply y _ k k rfl
  have row : ∀ y : FVec Ideal S1x1408 .f32, broadcastTo S256x1408 y broadcasts_S1x1408_S256x1408 (ValueIdx.ix2 i j) = y (ValueIdx.ix2 (0 : Fin 1) j) :=
    fun y => Rows.bc_row (by decide) y _ i j
  have p1 : Scalar.select (BitVec.ofBool (decide (i.val = 0))) (H (ValueIdx.ix2 (7 : Fin 8) j)) (dynamicRotate 0 1#32 none V rotates_S256x1408_d0 (ValueIdx.ix2 i j))
      = Rows.prev 1 z (r + i) (s + j) := by
    rw [WordCmp.select_ofBool]
    by_cases h : i.val = 0
    · rw [if_pos (decide_eq_true h), h7, h, Nat.add_zero]
    · rw [if_neg (by simpa using h)]
      refine (Rows.rot_row 1 rfl V _ i ⟨i.val - 1, by omega⟩ (by show i.val - 1 + 1 = i.val; omega) j).trans ?_
      rw [hV]
      unfold Rows.prev
      rw [if_pos (by omega)]
      congr 1
      show r + (i.val - 1) = _
      omega
  have p2 : Scalar.select (BitVec.ofBool (decide (i.val = 0))) (H (ValueIdx.ix2 (6 : Fin 8) j))
      (Scalar.select (BitVec.ofBool (decide (i.val = 1))) (H (ValueIdx.ix2 (7 : Fin 8) j)) (dynamicRotate 0 2#32 none V rotates_S256x1408_d0 (ValueIdx.ix2 i j)))
      = Rows.prev 2 z (r + i) (s + j) := by
    rw [WordCmp.select_ofBool, WordCmp.select_ofBool]
    by_cases h : i.val = 0
    · rw [if_pos (decide_eq_true h), h6, h, Nat.add_zero]
    · rw [if_neg (by simpa using h)]
      by_cases h' : i.val = 1
      · rw [if_pos (decide_eq_true h'), h7, h']
        unfold Rows.prev
        by_cases hr : 1 ≤ r
        · rw [if_pos hr, if_pos (by omega)]
          congr 1
        · rw [if_neg hr, if_neg (by omega)]
      · rw [if_neg (by simpa using h')]
        refine (Rows.rot_row 2 rfl V _ i ⟨i.val - 2, by omega⟩ (by show i.val - 2 + 2 = i.val; omega) j).trans ?_
        rw [hV]
        unfold Rows.prev
        rw [if_pos (by omega)]
        congr 1
        show r + (i.val - 2) = _
        omega
  unfold k0_pay6
  show (broadcastTo S256x1408 (extractStridedSlice S1x1408 ![2, 0] cw slices_S3x1408_o2_0_S1x1408) broadcasts_S1x1408_S256x1408 (ValueIdx.ix2 i j)
      * V (ValueIdx.ix2 i j)
    + broadcastTo S256x1408 (extractStridedSlice S1x1408 ![1, 0] cw slices_S3x1408_o1_0_S1x1408) broadcasts_S1x1408_S256x1408 (ValueIdx.ix2 i j)
      * Scalar.select (cmpi .eq (iota .tc S256x1408 32 [0] iota_S256x1408_d0_w32) (broadcast S256x1408 (BitVec.ofNat 32 0)) (ValueIdx.ix2 i j))
        (broadcastTo S256x1408 (shapeCast S1x1408 (extractStridedSlice S1x1408 ![7, 0] H slices_S8x1408_o7_0_S1x1408) shapeCasts_S1x1408_S1x1408) broadcasts_S1x1408_S256x1408 (ValueIdx.ix2 i j))
        (dynamicRotate 0 1#32 none V rotates_S256x1408_d0 (ValueIdx.ix2 i j))
    + broadcastTo S256x1408 (extractStridedSlice S1x1408 ![0, 0] cw slices_S3x1408_o0_0_S1x1408) broadcasts_S1x1408_S256x1408 (ValueIdx.ix2 i j)
      * Scalar.select (cmpi .eq (iota .tc S256x1408 32 [0] iota_S256x1408_d0_w32) (broadcast S256x1408 (BitVec.ofNat 32 0)) (ValueIdx.ix2 i j))
        (broadcastTo S256x1408 (shapeCast S1x1408 (extractStridedSlice S1x1408 ![6, 0] H slices_S8x1408_o6_0_S1x1408) shapeCasts_S1x1408_S1x1408) broadcasts_S1x1408_S256x1408 (ValueIdx.ix2 i j))
        (Scalar.select (cmpi .eq (iota .tc S256x1408 32 [0] iota_S256x1408_d0_w32) (broadcast S256x1408 (BitVec.ofNat 32 1)) (ValueIdx.ix2 i j))
          (broadcastTo S256x1408 (shapeCast S1x1408 (extractStridedSlice S1x1408 ![7, 0] H slices_S8x1408_o7_0_S1x1408) shapeCasts_S1x1408_S1x1408) broadcasts_S1x1408_S256x1408 (ValueIdx.ix2 i j))
          (dynamicRotate 0 2#32 none V rotates_S256x1408_d0 (ValueIdx.ix2 i j)))
    + broadcastTo S256x1408 cb broadcasts_S1x1408_S256x1408 (ValueIdx.ix2 i j) : EReal) = _
  simp only [same, row]
  rw [bit 0 (by omega), bit 1 (by omega), Rows.cut_row 2 2 rfl cw, Rows.cut_row 1 1 rfl cw, Rows.cut_row 0 0 rfl cw,
    Rows.cut_row 7 7 rfl H, Rows.cut_row 6 6 rfl H, p1, p2, hC, hC, hC, hB, hV]
  rfl

variable (m : (ℓ : Loc nD τ sig) → Buf (Elt Ideal) ℓ) (ρ : Dev nD → PrngReg)

/-- The places of a point's blocks: point `t` is at column tile `t / 64` and row tile `t % 64`; the halo's block of eight
    rows ends where the rows' tile begins. -/
theorem idx_facts : ∀ t : Fin cfg0.N,
    (win0_0.index t 0 = t.val % 64 ∧ win0_0.index t 1 = 0) ∧ (win0_1.index t 0 = 32 * (t.val % 64) - 1 ∧ win0_1.index t 1 = 0)
    ∧ (win0_2.index t 0 = 0 ∧ win0_2.index t 1 = 0) ∧ (win0_3.index t 0 = 0 ∧ win0_3.index t 1 = t.val / 64)
    ∧ (win0_4.index t 0 = 0 ∧ win0_4.index t 1 = t.val / 64) ∧ (win0_5.index t 0 = 0 ∧ win0_5.index t 1 = t.val / 64)
    ∧ (win0_6.index t 0 = 0 ∧ win0_6.index t 1 = t.val / 64) ∧ (win0_7.index t 0 = t.val % 64 ∧ win0_7.index t 1 = t.val / 64)
    ∧ (grid0.coords t 1).val = t.val % 64 :=
  (by decide +kernel : ∀ t : Fin grid0.N, _)

/-- The arguments as functions of row and column. -/
abbrev x (c : Dev nD) : Nat → Nat → EReal := Rows.mat (n := 16384) (d := 1024) (m ((c : Thread nD τ).loc main_arg0))
abbrev g (c : Dev nD) : Nat → Nat → EReal := Rows.mat (n := 1) (d := 1024) (m ((c : Thread nD τ).loc main_arg1))
abbrev wg (c : Dev nD) : Nat → Nat → EReal := Rows.mat (n := 1024) (d := 2816) (m ((c : Thread nD τ).loc main_arg2))
abbrev wu (c : Dev nD) : Nat → Nat → EReal := Rows.mat (n := 1024) (d := 2816) (m ((c : Thread nD τ).loc main_arg3))
abbrev cw (c : Dev nD) : Nat → Nat → EReal := Rows.mat (n := 3) (d := 2816) (m ((c : Thread nD τ).loc main_arg4))
abbrev cb (c : Dev nD) : Nat → Nat → EReal := Rows.mat (n := 1) (d := 2816) (m ((c : Thread nD τ).loc main_arg5))

theorem blk_x (c : Dev nD) (t : Fin cfg0.N) (i : Fin 256) (j : Fin 1024) :
    iblk m c 0 t (ValueIdx.ix2 i j) = x m c (256 * (t.val % 64) + i) j := by
  obtain ⟨⟨e0, e1⟩, -⟩ := idx_facts t
  show V m c main_arg0 ((win0_0.rect t).idx (ValueIdx.ix2 i j)) = _
  rw [V_main_arg0]
  refine Rows.mat_of (n := 16384) (d := 1024) _ _ _ _ ?_ ?_
  · show win0_0.index t 0 * 256 + 1 * i.val = _
    rw [e0]; omega
  · show win0_0.index t 1 * 1024 + 1 * j.val = _
    rw [e1]; omega

theorem blk_h (c : Dev nD) (t : Fin cfg0.N) (i : Fin 8) (j : Fin 1024) :
    iblk m c 1 t (ValueIdx.ix2 i j) = x m c (8 * (32 * (t.val % 64) - 1) + i) j := by
  obtain ⟨-, ⟨e0, e1⟩, -⟩ := idx_facts t
  show V m c main_arg0 ((win0_1.rect t).idx (ValueIdx.ix2 i j)) = _
  rw [V_main_arg0]
  refine Rows.mat_of (n := 16384) (d := 1024) _ _ _ _ ?_ ?_
  · show win0_1.index t 0 * 8 + 1 * i.val = _
    rw [e0]; omega
  · show win0_1.index t 1 * 1024 + 1 * j.val = _
    rw [e1]; omega

theorem blk_g (c : Dev nD) (t : Fin cfg0.N) (j : Fin 1024) : iblk m c 2 t (ValueIdx.ix2 (0 : Fin 1) j) = g m c 0 j := by
  obtain ⟨-, -, ⟨e0, e1⟩, -⟩ := idx_facts t
  show V m c main_arg1 ((win0_2.rect t).idx (ValueIdx.ix2 (0 : Fin 1) j)) = _
  rw [V_main_arg1]
  refine Rows.mat_of (n := 1) (d := 1024) _ _ _ _ ?_ ?_
  · show win0_2.index t 0 * 1 + 1 * 0 = _
    rw [e0]
  · show win0_2.index t 1 * 1024 + 1 * j.val = _
    rw [e1]; omega

theorem blk_wg (c : Dev nD) (t : Fin cfg0.N) (i : Fin 1024) (j : Fin 1408) :
    iblk m c 3 t (ValueIdx.ix2 i j) = wg m c i (1408 * (t.val / 64) + j) := by
  obtain ⟨-, -, -, ⟨e0, e1⟩, -⟩ := idx_facts t
  show V m c main_arg2 ((win0_3.rect t).idx (ValueIdx.ix2 i j)) = _
  rw [V_main_arg2]
  refine Rows.mat_of (n := 1024) (d := 2816) _ _ _ _ ?_ ?_
  · show win0_3.index t 0 * 1024 + 1 * i.val = _
    rw [e0]; omega
  · show win0_3.index t 1 * 1408 + 1 * j.val = _
    rw [e1]; omega

theorem blk_wu (c : Dev nD) (t : Fin cfg0.N) (i : Fin 1024) (j : Fin 1408) :
    iblk m c 4 t (ValueIdx.ix2 i j) = wu m c i (1408 * (t.val / 64) + j) := by
  obtain ⟨-, -, -, -, ⟨e0, e1⟩, -⟩ := idx_facts t
  show V m c main_arg3 ((win0_4.rect t).idx (ValueIdx.ix2 i j)) = _
  rw [V_main_arg3]
  refine Rows.mat_of (n := 1024) (d := 2816) _ _ _ _ ?_ ?_
  · show win0_4.index t 0 * 1024 + 1 * i.val = _
    rw [e0]; omega
  · show win0_4.index t 1 * 1408 + 1 * j.val = _
    rw [e1]; omega

theorem blk_cw (c : Dev nD) (t : Fin cfg0.N) (i : Fin 3) (j : Fin 1408) :
    iblk m c 5 t (ValueIdx.ix2 i j) = cw m c i (1408 * (t.val / 64) + j) := by
  obtain ⟨-, -, -, -, -, ⟨e0, e1⟩, -⟩ := idx_facts t
  show V m c main_arg4 ((win0_5.rect t).idx (ValueIdx.ix2 i j)) = _
  rw [V_main_arg4]
  refine Rows.mat_of (n := 3) (d := 2816) _ _ _ _ ?_ ?_
  · show win0_5.index t 0 * 3 + 1 * i.val = _
    rw [e0]; omega
  · show win0_5.index t 1 * 1408 + 1 * j.val = _
    rw [e1]; omega

theorem blk_cb (c : Dev nD) (t : Fin cfg0.N) (j : Fin 1408) :
    iblk m c 6 t (ValueIdx.ix2 (0 : Fin 1) j) = cb m c 0 (1408 * (t.val / 64) + j) := by
  obtain ⟨-, -, -, -, -, -, ⟨e0, e1⟩, -⟩ := idx_facts t
  show V m c main_arg5 ((win0_6.rect t).idx (ValueIdx.ix2 (0 : Fin 1) j)) = _
  rw [V_main_arg5]
  refine Rows.mat_of (n := 1) (d := 2816) _ _ _ _ ?_ ?_
  · show win0_6.index t 0 * 1 + 1 * 0 = _
    rw [e0]
  · show win0_6.index t 1 * 1408 + 1 * j.val = _
    rw [e1]; omega

/-- The products whose latest rows the convolution adds. -/
abbrev z (c : Dev nD) : Nat → Nat → EReal := Rows.mm 1024 (Rows.norm (x m c) (g m c)) (wg m c)

/-- The halo's row `8 - k` is the row `k` above the point's first row, zero where there is none. -/
theorem halo_apply (c : Dev nD) (t : Fin cfg0.N) (k : Nat) (hk : 1 ≤ k) (i : Fin 8) (hi : i.val + k = 8) (j : Fin 1408) :
    halo (F := Ideal) (grid0.coords t) (iblk m c 1 t) (iblk m c 2 t) (iblk m c 3 t) (ValueIdx.ix2 i j)
      = Rows.prev k (z m c) (256 * (t.val % 64)) (1408 * (t.val / 64) + j) := by
  have ht := (idx_facts t).2.2.2.2.2.2.2.2
  have hlt : t.val % 64 < 64 := Nat.mod_lt _ (by decide)
  have hb : Scalar.cmpi .sgt (BitVec.ofNat 32 (grid0.coords t 1).val) 0#32 = BitVec.ofBool (decide (0 < t.val % 64)) := by
    rw [ht]
    exact WordCmp.cmpi_sgt_ofNat (by omega) (by omega)
  unfold halo
  rw [hb, WordCmp.select_ofBool]
  unfold Rows.prev
  by_cases h : 0 < t.val % 64
  · rw [if_pos (decide_eq_true h), if_pos (by omega)]
    refine (Rows.prod_rms _ _ _ _ _ _ _ _ (x m c) (g m c) (wg m c) (8 * (32 * (t.val % 64) - 1)) (1408 * (t.val / 64))
      (blk_h m c t) (blk_g m c t) (blk_wg m c t) i j).trans ?_
    congr 1
    omega
  · rw [if_neg (by simpa using h), if_neg (by omega)]
    exact Rows.ofBits_zero

/-- The array the kernel leaves. -/
def out (c : Dev nD) : Buf (Elt Ideal) ((c : Thread nD τ).loc main_v0) :=
  fun i => Rows.act (x m c) (g m c) (wg m c) (wu m c) (cw m c) (cb m c) (i 0).val (i 1).val

/-- What a point writes back is its block of that array. -/
theorem flushed_eq (c : Dev nD) (t : Fin cfg0.N) :
    (dats m 0 c).flushed 7 t = ((cfg0.win 7).blk t).view.read (Elt Ideal) (out m c) := by
  rw [Value.flushed7, out_eq]
  obtain ⟨-, -, -, -, -, -, -, ⟨e0, e1⟩, -⟩ := idx_facts t
  funext i
  have h0 : ((win0_7.rect t).idx i 0).val = 256 * (t.val % 64) + (i 0).val := by
    show win0_7.index t 0 * 256 + 1 * (i 0).val = _
    rw [e0]; omega
  have h1 : ((win0_7.rect t).idx i 1).val = 1408 * (t.val / 64) + (i 1).val := by
    show win0_7.index t 1 * 1408 + 1 * (i 1).val = _
    rw [e1]; omega
  show _ = out m c ((win0_7.rect t).idx i)
  unfold out
  rw [h0, h1]
  obtain ⟨a, b, rfl⟩ : ∃ (a : Fin 256) (b : Fin 1408), i = ValueIdx.ix2 a b := ⟨i 0, i 1, ValueIdx.eq_ix2 (n0 := 256) (n1 := 1408) i⟩
  have cv := conv_apply (prodX (iblk m c 0 t) (iblk m c 2 t) (iblk m c 3 t)) (halo (grid0.coords t) (iblk m c 1 t) (iblk m c 2 t) (iblk m c 3 t))
    (iblk m c 5 t) (iblk m c 6 t) (z m c) (cw m c) (cb m c) (256 * (t.val % 64)) (1408 * (t.val / 64))
    (Rows.prod_rms _ _ _ _ _ _ _ _ (x m c) (g m c) (wg m c) _ _ (blk_x m c t) (blk_g m c t) (blk_wg m c t))
    (halo_apply m c t 1 (by decide) 7 rfl) (halo_apply m c t 2 (by decide) 6 rfl) (blk_cw m c t) (blk_cb m c t) a b
  have up := Rows.prod_rms reduces_S256x1024_S256 shapeCasts_S256_S256x1 broadcasts_S256x1_S256x1024 broadcasts_S1x1024_S256x1024 bitsLt_bf16_f32
    (iblk m c 0 t) (iblk m c 2 t) (iblk m c 4 t) (x m c) (g m c) (wu m c) _ _ (blk_x m c t) (blk_g m c t) (blk_wu m c t) a b
  show _ = Rows.gelu (Rows.conv (z m c) (cw m c) (cb m c) (256 * (t.val % 64) + a.val) (1408 * (t.val / 64) + b.val))
    * Rows.mm 1024 (Rows.norm (x m c) (g m c)) (wu m c) (256 * (t.val % 64) + a.val) (1408 * (t.val / 64) + b.val)
  rw [← cv, ← up]
  rfl

/-- Every entry is in the block of a point. -/
theorem cover (i : S16384x2816.Idx) : ∃ t : Fin cfg0.N, (cfg0.win 7).flush t = true ∧ i ∈ ((cfg0.win 7).blk t).view.set := by
  have h0 : (i 0 : Nat) < 16384 := (i 0).isLt
  have h1 : (i 1 : Nat) < 2816 := (i 1).isLt
  have hN : cfg0.N = 128 := by decide +kernel
  let t : Fin cfg0.N := ⟨(i 1).val / 1408 * 64 + (i 0).val / 256, by rw [hN]; omega⟩
  have ht : t.val = (i 1).val / 1408 * 64 + (i 0).val / 256 := rfl
  obtain ⟨-, -, -, -, -, -, -, ⟨e0, e1⟩, -⟩ := idx_facts t
  refine ⟨t, flush0_7 t, ?_⟩
  show i ∈ ((View.whole main_v0).slice (win0_7.rect t)).set
  rw [View.set_slice_whole, Rect.mem_set_unit]
  intro a
  match a with
  | ⟨0, _⟩ =>
    show win0_7.index t 0 * 256 ≤ (i 0).val ∧ (i 0).val < win0_7.index t 0 * 256 + 256
    rw [e0, ht]; omega
  | ⟨1, _⟩ =>
    show win0_7.index t 1 * 1408 ≤ (i 1).val ∧ (i 1).val < win0_7.index t 1 * 1408 + 1408
    rw [e1, ht]; omega

/-- The run: the result at the formula, the arguments unchanged. -/
theorem run : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨(h c).1.trans ((dats m 0 c).arrAt_eq_of_cover 7 (out m c) (fun t _ => flushed_eq m c t) cover), (h c).2⟩)
    (Value.run_blocks m ρ)

end Cert.FfnactIdeal.RefValue

namespace Cert.RefffnactIdeal.RefValue

open Cert.RefffnactIdeal Cert.RefffnactIdeal.Gen Cert.RefffnactIdeal.Read Idealize.ShloMosaic Idealize.ShloMosaic.TcCoe

variable (x0 : (⟨S16384x1024, .f32⟩ : BufTy).Contents (Elt Ideal)) (x1 : (⟨S1x1024, .f32⟩ : BufTy).Contents (Elt Ideal))
  (x2 x3 : (⟨S1024x2816, .bf16⟩ : BufTy).Contents (Elt Ideal)) (x4 : (⟨S3x2816, .f32⟩ : BufTy).Contents (Elt Ideal))
  (x5 : (⟨S1x2816, .f32⟩ : BufTy).Contents (Elt Ideal))

/-- The products whose latest rows the convolution adds. -/
abbrev z : Nat → Nat → EReal := Rows.mm 1024 (Rows.norm (Rows.mat x0) (Rows.mat x1)) (Rows.mat x2)

theorem v13_apply (i : S16384x2816.Idx) : val_main_v13 (F := Ideal) x0 x1 x2 i = z x0 x1 x2 (i 0).val (i 1).val := by
  rw [val_main_v13_apply]
  refine Finset.sum_congr rfl fun k _ => ?_
  exact congrArg₂ (fun y z : EReal => y * z) (Cert.RefpleoutIdeal.RefValue.v11_apply x0 x1 (lidx_main_v13 i k))
    (Rows.mat_of x2 (ridx_main_v13 i k) k (i 1).val rfl rfl)

theorem v53_apply (i : S16384x2816.Idx) : val_main_v53 (F := Ideal) x0 x1 x3 i = z x0 x1 x3 (i 0).val (i 1).val := by
  rw [val_main_v53_apply]
  refine Finset.sum_congr rfl fun k _ => ?_
  exact congrArg₂ (fun y z : EReal => y * z) (Cert.RefpleoutIdeal.RefValue.v11_apply x0 x1 (lidx_main_v53 i k))
    (Rows.mat_of x3 (ridx_main_v53 i k) k (i 1).val rfl rfl)

/-- The padded products: row `a + 2 - k` is the row `k` above row `a`, zero where there is none. -/
theorem v14_apply (k a : Nat) (hk : k ≤ 2) (j : S16386x2816.Idx) (b : Nat) (h0 : (j 0).val + k = a + 2) (h1 : (j 1).val = b) (ha : a < 16384) :
    val_main_v14 (F := Ideal) x0 x1 x2 j = Rows.prev k (z x0 x1 x2) a b := by
  have hb : b < 2816 := h1 ▸ (j 1).isLt
  unfold val_main_v14 Rows.prev
  by_cases h : k ≤ a
  · rw [if_pos h]
    refine (pad_apply_of_inside (s := S16384x2816) _ _ _ _ _ _ _ j (ValueIdx.ix2 ⟨a - k, by omega⟩ ⟨b, hb⟩) (fun c => ?_)).trans ?_
    · match c with
      | ⟨0, _⟩ =>
        show (j 0).val = 2 + (a - k) * (0 + 1)
        omega
      | ⟨1, _⟩ =>
        show (j 1).val = 0 + b * (0 + 1)
        omega
    · rw [v13_apply]
  · rw [if_neg h]
    refine (pad_apply_of_not_inside (s := S16384x2816) _ _ _ _ _ _ _ j 0 (fun hc => ?_)).trans ?_
    · have : 2 ≤ (j 0).val := hc.1
      omega
    · rw [val_main_call0_v0_apply, val_main_c_apply]
      show (((0#32 : BitVec 32).toInt : ℝ) : EReal) = 0
      simp

/-- The convolution. -/
theorem v38_apply (i : S16384x2816.Idx) : val_main_v38 (F := Ideal) x0 x1 x2 x4 x5 i
    = Rows.conv (z x0 x1 x2) (Rows.mat x4) (Rows.mat x5) (i 0).val (i 1).val := by
  have ha : (i 0).val < 16384 := (i 0).isLt
  have q0 : val_main_v14 (F := Ideal) x0 x1 x2 (idx_main_v15 i) = Rows.prev 2 (z x0 x1 x2) (i 0).val (i 1).val :=
    v14_apply x0 x1 x2 2 _ (by decide) _ _ rfl rfl ha
  have q1 : val_main_v14 (F := Ideal) x0 x1 x2 (idx_main_v23 i) = Rows.prev 1 (z x0 x1 x2) (i 0).val (i 1).val :=
    v14_apply x0 x1 x2 1 _ (by decide) _ _ (by show 1 + (i 0).val + 1 = (i 0).val + 2; omega) rfl ha
  have q2 : val_main_v14 (F := Ideal) x0 x1 x2 (idx_main_v30 i) = z x0 x1 x2 (i 0).val (i 1).val :=
    v14_apply x0 x1 x2 0 _ (by decide) _ _ (by show 2 + (i 0).val + 0 = (i 0).val + 2; omega) rfl ha
  rw [val_main_v38_apply, val_main_v37_apply, val_main_v36_apply, val_main_v35_apply, val_main_v34_apply, val_main_v33_apply,
    val_main_v32_apply, val_main_v31_apply, val_main_v30_apply, val_main_v29_apply, val_main_v28_apply, val_main_v27_apply,
    val_main_v26_apply, val_main_v25_apply, val_main_v24_apply, val_main_v23_apply, val_main_v22_apply, val_main_v21_apply,
    val_main_cst_2_apply, val_main_v20_apply, val_main_v19_apply, val_main_v18_apply, val_main_v17_apply, val_main_v16_apply,
    val_main_v15_apply, q0, q1, q2]
  have hcol : (i 1).val % 2816 = (i 1).val := Nat.mod_eq_of_lt (i 1).isLt
  have w0 := Rows.mat_of x4 (idx_main_v16 (idx_main_v17 (idx_main_v18 (idx_main_v19 i)))) 0 (i 1).val rfl hcol
  have w1 := Rows.mat_of x4 (idx_main_v24 (idx_main_v25 (idx_main_v26 (idx_main_v27 i)))) 1 (i 1).val rfl hcol
  have w2 := Rows.mat_of x4 (idx_main_v31 (idx_main_v32 (idx_main_v33 (idx_main_v34 i)))) 2 (i 1).val rfl hcol
  rw [w0, w1, w2, Rows.mat_of x5 (idx_main_v37 i) 0 (i 1).val rfl rfl]
  show ((FloatOps.ofBits .f32 0x00000000#32 : Ideal .f32) + Rows.prev 2 _ _ _ * _ + Rows.prev 1 _ _ _ * _ + z _ _ _ _ _ * _ + _ : EReal) = _
  rw [Rows.ofBits_zero, zero_add]
  unfold Rows.conv
  rw [mul_comm (Rows.prev 2 _ _ _), mul_comm (Rows.prev 1 _ _ _), mul_comm (z _ _ _ _ _)]
  abel

/-- The reference's result at an index. -/
theorem v55_apply (i : S16384x2816.Idx) : val_main_v55 (F := Ideal) x0 x1 x2 x3 x4 x5 i
    = Rows.act (Rows.mat x0) (Rows.mat x1) (Rows.mat x2) (Rows.mat x3) (Rows.mat x4) (Rows.mat x5) (i 0).val (i 1).val := by
  rw [val_main_v55_apply, val_main_v54_apply, v53_apply, val_main_v51_apply, val_main_v50_apply, val_main_v49_apply, val_main_cst_6_apply,
    val_main_v48_apply, val_main_v47_apply, val_main_cst_5_apply, val_main_v46_apply, val_main_v45_apply, val_main_v44_apply,
    val_main_cst_4_apply, val_main_v43_apply, val_main_v42_apply, val_main_v41_apply, val_main_cst_3_apply, val_main_v40_apply,
    val_main_v39_apply, v38_apply]
  unfold Rows.act Rows.gelu
  generalize Rows.conv _ _ _ _ _ = c
  show (c * (Rows.half * (Rows.one + Ideal.tanh (Rows.root * (c + Rows.cube * (c * c * c))))) * _ : EReal) = _
  rw [mul_left_comm c Rows.half, ← mul_assoc Rows.half c]

end Cert.RefffnactIdeal.RefValue

end
-- ==== Proof.LayerClaims.lean ====
/-
  The claims about the projections, the feed-forward layer and the per-layer embedding's gate.
-/
module

public import proofs.«01_k».proof.Defs
public import proofs.«01_k».proof.Proof.Act
public import proofs.«01_k».proof.Proof.Gen.Pleout.Frame
public import proofs.«01_k».proof.Proof.Gen.Downproj.Frame
public import proofs.«01_k».proof.Proof.Gen.Evenout.Frame
public import proofs.«01_k».proof.Proof.Gen.Evenin.Frame
public import proofs.«01_k».proof.Proof.Gen.Oddin.Frame
public import proofs.«01_k».proof.Proof.Gen.Ffnact.Frame

@[expose] public section

noncomputable section

namespace Cert.Proof.LayerClaims

open Idealize.ShloMosaic Idealize.ShloMosaic.TcCoe Idealize.SL.Sem

/-! ## The per-layer embedding's gate -/

/-- The kernel runs and leaves its arguments, on words and over the extended reals, -/
theorem frame_p_ple : Cert.quiescent_Pleout := fun m ρ _ => Cert.Pleout.Gen.frame m ρ
theorem frame_pi_ple : Cert.quiescent_PleoutIdeal := fun m ρ _ => Cert.PleoutIdeal.Gen.frame m ρ
/-- and so does the reference. -/
theorem frame_ri_ple : Cert.quiescent_RefpleoutIdeal := fun m ρ _ =>
  (θ_run Cert.RefpleoutIdeal.defs _ _).mono (fun r h => ⟨fun c => (h c).2, sem_eq_zero_of_no_sems (by decide) r.2⟩)
    (Cert.RefpleoutIdeal.Value.run (F := Ideal) m ρ)

/-- No operation is changed in the ideal form. -/
theorem preserves_ple : Cert.preserves_Pleout_PleoutIdeal := trivial

/-- Kernel and reference end with the same array. -/
theorem algebraic_ple : Cert.algebraic_PleoutIdeal_RefpleoutIdeal := by
  intro m ρ m' ρ' _ hagree
  refine ⟨fun c => Cert.PleoutIdeal.RefValue.out m c, Cert.PleoutIdeal.RefValue.run m ρ, ?_⟩
  refine (θ_run Cert.RefpleoutIdeal.defs _ _).mono (fun _ h c => ⟨(h c).1.trans ?_, (h c).2⟩) (Cert.RefpleoutIdeal.Value.run (F := Ideal) m' ρ')
  rw [Cert.RefpleoutIdeal.Read.val_main_v23_eq, (hagree c).1, (hagree c).2.1, (hagree c).2.2.1, (hagree c).2.2.2.1, (hagree c).2.2.2.2]
  exact funext fun i => Cert.RefpleoutIdeal.RefValue.v23_apply _ _ _ _ _ i

/-! ## The feed-forward layer's projection -/

/-- The kernel runs and leaves its arguments, on words and over the extended reals, -/
theorem frame_p_down : Cert.quiescent_Downproj := fun m ρ _ => Cert.Downproj.Gen.frame m ρ
theorem frame_pi_down : Cert.quiescent_DownprojIdeal := fun m ρ _ => Cert.DownprojIdeal.Gen.frame m ρ
/-- and so does the reference. -/
theorem frame_ri_down : Cert.quiescent_RefdownprojIdeal := fun m ρ _ =>
  (θ_run Cert.RefdownprojIdeal.defs _ _).mono (fun r h => ⟨fun c => (h c).2, sem_eq_zero_of_no_sems (by decide) r.2⟩)
    (Cert.RefdownprojIdeal.Value.run (F := Ideal) m ρ)

/-- No operation is changed in the ideal form. -/
theorem preserves_down : Cert.preserves_Downproj_DownprojIdeal := trivial

/-- Kernel and reference end with the same array. -/
theorem algebraic_down : Cert.algebraic_DownprojIdeal_RefdownprojIdeal := by
  intro m ρ m' ρ' _ hagree
  refine ⟨fun c => Cert.DownprojIdeal.RefValue.out m c, Cert.DownprojIdeal.RefValue.run m ρ, ?_⟩
  refine (θ_run Cert.RefdownprojIdeal.defs _ _).mono (fun _ h c => ⟨(h c).1.trans ?_, (h c).2⟩) (Cert.RefdownprojIdeal.Value.run (F := Ideal) m' ρ')
  rw [Cert.RefdownprojIdeal.Read.val_main_v3_eq, (hagree c).1, (hagree c).2.1, (hagree c).2.2]
  exact funext fun i => Cert.RefdownprojIdeal.RefValue.v3_apply _ _ _ i

/-! ## The even layers' projection -/

/-- The kernel runs and leaves its arguments, on words and over the extended reals, -/
theorem frame_p_even_out : Cert.quiescent_Evenout := fun m ρ _ => Cert.Evenout.Gen.frame m ρ
theorem frame_pi_even_out : Cert.quiescent_EvenoutIdeal := fun m ρ _ => Cert.EvenoutIdeal.Gen.frame m ρ
/-- and so does the reference. -/
theorem frame_ri_even_out : Cert.quiescent_RefevenoutIdeal := fun m ρ _ =>
  (θ_run Cert.RefevenoutIdeal.defs _ _).mono (fun r h => ⟨fun c => (h c).2, sem_eq_zero_of_no_sems (by decide) r.2⟩)
    (Cert.RefevenoutIdeal.Value.run (F := Ideal) m ρ)

/-- No operation is changed in the ideal form. -/
theorem preserves_even_out : Cert.preserves_Evenout_EvenoutIdeal := trivial

/-- Kernel and reference end with the same array. -/
theorem algebraic_even_out : Cert.algebraic_EvenoutIdeal_RefevenoutIdeal := by
  intro m ρ m' ρ' _ hagree
  refine ⟨fun c => Cert.EvenoutIdeal.RefValue.out m c, Cert.EvenoutIdeal.RefValue.run m ρ, ?_⟩
  refine (θ_run Cert.RefevenoutIdeal.defs _ _).mono (fun _ h c => ⟨(h c).1.trans ?_, (h c).2⟩) (Cert.RefevenoutIdeal.Value.run (F := Ideal) m' ρ')
  rw [Cert.RefevenoutIdeal.Read.val_main_v5_eq, (hagree c).1, (hagree c).2.1, (hagree c).2.2.1, (hagree c).2.2.2.1, (hagree c).2.2.2.2]
  exact funext fun i => Cert.RefevenoutIdeal.RefValue.v5_apply _ _ _ _ _ i

/-! ## The even layers' normed projection -/

/-- The kernel runs and leaves its arguments, on words and over the extended reals, -/
theorem frame_p_even_in : Cert.quiescent_Evenin := fun m ρ _ => Cert.Evenin.Gen.frame m ρ
theorem frame_pi_even_in : Cert.quiescent_EveninIdeal := fun m ρ _ => Cert.EveninIdeal.Gen.frame m ρ
/-- and so does the reference. -/
theorem frame_ri_even_in : Cert.quiescent_RefeveninIdeal := fun m ρ _ =>
  (θ_run Cert.RefeveninIdeal.defs _ _).mono (fun r h => ⟨fun c => (h c).2, sem_eq_zero_of_no_sems (by decide) r.2⟩)
    (Cert.RefeveninIdeal.Value.run (F := Ideal) m ρ)

/-- No operation is changed in the ideal form. -/
theorem preserves_even_in : Cert.preserves_Evenin_EveninIdeal := trivial

/-- Kernel and reference end with the same array. -/
theorem algebraic_even_in : Cert.algebraic_EveninIdeal_RefeveninIdeal := by
  intro m ρ m' ρ' _ hagree
  refine ⟨fun c => Cert.EveninIdeal.RefValue.out m c, Cert.EveninIdeal.RefValue.run m ρ, ?_⟩
  refine (θ_run Cert.RefeveninIdeal.defs _ _).mono (fun _ h c => ⟨(h c).1.trans ?_, (h c).2⟩) (Cert.RefeveninIdeal.Value.run (F := Ideal) m' ρ')
  rw [Cert.RefeveninIdeal.Read.val_main_v13_eq, (hagree c).1, (hagree c).2.1, (hagree c).2.2]
  exact funext fun i => Cert.RefeveninIdeal.RefValue.v13_apply _ _ _ i

/-! ## The odd layers' normed projection -/

/-- The kernel runs and leaves its arguments, on words and over the extended reals, -/
theorem frame_p_odd_in : Cert.quiescent_Oddin := fun m ρ _ => Cert.Oddin.Gen.frame m ρ
theorem frame_pi_odd_in : Cert.quiescent_OddinIdeal := fun m ρ _ => Cert.OddinIdeal.Gen.frame m ρ
/-- and so does the reference. -/
theorem frame_ri_odd_in : Cert.quiescent_RefoddinIdeal := fun m ρ _ =>
  (θ_run Cert.RefoddinIdeal.defs _ _).mono (fun r h => ⟨fun c => (h c).2, sem_eq_zero_of_no_sems (by decide) r.2⟩)
    (Cert.RefoddinIdeal.Value.run (F := Ideal) m ρ)

/-- No operation is changed in the ideal form. -/
theorem preserves_odd_in : Cert.preserves_Oddin_OddinIdeal := trivial

/-- Kernel and reference end with the same array. -/
theorem algebraic_odd_in : Cert.algebraic_OddinIdeal_RefoddinIdeal := by
  intro m ρ m' ρ' _ hagree
  refine ⟨fun c => Cert.OddinIdeal.RefValue.out m c, Cert.OddinIdeal.RefValue.run m ρ, ?_⟩
  refine (θ_run Cert.RefoddinIdeal.defs _ _).mono (fun _ h c => ⟨(h c).1.trans ?_, (h c).2⟩) (Cert.RefoddinIdeal.Value.run (F := Ideal) m' ρ')
  rw [Cert.RefoddinIdeal.Read.val_main_v13_eq, (hagree c).1, (hagree c).2.1, (hagree c).2.2]
  exact funext fun i => Cert.RefoddinIdeal.RefValue.v13_apply _ _ _ i

/-! ## The feed-forward layer's activation -/

/-- The kernel runs and leaves its arguments, on words and over the extended reals, -/
theorem frame_p_act : Cert.quiescent_Ffnact := fun m ρ _ => Cert.Ffnact.Gen.frame m ρ
theorem frame_pi_act : Cert.quiescent_FfnactIdeal := fun m ρ _ => Cert.FfnactIdeal.Gen.frame m ρ
/-- and so does the reference. -/
theorem frame_ri_act : Cert.quiescent_RefffnactIdeal := fun m ρ _ =>
  (θ_run Cert.RefffnactIdeal.defs _ _).mono (fun r h => ⟨fun c => (h c).2, sem_eq_zero_of_no_sems (by decide) r.2⟩)
    (Cert.RefffnactIdeal.Value.run (F := Ideal) m ρ)

/-- No operation is changed in the ideal form. -/
theorem preserves_act : Cert.preserves_Ffnact_FfnactIdeal := trivial

/-- Kernel and reference end with the same array. -/
theorem algebraic_act : Cert.algebraic_FfnactIdeal_RefffnactIdeal := by
  intro m ρ m' ρ' _ hagree
  refine ⟨fun c => Cert.FfnactIdeal.RefValue.out m c, Cert.FfnactIdeal.RefValue.run m ρ, ?_⟩
  refine (θ_run Cert.RefffnactIdeal.defs _ _).mono (fun _ h c => ⟨(h c).1.trans ?_, (h c).2⟩) (Cert.RefffnactIdeal.Value.run (F := Ideal) m' ρ')
  rw [Cert.RefffnactIdeal.Read.val_main_v55_eq, (hagree c).1, (hagree c).2.1, (hagree c).2.2.1, (hagree c).2.2.2.1, (hagree c).2.2.2.2.1, (hagree c).2.2.2.2.2]
  exact funext fun i => Cert.RefffnactIdeal.RefValue.v55_apply _ _ _ _ _ _ i

end Cert.Proof.LayerClaims

end
-- ==== Proof.FoxSpec.lean ====
module

public import proofs.«01_k».proof.Proof.DilSpec

@[expose] public section

noncomputable section

/-! # Softmax sums taken block by block

One query's scores `s` (`⊥` where the key is masked) and one column of values `w`, by key. A sum of the values weighted
by `2 ^ (s k - max)` can be taken over a growing set of keys: when the running maximum grows, what was summed is
multiplied by `2 ^ (old max - new max)`. Everything is over the extended reals, at every input. -/

namespace FoxSpec

open Idealize.ShloMosaic Dil

/-- The maximum that scores are measured from: zero while no key has been seen. -/
def safe (m : EReal) : EReal := if m = ⊥ then 0 else m

/-- The largest of the first `n` scores. -/
def top (s : ℕ → EReal) (n : ℕ) : EReal := (Finset.range n).sup s

/-- The weighted sum over the first `n` keys. -/
def acc (s w : ℕ → EReal) (n : ℕ) : EReal := ∑ k ∈ Finset.range n, w k * Ideal.exp2 (s k - safe (top s n))

/-- Two to the power of `⊥` is zero. -/
theorem exp2_bot : Ideal.exp2 ⊥ = 0 := rfl

/-- Two to a real power. -/
theorem exp2_coe (r : ℝ) : Ideal.exp2 (r : EReal) = ((Real.rpow 2 r : ℝ) : EReal) := rfl

/-- Scores are measured from zero while no key has been seen. -/
theorem safe_bot : safe ⊥ = 0 := if_pos rfl
theorem safe_coe (r : ℝ) : safe (r : EReal) = r := if_neg (EReal.coe_ne_bot r)
theorem safe_top : safe ⊤ = ⊤ := if_neg (by decide)

/-- A masked key weighs nothing. -/
theorem exp2_bot_sub (m : EReal) : Ideal.exp2 (⊥ - m) = 0 := by rw [EReal.bot_sub]; rfl

/-- The factor by which a grown maximum scales what was summed is a real number, not negative. -/
theorem factor {m m' : EReal} (h : m ≤ m') : ∃ r : ℝ, 0 ≤ r ∧ Ideal.exp2 (m - safe m') = (r : EReal) := by
  induction m' using EReal.rec with
  | bot => rw [le_bot_iff.1 h]; exact ⟨0, le_refl _, exp2_bot_sub _⟩
  | top => rw [safe_top, EReal.sub_top]; exact ⟨0, le_refl _, rfl⟩
  | coe b =>
    rw [safe_coe]
    induction m using EReal.rec with
    | bot => exact ⟨0, le_refl _, exp2_bot_sub _⟩
    | top => exact absurd (top_le_iff.1 h) (EReal.coe_ne_top b)
    | coe a => exact ⟨Real.rpow 2 (a - b), Real.rpow_nonneg (by norm_num) _, by rw [← EReal.coe_sub, exp2_coe]⟩

/-- Scaling a key's weight from the old maximum to the new. -/
theorem rescale {x m m' : EReal} (hx : x ≤ m) (h : m ≤ m') :
    Ideal.exp2 (m - safe m') * Ideal.exp2 (x - safe m) = Ideal.exp2 (x - safe m') := by
  induction x using EReal.rec with
  | bot => rw [exp2_bot_sub, exp2_bot_sub, mul_zero]
  | top =>
    have hm : m = ⊤ := top_le_iff.1 hx
    have hm' : m' = ⊤ := top_le_iff.1 (hm ▸ h)
    rw [hm, hm', safe_top, EReal.sub_top, exp2_bot, zero_mul]
  | coe a =>
    induction m using EReal.rec with
    | bot => exact absurd (le_bot_iff.1 hx) (EReal.coe_ne_bot a)
    | top =>
      rw [top_le_iff.1 h, safe_top, EReal.sub_top, EReal.sub_top, exp2_bot, zero_mul]
    | coe b =>
      induction m' using EReal.rec with
      | bot => exact absurd (le_bot_iff.1 h) (EReal.coe_ne_bot b)
      | top => rw [safe_top, EReal.sub_top, EReal.sub_top, exp2_bot, zero_mul]
      | coe c =>
        rw [safe_coe, safe_coe, ← EReal.coe_sub, ← EReal.coe_sub, ← EReal.coe_sub, exp2_coe, exp2_coe, exp2_coe, ← EReal.coe_mul]
        congr 1
        refine (Real.rpow_add (by norm_num : (0 : ℝ) < 2) (b - c) (a - b)).symm.trans ?_
        congr 1
        ring

/-- A real factor that is not negative distributes over a sum. -/
theorem coe_mul_sum {ι : Type} (I : Finset ι) (f : ι → EReal) {r : ℝ} (hr : 0 ≤ r) : (r : EReal) * ∑ k ∈ I, f k = ∑ k ∈ I, (r : EReal) * f k := by
  induction I using Finset.cons_induction with
  | empty => rw [Finset.sum_empty, Finset.sum_empty, mul_zero]
  | cons a I ha ih =>
    rw [Finset.sum_cons, Finset.sum_cons, ← ih]
    exact EReal.left_distrib_of_nonneg_of_ne_top (EReal.coe_nonneg.2 hr) (EReal.coe_ne_top r) _ _

variable (s w : ℕ → EReal)

/-- A score is at most the maximum over a set of keys that holds its own. -/
theorem le_top {k n : ℕ} (h : k < n) : s k ≤ top s n := Finset.le_sup (f := s) (Finset.mem_range.2 h)

/-- The maximum grows with the set of keys. -/
theorem top_mono {n n' : ℕ} (h : n ≤ n') : top s n ≤ top s n' := Finset.sup_mono (Finset.range_mono h)

/-- The maximum once a block of `B` keys is added. -/
theorem top_add (n B : ℕ) : top s (n + B) = max (top s n) (Finset.univ.fold max ⊥ fun j : Fin B => s (n + j)) := by
  show top s (n + B) = max (top s n) (Finset.univ.sup fun j : Fin B => s (n + j))
  refine le_antisymm (Finset.sup_le fun k hk => ?_) (max_le (top_mono s (Nat.le_add_right _ _)) (Finset.sup_le fun j _ => le_top s (by omega)))
  rw [Finset.mem_range] at hk
  by_cases h : k < n
  · exact (le_top s h).trans (le_max_left _ _)
  · refine le_trans ?_ (le_max_right _ _)
    have e : s k = (fun j : Fin B => s (n + j)) ⟨k - n, by omega⟩ := congrArg s (show k = n + (k - n) by omega)
    rw [e]
    exact Finset.le_sup (f := fun j : Fin B => s (n + j)) (Finset.mem_univ _)

/-- The weighted sum once a block of `B` keys is added. -/
theorem acc_add (n B : ℕ) : Ideal.exp2 (top s n - safe (top s (n + B))) * acc s w n
    + ∑ j : Fin B, w (n + j) * Ideal.exp2 (s (n + j) - safe (top s (n + B))) = acc s w (n + B) := by
  have h := top_mono s (Nat.le_add_right n B)
  obtain ⟨r, hr, e⟩ := factor h
  unfold acc
  rw [Finset.sum_range_add, ← Finset.sum_range (fun j => w (n + j) * Ideal.exp2 (s (n + j) - safe (top s (n + B)))), e, coe_mul_sum _ _ hr]
  congr 1
  refine Finset.sum_congr rfl fun k hk => ?_
  rw [← e, mul_left_comm, rescale (le_top s (Finset.mem_range.1 hk)) h]

/-- No key, no score. -/
theorem top_zero : top s 0 = ⊥ := rfl
theorem acc_zero : acc s w 0 = 0 := rfl

/-- Masked keys at the end change neither. -/
theorem top_masked {n N : ℕ} (h : n ≤ N) (hs : ∀ k, n ≤ k → s k = ⊥) : top s N = top s n := by
  refine le_antisymm (Finset.sup_le fun k hk => ?_) (top_mono s h)
  by_cases h' : k < n
  · exact le_top s h'
  · rw [hs k (by omega)]; exact bot_le

/-- Masked keys add nothing to the sum. -/
theorem acc_masked {n N : ℕ} (h : n ≤ N) (hs : ∀ k, n ≤ k → s k = ⊥) : acc s w N = acc s w n := by
  unfold acc
  rw [top_masked s h hs]
  refine (Finset.sum_subset (Finset.range_mono h) fun k _ hk => ?_).symm
  rw [hs k (by rw [Finset.mem_range] at hk; omega), exp2_bot_sub, mul_zero]

/-- A key's weight measured from the maximum itself. -/
theorem exp2_sub_safe {x m : EReal} (h : x ≤ m) : Ideal.exp2 (x - m) = Ideal.exp2 (x - safe m) := by
  by_cases hm : m = ⊥
  · subst hm
    rw [le_bot_iff.1 h, exp2_bot_sub, exp2_bot_sub]
  · rw [safe, if_neg hm]

/-- The maximum of the natural logits. -/
theorem top_ln2 (N : ℕ) : (Finset.univ.fold max ⊥ fun k : Fin N => s k * ln2) = top s N * ln2 := by
  show (Finset.univ.sup fun k : Fin N => s k * ln2) = top s N * ln2
  refine le_antisymm (Finset.sup_le fun k _ => mul_ln2_mono (le_top s k.isLt)) ?_
  unfold top
  rw [Finset.comp_sup_eq_sup_comp_of_is_total (fun a => a * ln2) mul_ln2_mono bot_mul_ln2]
  refine Finset.sup_le fun k hk => ?_
  exact Finset.le_sup (f := fun k : Fin N => s k * ln2) (Finset.mem_univ (⟨k, Finset.mem_range.1 hk⟩ : Fin N))

/-- The sum weighted by exponentials of the natural logits. -/
theorem acc_ln2 (N : ℕ) : (∑ k : Fin N, w k * Ideal.exp (s k * ln2 - top s N * ln2)) = acc s w N := by
  unfold acc
  rw [Finset.sum_range]
  refine Finset.sum_congr rfl fun k _ => ?_
  rw [sub_mul_ln2, exp_mul_ln2, exp2_sub_safe (le_top s k.isLt)]

end FoxSpec

end
-- ==== Proof.FoxStep.lean ====
/-
  One step of the causal attention's body: what it reads of its blocks and what it leaves in its scratch buffers.
-/
module

public import proofs.«01_k».proof.Proof.Gen.FoxIdeal.Frame
public import proofs.«01_k».proof.Proof.Gen.FoxIdeal.Skeleton
public import Idealize.ShloMosaic.Lib.Pipeline.TableIdle
public import Idealize.ShloMosaic.Lib.Tactic
public import Idealize.ShloMosaic.Lib.Pipeline.CanonAppend
public import Idealize.ShloMosaic.Lib.Pipeline.Value

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A grid point's three conditions as the body tests them: the first key block, a block below the diagonal. -/
abbrev first (i : grid0.Coords) : Prop :=
  Scalar.cmpi .ne (Scalar.extui (Scalar.cmpi .eq (BitVec.ofNat 32 (i 1).val) 0#32) : BitVec 32) 0#32 = 1#1
abbrev below (i : grid0.Coords) : Prop :=
  Scalar.cmpi .ne (Scalar.extui (Scalar.cmpi .slt (BitVec.ofNat 32 (i 1).val) (BitVec.ofNat 32 (i 0).val)) : BitVec 32) 0#32 = 1#1
abbrev diag (i : grid0.Coords) : Prop := k0_cond3 i = 1#1

/-! ## One step, head by head -/

/-- A head's block lies in the array. -/
theorem inbK (h : Fin 8) : ∀ a, (![h.val, 0, 0] : Fin 3 → ℕ) a + S1x512x128.size a ≤ S8x512x128.size a := by revert h; decide
theorem inbM (h : Fin 8) : ∀ a, (![h.val, 0, 0] : Fin 3 → ℕ) a + S1x8x512.size a ≤ S8x8x512.size a := by revert h; decide
theorem inbA (h : Fin 8) : ∀ a, (![h.val, 0, 0] : Fin 3 → ℕ) a + S1x128x512.size a ≤ S8x128x512.size a := by revert h; decide
theorem inbO (p : Fin 4) : ∀ a, (![0, 128 * p.val] : Fin 2 → ℕ) a + S512x128.size a ≤ S512x512.size a := by revert p; decide

/-- Head `h` of a block of queries or keys, -/
abbrev rK (h : Fin 8) : Rect S8x512x128 := Rect.unit ![h.val, 0, 0] S1x512x128.size (inbK h)
/-- of the running maxima, -/
abbrev rM (h : Fin 8) : Rect S8x8x512 := Rect.unit ![h.val, 0, 0] S1x8x512.size (inbM h)
/-- of the values and of the accumulators; -/
abbrev rA (h : Fin 8) : Rect S8x128x512 := Rect.unit ![h.val, 0, 0] S1x128x512.size (inbA h)
/-- and the columns of the output block that hold heads `2 p` and `2 p + 1`. -/
abbrev rO (p : Fin 4) : Rect S512x512 := Rect.unit ![0, 128 * p.val] S512x128.size (inbO p)

/-- One head's new running maximum, from its scores `s` and its old one. -/
def newM (s : FVec F S512x512 .f32) (m : Vec F S1x8x512 .f32) : FVec F S1x8x512 .f32 :=
  k0_pay23 (k0_pay18 s m)

/-- One head's new accumulator, from its scores, its old running maximum, its old accumulator and its values. -/
def newA (s : FVec F S512x512 .f32) (m : Vec F S1x8x512 .f32) (a : Vec F S1x128x512 .f32) (v : Vec F S1x128x512 .bf16) :
    FVec F S1x128x512 .f32 :=
  k0_pay22 (k0_pay20 s m) (k0_pay21 s m a) v

/-- Eight heads' blocks side by side. -/
def stackM (f : Fin 8 → Vec F S1x8x512 .f32) : Vec F S8x8x512 .f32 := fun y => f (y 0) (fun a => match a with | 0 => (0 : Fin 1) | 1 => y 1 | 2 => y 2)
def stackA (f : Fin 8 → Vec F S1x128x512 .f32) : Vec F S8x128x512 .f32 := fun y => f (y 0) (fun a => match a with | 0 => (0 : Fin 1) | 1 => y 1 | 2 => y 2)
/-- Four pairs of heads, 128 columns each. -/
def stackO (f : Fin 4 → Vec F S512x128 .bf16) : Vec F S512x512 .bf16 := fun y =>
  f ⟨(y 1).val / 128, Nat.div_lt_of_lt_mul (y 1).isLt⟩ (fun a => match a with | 0 => y 0 | 1 => (⟨(y 1).val % 128, Nat.mod_lt _ (by decide)⟩ : Fin 128))

/-- Stacked maxima, read at an entry of one head's block. -/
theorem stackM_emb (f : Fin 8 → Vec F S1x8x512 .f32) (h : Fin 8) (x : S1x8x512.Idx) : stackM f ((rM h).emb x) = f h x := by
  have e0 : (rM h).emb x 0 = h := Fin.ext (by have := (x 0).isLt; show h.val + 1 * (x 0).val = h.val; simp at this; omega)
  have e1 : (rM h).emb x 1 = x 1 := Fin.ext (by show 0 + 1 * (x 1).val = (x 1).val; omega)
  have e2 : (rM h).emb x 2 = x 2 := Fin.ext (by show 0 + 1 * (x 2).val = (x 2).val; omega)
  unfold stackM; rw [e0, e1, e2]; congr 1
  funext a; match a with
  | 0 => exact Subsingleton.elim (α := Fin 1) _ _
  | 1 => rfl
  | 2 => rfl

/-- Stacked accumulators, read at an entry of one head's block. -/
theorem stackA_emb (f : Fin 8 → Vec F S1x128x512 .f32) (h : Fin 8) (x : S1x128x512.Idx) : stackA f ((rA h).emb x) = f h x := by
  have e0 : (rA h).emb x 0 = h := Fin.ext (by have := (x 0).isLt; show h.val + 1 * (x 0).val = h.val; simp at this; omega)
  have e1 : (rA h).emb x 1 = x 1 := Fin.ext (by show 0 + 1 * (x 1).val = (x 1).val; omega)
  have e2 : (rA h).emb x 2 = x 2 := Fin.ext (by show 0 + 1 * (x 2).val = (x 2).val; omega)
  unfold stackA; rw [e0, e1, e2]; congr 1
  funext a; match a with
  | 0 => exact Subsingleton.elim (α := Fin 1) _ _
  | 1 => rfl
  | 2 => rfl

/-- Stacked column groups, read at an entry of one of them. -/
theorem stackO_emb (f : Fin 4 → Vec F S512x128 .bf16) (p : Fin 4) (x : S512x128.Idx) : stackO f ((rO p).emb x) = f p x := by
  have hx : (x 1).val < 128 := (x 1).isLt
  have e1 : ((rO p).emb x 1).val = 128 * p.val + (x 1).val := by show 128 * p.val + 1 * (x 1).val = _; omega
  have e0 : (rO p).emb x 0 = x 0 := Fin.ext (by show 0 + 1 * (x 0).val = (x 0).val; omega)
  have d : ((rO p).emb x 1).val / 128 = p.val := by rw [e1]; omega
  have r : ((rO p).emb x 1).val % 128 = (x 1).val := by rw [e1]; omega
  have hp : (⟨((rO p).emb x 1).val / 128, Nat.div_lt_of_lt_mul ((rO p).emb x 1).isLt⟩ : Fin 4) = p := Fin.ext d
  unfold stackO; rw [hp, e0]; congr 1
  funext a; match a with
  | 0 => rfl
  | 1 => exact Fin.ext r

/-- What a step below the diagonal leaves in the running maxima and the accumulators; -/
def stepM (X0 X1 : Vec F S8x512x128 .bf16) (M : Vec F S8x8x512 .f32) : Vec F S8x8x512 .f32 :=
  stackM fun h => newM (k0_pay7 (View.ld X1 (rK h)) (View.ld X0 (rK h))) (View.ld M (rM h))
def stepA (X0 X1 : Vec F S8x512x128 .bf16) (X2 : Vec F S8x128x512 .bf16) (M : Vec F S8x8x512 .f32) (A : Vec F S8x128x512 .f32) : Vec F S8x128x512 .f32 :=
  stackA fun h => newA (k0_pay7 (View.ld X1 (rK h)) (View.ld X0 (rK h))) (View.ld M (rM h)) (View.ld A (rA h)) (View.ld X2 (rA h))
/-- and one on it, where a query sees the keys up to its own. -/
def lastM (X0 X1 : Vec F S8x512x128 .bf16) (M : Vec F S8x8x512 .f32) : Vec F S8x8x512 .f32 :=
  stackM fun h => newM (k0_pay62 (View.ld X1 (rK h)) (View.ld X0 (rK h))) (View.ld M (rM h))
def lastA (X0 X1 : Vec F S8x512x128 .bf16) (X2 : Vec F S8x128x512 .bf16) (M : Vec F S8x8x512 .f32) (A : Vec F S8x128x512 .f32) : Vec F S8x128x512 .f32 :=
  stackA fun h => newA (k0_pay62 (View.ld X1 (rK h)) (View.ld X0 (rK h))) (View.ld M (rM h)) (View.ld A (rA h)) (View.ld X2 (rA h))
/-- The output block, from the accumulators after the diagonal step. -/
def outOf (A : Vec F S8x128x512 .f32) : Vec F S512x512 .bf16 :=
  stackO fun p => k0_pay5 (View.ld A (rA ⟨2 * p.val, by omega⟩)) (View.ld A (rA ⟨2 * p.val + 1, by omega⟩))

/-- Eight stores, one per head, leave the stack of what they stored, whatever was stored before. -/
theorem canon_stackM (f : Fin 8 → Vec F S1x8x512 .f32) (T : List (View.Piece (Elt F) S8x8x512 .f32)) (y : S8x8x512.Idx) :
    (∃ p ∈ ([⟨rM 7, f 7⟩, ⟨rM 6, f 6⟩, ⟨rM 5, f 5⟩, ⟨rM 4, f 4⟩, ⟨rM 3, f 3⟩, ⟨rM 2, f 2⟩, ⟨rM 1, f 1⟩, ⟨rM 0, f 0⟩] ++ T : List (View.Piece (Elt F) S8x8x512 .f32)), y ∈ p.1.set) ∧
      View.canon ([⟨rM 7, f 7⟩, ⟨rM 6, f 6⟩, ⟨rM 5, f 5⟩, ⟨rM 4, f 4⟩, ⟨rM 3, f 3⟩, ⟨rM 2, f 2⟩, ⟨rM 1, f 1⟩, ⟨rM 0, f 0⟩] ++ T) y = stackM f y := by
  have hy : y ∈ (rM (y 0)).set := by
    rw [Rect.mem_set_unit]
    intro a; match a with
    | 0 => exact ⟨Nat.le_refl _, Nat.lt_succ_self _⟩
    | 1 => exact ⟨Nat.zero_le _, by show (y 1).val < 0 + _; rw [Nat.zero_add]; exact (y 1).isLt⟩
    | 2 => exact ⟨Nat.zero_le _, by show (y 2).val < 0 + _; rw [Nat.zero_add]; exact (y 2).isLt⟩
  have hc : ∃ p ∈ ([⟨rM 7, f 7⟩, ⟨rM 6, f 6⟩, ⟨rM 5, f 5⟩, ⟨rM 4, f 4⟩, ⟨rM 3, f 3⟩, ⟨rM 2, f 2⟩, ⟨rM 1, f 1⟩, ⟨rM 0, f 0⟩] : List (View.Piece (Elt F) S8x8x512 .f32)), y ∈ p.1.set := by
    have : ∀ h : Fin 8, y ∈ (rM h).set → ∃ p ∈ ([⟨rM 7, f 7⟩, ⟨rM 6, f 6⟩, ⟨rM 5, f 5⟩, ⟨rM 4, f 4⟩, ⟨rM 3, f 3⟩, ⟨rM 2, f 2⟩, ⟨rM 1, f 1⟩, ⟨rM 0, f 0⟩] : List (View.Piece (Elt F) S8x8x512 .f32)), y ∈ p.1.set := by
      intro h hh; exact ⟨⟨rM h, f h⟩, by fin_cases h <;> simp, hh⟩
    exact this _ hy
  refine ⟨hc.imp fun p h => ⟨List.mem_append_left _ h.1, h.2⟩, View.canon_append_of_pieces (stackM f) T _ ?_ y hc⟩
  simp only [List.forall_mem_cons, List.not_mem_nil, false_imp_iff, implies_true, and_true]
  exact ⟨fun x => (stackM_emb f 7 x).symm, fun x => (stackM_emb f 6 x).symm, fun x => (stackM_emb f 5 x).symm, fun x => (stackM_emb f 4 x).symm, fun x => (stackM_emb f 3 x).symm, fun x => (stackM_emb f 2 x).symm, fun x => (stackM_emb f 1 x).symm, fun x => (stackM_emb f 0 x).symm⟩

/-- Writing the eight heads' maxima leaves their stack; -/
theorem read_stackM {sg : RefSig} (v : View sg .tc .vmem S8x8x512 .f32) (g : v.ty.Contents (Elt F)) (f : Fin 8 → Vec F S1x8x512 .f32) (T : List (View.Piece (Elt F) S8x8x512 .f32)) :
    v.read (Elt F) (v.writes (Elt F) g ([⟨rM 7, f 7⟩, ⟨rM 6, f 6⟩, ⟨rM 5, f 5⟩, ⟨rM 4, f 4⟩, ⟨rM 3, f 3⟩, ⟨rM 2, f 2⟩, ⟨rM 1, f 1⟩, ⟨rM 0, f 0⟩] ++ T)) = stackM f :=
  funext fun y => (View.read_writes_apply_eq_canon v g y _ (canon_stackM f T y).1).trans (canon_stackM f T y).2

/-- Eight stores, one per head, leave the stack of what they stored, whatever was stored before. -/
theorem canon_stackA (f : Fin 8 → Vec F S1x128x512 .f32) (T : List (View.Piece (Elt F) S8x128x512 .f32)) (y : S8x128x512.Idx) :
    (∃ p ∈ ([⟨rA 7, f 7⟩, ⟨rA 6, f 6⟩, ⟨rA 5, f 5⟩, ⟨rA 4, f 4⟩, ⟨rA 3, f 3⟩, ⟨rA 2, f 2⟩, ⟨rA 1, f 1⟩, ⟨rA 0, f 0⟩] ++ T : List (View.Piece (Elt F) S8x128x512 .f32)), y ∈ p.1.set) ∧
      View.canon ([⟨rA 7, f 7⟩, ⟨rA 6, f 6⟩, ⟨rA 5, f 5⟩, ⟨rA 4, f 4⟩, ⟨rA 3, f 3⟩, ⟨rA 2, f 2⟩, ⟨rA 1, f 1⟩, ⟨rA 0, f 0⟩] ++ T) y = stackA f y := by
  have hy : y ∈ (rA (y 0)).set := by
    rw [Rect.mem_set_unit]
    intro a; match a with
    | 0 => exact ⟨Nat.le_refl _, Nat.lt_succ_self _⟩
    | 1 => exact ⟨Nat.zero_le _, by show (y 1).val < 0 + _; rw [Nat.zero_add]; exact (y 1).isLt⟩
    | 2 => exact ⟨Nat.zero_le _, by show (y 2).val < 0 + _; rw [Nat.zero_add]; exact (y 2).isLt⟩
  have hc : ∃ p ∈ ([⟨rA 7, f 7⟩, ⟨rA 6, f 6⟩, ⟨rA 5, f 5⟩, ⟨rA 4, f 4⟩, ⟨rA 3, f 3⟩, ⟨rA 2, f 2⟩, ⟨rA 1, f 1⟩, ⟨rA 0, f 0⟩] : List (View.Piece (Elt F) S8x128x512 .f32)), y ∈ p.1.set := by
    have : ∀ h : Fin 8, y ∈ (rA h).set → ∃ p ∈ ([⟨rA 7, f 7⟩, ⟨rA 6, f 6⟩, ⟨rA 5, f 5⟩, ⟨rA 4, f 4⟩, ⟨rA 3, f 3⟩, ⟨rA 2, f 2⟩, ⟨rA 1, f 1⟩, ⟨rA 0, f 0⟩] : List (View.Piece (Elt F) S8x128x512 .f32)), y ∈ p.1.set := by
      intro h hh; exact ⟨⟨rA h, f h⟩, by fin_cases h <;> simp, hh⟩
    exact this _ hy
  refine ⟨hc.imp fun p h => ⟨List.mem_append_left _ h.1, h.2⟩, View.canon_append_of_pieces (stackA f) T _ ?_ y hc⟩
  simp only [List.forall_mem_cons, List.not_mem_nil, false_imp_iff, implies_true, and_true]
  exact ⟨fun x => (stackA_emb f 7 x).symm, fun x => (stackA_emb f 6 x).symm, fun x => (stackA_emb f 5 x).symm, fun x => (stackA_emb f 4 x).symm, fun x => (stackA_emb f 3 x).symm, fun x => (stackA_emb f 2 x).symm, fun x => (stackA_emb f 1 x).symm, fun x => (stackA_emb f 0 x).symm⟩

/-- the same for the accumulators. -/
theorem read_stackA {sg : RefSig} (v : View sg .tc .vmem S8x128x512 .f32) (g : v.ty.Contents (Elt F)) (f : Fin 8 → Vec F S1x128x512 .f32) (T : List (View.Piece (Elt F) S8x128x512 .f32)) :
    v.read (Elt F) (v.writes (Elt F) g ([⟨rA 7, f 7⟩, ⟨rA 6, f 6⟩, ⟨rA 5, f 5⟩, ⟨rA 4, f 4⟩, ⟨rA 3, f 3⟩, ⟨rA 2, f 2⟩, ⟨rA 1, f 1⟩, ⟨rA 0, f 0⟩] ++ T)) = stackA f :=
  funext fun y => (View.read_writes_apply_eq_canon v g y _ (canon_stackA f T y).1).trans (canon_stackA f T y).2

set_option maxHeartbeats 8000000 in
/-- The body at a point below the diagonal, past the first key block. -/
theorem run_below (c : Dev nD) (i : grid0.Coords) (a2 : Memref sig .tc .vmem S8x512x128 .bf16) (h2 : a2.IsWhole)
    (a3 : Memref sig .tc .vmem S8x512x128 .bf16) (h3 : a3.IsWhole) (a4 : Memref sig .tc .vmem S8x128x512 .bf16) (h4 : a4.IsWhole)
    (a5 : Memref sig .tc .vmem S512x512 .bf16) (h5 : a5.IsWhole) (a6 : Memref sig .tc .vmem S8x8x512 .f32) (h6 : a6.IsWhole)
    (a7 : Memref sig .tc .vmem S8x128x512 .f32) (h7 : a7.IsWhole) (hf : ¬ first i) (hb : below i) (hd : ¬ diag i)
    (x0 x1 : Vec F S8x512x128 .bf16) (x2 : Vec F S8x128x512 .bf16) (M : Vec F S8x8x512 .f32) (A : Vec F S8x128x512 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a6 fullShare M ∗ owns (c : Thread nD τ) a7 fullShare A
        ∗ (iprop(owns (c : Thread nD τ) a2 fullShare x0 ∗ owns (c : Thread nD τ) a3 fullShare x1 ∗ owns (c : Thread nD τ) a4 fullShare x2
          ∗ owns (c : Thread nD τ) a6 fullShare (stepM x0 x1 M) ∗ owns (c : Thread nD τ) a7 fullShare (stepA x0 x1 x2 M A)) -∗ K ⟨⟩))
      ⊢ wp frame (wpE (defs₀ (F := F)) Variants.none c none) E (cc0_fox_attention i a2 h2 a3 h3 a4 h4 a5 h5 a6 h6 a7 h7) K := by
  simp only [cc0_fox_attention_eq_skeleton]; unfold cc0_fox_attention_skel
  simp only [dif_neg hf, dif_pos hb, dif_neg hd]
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%fM, %hfM, HM⟩, ⟨%fA, %hfA, HA⟩, Hk⟩
  subst hf0 hf1 hf2 hfM hfA
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HM]
  · iexists _; isplitr; swap; · iexact HM
    ipureintro
    exact read_stackM a6.view fM (fun h => newM (k0_pay7 (View.ld (a3.view.read (Elt F) f1) (rK h)) (View.ld (a2.view.read (Elt F) f0) (rK h))) (View.ld (a6.view.read (Elt F) fM) (rM h))) []
  · iexists _; isplitr; swap; · iexact HA
    ipureintro
    exact read_stackA a7.view fA (fun h => newA (k0_pay7 (View.ld (a3.view.read (Elt F) f1) (rK h)) (View.ld (a2.view.read (Elt F) f0) (rK h))) (View.ld (a6.view.read (Elt F) fM) (rM h)) (View.ld (a7.view.read (Elt F) fA) (rA h)) (View.ld (a4.view.read (Elt F) f2) (rA h))) []

/-- A part of the accumulators read after all heads are written is that part of the stack. -/
theorem read_cov_stackA {sg : RefSig} (v : View sg .tc .vmem S8x128x512 .f32) (f : Fin 8 → Vec F S1x128x512 .f32) (T : List (View.Piece (Elt F) S8x128x512 .f32)) (r : Rect S8x128x512) :
    v.readCov ([⟨rA 7, f 7⟩, ⟨rA 6, f 6⟩, ⟨rA 5, f 5⟩, ⟨rA 4, f 4⟩, ⟨rA 3, f 3⟩, ⟨rA 2, f 2⟩, ⟨rA 1, f 1⟩, ⟨rA 0, f 0⟩] ++ T) r.toLoadRect = View.ld (stackA f) r := by
  rw [View.readCov_eq_canon_ld _ _ _ fun y => (canon_stackA f T y).1]
  exact congrArg (fun X => View.ld X r) (funext fun y => (canon_stackA f T y).2)

/-- Four stores, one per pair of heads, leave the stack of what they stored. -/
theorem read_stackO {sg : RefSig} (v : View sg .tc .vmem S512x512 .bf16) (g : v.ty.Contents (Elt F)) (f : Fin 4 → Vec F S512x128 .bf16) :
    v.read (Elt F) (v.writes (Elt F) g [⟨rO 3, f 3⟩, ⟨rO 2, f 2⟩, ⟨rO 1, f 1⟩, ⟨rO 0, f 0⟩]) = stackO f := by
  funext y
  have hy : y ∈ (rO ⟨(y 1).val / 128, Nat.div_lt_of_lt_mul (y 1).isLt⟩).set := by
    rw [Rect.mem_set_unit]
    intro a; match a with
    | 0 => exact ⟨Nat.zero_le _, by show (y 0).val < 0 + _; rw [Nat.zero_add]; exact (y 0).isLt⟩
    | 1 => exact ⟨Nat.mul_div_le _ _, by show (y 1).val < 128 * ((y 1).val / 128) + 128; omega⟩
  have hc : ∃ p ∈ ([⟨rO 3, f 3⟩, ⟨rO 2, f 2⟩, ⟨rO 1, f 1⟩, ⟨rO 0, f 0⟩] : List (View.Piece (Elt F) S512x512 .bf16)), y ∈ p.1.set := by
    have : ∀ h : Fin 4, y ∈ (rO h).set → ∃ p ∈ ([⟨rO 3, f 3⟩, ⟨rO 2, f 2⟩, ⟨rO 1, f 1⟩, ⟨rO 0, f 0⟩] : List (View.Piece (Elt F) S512x512 .bf16)), y ∈ p.1.set := by
      intro h hh; exact ⟨⟨rO h, f h⟩, by fin_cases h <;> simp, hh⟩
    exact this _ hy
  refine (View.read_writes_apply_eq_canon v g y _ hc).trans (View.canon_apply_of_pieces (stackO f) _ ?_ y hc)
  simp only [List.forall_mem_cons, List.not_mem_nil, false_imp_iff, implies_true, and_true]
  exact ⟨fun x => (stackO_emb f 3 x).symm, fun x => (stackO_emb f 2 x).symm, fun x => (stackO_emb f 1 x).symm, fun x => (stackO_emb f 0 x).symm⟩

end Cert.FoxIdeal.Hand
end
-- ==== Proof.FoxBlock.lean ====
module

public import proofs.«01_k».proof.Proof.FoxSpec
public import proofs.«01_k».proof.Proof.DilBlock
public import proofs.«01_k».proof.Proof.FoxStep

@[expose] public section

set_option maxRecDepth 16384

noncomputable section

/-! # One head's block, read at an index

What one step computes for one head, over the extended reals: the scores, the new running maximum, the new accumulator,
and the quotients of the last step. -/

namespace Cert.FoxIdeal.Hand

open Cert.FoxIdeal Cert.FoxIdeal.Gen FoxSpec
open Idealize.ShloMosaic Idealize.ShloMosaic.TcCoe
open Dil.Block (ofBits_zero ofBits_neg_inf)

/-- The scores of a block, keys by queries. -/
theorem scores_apply (kb qb : Vec Ideal S1x512x128 .bf16) (j x : Fin 512) :
    k0_pay7 kb qb (ValueIdx.ix2 j x) = ∑ d : Fin 128, (kb (ValueIdx.ix3 (0 : Fin 1) j d) * qb (ValueIdx.ix3 (0 : Fin 1) x d) : EReal) := by
  have cast : ∀ (y : Vec Ideal S1x512x128 .bf16) (j : Fin 512) (d : Fin 128),
      (shapeCast S512x128 y shapeCasts_S1x512x128_S512x128 : FVec Ideal S512x128 .bf16) (ValueIdx.ix2 j d) = y (ValueIdx.ix3 (0 : Fin 1) j d) := fun y j d =>
    shapeCast_apply y _ _ _ (by
      rewrite [Shape.rowMajor_val_two, Shape.rowMajor_val_three]
      show (0 * 512 + j.val) * 128 + d.val = j.val * 128 + d.val
      omega)
  unfold k0_pay7
  show FloatOps.matmul (F := Ideal) (φ₁ := .bf16) (φ₂ := .bf16) (DotDims.transposedRhs 512 128 512) none _ _ (constant S512x512 .f32 0x00000000#32) (ValueIdx.ix2 j x) = _
  rw [Ideal.matmul_transposedRhs_apply (φ₁ := .bf16) (φ₂ := .bf16),
    show (constant S512x512 .f32 0x00000000#32 : FVec Ideal S512x512 .f32) (ValueIdx.ix2 j x) = 0 from ofBits_zero, zero_add]
  exact Finset.sum_congr rfl fun d _ => congrArg₂ (fun a b : EReal => a * b) (cast kb j d) (cast qb x d)

/-- The scores of the block on the diagonal: a query sees the keys up to its own. -/
theorem masked_apply (kb qb : Vec Ideal S1x512x128 .bf16) (j x : Fin 512) :
    k0_pay62 kb qb (ValueIdx.ix2 j x) = if j.val ≤ x.val then k0_pay7 kb qb (ValueIdx.ix2 j x) else ⊥ := by
  have hj := j.isLt
  have hx := x.isLt
  have e : k0_pay60 (ValueIdx.ix2 j x) = BitVec.ofBool (decide (j.val ≤ x.val)) := by
    unfold k0_pay60
    show cmpi .sle _ _ (ValueIdx.ix2 j x) = _
    rw [cmpi_apply, iota_apply, iota_apply]
    show IntOp.cmpi .sle (BitVec.ofNat 32 (0 * 512 + j.val)) (BitVec.ofNat 32 (0 * 512 + x.val)) = _
    simp only [Nat.zero_mul, Nat.zero_add]
    exact WordCmp.cmpi_sle_ofNat (by omega) (by omega)
  show Scalar.select (k0_pay60 (ValueIdx.ix2 j x)) (k0_pay7 kb qb (ValueIdx.ix2 j x)) (FloatOps.ofBits .f32 0xFF800000#32 : Ideal .f32) = _
  rw [e, WordCmp.select_ofBool, ofBits_neg_inf]
  simp only [decide_eq_true_eq]

/-- The old running maximum of a query. -/
theorem old_apply (m : Vec Ideal S1x8x512 .f32) (x : Fin 512) : k0_pay17 m (ValueIdx.ix2 (0 : Fin 1) x) = m (ValueIdx.ix3 (0 : Fin 1) (0 : Fin 8) x) := by
  unfold k0_pay17
  refine (extractStridedSlice_apply ![0, 0] _ slices_S8x512_o0_0_S1x512 (ValueIdx.ix2 (0 : Fin 1) x) (ValueIdx.ix2 (0 : Fin 8) x) (fun a => match a with
    | ⟨0, _⟩ => rfl
    | ⟨1, _⟩ => by show x.val = 0 + x.val; omega)).trans ?_
  exact shapeCast_apply m _ _ _ (by
      rewrite [Shape.rowMajor_val_two, Shape.rowMajor_val_three]
      show (0 * 8 + 0) * 512 + x.val = 0 * 512 + x.val
      omega)

/-- The largest score of a query in a block. -/
theorem blockMax_apply (s : FVec Ideal S512x512 .f32) (x : Fin 512) :
    multiReduction .maximumf [0] S512 s 0xFF800000#32 reduces_S512x512_S512 (.inl rfl) rfl (ValueIdx.ix1 x)
      = Finset.univ.fold max ⊥ fun j : Fin 512 => s (ValueIdx.ix2 j x) := by
  refine (Ideal.multiReduction_maximumf_single (a := 0) s _ reduces_S512x512_S512 (.inl rfl) rfl (ValueIdx.ix1 x)).trans ?_
  rw [show (FloatOps.ofBits .f32 (FKind.maximumf.neutral .f32 (.inl rfl)) : Ideal .f32) = ⊥ from ofBits_neg_inf]
  refine congrArg (fun f => Finset.univ.fold max ⊥ f) (funext fun j => congrArg s ?_)
  funext a
  match a with
  | ⟨0, _⟩ => exact Fin.ext rfl
  | ⟨1, _⟩ => exact Fin.ext rfl

/-- The new running maximum of a query. -/
theorem newMax_apply (s : FVec Ideal S512x512 .f32) (m : Vec Ideal S1x8x512 .f32) (x : Fin 512) :
    k0_pay18 s m (ValueIdx.ix2 (0 : Fin 1) x) = max (m (ValueIdx.ix3 (0 : Fin 1) (0 : Fin 8) x)) (Finset.univ.fold max ⊥ fun j : Fin 512 => s (ValueIdx.ix2 j x)) := by
  have cast : ∀ y : FVec Ideal S512 .f32, shapeCast S1x512 y shapeCasts_S512_S1x512 (ValueIdx.ix2 (0 : Fin 1) x) = y (ValueIdx.ix1 x) := fun y =>
    shapeCast_apply y _ _ _ (by
      rewrite [Shape.rowMajor_val_one, Shape.rowMajor_val_two]
      show x.val = 0 * 512 + x.val
      omega)
  unfold k0_pay18
  show max (k0_pay17 m (ValueIdx.ix2 (0 : Fin 1) x)) (shapeCast S1x512 _ shapeCasts_S512_S1x512 (ValueIdx.ix2 (0 : Fin 1) x)) = _
  rw [old_apply, cast, blockMax_apply]

/-- The maximum that scores are measured from. -/
theorem safe_apply (s : FVec Ideal S512x512 .f32) (m : Vec Ideal S1x8x512 .f32) (x : Fin 512) :
    k0_pay19 s m (ValueIdx.ix2 (0 : Fin 1) x) = safe (k0_pay18 s m (ValueIdx.ix2 (0 : Fin 1) x)) := by
  show Scalar.select (FloatOps.cmpf .oeq (k0_pay18 s m (ValueIdx.ix2 (0 : Fin 1) x)) (FloatOps.ofBits .f32 0xFF800000#32))
    (FloatOps.ofBits .f32 0x00000000#32) (k0_pay18 s m (ValueIdx.ix2 (0 : Fin 1) x)) = _
  rw [ofBits_neg_inf, ofBits_zero]
  generalize k0_pay18 s m (ValueIdx.ix2 (0 : Fin 1) x) = y
  show Scalar.select (BitVec.ofBool (decide ((y : EReal) = ⊥))) (0 : EReal) y = safe y
  rw [WordCmp.select_ofBool]
  simp only [decide_eq_true_eq]
  rfl

/-- The weights. -/
theorem weight_apply (s : FVec Ideal S512x512 .f32) (m : Vec Ideal S1x8x512 .f32) (j x : Fin 512) :
    k0_pay20 s m (ValueIdx.ix2 j x) = Ideal.exp2 (s (ValueIdx.ix2 j x) - safe (k0_pay18 s m (ValueIdx.ix2 (0 : Fin 1) x))) := by
  rw [← safe_apply]
  unfold k0_pay20
  show Ideal.exp2 (s (ValueIdx.ix2 j x) - broadcastTo S512x512 _ broadcasts_S1x512_S512x512 (ValueIdx.ix2 j x)) = _
  rw [broadcastTo_apply _ broadcasts_S1x512_S512x512 (ValueIdx.ix2 j x) (ValueIdx.ix2 (0 : Fin 1) x) (fun a => match a with
    | ⟨0, _⟩ => rfl
    | ⟨1, _⟩ => rfl)]

/-- The old accumulator scaled to the new maximum. -/
theorem scaled_apply (s : FVec Ideal S512x512 .f32) (m : Vec Ideal S1x8x512 .f32) (a : Vec Ideal S1x128x512 .f32) (e : Fin 128) (x : Fin 512) :
    k0_pay21 s m a (ValueIdx.ix2 e x) = (Ideal.exp2 (m (ValueIdx.ix3 (0 : Fin 1) (0 : Fin 8) x) - safe (k0_pay18 s m (ValueIdx.ix2 (0 : Fin 1) x))) * a (ValueIdx.ix3 (0 : Fin 1) e x) : EReal) := by
  rw [← safe_apply, ← old_apply m x]
  unfold k0_pay21
  show (broadcastTo S128x512 _ broadcasts_S1x512_S128x512 (ValueIdx.ix2 e x) * shapeCast S128x512 a shapeCasts_S1x128x512_S128x512 (ValueIdx.ix2 e x) : EReal) = _
  rw [broadcastTo_apply _ broadcasts_S1x512_S128x512 (ValueIdx.ix2 e x) (ValueIdx.ix2 (0 : Fin 1) x) (fun a => match a with
    | ⟨0, _⟩ => rfl
    | ⟨1, _⟩ => rfl),
    shapeCast_apply a shapeCasts_S1x128x512_S128x512 (ValueIdx.ix2 e x) (ValueIdx.ix3 (0 : Fin 1) e x) (by
      rewrite [Shape.rowMajor_val_two, Shape.rowMajor_val_three]
      show (0 * 128 + e.val) * 512 + x.val = e.val * 512 + x.val
      omega)]
  rfl

/-- One head's new running maximum, -/
theorem newM_apply (s : FVec Ideal S512x512 .f32) (m : Vec Ideal S1x8x512 .f32) (r : Fin 8) (x : Fin 512) :
    newM s m (ValueIdx.ix3 (0 : Fin 1) r x) = k0_pay18 s m (ValueIdx.ix2 (0 : Fin 1) x) := by
  unfold newM k0_pay23
  refine (shapeCast_apply _ shapeCasts_S8x512_S1x8x512 (ValueIdx.ix3 (0 : Fin 1) r x) (ValueIdx.ix2 r x) (by
      rewrite [Shape.rowMajor_val_two, Shape.rowMajor_val_three]
      show r.val * 512 + x.val = (0 * 8 + r.val) * 512 + x.val
      omega)).trans ?_
  refine (broadcastTo_apply _ broadcasts_S1x512_S8x512 (ValueIdx.ix2 r x) (ValueIdx.ix2 (0 : Fin 1) x) (fun a => match a with
    | ⟨0, _⟩ => rfl
    | ⟨1, _⟩ => rfl)).trans ?_
  rw [shapeCast_self]

/-- and its new accumulator. -/
theorem newA_apply (s : FVec Ideal S512x512 .f32) (m : Vec Ideal S1x8x512 .f32) (a : Vec Ideal S1x128x512 .f32) (v : Vec Ideal S1x128x512 .bf16)
    (e : Fin 128) (x : Fin 512) :
    newA s m a v (ValueIdx.ix3 (0 : Fin 1) e x)
      = (Ideal.exp2 (m (ValueIdx.ix3 (0 : Fin 1) (0 : Fin 8) x) - safe (k0_pay18 s m (ValueIdx.ix2 (0 : Fin 1) x))) * a (ValueIdx.ix3 (0 : Fin 1) e x)
        + ∑ j : Fin 512, v (ValueIdx.ix3 (0 : Fin 1) e j) * Ideal.exp2 (s (ValueIdx.ix2 j x) - safe (k0_pay18 s m (ValueIdx.ix2 (0 : Fin 1) x))) : EReal) := by
  have cast : ∀ (j : Fin 512), (shapeCast S128x512 v shapeCasts_S1x128x512_S128x512 : FVec Ideal S128x512 .bf16) (ValueIdx.ix2 e j) = v (ValueIdx.ix3 (0 : Fin 1) e j) := fun j =>
    shapeCast_apply v _ _ _ (by
      rewrite [Shape.rowMajor_val_two, Shape.rowMajor_val_three]
      show (0 * 128 + e.val) * 512 + j.val = e.val * 512 + j.val
      omega)
  unfold newA
  rw [← scaled_apply]
  unfold k0_pay22
  refine (shapeCast_apply _ shapeCasts_S128x512_S1x128x512 (ValueIdx.ix3 (0 : Fin 1) e x) (ValueIdx.ix2 e x) (by
      rewrite [Shape.rowMajor_val_two, Shape.rowMajor_val_three]
      show e.val * 512 + x.val = (0 * 128 + e.val) * 512 + x.val
      omega)).trans ?_
  show (k0_pay21 s m a (ValueIdx.ix2 e x) + FloatOps.matmul (F := Ideal) (φ₁ := .bf16) (φ₂ := .bf16) (DotDims.plain 128 512 512) none _ _ (constant S128x512 .f32 0x00000000#32) (ValueIdx.ix2 e x) : EReal) = _
  rw [Ideal.matmul_plain_apply (φ₁ := .bf16) (φ₂ := .bf16),
    show (constant S128x512 .f32 0x00000000#32 : FVec Ideal S128x512 .f32) (ValueIdx.ix2 e x) = 0 from ofBits_zero, zero_add]
  refine congrArg (fun y : EReal => k0_pay21 s m a (ValueIdx.ix2 e x) + y) (Finset.sum_congr rfl fun j _ => ?_)
  exact congrArg₂ (fun a b : EReal => a * b) (cast j) (weight_apply s m j x)

/-- The quotients of two heads, side by side. -/
theorem quot_apply (a b : Vec Ideal S1x128x512 .f32) (x : Fin 512) (y : Fin 128) (d : Fin 64) (hd : d.val = y.val % 64) :
    k0_pay5 a b (ValueIdx.ix2 x y) = Ideal.div ((if y.val < 64 then a else b) (ValueIdx.ix3 (0 : Fin 1) (⟨d.val, by omega⟩ : Fin 128) x))
      ((if y.val < 64 then a else b) (ValueIdx.ix3 (0 : Fin 1) (64 : Fin 128) x)) := by
  have cast : ∀ (a : Vec Ideal S1x128x512 .f32) (e : Fin 128), shapeCast S128x512 a shapeCasts_S1x128x512_S128x512 (ValueIdx.ix2 e x) = a (ValueIdx.ix3 (0 : Fin 1) e x) := fun a e =>
    shapeCast_apply a _ _ _ (by
      rewrite [Shape.rowMajor_val_two, Shape.rowMajor_val_three]
      show (0 * 128 + e.val) * 512 + x.val = e.val * 512 + x.val
      omega)
  have one : ∀ (a : Vec Ideal S1x128x512 .f32),
      divf (extractStridedSlice S64x512 ![0, 0] (shapeCast S128x512 a shapeCasts_S1x128x512_S128x512 : FVec Ideal S128x512 .f32) slices_S128x512_o0_0_S64x512 : FVec Ideal S64x512 .f32)
        (broadcastTo S64x512 (extractStridedSlice S1x512 ![64, 0] (shapeCast S128x512 a shapeCasts_S1x128x512_S128x512 : FVec Ideal S128x512 .f32) slices_S128x512_o64_0_S1x512) broadcasts_S1x512_S64x512) (ValueIdx.ix2 d x)
      = Ideal.div (a (ValueIdx.ix3 (0 : Fin 1) (⟨d.val, by omega⟩ : Fin 128) x)) (a (ValueIdx.ix3 (0 : Fin 1) (64 : Fin 128) x)) := fun a => by
    refine congrArg₂ Ideal.div
      ((extractStridedSlice_apply ![0, 0] _ slices_S128x512_o0_0_S64x512 (ValueIdx.ix2 d x) (ValueIdx.ix2 (⟨d.val, by omega⟩ : Fin 128) x) (fun a => match a with
        | ⟨0, _⟩ => by show d.val = 0 + d.val; omega
        | ⟨1, _⟩ => by show x.val = 0 + x.val; omega)).trans (cast a _)) ?_
    refine (broadcastTo_apply _ broadcasts_S1x512_S64x512 (ValueIdx.ix2 d x) (ValueIdx.ix2 (0 : Fin 1) x) (fun a => match a with
      | ⟨0, _⟩ => rfl
      | ⟨1, _⟩ => rfl)).trans ?_
    exact (extractStridedSlice_apply ![64, 0] _ slices_S128x512_o64_0_S1x512 (ValueIdx.ix2 (0 : Fin 1) x) (ValueIdx.ix2 (64 : Fin 128) x) (fun a => match a with
      | ⟨0, _⟩ => rfl
      | ⟨1, _⟩ => by show x.val = 0 + x.val; omega)).trans (cast a _)
  unfold k0_pay5
  refine (show ∀ z : FVec Ideal S512x128 .f32, truncf .bf16 z bitsLt_bf16_f32 (ValueIdx.ix2 x y) = z (ValueIdx.ix2 x y) from fun _ => rfl) _ |>.trans ?_
  refine (transpose_apply [1, 0] _ transposes_S128x512_p1_0_S512x128 (ValueIdx.ix2 x y) (ValueIdx.ix2 y x) (fun b => match b with
    | ⟨0, _⟩ => rfl
    | ⟨1, _⟩ => rfl)).trans ?_
  by_cases h : y.val < 64
  · rw [if_pos h]
    refine (concatenate_pair_apply_left (s₁ := S64x512) _ _ _ _ (ValueIdx.ix2 y x) rfl (ValueIdx.ix2 d x) (fun b => match b with
      | ⟨0, _⟩ => by show d.val = y.val; omega
      | ⟨1, _⟩ => rfl)).trans ?_
    exact one a
  · rw [if_neg h]
    refine (concatenate_pair_apply_right (s₁ := S64x512) (s₂ := S64x512) _ _ _ _ (ValueIdx.ix2 y x) rfl rfl (ValueIdx.ix2 d x) (fun b hb => ?_) ?_).trans ?_
    · match b with
      | ⟨0, _⟩ => exact absurd rfl hb
      | ⟨1, _⟩ => rfl
    · show d.val + 64 = y.val
      omega
    · exact one b

end Cert.FoxIdeal.Hand

end
-- ==== Proof.FoxCases.lean ====
/-
  The cases of the causal attention's body: the first step of a query block, the steps below the diagonal, and the last.
-/
module

public import proofs.«01_k».proof.Proof.FoxStep
public import proofs.«01_k».proof.Proof.Gen.FoxIdeal.Frame
public import proofs.«01_k».proof.Proof.Gen.FoxIdeal.Skeleton
public import Idealize.ShloMosaic.Lib.Pipeline.TableIdle
public import Idealize.ShloMosaic.Lib.Tactic
public import Idealize.ShloMosaic.Lib.Pipeline.CanonAppend
public import Idealize.ShloMosaic.Lib.Pipeline.Value

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The origin of an array of rank three. -/
theorem zero3 : (![0, 0, 0] : Fin 3 → ℕ) = fun _ => 0 := by funext a; fin_cases a <;> rfl

/-- The scratch arrays after the store at a row's first key block. -/
theorem read_initM {sg : RefSig} (v : View sg .tc .vmem S8x8x512 .f32) (g : v.ty.Contents (Elt F)) :
    v.read (Elt F) (v.writes (Elt F) g [⟨Rect.unit ![0, 0, 0] ![8, 8, 512] inb_S8x8x512_S8x8x512_0_0_0, k0_pay1⟩]) = k0_pay1 :=
  (View.read_writes_eq_canon v g _ fun y => ⟨_, List.mem_singleton_self _,
    View.mem_set_unit_zero (S := S8x8x512) zero3 inb_S8x8x512_S8x8x512_0_0_0 y⟩).trans
    (View.canon_unit_zero (S := S8x8x512) zero3 inb_S8x8x512_S8x8x512_0_0_0 _)

/-- The accumulators read after they were set to their first value. -/
theorem read_initA {sg : RefSig} (v : View sg .tc .vmem S8x128x512 .f32) (g : v.ty.Contents (Elt F)) :
    v.read (Elt F) (v.writes (Elt F) g [⟨Rect.unit ![0, 0, 0] ![8, 128, 512] inb_S8x128x512_S8x128x512_0_0_0, k0_pay2⟩]) = k0_pay2 :=
  (View.read_writes_eq_canon v g _ fun y => ⟨_, List.mem_singleton_self _,
    View.mem_set_unit_zero (S := S8x128x512) zero3 inb_S8x128x512_S8x128x512_0_0_0 y⟩).trans
    (View.canon_unit_zero (S := S8x128x512) zero3 inb_S8x128x512_S8x128x512_0_0_0 _)

set_option maxHeartbeats 8000000 in
/-- The body at a point on the diagonal, past the first key block. -/
theorem run_last (c : Dev nD) (i : grid0.Coords) (a2 : Memref sig .tc .vmem S8x512x128 .bf16) (h2 : a2.IsWhole)
    (a3 : Memref sig .tc .vmem S8x512x128 .bf16) (h3 : a3.IsWhole) (a4 : Memref sig .tc .vmem S8x128x512 .bf16) (h4 : a4.IsWhole)
    (a5 : Memref sig .tc .vmem S512x512 .bf16) (h5 : a5.IsWhole) (a6 : Memref sig .tc .vmem S8x8x512 .f32) (h6 : a6.IsWhole)
    (a7 : Memref sig .tc .vmem S8x128x512 .f32) (h7 : a7.IsWhole) (hf : ¬ first i) (hb : ¬ below i) (hd : diag i)
    (x0 x1 : Vec F S8x512x128 .bf16) (x2 : Vec F S8x128x512 .bf16) (M : Vec F S8x8x512 .f32) (A : Vec F S8x128x512 .f32) (E : Set ℕ) (K : PUnit → sProp 𝕄) :
    iprop(owns (c : Thread nD τ) a2 fullShare x0 ∗ owns (c : Thread nD τ) a3 fullShare x1 ∗ owns (c : Thread nD τ) a4 fullShare x2 ∗ (∃ d, owns (c : Thread nD τ) a5 fullShare d)
        ∗ owns (c : Thread nD τ) a6 fullShare M ∗ owns (c : Thread nD τ) a7 fullShare A
        ∗ (iprop(owns (c : Thread nD τ) a2 fullShare x0 ∗ owns (c : Thread nD τ) a3 fullShare x1 ∗ owns (c : Thread nD τ) a4 fullShare x2 ∗ owns (c : Thread nD τ) a5 fullShare (outOf (lastA x0 x1 x2 M A))
          ∗ owns (c : Thread nD τ) a6 fullShare (lastM x0 x1 M) ∗ owns (c : Thread nD τ) a7 fullShare (lastA x0 x1 x2 M A)) -∗ K ⟨⟩))
      ⊢ wp frame (wpE (defs₀ (F := F)) Variants.none c none) E (cc0_fox_attention i a2 h2 a3 h3 a4 h4 a5 h5 a6 h6 a7 h7) K := by
  simp only [cc0_fox_attention_eq_skeleton]; unfold cc0_fox_attention_skel
  simp only [dif_neg hf, dif_neg hb, dif_pos hd]
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%d5, %f5, -, HO⟩, ⟨%fM, %hfM, HM⟩, ⟨%fA, %hfA, HA⟩, Hk⟩
  subst hf0 hf1 hf2 hfM hfA
  sl_exec
  sl_step
  have hA : ∀ r : Rect S8x128x512, a7.view.readCov (run_last.sl.HA_8 c a2 a3 a4 a6 a7 f0 f1 f2 fM fA) r.toLoadRect
      = View.ld (lastA (a2.view.read (Elt F) f0) (a3.view.read (Elt F) f1) (a4.view.read (Elt F) f2) (a6.view.read (Elt F) fM) (a7.view.read (Elt F) fA)) r := fun r =>
    read_cov_stackA a7.view (fun h => newA (k0_pay62 (View.ld (a3.view.read (Elt F) f1) (rK h)) (View.ld (a2.view.read (Elt F) f0) (rK h))) (View.ld (a6.view.read (Elt F) fM) (rM h)) (View.ld (a7.view.read (Elt F) fA) (rA h)) (View.ld (a4.view.read (Elt F) f2) (rA h))) [] r
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists _; isplitr; swap; · iexact HO
    ipureintro
    refine (read_stackO a5.view f5 (fun p => k0_pay5
      (a7.view.readCov (run_last.sl.HA_8 c a2 a3 a4 a6 a7 f0 f1 f2 fM fA) (rA ⟨2 * p.val, by omega⟩).toLoadRect)
      (a7.view.readCov (run_last.sl.HA_8 c a2 a3 a4 a6 a7 f0 f1 f2 fM fA) (rA ⟨2 * p.val + 1, by omega⟩).toLoadRect))).trans ?_
    simp only [hA]; rfl
  isplitl [HM]
  · iexists _; isplitr; swap; · iexact HM
    ipureintro
    exact read_stackM a6.view fM (fun h => newM (k0_pay62 (View.ld (a3.view.read (Elt F) f1) (rK h)) (View.ld (a2.view.read (Elt F) f0) (rK h))) (View.ld (a6.view.read (Elt F) fM) (rM h))) []
  · iexists _; isplitr; swap; · iexact HA
    ipureintro
    exact read_stackA a7.view fA (fun h => newA (k0_pay62 (View.ld (a3.view.read (Elt F) f1) (rK h)) (View.ld (a2.view.read (Elt F) f0) (rK h))) (View.ld (a6.view.read (Elt F) fM) (rM h)) (View.ld (a7.view.read (Elt F) fA) (rA h)) (View.ld (a4.view.read (Elt F) f2) (rA h))) []

/-- The body at a point above the diagonal: nothing. -/
theorem run_above (c : Dev nD) (i : grid0.Coords) (a2 : Memref sig .tc .vmem S8x512x128 .bf16) (h2 : a2.IsWhole)
    (a3 : Memref sig .tc .vmem S8x512x128 .bf16) (h3 : a3.IsWhole) (a4 : Memref sig .tc .vmem S8x128x512 .bf16) (h4 : a4.IsWhole)
    (a5 : Memref sig .tc .vmem S512x512 .bf16) (h5 : a5.IsWhole) (a6 : Memref sig .tc .vmem S8x8x512 .f32) (h6 : a6.IsWhole)
    (a7 : Memref sig .tc .vmem S8x128x512 .f32) (h7 : a7.IsWhole) (hf : ¬ first i) (hb : ¬ below i) (hd : ¬ diag i) (E : Set ℕ) (K : PUnit → sProp 𝕄) :
    iprop(K ⟨⟩) ⊢ wp frame (wpE (defs₀ (F := F)) Variants.none c none) E (cc0_fox_attention i a2 h2 a3 h3 a4 h4 a5 h5 a6 h6 a7 h7) K := by
  simp only [cc0_fox_attention_eq_skeleton]; unfold cc0_fox_attention_skel
  simp only [dif_neg hf, dif_neg hb, dif_neg hd]
  iintro Hk
  sl_step
  iexact Hk

set_option maxHeartbeats 8000000 in
/-- The body at the first key block of a row past the first. -/
theorem run_first_below (c : Dev nD) (i : grid0.Coords) (a2 : Memref sig .tc .vmem S8x512x128 .bf16) (h2 : a2.IsWhole)
    (a3 : Memref sig .tc .vmem S8x512x128 .bf16) (h3 : a3.IsWhole) (a4 : Memref sig .tc .vmem S8x128x512 .bf16) (h4 : a4.IsWhole)
    (a5 : Memref sig .tc .vmem S512x512 .bf16) (h5 : a5.IsWhole) (a6 : Memref sig .tc .vmem S8x8x512 .f32) (h6 : a6.IsWhole)
    (a7 : Memref sig .tc .vmem S8x128x512 .f32) (h7 : a7.IsWhole) (hf : first i) (hb : below i) (hd : ¬ diag i)
    (x0 x1 : Vec F S8x512x128 .bf16) (x2 : Vec F S8x128x512 .bf16) (E : Set ℕ) (K : PUnit → sProp 𝕄) :
    iprop(owns (c : Thread nD τ) a2 fullShare x0 ∗ owns (c : Thread nD τ) a3 fullShare x1 ∗ owns (c : Thread nD τ) a4 fullShare x2
        ∗ (∃ M, owns (c : Thread nD τ) a6 fullShare M) ∗ (∃ A, owns (c : Thread nD τ) a7 fullShare A)
        ∗ (iprop(owns (c : Thread nD τ) a2 fullShare x0 ∗ owns (c : Thread nD τ) a3 fullShare x1 ∗ owns (c : Thread nD τ) a4 fullShare x2
          ∗ owns (c : Thread nD τ) a6 fullShare (stepM x0 x1 k0_pay1) ∗ owns (c : Thread nD τ) a7 fullShare (stepA x0 x1 x2 k0_pay1 k0_pay2)) -∗ K ⟨⟩))
      ⊢ wp frame (wpE (defs₀ (F := F)) Variants.none c none) E (cc0_fox_attention i a2 h2 a3 h3 a4 h4 a5 h5 a6 h6 a7 h7) K := by
  simp only [cc0_fox_attention_eq_skeleton]; unfold cc0_fox_attention_skel
  simp only [dif_pos hf, dif_pos hb, dif_neg hd]
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%M, %fM, -, HM⟩, ⟨%A, %fA, -, HA⟩, Hk⟩
  subst hf0 hf1 hf2
  (set_option sl_exec.maxSteps 4 in sl_exec)
  have hM := read_initM a6.view fM
  have hA := read_initA a7.view fA
  generalize a6.view.writes (Elt F) fM [⟨Rect.unit ![0, 0, 0] ![8, 8, 512] inb_S8x8x512_S8x8x512_0_0_0, k0_pay1⟩] = gM at hM ⊢
  generalize a7.view.writes (Elt F) fA [⟨Rect.unit ![0, 0, 0] ![8, 128, 512] inb_S8x128x512_S8x128x512_0_0_0, k0_pay2⟩] = gA at hA ⊢
  rw [← hM, ← hA]
  clear hM hA
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HM]
  · iexists _; isplitr; swap; · iexact HM
    ipureintro
    exact read_stackM a6.view gM (fun h => newM (k0_pay7 (View.ld (a3.view.read (Elt F) f1) (rK h)) (View.ld (a2.view.read (Elt F) f0) (rK h))) (View.ld (a6.view.read (Elt F) gM) (rM h))) []
  · iexists _; isplitr; swap; · iexact HA
    ipureintro
    exact read_stackA a7.view gA (fun h => newA (k0_pay7 (View.ld (a3.view.read (Elt F) f1) (rK h)) (View.ld (a2.view.read (Elt F) f0) (rK h))) (View.ld (a6.view.read (Elt F) gM) (rM h)) (View.ld (a7.view.read (Elt F) gA) (rA h)) (View.ld (a4.view.read (Elt F) f2) (rA h))) []

set_option maxHeartbeats 8000000 in
/-- The body at the first point. -/
theorem run_first_last (c : Dev nD) (i : grid0.Coords) (a2 : Memref sig .tc .vmem S8x512x128 .bf16) (h2 : a2.IsWhole)
    (a3 : Memref sig .tc .vmem S8x512x128 .bf16) (h3 : a3.IsWhole) (a4 : Memref sig .tc .vmem S8x128x512 .bf16) (h4 : a4.IsWhole)
    (a5 : Memref sig .tc .vmem S512x512 .bf16) (h5 : a5.IsWhole) (a6 : Memref sig .tc .vmem S8x8x512 .f32) (h6 : a6.IsWhole)
    (a7 : Memref sig .tc .vmem S8x128x512 .f32) (h7 : a7.IsWhole) (hf : first i) (hb : ¬ below i) (hd : diag i)
    (x0 x1 : Vec F S8x512x128 .bf16) (x2 : Vec F S8x128x512 .bf16) (E : Set ℕ) (K : PUnit → sProp 𝕄) :
    iprop(owns (c : Thread nD τ) a2 fullShare x0 ∗ owns (c : Thread nD τ) a3 fullShare x1 ∗ owns (c : Thread nD τ) a4 fullShare x2 ∗ (∃ d, owns (c : Thread nD τ) a5 fullShare d)
        ∗ (∃ M, owns (c : Thread nD τ) a6 fullShare M) ∗ (∃ A, owns (c : Thread nD τ) a7 fullShare A)
        ∗ (iprop(owns (c : Thread nD τ) a2 fullShare x0 ∗ owns (c : Thread nD τ) a3 fullShare x1 ∗ owns (c : Thread nD τ) a4 fullShare x2 ∗ owns (c : Thread nD τ) a5 fullShare (outOf (lastA x0 x1 x2 k0_pay1 k0_pay2))
          ∗ owns (c : Thread nD τ) a6 fullShare (lastM x0 x1 k0_pay1) ∗ owns (c : Thread nD τ) a7 fullShare (lastA x0 x1 x2 k0_pay1 k0_pay2)) -∗ K ⟨⟩))
      ⊢ wp frame (wpE (defs₀ (F := F)) Variants.none c none) E (cc0_fox_attention i a2 h2 a3 h3 a4 h4 a5 h5 a6 h6 a7 h7) K := by
  simp only [cc0_fox_attention_eq_skeleton]; unfold cc0_fox_attention_skel
  simp only [dif_pos hf, dif_neg hb, dif_pos hd]
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%d5, %f5, -, HO⟩, ⟨%M, %fM, -, HM⟩, ⟨%A, %fA, -, HA⟩, Hk⟩
  subst hf0 hf1 hf2
  (set_option sl_exec.maxSteps 4 in sl_exec)
  have hM := read_initM a6.view fM
  have hA := read_initA a7.view fA
  generalize a6.view.writes (Elt F) fM [⟨Rect.unit ![0, 0, 0] ![8, 8, 512] inb_S8x8x512_S8x8x512_0_0_0, k0_pay1⟩] = gM at hM ⊢
  generalize a7.view.writes (Elt F) fA [⟨Rect.unit ![0, 0, 0] ![8, 128, 512] inb_S8x128x512_S8x128x512_0_0_0, k0_pay2⟩] = gA at hA ⊢
  rw [← hM, ← hA]
  clear hM hA
  sl_exec
  sl_step
  have hC : ∀ r : Rect S8x128x512, a7.view.readCov (run_first_last.sl.HA_8 c a2 a3 a4 a6 a7 f0 f1 f2 gM gA) r.toLoadRect
      = View.ld (lastA (a2.view.read (Elt F) f0) (a3.view.read (Elt F) f1) (a4.view.read (Elt F) f2) (a6.view.read (Elt F) gM) (a7.view.read (Elt F) gA)) r := fun r =>
    read_cov_stackA a7.view (fun h => newA (k0_pay62 (View.ld (a3.view.read (Elt F) f1) (rK h)) (View.ld (a2.view.read (Elt F) f0) (rK h))) (View.ld (a6.view.read (Elt F) gM) (rM h)) (View.ld (a7.view.read (Elt F) gA) (rA h)) (View.ld (a4.view.read (Elt F) f2) (rA h))) [] r
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists _; isplitr; swap; · iexact HO
    ipureintro
    refine (read_stackO a5.view f5 (fun p => k0_pay5
      (a7.view.readCov (run_first_last.sl.HA_8 c a2 a3 a4 a6 a7 f0 f1 f2 gM gA) (rA ⟨2 * p.val, by omega⟩).toLoadRect)
      (a7.view.readCov (run_first_last.sl.HA_8 c a2 a3 a4 a6 a7 f0 f1 f2 gM gA) (rA ⟨2 * p.val + 1, by omega⟩).toLoadRect))).trans ?_
    simp only [hC]; rfl
  isplitl [HM]
  · iexists _; isplitr; swap; · iexact HM
    ipureintro
    exact read_stackM a6.view gM (fun h => newM (k0_pay62 (View.ld (a3.view.read (Elt F) f1) (rK h)) (View.ld (a2.view.read (Elt F) f0) (rK h))) (View.ld (a6.view.read (Elt F) gM) (rM h))) []
  · iexists _; isplitr; swap; · iexact HA
    ipureintro
    exact read_stackA a7.view gA (fun h => newA (k0_pay62 (View.ld (a3.view.read (Elt F) f1) (rK h)) (View.ld (a2.view.read (Elt F) f0) (rK h))) (View.ld (a6.view.read (Elt F) gM) (rM h)) (View.ld (a7.view.read (Elt F) gA) (rA h)) (View.ld (a4.view.read (Elt F) f2) (rA h))) []

end Cert.FoxIdeal.Hand
end
-- ==== Proof.FoxFrame.lean ====
/-
  The causal attention's run: the point by point proof, what its blocks and scratch buffers hold, and what the run leaves.
-/
module

public import proofs.«01_k».proof.Proof.FoxCases
public import Idealize.ShloMosaic.Lib.Claim

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid points

Point `t` is query block `t / 32` against key block `t % 32`. -/

/-- A point is its query block's first where the key block is the first; -/
theorem first_iff : ∀ t : Fin grid0.N, first (grid0.coords t) ↔ t.val % 32 = 0 := by decide +kernel
theorem below_iff : ∀ t : Fin grid0.N, below (grid0.coords t) ↔ t.val % 32 < t.val / 32 := by decide +kernel
theorem diag_iff : ∀ t : Fin grid0.N, diag (grid0.coords t) ↔ t.val % 32 = t.val / 32 := by decide +kernel
theorem idle_eq : ∀ t : Fin grid0.N, cfg0.idle 3 (grid0.coords t) = decide (t.val % 32 ≠ t.val / 32) := by decide +kernel

/-- The result block is written back at the last point of its query block. -/
theorem flush_eq (t : Fin grid0.N) : (cfg0.win 3).flush t = decide (t.val % 32 = 31) := by
  have h := flush0_3 t
  by_cases h' : t.val % 32 = 31
  · rw [h.2 h']; simp [h']
  · rw [Bool.eq_false_iff.2 (fun e => h' (h.1 e))]; simp [h']

/-- The result's buffer holds nothing of this row before the row's diagonal point. -/
theorem fresh_eq (n : ℕ) (h : n ≤ grid0.N) : cfg0.fresh 3 n = decide (n % 32 ≤ n / 32) := by
  refine cfg0.fresh_tab 3 (fun n => decide (n % 32 ≤ n / 32)) (by decide) (fun t => ?_) n h
  rw [flush_eq t]
  refine Eq.trans ?_ (congrArg (fun b => (decide (t.val % 32 = 31) || (b && decide (t.val % 32 ≤ t.val / 32)))) (idle_eq t).symm)
  have ht : t.val < 1024 := t.isLt
  rw [Bool.eq_iff_iff]
  simp only [Bool.or_eq_true, Bool.and_eq_true, decide_eq_true_eq]
  omega

variable (m : (ℓ : Loc nD τ sig) → Buf (Elt F) ℓ) (ρ : Dev nD → PrngReg)

/-- The point numbered `n`. -/
def pt (n : ℕ) : Fin grid0.N := ⟨n % 1024, Nat.mod_lt _ (by decide)⟩

/-- A point is the point of its own number. -/
theorem pt_val (t : Fin grid0.N) : pt t.val = t := Fin.ext (Nat.mod_eq_of_lt t.isLt)

/-- The running maxima and accumulators of query block `i` once its first `k` key blocks, all below the diagonal,
    are folded in. -/
def st (c : Dev nD) (i : ℕ) : ℕ → Vec F S8x8x512 .f32 × Vec F S8x128x512 .f32
  | 0 => (k0_pay1, k0_pay2)
  | k + 1 => (stepM (iblk m c 0 (pt (32 * i + k))) (iblk m c 1 (pt (32 * i + k))) (st c i k).1,
      stepA (iblk m c 0 (pt (32 * i + k))) (iblk m c 1 (pt (32 * i + k))) (iblk m c 2 (pt (32 * i + k))) (st c i k).1 (st c i k).2)

/-- The result block of query block `i`: the diagonal key block folded in, and the quotients. -/
def res (c : Dev nD) (i : ℕ) : Vec F S512x512 .bf16 :=
  outOf (lastA (iblk m c 0 (pt (33 * i))) (iblk m c 1 (pt (33 * i))) (iblk m c 2 (pt (33 * i))) (st m c i i).1 (st m c i i).2)

/-- The scratch buffers before point `n`: the running state while the row is below its diagonal, else anything. -/
def Inv (c : Dev nD) (n : ℕ) : sProp 𝕄 :=
  if 1 ≤ n % 32 ∧ n % 32 ≤ n / 32 then
    iprop(owns (c : Thread nD τ) (Memref.whole cc0_scratch0) fullShare (st m c (n / 32) (n % 32)).1
      ∗ owns (c : Thread nD τ) (Memref.whole cc0_scratch1) fullShare (st m c (n / 32) (n % 32)).2)
  else
    iprop((∃ M, owns (c : Thread nD τ) (Memref.whole cc0_scratch0) fullShare M)
      ∗ (∃ A, owns (c : Thread nD τ) (Memref.whole cc0_scratch1) fullShare A))

/-- Whatever the state, the two scratch buffers hold something. -/
theorem Inv_any (c : Dev nD) (n : ℕ) : Inv m c n ⊢ iprop((∃ M, owns (c : Thread nD τ) (Memref.whole cc0_scratch0) fullShare M)
      ∗ (∃ A, owns (c : Thread nD τ) (Memref.whole cc0_scratch1) fullShare A)) := by
  unfold Inv
  split
  · iintro ⟨H1, H2⟩
    isplitl [H1]
    · iexists _; iexact H1
    · iexists _; iexact H2
  · exact .rfl

/-- Before a query block's first step and after its last, what the scratch buffers hold is not said; -/
theorem Inv_in {c : Dev nD} {n : ℕ} (h : ¬ (1 ≤ n % 32 ∧ n % 32 ≤ n / 32)) : Inv m c n = iprop((∃ M, owns (c : Thread nD τ) (Memref.whole cc0_scratch0) fullShare M)
      ∗ (∃ A, owns (c : Thread nD τ) (Memref.whole cc0_scratch1) fullShare A)) := if_neg h

/-- in between they hold the state reached. -/
theorem Inv_at {c : Dev nD} {n : ℕ} (h : 1 ≤ n % 32 ∧ n % 32 ≤ n / 32) : Inv m c n =
    iprop(owns (c : Thread nD τ) (Memref.whole cc0_scratch0) fullShare (st m c (n / 32) (n % 32)).1
      ∗ owns (c : Thread nD τ) (Memref.whole cc0_scratch1) fullShare (st m c (n / 32) (n % 32)).2) := if_pos h

/-! ## The pipeline's proof data -/

/-- The proof data of the one pipeline on core `c`: each input's buffer keeps its block; the result's buffer is left
    at its row's result; the invariant is the scratch buffers' state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => res m c (t.val / 32)
  Φ t := iprop(Inv m c t.val ∗ ∃ r, prngReg c r)
  q _ := fullShare
  owed _ := 0

/-- The arrays the run starts from. -/
theorem A_eq (c : Dev nD) (w : Fin cfg0.W) : (dats m 0 c).A w = V m c (Pipeline.arrRef spec0 w) := by
  dsimp only [dats]

/-- What the blocks hold after a point: the arguments' blocks as they were, the result block what was computed. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = res m c (t.val / 32) := by dsimp only [dats]

/-- What the arguments' blocks hold before a point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Past the diagonal the result's buffer holds its row's result. -/
theorem before0_3 (c : Dev nD) (t : Fin cfg0.N) (h : t.val / 32 < t.val % 32) (d) :
    (dats m 0 c).before 3 t d = (dats m 0 c).after 3 t := by
  have hN : t.val < 1024 := t.isLt
  have key : ∀ (t : Fin cfg0.N), cfg0.fresh 3 t.val = false →
      (dats m 0 c).after 3 t = (dats m 0 c).after 3 ⟨t.val - 1, by omega⟩ := by
    intro t hf
    rw [fresh_eq t.val (Nat.le_of_lt t.isLt), decide_eq_false_iff_not] at hf
    rw [after0_3, after0_3]
    exact congrArg (res m c) (show t.val / 32 = (t.val - 1) / 32 by omega)
  have hf : cfg0.fresh 3 t.val = false := by
    rw [fresh_eq t.val (Nat.le_of_lt t.isLt), decide_eq_false_iff_not]; omega
  rw [(dats m 0 c).before_out_traj 3 rfl (fun _ _ => rfl) (fun t _ _ hf => key t hf) t.val t rfl d, hf,
    if_neg Bool.false_ne_true]
  exact (key t hf).symm

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body leaves in the result's buffer: the row's result at the diagonal point and at the write-back, what
    was there at any other point. -/
def leaves (c : Dev nD) (t : Fin cfg0.N) : sProp 𝕄 :=
  match cfg0.idle 3 (cfg0.grid.coords t) with
  | true => match (cfg0.win 3).flush t with
    | false => iprop(∃ d, owns (c : Thread nD τ) (st0_3 t) fullShare ((dats m 0 c).before 3 t d))
    | true => owns (c : Thread nD τ) (st0_3 t) fullShare ((dats m 0 c).after 3 t)
  | false => owns (c : Thread nD τ) (st0_3 t) fullShare ((dats m 0 c).after 3 t)

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ leaves m c t)

/-- What a point on the diagonal leaves in the result block; -/
theorem leaves_diag (c : Dev nD) (t : Fin cfg0.N) (h : t.val % 32 = t.val / 32) :
    leaves m c t = owns (c : Thread nD τ) (st0_3 t) fullShare (res m c (t.val / 32)) := by
  unfold leaves
  rw [show cfg0.idle 3 (cfg0.grid.coords t) = false from (idle_eq t).trans (by simp [h])]
  rfl

/-- a point below it leaves the block as it was, -/
theorem leaves_below (c : Dev nD) (t : Fin cfg0.N) (h : t.val % 32 < t.val / 32) :
    leaves m c t = iprop(∃ d, owns (c : Thread nD τ) (st0_3 t) fullShare ((dats m 0 c).before 3 t d)) := by
  have hN : t.val < 1024 := t.isLt
  unfold leaves
  rw [show cfg0.idle 3 (cfg0.grid.coords t) = true from (idle_eq t).trans (by simp; omega),
    show (cfg0.win 3).flush t = false from (flush_eq t).trans (by simp; omega)]

/-- and so does a point above it. -/
theorem leaves_above (c : Dev nD) (t : Fin cfg0.N) (h : t.val / 32 < t.val % 32) :
    iprop(∃ d, owns (c : Thread nD τ) (st0_3 t) fullShare ((dats m 0 c).before 3 t d)) ⊢ leaves m c t := by
  unfold leaves
  rw [show cfg0.idle 3 (cfg0.grid.coords t) = true from (idle_eq t).trans (by simp; omega)]
  cases hfl : (cfg0.win 3).flush t
  · exact .rfl
  · dsimp only
    simp only [before0_3 m c t h]
    iintro ⟨%d, H⟩
    iexact H

/-- The invariant between points. -/
theorem Φ_eq (c : Dev nD) (t : Fin (cfg0.N + 1)) : (dats m 0 c).Φ t = iprop(Inv m c t.val ∗ ∃ r, prngReg c r) := by dsimp only [dats]

set_option maxHeartbeats 1000000 in
/-- The body at any point, by where the point lies in its row. -/
theorem sound_body (c : Dev nD) (t : Fin cfg0.N) :
    bodyPre m c t ⊢ wp frame (wpE (defs₀ (F := F)) Variants.none c none) Set.univ (bodyAt0 t) (fun _ => bodyPost m c t) := by
  have hN : t.val < 1024 := t.isLt
  have ef := first_iff t
  have eb := below_iff t
  have ed := diag_iff t
  unfold bodyPre bodyPost bodyAt0
  simp only [before0_0, before0_1, before0_2]
  rw [Φ_eq, Φ_eq, show (dats m 0 c).owesAt () t.succ = (dats m 0 c).owesAt () t.castSucc from rfl,
    after0_0, after0_1, after0_2, show t.castSucc.val = t.val from rfl, show t.succ.val = t.val + 1 from rfl]
  by_cases ha : t.val / 32 < t.val % 32
  · rw [Inv_in m (n := t.val) (by omega), Inv_in m (n := t.val + 1) (by omega)]
    iintro ⟨⟨HI, Hp⟩, Ho, ⟨%d0, H0⟩, ⟨%d1, H1⟩, ⟨%d2, H2⟩, H3⟩
    iapply (run_above c (grid0.coords t) _ _ _ _ _ _ _ _ _ _ _ _ (mt ef.1 (by omega)) (mt eb.1 (by omega)) (mt ed.1 (by omega)) Set.univ _)
    isplitl [HI Hp]
    · isplitl [HI]; · iexact HI
      iexact Hp
    isplitl [Ho]; · iexact Ho
    isplitl [H0]; · iexact H0
    isplitl [H1]; · iexact H1
    isplitl [H2]; · iexact H2
    iapply (leaves_above m c t ha); iexact H3
  by_cases hd : t.val % 32 = t.val / 32
  · rw [leaves_diag m c t hd, Inv_in m (n := t.val + 1) (by omega)]
    by_cases h0 : t.val % 32 = 0
    · rw [Inv_in m (n := t.val) (by omega)]
      have hr : res m c (t.val / 32) = outOf (lastA (iblk m c 0 t) (iblk m c 1 t) (iblk m c 2 t) k0_pay1 k0_pay2) := by
        rw [show t.val / 32 = 0 by omega]; unfold res
        rw [show pt (33 * 0) = t from Fin.ext (show 33 * 0 % 1024 = t.val by omega)]; rfl
      rw [hr]
      iintro ⟨⟨⟨HM, HA⟩, Hp⟩, Ho, ⟨%d0, H0⟩, ⟨%d1, H1⟩, ⟨%d2, H2⟩, H3⟩
      iapply (run_first_last c (grid0.coords t) _ _ _ _ _ _ _ _ _ _ _ _ (ef.2 h0) (mt eb.1 (by omega)) (ed.2 hd) (iblk m c 0 t) (iblk m c 1 t) (iblk m c 2 t) Set.univ _)
      isplitl [H0]; · iexact H0
      isplitl [H1]; · iexact H1
      isplitl [H2]; · iexact H2
      isplitl [H3]
      · icases H3 with ⟨%d, H3⟩; iexists _; iexact H3
      isplitl [HM]; · iexact HM
      isplitl [HA]; · iexact HA
      iintro ⟨H0, H1, H2, H3, HM, HA⟩
      isplitl [HM HA Hp]
      · isplitl [HM HA]
        · isplitl [HM]; · iexists _; iexact HM
          iexists _; iexact HA
        iexact Hp
      isplitl [Ho]; · iexact Ho
      isplitl [H0]; · iexact H0
      isplitl [H1]; · iexact H1
      isplitl [H2]; · iexact H2
      iexact H3
    · rw [Inv_at m (n := t.val) (by omega)]
      have hr : res m c (t.val / 32) = outOf (lastA (iblk m c 0 t) (iblk m c 1 t) (iblk m c 2 t) (st m c (t.val / 32) (t.val % 32)).1 (st m c (t.val / 32) (t.val % 32)).2) := by
        unfold res
        rw [show pt (33 * (t.val / 32)) = t from Fin.ext (show 33 * (t.val / 32) % 1024 = t.val by omega), hd]
      rw [hr]
      iintro ⟨⟨⟨HM, HA⟩, Hp⟩, Ho, ⟨%d0, H0⟩, ⟨%d1, H1⟩, ⟨%d2, H2⟩, H3⟩
      iapply (run_last c (grid0.coords t) _ _ _ _ _ _ _ _ _ _ _ _ (mt ef.1 h0) (mt eb.1 (by omega)) (ed.2 hd) (iblk m c 0 t) (iblk m c 1 t) (iblk m c 2 t) _ _ Set.univ _)
      isplitl [H0]; · iexact H0
      isplitl [H1]; · iexact H1
      isplitl [H2]; · iexact H2
      isplitl [H3]
      · icases H3 with ⟨%d, H3⟩; iexists _; iexact H3
      isplitl [HM]; · iexact HM
      isplitl [HA]; · iexact HA
      iintro ⟨H0, H1, H2, H3, HM, HA⟩
      isplitl [HM HA Hp]
      · isplitl [HM HA]
        · isplitl [HM]; · iexists _; iexact HM
          iexists _; iexact HA
        iexact Hp
      isplitl [Ho]; · iexact Ho
      isplitl [H0]; · iexact H0
      isplitl [H1]; · iexact H1
      isplitl [H2]; · iexact H2
      iexact H3
  · have hb : t.val % 32 < t.val / 32 := by omega
    rw [leaves_below m c t hb, Inv_at m (n := t.val + 1) (by omega)]
    rw [show (t.val + 1) / 32 = t.val / 32 by omega, show (t.val + 1) % 32 = t.val % 32 + 1 by omega]
    have hs : st m c (t.val / 32) (t.val % 32 + 1) = (stepM (iblk m c 0 t) (iblk m c 1 t) (st m c (t.val / 32) (t.val % 32)).1,
        stepA (iblk m c 0 t) (iblk m c 1 t) (iblk m c 2 t) (st m c (t.val / 32) (t.val % 32)).1 (st m c (t.val / 32) (t.val % 32)).2) := by
      rw [st, show pt (32 * (t.val / 32) + t.val % 32) = t from Fin.ext (show (32 * (t.val / 32) + t.val % 32) % 1024 = t.val by omega)]
    rw [hs]
    by_cases h0 : t.val % 32 = 0
    · rw [Inv_in m (n := t.val) (by omega), h0, show st m c (t.val / 32) 0 = (k0_pay1, k0_pay2) from rfl]
      iintro ⟨⟨⟨HM, HA⟩, Hp⟩, Ho, ⟨%d0, H0⟩, ⟨%d1, H1⟩, ⟨%d2, H2⟩, H3⟩
      iapply (run_first_below c (grid0.coords t) _ _ _ _ _ _ _ _ _ _ _ _ (ef.2 h0) (eb.2 hb) (mt ed.1 hd) (iblk m c 0 t) (iblk m c 1 t) (iblk m c 2 t) Set.univ _)
      isplitl [H0]; · iexact H0
      isplitl [H1]; · iexact H1
      isplitl [H2]; · iexact H2
      isplitl [HM]; · iexact HM
      isplitl [HA]; · iexact HA
      iintro ⟨H0, H1, H2, HM, HA⟩
      isplitl [HM HA Hp]
      · isplitl [HM HA]
        · isplitl [HM]; · iexact HM
          iexact HA
        iexact Hp
      isplitl [Ho]; · iexact Ho
      isplitl [H0]; · iexact H0
      isplitl [H1]; · iexact H1
      isplitl [H2]; · iexact H2
      iexact H3
    · rw [Inv_at m (n := t.val) (by omega)]
      iintro ⟨⟨⟨HM, HA⟩, Hp⟩, Ho, ⟨%d0, H0⟩, ⟨%d1, H1⟩, ⟨%d2, H2⟩, H3⟩
      iapply (run_below c (grid0.coords t) _ _ _ _ _ _ _ _ _ _ _ _ (mt ef.1 h0) (eb.2 hb) (mt ed.1 hd) (iblk m c 0 t) (iblk m c 1 t) (iblk m c 2 t) _ _ Set.univ _)
      isplitl [H0]; · iexact H0
      isplitl [H1]; · iexact H1
      isplitl [H2]; · iexact H2
      isplitl [HM]; · iexact HM
      isplitl [HA]; · iexact HA
      iintro ⟨H0, H1, H2, HM, HA⟩
      isplitl [HM HA Hp]
      · isplitl [HM HA]
        · isplitl [HM]; · iexact HM
          iexact HA
        iexact Hp
      isplitl [Ho]; · iexact Ho
      isplitl [H0]; · iexact H0
      isplitl [H1]; · iexact H1
      isplitl [H2]; · iexact H2
      iexact H3

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body meets its specification at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At a row's start the invariant is the scratch buffers at anything. -/
theorem ΦA_eq (c : Dev nD) (t : Fin (cfg0.N + 1)) (h : t.val % 32 = 0) :
    (dats m 0 c).Φ t = Pipeline.ΦA (U := UR sig nD τ) (Val := Elt F) spec0 c := by
  unfold Pipeline.ΦA
  rw [Φ_eq, Inv_in m (by omega), scopedRest0_eq]
  simp only [owns_whole]

set_option backward.isDefEq.respectTransparency.types false in
set_option maxHeartbeats 800000 in
/-- The run: it terminates with every array at what the proof data computes and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [ΦA_eq m c 0 rfl])
    (hout := fun c => by rw [ΦA_eq m c (Fin.last _) rfl])

/-- The run, with what the arrays hold at its end. -/
theorem run_main : θ_run defs (onTc (τ := τ) (main (F := F))) (s₀ m ρ) (Pipeline.FramePost cfgs (dats m) 0 (V m)) :=
  (θ_run defs _ _).mono (fun _ h => h.1) (run_main_quiescent m ρ)

/-- The run leaves the arguments. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.FoxIdeal.Hand

end
-- ==== Proof.FoxValue.lean ====
module

public import proofs.«01_k».proof.Proof.FoxBlock
public import proofs.«01_k».proof.Proof.FoxFrame

@[expose] public section

set_option maxRecDepth 65536

noncomputable section

/-! # What the attention kernel leaves

The running maxima and accumulators of a query block after any number of key blocks are the maxima and the weighted sums
over the keys seen, so the result array holds the quotients of the sums over all keys. -/

namespace FoxSpec

open Idealize.ShloMosaic

/-- An array of rank three as a function of its coordinates, zero outside. -/
def arr3 {n0 n1 n2 : Nat} (x : (⟨3, ![n0, n1, n2]⟩ : Shape).Idx → EReal) (a b c : Nat) : EReal :=
  if h : a < n0 ∧ b < n1 ∧ c < n2 then x (ValueIdx.ix3 ⟨a, h.1⟩ ⟨b, h.2.1⟩ ⟨c, h.2.2⟩) else 0

/-- An array at an index whose coordinates are known. -/
theorem arr3_of {n0 n1 n2 : Nat} (x : (⟨3, ![n0, n1, n2]⟩ : Shape).Idx → EReal) (j : (⟨3, ![n0, n1, n2]⟩ : Shape).Idx) (a b c : Nat)
    (h0 : (j 0).val = a) (h1 : (j 1).val = b) (h2 : (j 2).val = c) : x j = arr3 x a b c := by
  have ha : a < n0 := h0 ▸ (j 0).isLt
  have hb : b < n1 := h1 ▸ (j 1).isLt
  have hc : c < n2 := h2 ▸ (j 2).isLt
  unfold arr3
  rw [dif_pos ⟨ha, hb, hc⟩]
  exact congrArg x (funext fun d => match d with
    | ⟨0, _⟩ => Fin.ext h0
    | ⟨1, _⟩ => Fin.ext h1
    | ⟨2, _⟩ => Fin.ext h2)

/-- The score of query `r` with key `k` in head `h`, `⊥` where the key comes after the query. -/
def sc (q k : Nat → Nat → Nat → EReal) (h r j : Nat) : EReal := if j ≤ r then ∑ d : Fin 128, q h r d * k h j d else ⊥

/-- The attention of query `r`, coordinate `d` of head `h`: the values summed with the softmax's weights, over the
    counts (row 64 of the values) summed with them. -/
def attn (q k v : Nat → Nat → Nat → EReal) (r h d : Nat) : EReal :=
  Ideal.div (acc (sc q k h r) (v h d) 16384) (acc (sc q k h r) (v h 64) 16384)

end FoxSpec

namespace Cert.FoxIdeal.Hand

open Cert.FoxIdeal Cert.FoxIdeal.Gen FoxSpec
open Idealize.ShloMosaic Idealize.ShloMosaic.TcCoe Idealize.SL.Sem
open Dil.Block (ofBits_zero ofBits_neg_inf)
open Idealize.ShloMosaic.Pipeline (Dat)

/-! ## Heads of blocks -/

/-- A head's block of queries (or keys), read at an entry, -/
theorem ldK (X : Vec Ideal S8x512x128 .bf16) (h : Fin 8) (x : Fin 512) (d : Fin 128) :
    View.ld X (rK h) (ValueIdx.ix3 (0 : Fin 1) x d) = X (ValueIdx.ix3 h x d) :=
  congrArg X (funext fun a => match a with
    | ⟨0, _⟩ => Fin.ext (show h.val + 1 * 0 = h.val by omega)
    | ⟨1, _⟩ => Fin.ext (show 0 + 1 * x.val = x.val by omega)
    | ⟨2, _⟩ => Fin.ext (show 0 + 1 * d.val = d.val by omega))

/-- of running maxima, -/
theorem ldM (X : Vec Ideal S8x8x512 .f32) (h : Fin 8) (r : Fin 8) (x : Fin 512) :
    View.ld X (rM h) (ValueIdx.ix3 (0 : Fin 1) r x) = X (ValueIdx.ix3 h r x) :=
  congrArg X (funext fun a => match a with
    | ⟨0, _⟩ => Fin.ext (show h.val + 1 * 0 = h.val by omega)
    | ⟨1, _⟩ => Fin.ext (show 0 + 1 * r.val = r.val by omega)
    | ⟨2, _⟩ => Fin.ext (show 0 + 1 * x.val = x.val by omega))

/-- and of accumulators (or values). -/
theorem ldA {t : EltTy} (X : Vec Ideal S8x128x512 t) (h : Fin 8) (e : Fin 128) (x : Fin 512) :
    View.ld X (rA h) (ValueIdx.ix3 (0 : Fin 1) e x) = X (ValueIdx.ix3 h e x) :=
  congrArg X (funext fun a => match a with
    | ⟨0, _⟩ => Fin.ext (show h.val + 1 * 0 = h.val by omega)
    | ⟨1, _⟩ => Fin.ext (show 0 + 1 * e.val = e.val by omega)
    | ⟨2, _⟩ => Fin.ext (show 0 + 1 * x.val = x.val by omega))

/-- Stacked maxima, read at an entry, -/
theorem stackM_apply (f : Fin 8 → Vec Ideal S1x8x512 .f32) (h r : Fin 8) (x : Fin 512) :
    stackM f (ValueIdx.ix3 h r x) = f h (ValueIdx.ix3 (0 : Fin 1) r x) :=
  congrArg (f h) (funext fun a => match a with
    | ⟨0, _⟩ => rfl
    | ⟨1, _⟩ => rfl
    | ⟨2, _⟩ => rfl)

/-- and stacked accumulators. -/
theorem stackA_apply (f : Fin 8 → Vec Ideal S1x128x512 .f32) (h : Fin 8) (e : Fin 128) (x : Fin 512) :
    stackA f (ValueIdx.ix3 h e x) = f h (ValueIdx.ix3 (0 : Fin 1) e x) :=
  congrArg (f h) (funext fun a => match a with
    | ⟨0, _⟩ => rfl
    | ⟨1, _⟩ => rfl
    | ⟨2, _⟩ => rfl)

/-! ## One step of one head -/

/-- The new running maximum, from scores and an old maximum that are known; -/
theorem newM_top (s : FVec Ideal S512x512 .f32) (m : Vec Ideal S1x8x512 .f32) (f : ℕ → EReal) (n : ℕ) (r : Fin 8) (x : Fin 512)
    (hs : ∀ j : Fin 512, s (ValueIdx.ix2 j x) = f (n + j)) (hm : m (ValueIdx.ix3 (0 : Fin 1) (0 : Fin 8) x) = top f n) :
    newM s m (ValueIdx.ix3 (0 : Fin 1) r x) = top f (n + 512) := by
  rw [newM_apply, newMax_apply, hm, top_add]
  simp only [hs]

/-- and the new accumulator. -/
theorem newA_acc (s : FVec Ideal S512x512 .f32) (m : Vec Ideal S1x8x512 .f32) (a : Vec Ideal S1x128x512 .f32) (v : Vec Ideal S1x128x512 .bf16)
    (f w : ℕ → EReal) (n : ℕ) (e : Fin 128) (x : Fin 512)
    (hs : ∀ j : Fin 512, s (ValueIdx.ix2 j x) = f (n + j)) (hm : m (ValueIdx.ix3 (0 : Fin 1) (0 : Fin 8) x) = top f n)
    (ha : a (ValueIdx.ix3 (0 : Fin 1) e x) = acc f w n) (hv : ∀ j : Fin 512, v (ValueIdx.ix3 (0 : Fin 1) e j) = w (n + j)) :
    newA s m a v (ValueIdx.ix3 (0 : Fin 1) e x) = acc f w (n + 512) := by
  have h := (newM_apply s m 0 x).symm.trans (newM_top s m f n 0 x hs hm)
  rw [newA_apply, h, hm, ha, ← acc_add]
  simp only [hs, hv]

variable (m : (ℓ : Loc nD τ sig) → Buf (Elt Ideal) ℓ) (ρ : Dev nD → PrngReg)

/-! ## The blocks of a point -/

/-- The places of a point's blocks. -/
theorem idx_facts : ∀ t : Fin cfg0.N,
    (win0_0.index t 0 = 0 ∧ win0_0.index t 1 = t.val / 32 ∧ win0_0.index t 2 = 0)
    ∧ (win0_1.index t 0 = 0 ∧ win0_1.index t 1 = min (t.val % 32) (t.val / 32) ∧ win0_1.index t 2 = 0)
    ∧ (win0_2.index t 0 = 0 ∧ win0_2.index t 1 = 0 ∧ win0_2.index t 2 = min (t.val % 32) (t.val / 32))
    ∧ (win0_3.index t 0 = t.val / 32 ∧ win0_3.index t 1 = 0) :=
  (by decide +kernel : ∀ t : Fin grid0.N, _)

/-- The arguments as functions of their coordinates. -/
abbrev q (c : Dev nD) : Nat → Nat → Nat → EReal := arr3 (n0 := 8) (n1 := 16384) (n2 := 128) (m ((c : Thread nD τ).loc main_arg0))
abbrev k (c : Dev nD) : Nat → Nat → Nat → EReal := arr3 (n0 := 8) (n1 := 16384) (n2 := 128) (m ((c : Thread nD τ).loc main_arg1))
abbrev v (c : Dev nD) : Nat → Nat → Nat → EReal := arr3 (n0 := 8) (n1 := 128) (n2 := 16384) (m ((c : Thread nD τ).loc main_arg2))

/-- The block of queries at a point, -/
theorem blk_q (c : Dev nD) (t : Fin cfg0.N) (h : Fin 8) (x : Fin 512) (d : Fin 128) :
    iblk m c 0 t (ValueIdx.ix3 h x d) = q m c h (512 * (t.val / 32) + x) d := by
  obtain ⟨⟨e0, e1, e2⟩, -⟩ := idx_facts t
  show V m c main_arg0 ((win0_0.rect t).idx (ValueIdx.ix3 h x d)) = _
  rw [V_main_arg0]
  refine arr3_of (n0 := 8) (n1 := 16384) (n2 := 128) _ _ _ _ _ ?_ ?_ ?_
  · show win0_0.index t 0 * 8 + 1 * h.val = _
    rw [e0]; omega
  · show win0_0.index t 1 * 512 + 1 * x.val = _
    rw [e1]; omega
  · show win0_0.index t 2 * 128 + 1 * d.val = _
    rw [e2]; omega

/-- of keys, where the point is not above the diagonal, -/
theorem blk_k (c : Dev nD) (t : Fin cfg0.N) (ht : t.val % 32 ≤ t.val / 32) (h : Fin 8) (x : Fin 512) (d : Fin 128) :
    iblk m c 1 t (ValueIdx.ix3 h x d) = k m c h (512 * (t.val % 32) + x) d := by
  obtain ⟨-, ⟨e0, e1, e2⟩, -⟩ := idx_facts t
  show V m c main_arg1 ((win0_1.rect t).idx (ValueIdx.ix3 h x d)) = _
  rw [V_main_arg1]
  refine arr3_of (n0 := 8) (n1 := 16384) (n2 := 128) _ _ _ _ _ ?_ ?_ ?_
  · show win0_1.index t 0 * 8 + 1 * h.val = _
    rw [e0]; omega
  · show win0_1.index t 1 * 512 + 1 * x.val = _
    rw [e1, Nat.min_eq_left ht]; omega
  · show win0_1.index t 2 * 128 + 1 * d.val = _
    rw [e2]; omega

/-- and of values. -/
theorem blk_v (c : Dev nD) (t : Fin cfg0.N) (ht : t.val % 32 ≤ t.val / 32) (h : Fin 8) (e : Fin 128) (x : Fin 512) :
    iblk m c 2 t (ValueIdx.ix3 h e x) = v m c h e (512 * (t.val % 32) + x) := by
  obtain ⟨-, -, ⟨e0, e1, e2⟩, -⟩ := idx_facts t
  show V m c main_arg2 ((win0_2.rect t).idx (ValueIdx.ix3 h e x)) = _
  rw [V_main_arg2]
  refine arr3_of (n0 := 8) (n1 := 128) (n2 := 16384) _ _ _ _ _ ?_ ?_ ?_
  · show win0_2.index t 0 * 8 + 1 * h.val = _
    rw [e0]; omega
  · show win0_2.index t 1 * 128 + 1 * e.val = _
    rw [e1]; omega
  · show win0_2.index t 2 * 512 + 1 * x.val = _
    rw [e2, Nat.min_eq_left ht]; omega

/-- The scores of a point not above the diagonal, before masking. -/
theorem raw (c : Dev nD) (t : Fin cfg0.N) (ht : t.val % 32 ≤ t.val / 32) (h : Fin 8) (j x : Fin 512) :
    k0_pay7 (View.ld (iblk m c 1 t) (rK h)) (View.ld (iblk m c 0 t) (rK h)) (ValueIdx.ix2 j x)
      = ∑ d : Fin 128, q m c h (512 * (t.val / 32) + x) d * k m c h (512 * (t.val % 32) + j) d := by
  rw [scores_apply]
  refine Finset.sum_congr rfl fun d _ => ?_
  rw [ldK, ldK, blk_k m c t ht, blk_q, mul_comm]

/-- The scores of a point below the diagonal, where every key comes before every query; -/
theorem scores_below (c : Dev nD) (t : Fin cfg0.N) (ht : t.val % 32 < t.val / 32) (h : Fin 8) (j x : Fin 512) :
    k0_pay7 (View.ld (iblk m c 1 t) (rK h)) (View.ld (iblk m c 0 t) (rK h)) (ValueIdx.ix2 j x)
      = sc (q m c) (k m c) h (512 * (t.val / 32) + x) (512 * (t.val % 32) + j) := by
  have hj := j.isLt
  rw [raw m c t (Nat.le_of_lt ht), sc, if_pos (by omega)]

/-- and of a point on it. -/
theorem scores_diag (c : Dev nD) (t : Fin cfg0.N) (ht : t.val % 32 = t.val / 32) (h : Fin 8) (j x : Fin 512) :
    k0_pay62 (View.ld (iblk m c 1 t) (rK h)) (View.ld (iblk m c 0 t) (rK h)) (ValueIdx.ix2 j x)
      = sc (q m c) (k m c) h (512 * (t.val / 32) + x) (512 * (t.val % 32) + j) := by
  rw [masked_apply, raw m c t (Nat.le_of_eq ht), sc]
  by_cases hjx : j.val ≤ x.val
  · rw [if_pos hjx, if_pos (by omega)]
  · rw [if_neg hjx, if_neg (by omega)]

/-! ## The running state -/

/-- The running maxima start at `⊥`, -/
theorem pay1_apply (y : S8x8x512.Idx) : (k0_pay1 : FVec Ideal S8x8x512 .f32) y = ⊥ := by
  unfold k0_pay1
  rw [shapeCast_self]
  exact ofBits_neg_inf

/-- the accumulators at zero. -/
theorem pay2_apply (y : S8x128x512.Idx) : (k0_pay2 : FVec Ideal S8x128x512 .f32) y = 0 := by
  unfold k0_pay2
  rw [shapeCast_self]
  exact ofBits_zero

/-- The state of query block `i` after `n` key blocks below the diagonal. -/
theorem st_apply (c : Dev nD) (i : ℕ) (hi : i < 32) : ∀ n : ℕ, n ≤ i →
    (∀ (h r : Fin 8) (x : Fin 512), (st m c i n).1 (ValueIdx.ix3 h r x) = top (sc (q m c) (k m c) h (512 * i + x)) (512 * n))
    ∧ (∀ (h : Fin 8) (e : Fin 128) (x : Fin 512), (st m c i n).2 (ValueIdx.ix3 h e x)
        = acc (sc (q m c) (k m c) h (512 * i + x)) (v m c h e) (512 * n))
  | 0, _ => ⟨fun h r x => pay1_apply (ValueIdx.ix3 h r x), fun h e x => pay2_apply (ValueIdx.ix3 h e x)⟩
  | n + 1, hn => by
    obtain ⟨ihM, ihA⟩ := st_apply c i hi n (Nat.le_of_succ_le hn)
    have ht : (pt (32 * i + n)).val = 32 * i + n := Nat.mod_eq_of_lt (by omega)
    have hd : (pt (32 * i + n)).val / 32 = i := by omega
    have hm : (pt (32 * i + n)).val % 32 = n := by omega
    have hs : ∀ (h : Fin 8) (x j : Fin 512), k0_pay7 (View.ld (iblk m c 1 (pt (32 * i + n))) (rK h)) (View.ld (iblk m c 0 (pt (32 * i + n))) (rK h)) (ValueIdx.ix2 j x)
        = sc (q m c) (k m c) h (512 * i + x) (512 * n + j) := fun h x j => by
      rw [scores_below m c _ (by omega), hd, hm]
    have hM : ∀ (h : Fin 8) (x : Fin 512), View.ld (st m c i n).1 (rM h) (ValueIdx.ix3 (0 : Fin 1) (0 : Fin 8) x) = top (sc (q m c) (k m c) h (512 * i + x)) (512 * n) :=
      fun h x => (ldM _ h 0 x).trans (ihM h 0 x)
    rw [Nat.mul_succ, st]
    refine ⟨fun h r x => ?_, fun h e x => ?_⟩
    · refine (stackM_apply (fun h => newM (k0_pay7 (View.ld (iblk m c 1 (pt (32 * i + n))) (rK h)) (View.ld (iblk m c 0 (pt (32 * i + n))) (rK h))) (View.ld (st m c i n).1 (rM h))) h r x).trans ?_
      exact newM_top _ _ _ _ r x (hs h x) (hM h x)
    · refine (stackA_apply (fun h => newA (k0_pay7 (View.ld (iblk m c 1 (pt (32 * i + n))) (rK h)) (View.ld (iblk m c 0 (pt (32 * i + n))) (rK h))) (View.ld (st m c i n).1 (rM h)) (View.ld (st m c i n).2 (rA h))
        (View.ld (iblk m c 2 (pt (32 * i + n))) (rA h))) h e x).trans ?_
      refine (newA_acc _ _ _ _ _ _ _ e x (hs h x) (hM h x) ((ldA _ h e x).trans (ihA h e x)) fun j => ?_)
      exact (ldA _ h e j).trans ((blk_v m c _ (by omega) h e j).trans (by rw [hm]))

/-- The accumulators after the diagonal block hold the sums over all keys. -/
theorem last_apply (c : Dev nD) (i : ℕ) (hi : i < 32) (h : Fin 8) (e : Fin 128) (x : Fin 512) :
    lastA (iblk m c 0 (pt (33 * i))) (iblk m c 1 (pt (33 * i))) (iblk m c 2 (pt (33 * i))) (st m c i i).1 (st m c i i).2 (ValueIdx.ix3 h e x)
      = acc (sc (q m c) (k m c) h (512 * i + x)) (v m c h e) 16384 := by
  obtain ⟨ihM, ihA⟩ := st_apply m c i hi i (Nat.le_refl i)
  have ht : (pt (33 * i)).val = 33 * i := Nat.mod_eq_of_lt (by omega)
  have hd : (pt (33 * i)).val / 32 = i := by omega
  have hm : (pt (33 * i)).val % 32 = i := by omega
  have hx := x.isLt
  rw [acc_masked (n := 512 * i + 512) (N := 16384) (sc (q m c) (k m c) h (512 * i + x)) (v m c h e) (by omega) (fun j hj => if_neg (by omega))]
  refine (stackA_apply _ h e x).trans ?_
  refine (newA_acc _ _ _ _ _ _ _ e x (fun j => ?_) ((ldM _ h 0 x).trans (ihM h 0 x)) ((ldA _ h e x).trans (ihA h e x)) fun j => ?_)
  · exact (scores_diag m c (pt (33 * i)) (by omega) h j x).trans (by rw [hd, hm])
  · exact (ldA _ h e j).trans ((blk_v m c _ (by omega) h e j).trans (by rw [hm]))

/-- An entry of a result block, from the accumulators of the two heads of its column group. -/
theorem outOf_apply (A : Vec Ideal S8x128x512 .f32) (x y : Fin 512) :
    outOf A (ValueIdx.ix2 x y) = k0_pay5 (View.ld A (rA ⟨2 * (y.val / 128), by omega⟩)) (View.ld A (rA ⟨2 * (y.val / 128) + 1, by omega⟩))
      (ValueIdx.ix2 x (⟨y.val % 128, Nat.mod_lt _ (by decide)⟩ : Fin 128)) := by
  refine congrArg (k0_pay5 (View.ld A (rA ⟨2 * (y.val / 128), by omega⟩)) (View.ld A (rA ⟨2 * (y.val / 128) + 1, by omega⟩))) ?_
  funext a
  match a with
  | ⟨0, _⟩ => rfl
  | ⟨1, _⟩ => rfl

/-- The result block of query block `i`. -/
theorem res_apply (c : Dev nD) (i : ℕ) (hi : i < 32) (x y : Fin 512) :
    res m c i (ValueIdx.ix2 x y) = attn (q m c) (k m c) (v m c) (512 * i + x) (y.val / 64) (y.val % 64) := by
  have hy := y.isLt
  unfold res
  generalize hA : lastA (iblk m c 0 (pt (33 * i))) (iblk m c 1 (pt (33 * i))) (iblk m c 2 (pt (33 * i))) (st m c i i).1 (st m c i i).2 = A
  have hA' := fun h e => hA ▸ last_apply m c i hi h e x
  refine (outOf_apply A x y).trans ?_
  refine (quot_apply _ _ x _ ⟨y.val % 64, Nat.mod_lt _ (by decide)⟩ (show y.val % 64 = y.val % 128 % 64 by omega)).trans ?_
  unfold attn
  by_cases hh : y.val % 128 < 64
  · rw [if_pos hh, ldA, ldA, hA', hA']
    simp only [show 2 * (y.val / 128) = y.val / 64 by omega]
    rfl
  · rw [if_neg hh, ldA, ldA, hA', hA']
    simp only [show 2 * (y.val / 128) + 1 = y.val / 64 by omega]
    rfl

/-! ## The result array -/

/-- The array the kernel leaves. -/
def out (c : Dev nD) : Buf (Elt Ideal) ((c : Thread nD τ).loc main_v0) := fun i =>
  attn (q m c) (k m c) (v m c) (i 0).val ((i 1).val / 64) ((i 1).val % 64)

/-- What a point writes back is its block of that array. -/
theorem flushed_eq (c : Dev nD) (t : Fin cfg0.N) :
    (dats m 0 c).flushed 3 t = ((cfg0.win 3).blk t).view.read (Elt Ideal) (out m c) := by
  have ht : t.val < 1024 := t.isLt
  have e : (dats m 0 c).flushed 3 t = (cfg0.win 3).cut (grid0.coords t) (res m c (t.val / 32)) := by
    show (cfg0.win 3).cut (grid0.coords t) ((dats m 0 c).after 3 t) = _
    rw [after0_3]
  rw [e]
  obtain ⟨-, -, -, ⟨e0, e1⟩⟩ := idx_facts t
  funext i
  have h0 : ((win0_3.rect t).idx i 0).val = 512 * (t.val / 32) + (i 0).val := by
    show win0_3.index t 0 * 512 + 1 * (i 0).val = _
    rw [e0]; omega
  have h1 : ((win0_3.rect t).idx i 1).val = (i 1).val := by
    show win0_3.index t 1 * 512 + 1 * (i 1).val = _
    rw [e1]; omega
  show _ = out m c ((win0_3.rect t).idx i)
  unfold out
  simp only [h0, h1]
  obtain ⟨a, b, rfl⟩ : ∃ (a b : Fin 512), i = ValueIdx.ix2 a b := ⟨i 0, i 1, ValueIdx.eq_ix2 (n0 := 512) (n1 := 512) i⟩
  exact res_apply m c (t.val / 32) (by omega) a b

/-- Every entry is in the block of a point that writes back. -/
theorem cover (i : S16384x512.Idx) : ∃ t : Fin cfg0.N, (cfg0.win 3).flush t = true ∧ i ∈ ((cfg0.win 3).blk t).view.set := by
  have h0 : (i 0 : Nat) < 16384 := (i 0).isLt
  have h1 : (i 1 : Nat) < 512 := (i 1).isLt
  obtain ⟨t, ht⟩ : ∃ t : Fin cfg0.N, t.val = 32 * ((i 0).val / 512) + 31 :=
    ⟨pt (32 * ((i 0).val / 512) + 31), Nat.mod_eq_of_lt (by omega)⟩
  obtain ⟨-, -, -, ⟨e0, e1⟩⟩ := idx_facts t
  refine ⟨t, (flush0_3 t).2 (by rw [ht]; omega), ?_⟩
  show i ∈ ((View.whole main_v0).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [e0, ht]; omega
  | ⟨1, _⟩ =>
    show win0_3.index t 1 * 512 ≤ (i 1).val ∧ (i 1).val < win0_3.index t 1 * 512 + 512
    rw [e1]; omega

/-- The run: the result at the formula, the arguments unchanged. -/
theorem run : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h.1 c).1 3).trans ((dats m 0 c).arrAt_eq_of_cover 3 (out m c) (fun t _ => flushed_eq m c t) cover), h.2 c⟩)
    (θ_run_and (run_main m ρ) (unchanged m ρ))

end Cert.FoxIdeal.Hand

end
-- ==== Proof.FoxRef.lean ====
/-
  What the reference of the attention computes: its result at every index.
-/
module

public import proofs.«01_k».proof.Proof.FoxValue
public import proofs.«01_k».proof.Proof.DilRef
public import proofs.«01_k».proof.Proof.Gen.ReffoxIdeal.Run
public import proofs.«01_k».proof.Proof.Gen.ReffoxIdeal.Read

@[expose] public section

set_option maxRecDepth 65536

noncomputable section

namespace Cert.ReffoxIdeal.RefValue

open Cert.ReffoxIdeal Cert.ReffoxIdeal.Gen Cert.ReffoxIdeal.Read Idealize.ShloMosaic Idealize.ShloMosaic.TcCoe Idealize.SL.Sem
open FoxSpec
open Dil (ln2 bot_mul_ln2)

/-- The queries (and the keys), and the values. -/
abbrev Arg : Type := (⟨S8x16384x128, .bf16⟩ : BufTy).Contents (Elt Ideal)
abbrev ArgV : Type := (⟨S8x128x16384, .bf16⟩ : BufTy).Contents (Elt Ideal)

variable (x0 x1 : Arg) (x2 : ArgV)

/-- The arguments as functions of their coordinates. -/
abbrev q : Nat → Nat → Nat → EReal := arr3 (n0 := 8) (n1 := 16384) (n2 := 128) x0
abbrev v : Nat → Nat → Nat → EReal := arr3 (n0 := 8) (n1 := 128) (n2 := 16384) x2

/-- The scores of a query of a head. -/
abbrev s (h r : Nat) : Nat → EReal := sc (q x0) (q x1) h r

/-- The mask: a key is seen from its own query on. -/
theorem mask_apply (i : S8x16384x16384.Idx) :
    val_main_call0_v1 (F := Ideal) i = BitVec.ofBool (decide ((i 2).val ≤ (i 1).val)) := by
  have h1 : (i 1).val < 16384 := (i 1).isLt
  have h2 : (i 2).val < 16384 := (i 2).isLt
  simp only [val_main_call0_v1_apply, val_main_v17_apply, val_main_v16_apply, val_main_v14_apply, val_main_v15_apply,
    val_main_v12_apply, val_main_v13_apply, val_main_v11_apply]
  exact WordCmp.cmpi_sle_ofNat (by show (i 2).val < _; omega) (by show (i 1).val < _; omega)

/-- The masked scores. -/
theorem v18_apply (i : S8x16384x16384.Idx) :
    val_main_v18 (F := Ideal) x0 x1 i = s x0 x1 (i 0).val (i 1).val (i 2).val * ln2 := by
  rw [val_main_v18_apply, mask_apply, WordCmp.select_ofBool]
  unfold s sc
  by_cases h : (i 2).val ≤ (i 1).val
  · rw [if_pos (by simpa using h), if_pos h, val_main_v10_apply, val_main_v9_apply, val_main_v0_apply, val_main_v8_apply]
    refine congrArg₂ (fun a b : EReal => a * b) (Finset.sum_congr rfl fun d _ => ?_) Dil.Ref.log_two
    exact congrArg₂ (fun a b : EReal => a * b) (arr3_of (n0 := 8) (n1 := 16384) (n2 := 128) x0 (lidx_main_v8 i d) _ _ _ rfl rfl rfl)
      (arr3_of (n0 := 8) (n1 := 16384) (n2 := 128) x1 (ridx_main_v8 i d) _ _ _ rfl rfl rfl)
  · rw [if_neg (by simpa using h), if_neg h, bot_mul_ln2, val_main_call0_v2_apply, val_main_call0_v0_apply]
    exact Dil.Block.ofBits_neg_inf

/-- The largest score of a query. -/
theorem v19_apply (i : S8x16384.Idx) :
    val_main_v19 (F := Ideal) x0 x1 i = top (s x0 x1 (i 0).val (i 1).val) 16384 * ln2 := by
  have red : S8x16384x16384.Reduces [(2 : Fin 3)] S8x16384 := by decide
  have h18 := v18_apply x0 x1
  unfold val_main_v19 val_main_cst_1
  generalize val_main_v18 (F := Ideal) x0 x1 = y at h18
  have e := hostReduce_maximumf_eq_multiReduction (F := Ideal) (φ := .f32) (u := S_) y (0xFF800000#32 : BitVec (FTy.bits .f32))
    reducesTo_S8x16384x16384_S8x16384_d2 h_S_ red (.inl rfl) rfl
  refine (congrFun e i).trans ?_
  refine (Ideal.multiReduction_maximumf_single (a := 2) _ _ red (.inl rfl) rfl i).trans ?_
  rw [show (FloatOps.ofBits .f32 (FKind.maximumf.neutral .f32 (.inl rfl)) : Ideal .f32) = ⊥ from Dil.Block.ofBits_neg_inf]
  rw [← top_ln2]
  refine Finset.fold_congr fun j _ => ?_
  exact h18 (red.lift i j)

/-- The weights, before they are normalized. -/
theorem v25_apply (i : S8x16384x16384.Idx) :
    val_main_v25 (F := Ideal) x0 x1 i = Ideal.exp (s x0 x1 (i 0).val (i 1).val (i 2).val * ln2
      - top (s x0 x1 (i 0).val (i 1).val) 16384 * ln2) := by
  rw [val_main_v25_apply, val_main_v24_apply, val_main_v23_apply, val_main_v22_apply, val_main_v21_apply, val_main_v20_apply,
    v18_apply, v19_apply]
  rfl

/-- The weighted sums of the values, -/
theorem v26_apply (i : S8x64x16384.Idx) :
    val_main_v26 (F := Ideal) x0 x1 x2 i = acc (s x0 x1 (i 0).val (i 2).val) (v x2 (i 0).val (i 1).val) 16384 := by
  rw [val_main_v26_apply, ← acc_ln2]
  refine Finset.sum_congr rfl fun k _ => ?_
  rw [v25_apply, val_main_v2_apply, val_main_v1_apply]
  exact congrArg (fun a : EReal => a * _) (arr3_of (n0 := 8) (n1 := 128) (n2 := 16384) x2 (idx_main_v1 (lidx_main_v26 i k)) _ _ _ rfl rfl rfl)

/-- and of the counts. -/
theorem v28_apply (i : S8x16384.Idx) :
    val_main_v28 (F := Ideal) x0 x1 x2 i = acc (s x0 x1 (i 0).val (i 1).val) (v x2 (i 0).val 64) 16384 := by
  have h0 : (i 0).val < 8 := (i 0).isLt
  rw [val_main_v28_apply, ← acc_ln2]
  refine Finset.sum_congr rfl fun k _ => ?_
  have hk := k.isLt
  rw [v25_apply, val_main_v5_apply, val_main_v4_apply, val_main_v3_apply]
  refine congrArg (fun a : EReal => a * _) (arr3_of (n0 := 8) (n1 := 128) (n2 := 16384) x2 (idx_main_v3 (idx_main_v4 (lidx_main_v28 i k))) _ _ _ ?_ rfl ?_)
  · show ((i 0).val * 16384 + k.val) / 16384 = (i 0).val
    omega
  · show ((i 0).val * 16384 + k.val) % 16384 = k.val
    omega

/-- The result. -/
theorem v34_apply (i : S16384x512.Idx) :
    val_main_v34 (F := Ideal) x0 x1 x2 i = attn (q x0) (q x1) (v x2) (i 0).val ((i 1).val / 64) ((i 1).val % 64) := by
  have h0 : (i 0).val < 16384 := (i 0).isLt
  have h1 : (i 1).val < 512 := (i 1).isLt
  have e0 : (idx_main_v33 i 0).val = (i 0).val := by
    show ((i 0).val * 512 + (i 1).val) / 512 = _
    omega
  have e1 : (idx_main_v33 i 1).val = (i 1).val / 64 := by
    show ((i 0).val * 512 + (i 1).val) / 64 % 8 = _
    omega
  have e2 : (idx_main_v33 i 2).val = (i 1).val % 64 := by
    show ((i 0).val * 512 + (i 1).val) % 64 = _
    omega
  rw [← e0, ← e1, ← e2, val_main_v34_apply, val_main_v33_apply, val_main_v32_apply, val_main_v27_apply, val_main_v31_apply,
    val_main_v30_apply, val_main_v29_apply, v26_apply, v28_apply]
  rfl

end Cert.ReffoxIdeal.RefValue

end
-- ==== Proof.FoxClaims.lean ====
/-
  The claims about the causal attention.
-/
module

public import proofs.«01_k».proof.Defs
public import proofs.«01_k».proof.Proof.FoxRef
public import proofs.«01_k».proof.Proof.Gen.Fox.Frame

@[expose] public section

set_option maxRecDepth 65536

noncomputable section

namespace Cert.Proof.FoxClaims

open Idealize.ShloMosaic Idealize.ShloMosaic.TcCoe Idealize.SL.Sem

section
variable {F : FTy → Type} [FloatOps F]

/-- The two printed forms of the kernel have the same body, -/
theorem body_eq : Cert.FoxIdeal.defs₀ (F := F) = Cert.Fox.defs₀ (F := F) := by
  unfold Cert.Fox.defs₀ Cert.FoxIdeal.defs₀
  refine congrArg Defs.onTc (funext fun l => funext fun a => ?_)
  match l, a with
  | 0, (t, s) => rfl
  | ⟨_ + 1, h⟩, _ => exact absurd h (Nat.not_lt.2 (Nat.le_add_left _ _))

/-- so the same definitions with the pipeline around it. -/
theorem defs_eq : Cert.FoxIdeal.defs (F := F) = Cert.Fox.defs (F := F) :=
  congrArg (Pipeline.defs (Cert.FoxIdeal.pcfgs (F := F))) body_eq

end

/-- The kernel runs and leaves its arguments, on words -/
theorem frame_p_fox : Cert.quiescent_Fox := fun m ρ _ => by
  have h := Cert.FoxIdeal.Hand.frame (F := Bits) m ρ
  rw [defs_eq] at h
  exact h

/-- and over the extended reals, -/
theorem frame_pi_fox : Cert.quiescent_FoxIdeal := fun m ρ _ => Cert.FoxIdeal.Hand.frame m ρ

/-- and so does the reference. -/
theorem frame_ri_fox : Cert.quiescent_ReffoxIdeal := fun m ρ _ =>
  (θ_run Cert.ReffoxIdeal.defs _ _).mono (fun r h => ⟨fun c => (h c).2, sem_eq_zero_of_no_sems (by decide) r.2⟩)
    (Cert.ReffoxIdeal.Value.run (F := Ideal) m ρ)

/-- No operation is changed in the ideal form. -/
theorem preserves_fox : Cert.preserves_Fox_FoxIdeal := trivial

/-- Kernel and reference end with the same array. -/
theorem algebraic_fox : Cert.algebraic_FoxIdeal_ReffoxIdeal := by
  intro m ρ m' ρ' _ hagree
  refine ⟨fun c => Cert.FoxIdeal.Hand.out m c, Cert.FoxIdeal.Hand.run m ρ, ?_⟩
  refine (θ_run Cert.ReffoxIdeal.defs _ _).mono (fun _ h c => ⟨(h c).1.trans ?_, (h c).2⟩) (Cert.ReffoxIdeal.Value.run (F := Ideal) m' ρ')
  rw [Cert.ReffoxIdeal.Read.val_main_v34_eq, (hagree c).1, (hagree c).2.1, (hagree c).2.2]
  exact funext fun i => Cert.ReffoxIdeal.RefValue.v34_apply _ _ _ i

end Cert.Proof.FoxClaims

end
-- ==== Proof.Merge.lean ====
/-
  The odd layers' merge and output projection.  Three branches of attention, each with its output and, per head, the
  logarithm to base two of its softmax sum, are weighted by the softmax of those logarithms over the branches, summed, and
  multiplied by the output matrix; the residual is added.  The kernel's blocks of 256 rows and the reference give the same
  array.
-/
module

public import proofs.«01_k».proof.Proof.Rows
public import proofs.«01_k».proof.Proof.Down
public import proofs.«01_k».proof.Proof.DilRef
public import proofs.«01_k».proof.Proof.Gen.OddoutIdeal.Value
public import proofs.«01_k».proof.Proof.Gen.RefoddoutIdeal.Run
public import proofs.«01_k».proof.Proof.Gen.RefoddoutIdeal.Read
public import Idealize.ShloMosaic.Lib.Claim

@[expose] public section

set_option maxRecDepth 65536

noncomputable section

namespace Merge

open Idealize.ShloMosaic

/-! ## The weights -/

/-- The largest of the three branches' logarithms. -/
def mx (l : Fin 3 → Nat → Nat → EReal) (a c : Nat) : EReal := max (max (l 0 a c) (l 1 a c)) (l 2 a c)

/-- The exponential of a branch's logarithm less the largest. -/
def ex (l : Fin 3 → Nat → Nat → EReal) (s : Fin 3) (a c : Nat) : EReal := Ideal.exp2 (l s a c - mx l a c)

/-- A branch's weight: its exponential times the reciprocal of the three's sum. -/
def alpha (l : Fin 3 → Nat → Nat → EReal) (s : Fin 3) (a c : Nat) : EReal :=
  ex l s a c * Ideal.div 1 (ex l 0 a c + ex l 1 a c + ex l 2 a c)

/-- The branches' outputs, each times its weight spread over the columns by `e`. -/
def merged (o l : Fin 3 → Nat → Nat → EReal) (e : Nat → Nat → EReal) (a b : Nat) : EReal :=
  Rows.mm 128 (alpha l 0) e a b * o 0 a b + Rows.mm 128 (alpha l 1) e a b * o 1 a b + Rows.mm 128 (alpha l 2) e a b * o 2 a b

/-- The result: the residual and the merged outputs times the output matrix. -/
def out (o l : Fin 3 → Nat → Nat → EReal) (e w r : Nat → Nat → EReal) (a b : Nat) : EReal :=
  r a b + Rows.mm 1024 (merged o l e) w a b

/-- An exponential of a difference that is not positive is a real number, and not negative. -/
theorem exp2_real (t x : EReal) (h : t ≤ x) : ∃ p : ℝ, 0 ≤ p ∧ Ideal.exp2 (t - x) = p := by
  have z : ∃ p : ℝ, 0 ≤ p ∧ Ideal.exp2 ⊥ = p := ⟨0, le_rfl, rfl⟩
  induction t using EReal.rec with
  | bot => rwa [EReal.bot_sub]
  | top => rwa [top_le_iff.1 h, EReal.sub_top]
  | coe t =>
    induction x using EReal.rec with
    | bot => exact absurd h (by simp)
    | top => rwa [EReal.sub_top]
    | coe x => exact ⟨Real.rpow 2 (t - x), Real.rpow_nonneg (by norm_num) _, by rw [← EReal.coe_sub]; rfl⟩

/-- A weight is a real number: where the sum is zero so are the exponentials, and elsewhere the reciprocal is real. -/
theorem alpha_real (l : Fin 3 → Nat → Nat → EReal) (s : Fin 3) (a c : Nat) : ∃ p : ℝ, alpha l s a c = p := by
  have le : ∀ s : Fin 3, l s a c ≤ mx l a c := fun s => match s with
    | 0 => (le_max_left _ _).trans (le_max_left _ _)
    | 1 => (le_max_right _ _).trans (le_max_left _ _)
    | 2 => le_max_right _ _
  choose p p0 hp using fun s => exp2_real (l s a c) (mx l a c) (le s)
  have hx : ∀ s, ex l s a c = (p s : EReal) := hp
  unfold alpha
  rw [hx, hx, hx, hx, ← EReal.coe_add, ← EReal.coe_add]
  by_cases hd : p 0 + p 1 + p 2 = 0
  · have hs : p s = 0 := by
      have h0 := p0 0
      have h1 := p0 1
      have h2 := p0 2
      match s with
      | 0 => linarith
      | 1 => linarith
      | 2 => linarith
    exact ⟨0, by rw [hs, EReal.coe_zero, zero_mul]⟩
  · refine ⟨p s * (p 0 + p 1 + p 2)⁻¹, ?_⟩
    unfold Ideal.div
    rw [if_neg (fun h => hd (EReal.coe_eq_zero.1 h)), one_mul, ← EReal.coe_inv, ← EReal.coe_mul]

/-- So a weight less itself is zero. -/
theorem alpha_sub (l : Fin 3 → Nat → Nat → EReal) (s : Fin 3) (a c : Nat) : alpha l s a c - alpha l s a c = 0 := by
  obtain ⟨p, hp⟩ := alpha_real l s a c
  rw [hp, ← EReal.coe_sub, sub_self, EReal.coe_zero]

/-! ## The kernel's blocks -/

section Any
variable {F : FTy → Type} [FloatOps F]

/-- The largest of three blocks, entry by entry. -/
def mxB (x y z : FVec F (Rows.Sh 256 128) .f32) : FVec F (Rows.Sh 256 128) .f32 := maximumf (maximumf x y) z

/-- The exponential of a block less the largest. -/
def exB (t x y z : FVec F (Rows.Sh 256 128) .f32) : FVec F (Rows.Sh 256 128) .f32 := exp2 (subf t (mxB x y z))

/-- A block of weights, as the kernel writes it. -/
def alphaB (t x y z : FVec F (Rows.Sh 256 128) .f32) : FVec F (Rows.Sh 256 128) .f32 :=
  mulf (exB t x y z) (divf (broadcast (Rows.Sh 256 128) (Scalar.ofBits .f32 0x3F800000#32))
    (addf (addf (exB x x y z) (exB y x y z)) (exB z x y z)))

/-- A block of weights spread over the columns, in two parts: the rounded weights and what the rounding left. -/
def spreadB (h : FTy.bits .bf16 < FTy.bits .f32) (t : FVec F (Rows.Sh 256 128) .f32) (e : FVec F (Rows.Sh 128 1024) .bf16) :
    FVec F (Rows.Sh 256 1024) .f32 :=
  addf (Rows.prod (truncf .bf16 t h) e) (Rows.prod (truncf .bf16 (subf t (extf .f32 (truncf .bf16 t h) h)) h) e)

/-- The merged outputs. -/
def mergedB (h : FTy.bits .bf16 < FTy.bits .f32) (o1 o2 o3 : FVec F (Rows.Sh 256 1024) .f32) (x y z : FVec F (Rows.Sh 256 128) .f32)
    (e : FVec F (Rows.Sh 128 1024) .bf16) : FVec F (Rows.Sh 256 1024) .f32 :=
  addf (addf (mulf (spreadB h (alphaB x x y z) e) o1) (mulf (spreadB h (alphaB y x y z) e) o2)) (mulf (spreadB h (alphaB z x y z) e) o3)

end Any

section Read
variable (h : FTy.bits .bf16 < FTy.bits .f32) (o : Fin 3 → FVec Ideal (Rows.Sh 256 1024) .f32) (x : Fin 3 → FVec Ideal (Rows.Sh 256 128) .f32)
  (e : FVec Ideal (Rows.Sh 128 1024) .bf16) (O L : Fin 3 → Nat → Nat → EReal) (E : Nat → Nat → EReal) (r : Nat)
  (hO : ∀ s (i : Fin 256) (j : Fin 1024), o s (ValueIdx.ix2 i j) = O s (r + i) (0 + j))
  (hL : ∀ s (i : Fin 256) (k : Fin 128), x s (ValueIdx.ix2 i k) = L s (r + i) k)
  (hE : ∀ (k : Fin 128) (j : Fin 1024), e (ValueIdx.ix2 k j) = E k (0 + j))

include hL in
/-- A block of weights at an index. -/
theorem alphaB_apply (s : Fin 3) (i : Fin 256) (k : Fin 128) :
    alphaB (x s) (x 0) (x 1) (x 2) (ValueIdx.ix2 i k) = alpha L s (r + i) k := by
  have m : mxB (x 0) (x 1) (x 2) (ValueIdx.ix2 i k) = mx L (r + i) k := by
    show max (max (x 0 (ValueIdx.ix2 i k)) (x 1 (ValueIdx.ix2 i k))) (x 2 (ValueIdx.ix2 i k) : EReal) = _
    rw [hL, hL, hL]
    rfl
  have ee : ∀ s, exB (x s) (x 0) (x 1) (x 2) (ValueIdx.ix2 i k) = ex L s (r + i) k := fun s => by
    show Ideal.exp2 ((x s (ValueIdx.ix2 i k) : EReal) - mxB (x 0) (x 1) (x 2) (ValueIdx.ix2 i k)) = _
    rw [hL, m]
    rfl
  show (exB (x s) (x 0) (x 1) (x 2) (ValueIdx.ix2 i k) : EReal) * Ideal.div (FloatOps.ofBits .f32 0x3F800000#32 : Ideal .f32)
    ((exB (x 0) (x 0) (x 1) (x 2) (ValueIdx.ix2 i k) : EReal) + exB (x 1) (x 0) (x 1) (x 2) (ValueIdx.ix2 i k)
      + exB (x 2) (x 0) (x 1) (x 2) (ValueIdx.ix2 i k)) = _
  rw [ee, ee, ee, ee, Rows.ofBits_one]
  rfl

include hL hE in
/-- Spread weights at an index: what the rounding left is zero. -/
theorem spreadB_apply (s : Fin 3) (i : Fin 256) (j : Fin 1024) :
    spreadB h (alphaB (x s) (x 0) (x 1) (x 2)) e (ValueIdx.ix2 i j) = Rows.mm 128 (alpha L s) E (r + i) (0 + j) := by
  have a := alphaB_apply x L r hL s
  generalize alphaB (x s) (x 0) (x 1) (x 2) = t at a
  unfold spreadB
  show HAdd.hAdd (α := EReal) (β := EReal) (γ := EReal) (Rows.prod (truncf .bf16 t h) e (ValueIdx.ix2 i j))
    (Rows.prod (truncf .bf16 (subf t (extf .f32 (truncf .bf16 t h) h)) h) e (ValueIdx.ix2 i j)) = _
  rw [Rows.prod_tr h t e (alpha L s) E r 0 a hE, Rows.prod_tr h _ e (fun _ _ => 0) E r 0 (fun i k => ?_) hE]
  · refine Eq.trans (congrArg (fun y : EReal => _ + y) (?_ : _ = (0 : EReal))) (add_zero _)
    exact Finset.sum_eq_zero fun k _ => zero_mul _
  · show (t (ValueIdx.ix2 i k) : EReal) - t (ValueIdx.ix2 i k) = 0
    rw [a]
    exact alpha_sub L s _ _

include hO hL hE in
/-- The merged outputs at an index. -/
theorem mergedB_apply (i : Fin 256) (j : Fin 1024) :
    mergedB h (o 0) (o 1) (o 2) (x 0) (x 1) (x 2) e (ValueIdx.ix2 i j) = merged O L E (r + i) (0 + j) := by
  unfold mergedB
  show ((spreadB h (alphaB (x 0) (x 0) (x 1) (x 2)) e (ValueIdx.ix2 i j) : EReal) * o 0 (ValueIdx.ix2 i j)
    + spreadB h (alphaB (x 1) (x 0) (x 1) (x 2)) e (ValueIdx.ix2 i j) * o 1 (ValueIdx.ix2 i j)
    + spreadB h (alphaB (x 2) (x 0) (x 1) (x 2)) e (ValueIdx.ix2 i j) * o 2 (ValueIdx.ix2 i j) : EReal) = _
  rw [spreadB_apply h x e L E r hL hE, spreadB_apply h x e L E r hL hE, spreadB_apply h x e L E r hL hE, hO, hO, hO]
  rfl

end Read

/-! ## The reference's stacks and sums of three -/

/-- A stack of three arrays at an index. -/
theorem stack_apply {n d : Nat} (x0 x1 x2 : (⟨3, ![1, n, d]⟩ : Shape).Idx → EReal)
    (h : Shape.Concatenates [⟨3, ![1, n, d]⟩, ⟨3, ![1, n, d]⟩, ⟨3, ![1, n, d]⟩] ⟨3, ![3, n, d]⟩ 0) (i : (⟨3, ![3, n, d]⟩ : Shape).Idx) :
    concatenate (⟨3, ![3, n, d]⟩ : Shape) 0 [⟨⟨3, ![1, n, d]⟩, x0⟩, ⟨⟨3, ![1, n, d]⟩, x1⟩, ⟨⟨3, ![1, n, d]⟩, x2⟩] h i
      = (![x0, x1, x2] : Fin 3 → _) (i 0) (ValueIdx.ix3 (0 : Fin 1) (i 1 : Fin n) (i 2 : Fin d)) :=
  concatenate_ofFn_unit_apply (t := (⟨3, ![3, n, d]⟩ : Shape)) (s₁ := ⟨3, ![1, n, d]⟩) 0 (N := 3) ![x0, x1, x2] h rfl rfl i (i 0) rfl
    (ValueIdx.ix3 (0 : Fin 1) (i 1 : Fin n) (i 2 : Fin d)) fun b hb => match b with
      | ⟨0, _⟩ => absurd rfl hb
      | ⟨1, _⟩ => rfl
      | ⟨2, _⟩ => rfl

/-- The largest of three, as a fold. -/
theorem fold_three (f : Fin 3 → EReal) : Finset.univ.fold max ⊥ f = max (max (f 0) (f 1)) (f 2) := by
  rw [Dil.Head.fold_max_eq_sup]
  refine le_antisymm (Finset.sup_le fun s _ => ?_) (max_le (max_le ?_ ?_) ?_)
  · match s with
    | 0 => exact (le_max_left _ _).trans (le_max_left _ _)
    | 1 => exact (le_max_right _ _).trans (le_max_left _ _)
    | 2 => exact le_max_right _ _
  all_goals exact Finset.le_sup (f := f) (Finset.mem_univ _)

end Merge

namespace Cert.OddoutIdeal.RefValue

open Cert.OddoutIdeal Cert.OddoutIdeal.Gen Idealize.ShloMosaic Idealize.ShloMosaic.TcCoe Idealize.SL.Sem
open Idealize.ShloMosaic.Pipeline (Dat)

section Any
variable {F : FTy → Type} [FloatOps F]

/-- The block a point stores. -/
theorem out_eq (o1 o2 o3 : Vec F S256x1024 .f32) (x y z : Vec F S256x128 .f32) (e : Vec F S128x1024 .bf16) (w : Vec F S1024x1024 .bf16)
    (r : Vec F S256x1024 .f32) :
    out0_9 o1 o2 o3 x y z e w r
      = addf r (Rows.prod (truncf .bf16 (Merge.mergedB bitsLt_bf16_f32 o1 o2 o3 x y z e) bitsLt_bf16_f32) w : FVec F S256x1024 .f32) := by
  unfold out0_9
  rw [View.canon_unit_zero Rows.hz]
  rw [show View.ld o1 r0_2 = o1 from View.ld_unit_zero Rows.hz _ o1, show View.ld o2 r0_2 = o2 from View.ld_unit_zero Rows.hz _ o2,
    show View.ld o3 r0_2 = o3 from View.ld_unit_zero Rows.hz _ o3, show View.ld x r0_0 = x from View.ld_unit_zero Rows.hz _ x,
    show View.ld y r0_0 = y from View.ld_unit_zero Rows.hz _ y, show View.ld z r0_0 = z from View.ld_unit_zero Rows.hz _ z,
    show View.ld e r0_1 = e from View.ld_unit_zero Rows.hz _ e, show View.ld w r0_3 = w from View.ld_unit_zero Rows.hz _ w,
    show View.ld r r0_2 = r from View.ld_unit_zero Rows.hz _ r]
  rfl

end Any

variable (m : (ℓ : Loc nD τ sig) → Buf (Elt Ideal) ℓ) (ρ : Dev nD → PrngReg)

/-- The places of a point's blocks. -/
theorem idx_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) ∧ (win0_7.index t 0 = 0 ∧ win0_7.index t 1 = 0)
    ∧ (win0_8.index t 0 = t.val ∧ win0_8.index t 1 = 0) ∧ (win0_9.index t 0 = t.val ∧ win0_9.index t 1 = 0) :=
  (by decide +kernel : ∀ t : Fin grid0.N, _)

/-- The arguments as functions of row and column: the branches' outputs, -/
abbrev o (c : Dev nD) : Fin 3 → Nat → Nat → EReal :=
  ![Rows.mat (n := 16384) (d := 1024) (m ((c : Thread nD τ).loc main_arg0)), Rows.mat (n := 16384) (d := 1024) (m ((c : Thread nD τ).loc main_arg1)),
    Rows.mat (n := 16384) (d := 1024) (m ((c : Thread nD τ).loc main_arg2))]
/-- their logarithms, -/
abbrev l (c : Dev nD) : Fin 3 → Nat → Nat → EReal :=
  ![Rows.mat (n := 16384) (d := 128) (m ((c : Thread nD τ).loc main_arg3)), Rows.mat (n := 16384) (d := 128) (m ((c : Thread nD τ).loc main_arg4)),
    Rows.mat (n := 16384) (d := 128) (m ((c : Thread nD τ).loc main_arg5))]
/-- the matrix that spreads them, the output matrix and the residual. -/
abbrev e (c : Dev nD) : Nat → Nat → EReal := Rows.mat (n := 128) (d := 1024) (m ((c : Thread nD τ).loc main_arg6))
abbrev w (c : Dev nD) : Nat → Nat → EReal := Rows.mat (n := 1024) (d := 1024) (m ((c : Thread nD τ).loc main_arg7))
abbrev r (c : Dev nD) : Nat → Nat → EReal := Rows.mat (n := 16384) (d := 1024) (m ((c : Thread nD τ).loc main_arg8))

/-- A block's row or column within the array, from the place of the block, -/
theorem place {k t b i : Nat} (h : k = t) : k * b + 1 * i = b * t + i := by rw [h, Nat.mul_comm, Nat.one_mul]
/-- which for a block of the whole width is zero. -/
theorem place_zero {k b i : Nat} (h : k = 0) : k * b + 1 * i = 0 + i := by rw [h, Nat.zero_mul, Nat.one_mul]

/-! The blocks a point reads. -/

theorem blk0 (c : Dev nD) (t : Fin cfg0.N) (i : Fin 256) (j : Fin 1024) : iblk m c 0 t (ValueIdx.ix2 i j) = o m c 0 (256 * t.val + i) (0 + j) := by
  have f := (idx_facts t).1
  exact (congrFun (V_main_arg0 m c) _).trans (Rows.mat_of _ _ _ _ (place f.1) (place_zero f.2))

theorem blk1 (c : Dev nD) (t : Fin cfg0.N) (i : Fin 256) (j : Fin 1024) : iblk m c 1 t (ValueIdx.ix2 i j) = o m c 1 (256 * t.val + i) (0 + j) := by
  have f := (idx_facts t).2.1
  exact (congrFun (V_main_arg1 m c) _).trans (Rows.mat_of _ _ _ _ (place f.1) (place_zero f.2))

theorem blk2 (c : Dev nD) (t : Fin cfg0.N) (i : Fin 256) (j : Fin 1024) : iblk m c 2 t (ValueIdx.ix2 i j) = o m c 2 (256 * t.val + i) (0 + j) := by
  have f := (idx_facts t).2.2.1
  exact (congrFun (V_main_arg2 m c) _).trans (Rows.mat_of _ _ _ _ (place f.1) (place_zero f.2))

theorem blk3 (c : Dev nD) (t : Fin cfg0.N) (i : Fin 256) (j : Fin 128) : iblk m c 3 t (ValueIdx.ix2 i j) = l m c 0 (256 * t.val + i) j := by
  have f := (idx_facts t).2.2.2.1
  exact (congrFun (V_main_arg3 m c) _).trans (Rows.mat_of _ _ _ _ (place f.1) ((place_zero f.2).trans (Nat.zero_add _)))

theorem blk4 (c : Dev nD) (t : Fin cfg0.N) (i : Fin 256) (j : Fin 128) : iblk m c 4 t (ValueIdx.ix2 i j) = l m c 1 (256 * t.val + i) j := by
  have f := (idx_facts t).2.2.2.2.1
  exact (congrFun (V_main_arg4 m c) _).trans (Rows.mat_of _ _ _ _ (place f.1) ((place_zero f.2).trans (Nat.zero_add _)))

theorem blk5 (c : Dev nD) (t : Fin cfg0.N) (i : Fin 256) (j : Fin 128) : iblk m c 5 t (ValueIdx.ix2 i j) = l m c 2 (256 * t.val + i) j := by
  have f := (idx_facts t).2.2.2.2.2.1
  exact (congrFun (V_main_arg5 m c) _).trans (Rows.mat_of _ _ _ _ (place f.1) ((place_zero f.2).trans (Nat.zero_add _)))

theorem blk6 (c : Dev nD) (t : Fin cfg0.N) (i : Fin 128) (j : Fin 1024) : iblk m c 6 t (ValueIdx.ix2 i j) = e m c i (0 + j) := by
  have f := (idx_facts t).2.2.2.2.2.2.1
  exact (congrFun (V_main_arg6 m c) _).trans (Rows.mat_of _ _ _ _ ((place_zero f.1).trans (Nat.zero_add _)) (place_zero f.2))

theorem blk7 (c : Dev nD) (t : Fin cfg0.N) (i : Fin 1024) (j : Fin 1024) : iblk m c 7 t (ValueIdx.ix2 i j) = w m c i (0 + j) := by
  have f := (idx_facts t).2.2.2.2.2.2.2.1
  exact (congrFun (V_main_arg7 m c) _).trans (Rows.mat_of _ _ _ _ ((place_zero f.1).trans (Nat.zero_add _)) (place_zero f.2))

theorem blk8 (c : Dev nD) (t : Fin cfg0.N) (i : Fin 256) (j : Fin 1024) : iblk m c 8 t (ValueIdx.ix2 i j) = r m c (256 * t.val + i) (0 + j) := by
  have f := (idx_facts t).2.2.2.2.2.2.2.2.1
  exact (congrFun (V_main_arg8 m c) _).trans (Rows.mat_of _ _ _ _ (place f.1) (place_zero f.2))

/-- The array the kernel leaves. -/
def out (c : Dev nD) : Buf (Elt Ideal) ((c : Thread nD τ).loc main_v0) :=
  fun i => Merge.out (o m c) (l m c) (e m c) (w m c) (r m c) (i 0).val (i 1).val

/-- What a point writes back is its block of that array. -/
theorem flushed_eq (c : Dev nD) (t : Fin cfg0.N) :
    (dats m 0 c).flushed 9 t = ((cfg0.win 9).blk t).view.read (Elt Ideal) (out m c) := by
  rw [Value.flushed9, out_eq]
  obtain ⟨-, -, -, -, -, -, -, -, -, ⟨e0, e1⟩⟩ := idx_facts t
  funext i
  have h0 : ((win0_9.rect t).idx i 0).val = 256 * t.val + (i 0).val := by
    show win0_9.index t 0 * 256 + 1 * (i 0).val = _
    rw [e0]; omega
  have h1 : ((win0_9.rect t).idx i 1).val = 0 + (i 1).val := by
    show win0_9.index t 1 * 1024 + 1 * (i 1).val = _
    rw [e1]; omega
  show _ = out m c ((win0_9.rect t).idx i)
  unfold out
  rw [h0, h1]
  obtain ⟨a, b, rfl⟩ : ∃ (a : Fin 256) (b : Fin 1024), i = ValueIdx.ix2 a b := ⟨i 0, i 1, ValueIdx.eq_ix2 (n0 := 256) (n1 := 1024) i⟩
  show HAdd.hAdd (α := EReal) (β := EReal) (γ := EReal) (iblk m c 8 t (ValueIdx.ix2 a b))
    (Rows.prod (F := Ideal) (M := 256) (K := 1024) (N := 1024) (truncf .bf16 _ bitsLt_bf16_f32) _ (ValueIdx.ix2 a b))
    = Merge.out (o m c) (l m c) (e m c) (w m c) (r m c) (256 * t.val + a.val) (0 + b.val)
  have hm := Merge.mergedB_apply bitsLt_bf16_f32 ![iblk m c 0 t, iblk m c 1 t, iblk m c 2 t] ![iblk m c 3 t, iblk m c 4 t, iblk m c 5 t]
    (iblk m c 6 t) (o m c) (l m c) (e m c) (256 * t.val)
    (fun s => match s with
      | 0 => blk0 m c t
      | 1 => blk1 m c t
      | 2 => blk2 m c t)
    (fun s => match s with
      | 0 => blk3 m c t
      | 1 => blk4 m c t
      | 2 => blk5 m c t)
    (blk6 m c t)
  rw [blk8, Rows.prod_tr bitsLt_bf16_f32 _ _ (Merge.merged (o m c) (l m c) (e m c)) (w m c) (256 * t.val) 0 (fun i k => ?_) (blk7 m c t)]
  · rfl
  · exact (hm i k).trans (by rw [Nat.zero_add])

/-- Every entry is in the block of a point. -/
theorem cover (i : S16384x1024.Idx) : ∃ t : Fin cfg0.N, (cfg0.win 9).flush t = true ∧ i ∈ ((cfg0.win 9).blk t).view.set := by
  have h0 : (i 0 : Nat) < 16384 := (i 0).isLt
  have h1 : (i 1 : Nat) < 1024 := (i 1).isLt
  have hN : cfg0.N = 64 := by decide +kernel
  let t : Fin cfg0.N := ⟨(i 0).val / 256, by rw [hN]; omega⟩
  obtain ⟨-, -, -, -, -, -, -, -, -, ⟨e0, e1⟩⟩ := idx_facts t
  refine ⟨t, flush0_9 t, ?_⟩
  show i ∈ ((View.whole main_v0).slice (win0_9.rect t)).set
  rw [View.set_slice_whole, Rect.mem_set_unit]
  intro a
  match a with
  | ⟨0, _⟩ =>
    show win0_9.index t 0 * 256 ≤ (i 0).val ∧ (i 0).val < win0_9.index t 0 * 256 + 256
    rw [e0]; show (i 0).val / 256 * 256 ≤ _ ∧ _ < (i 0).val / 256 * 256 + 256; omega
  | ⟨1, _⟩ =>
    show win0_9.index t 1 * 1024 ≤ (i 1).val ∧ (i 1).val < win0_9.index t 1 * 1024 + 1024
    rw [e1]; omega

/-- The run: the result at the formula, the arguments unchanged. -/
theorem run : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
    ⟨(h c).1.trans ((dats m 0 c).arrAt_eq_of_cover 9 (out m c) (fun t _ => flushed_eq m c t) cover), (h c).2⟩)
    (Value.run_blocks m ρ)

end Cert.OddoutIdeal.RefValue

namespace Cert.RefoddoutIdeal.RefValue

open Cert.RefoddoutIdeal Cert.RefoddoutIdeal.Gen Cert.RefoddoutIdeal.Read Idealize.ShloMosaic Idealize.ShloMosaic.TcCoe

/-- The two kinds of array of rows. -/
abbrev Wide : Type := (⟨S16384x1024, .f32⟩ : BufTy).Contents (Elt Ideal)
abbrev Lanes : Type := (⟨S16384x128, .f32⟩ : BufTy).Contents (Elt Ideal)

variable (x0 x1 x2 : Wide) (x3 x4 x5 : Lanes) (x6 : (⟨S128x1024, .bf16⟩ : BufTy).Contents (Elt Ideal))
  (x7 : (⟨S1024x1024, .bf16⟩ : BufTy).Contents (Elt Ideal)) (x8 : Wide)

/-- The branches' outputs and logarithms as functions of row and column. -/
abbrev O : Fin 3 → Nat → Nat → EReal := ![Rows.mat (n := 16384) (d := 1024) x0, Rows.mat (n := 16384) (d := 1024) x1, Rows.mat (n := 16384) (d := 1024) x2]
abbrev L : Fin 3 → Nat → Nat → EReal := ![Rows.mat (n := 16384) (d := 128) x3, Rows.mat (n := 16384) (d := 128) x4, Rows.mat (n := 16384) (d := 128) x5]

/-- The stack of the logarithms, -/
theorem v3_apply (i : S3x16384x128.Idx) : val_main_v3 (F := Ideal) x3 x4 x5 i = L x3 x4 x5 (i 0) (i 1).val (i 2).val := by
  have row : ∀ s : Fin 3, (![val_main_v0 (F := Ideal) x3, val_main_v1 (F := Ideal) x4, val_main_v2 (F := Ideal) x5] : Fin 3 → _) s
      (ValueIdx.ix3 (0 : Fin 1) (i 1 : Fin 16384) (i 2 : Fin 128)) = L x3 x4 x5 s (i 1).val (i 2).val := fun s => match s with
    | 0 => (val_main_v0_apply x3 _).trans (Rows.mat_of (n := 16384) (d := 128) x3 _ _ _ rfl rfl)
    | 1 => (val_main_v1_apply x4 _).trans (Rows.mat_of (n := 16384) (d := 128) x4 _ _ _ rfl rfl)
    | 2 => (val_main_v2_apply x5 _).trans (Rows.mat_of (n := 16384) (d := 128) x5 _ _ _ rfl rfl)
  exact (Merge.stack_apply (n := 16384) (d := 128) _ _ _ _ i).trans (row (i 0))

/-- and of the outputs. -/
theorem v23_apply (i : S3x16384x1024.Idx) : val_main_v23 (F := Ideal) x0 x1 x2 i = O x0 x1 x2 (i 0) (i 1).val (i 2).val := by
  have row : ∀ s : Fin 3, (![val_main_v20 (F := Ideal) x0, val_main_v21 (F := Ideal) x1, val_main_v22 (F := Ideal) x2] : Fin 3 → _) s
      (ValueIdx.ix3 (0 : Fin 1) (i 1 : Fin 16384) (i 2 : Fin 1024)) = O x0 x1 x2 s (i 1).val (i 2).val := fun s => match s with
    | 0 => (val_main_v20_apply x0 _).trans (Rows.mat_of (n := 16384) (d := 1024) x0 _ _ _ rfl rfl)
    | 1 => (val_main_v21_apply x1 _).trans (Rows.mat_of (n := 16384) (d := 1024) x1 _ _ _ rfl rfl)
    | 2 => (val_main_v22_apply x2 _).trans (Rows.mat_of (n := 16384) (d := 1024) x2 _ _ _ rfl rfl)
  exact (Merge.stack_apply (n := 16384) (d := 1024) _ _ _ _ i).trans (row (i 0))

/-- The logarithms to base e, -/
theorem v6_apply (i : S3x16384x128.Idx) : val_main_v6 (F := Ideal) x3 x4 x5 i = L x3 x4 x5 (i 0) (i 1).val (i 2).val * Dil.ln2 := by
  rw [val_main_v6_apply, val_main_v5_apply, v3_apply]
  exact congrArg (fun y : EReal => _ * y) Dil.Ref.log_two

/-- the largest of a row, -/
theorem v7_apply (i : S16384x128.Idx) : val_main_v7 (F := Ideal) x3 x4 x5 i = Merge.mx (L x3 x4 x5) (i 0).val (i 1).val * Dil.ln2 := by
  have red : S3x16384x128.Reduces [(0 : Fin 3)] S16384x128 := by decide
  have h6 := v6_apply x3 x4 x5
  unfold val_main_v7 val_main_cst_0
  generalize val_main_v6 (F := Ideal) x3 x4 x5 = y at h6
  have e := hostReduce_maximumf_eq_multiReduction (F := Ideal) (φ := .f32) (u := S_) y (0xFF800000#32 : BitVec (FTy.bits .f32))
    reducesTo_S3x16384x128_S16384x128_d0 h_S_ red (.inl rfl) rfl
  refine (congrFun e i).trans ?_
  refine (Ideal.multiReduction_maximumf_single (a := 0) _ _ red (.inl rfl) rfl i).trans ?_
  rw [show (FloatOps.ofBits .f32 (FKind.maximumf.neutral .f32 (.inl rfl)) : Ideal .f32) = ⊥ from Dil.Block.ofBits_neg_inf]
  refine (Merge.fold_three _).trans ?_
  unfold Merge.mx
  rw [Dil.max_mul_ln2, Dil.max_mul_ln2]
  exact congrArg₂ max (congrArg₂ max (h6 (red.lift i (0 : Fin 3))) (h6 (red.lift i (1 : Fin 3)))) (h6 (red.lift i (2 : Fin 3)))

/-- the exponentials, -/
theorem v11_apply (i : S3x16384x128.Idx) : val_main_v11 (F := Ideal) x3 x4 x5 i = Merge.ex (L x3 x4 x5) (i 0) (i 1).val (i 2).val := by
  rw [val_main_v11_apply, val_main_v10_apply, val_main_v9_apply, val_main_v8_apply, v6_apply, v7_apply]
  refine Eq.trans ?_ (Dil.exp_mul_ln2 _)
  exact congrArg Ideal.exp (Dil.sub_mul_ln2 _ _)

/-- the weights, -/
theorem v17_apply (i : S3x16384x128.Idx) : val_main_v17 (F := Ideal) x3 x4 x5 i = Merge.alpha (L x3 x4 x5) (i 0) (i 1).val (i 2).val := by
  rw [val_main_v17_apply, val_main_v16_apply, val_main_v15_apply, val_main_v14_apply, val_main_v13_apply, val_main_v12_apply,
    v11_apply, Fin.sum_univ_three, v11_apply, v11_apply, v11_apply, val_main_cst_1_apply, val_main_cst_2_apply, Rows.ofBits_zero,
    Rows.ofBits_one, zero_add]
  rfl

/-- the weights spread over the columns, -/
theorem v19_apply (i : S3x16384x1024.Idx) : val_main_v19 (F := Ideal) x3 x4 x5 x6 i
    = Rows.mm 128 (Merge.alpha (L x3 x4 x5) (i 0)) (Rows.mat (n := 128) (d := 1024) x6) (i 1).val (i 2).val := by
  rw [val_main_v19_apply]
  refine Finset.sum_congr rfl fun k _ => ?_
  rw [v17_apply]
  exact congrArg (fun y : EReal => _ * y) (Rows.mat_of (n := 128) (d := 1024) x6 (ridx_main_v19 i k) k (i 2).val rfl rfl)

/-- the merged outputs, -/
theorem v25_apply (i : S16384x1024.Idx) : val_main_v25 (F := Ideal) x0 x1 x2 x3 x4 x5 x6 i
    = Merge.merged (O x0 x1 x2) (L x3 x4 x5) (Rows.mat (n := 128) (d := 1024) x6) (i 0).val (i 1).val := by
  rw [val_main_v25_apply, Fin.sum_univ_three, val_main_v24_apply, val_main_v24_apply, val_main_v24_apply, v19_apply, v19_apply, v19_apply,
    v23_apply, v23_apply, v23_apply, val_main_cst_3_apply, Rows.ofBits_zero, zero_add]
  rfl

/-- and the result. -/
theorem v28_apply (i : S16384x1024.Idx) : val_main_v28 (F := Ideal) x0 x1 x2 x3 x4 x5 x6 x7 x8 i
    = Merge.out (O x0 x1 x2) (L x3 x4 x5) (Rows.mat (n := 128) (d := 1024) x6) (Rows.mat (n := 1024) (d := 1024) x7)
      (Rows.mat (n := 16384) (d := 1024) x8) (i 0).val (i 1).val := by
  rw [val_main_v28_apply, val_main_v27_apply, Rows.mat_of (n := 16384) (d := 1024) x8 i _ _ rfl rfl]
  refine congrArg (fun y : EReal => _ + y) (Finset.sum_congr rfl fun k _ => ?_)
  rw [v25_apply]
  exact congrArg (fun y : EReal => _ * y) (Rows.mat_of (n := 1024) (d := 1024) x7 (ridx_main_v27 i k) k (i 1).val rfl rfl)

end Cert.RefoddoutIdeal.RefValue

end
-- ==== Proof.MergeClaims.lean ====
/-
  The claims about the odd layers' merge and output projection.
-/
module

public import proofs.«01_k».proof.Defs
public import proofs.«01_k».proof.Proof.Merge
public import proofs.«01_k».proof.Proof.Gen.Oddout.Frame

@[expose] public section

set_option maxRecDepth 65536

noncomputable section

namespace Cert.Proof.MergeClaims

open Idealize.ShloMosaic Idealize.ShloMosaic.TcCoe Idealize.SL.Sem

/-- The kernel runs and leaves its arguments, on words and over the extended reals, -/
theorem frame_p_merge : Cert.quiescent_Oddout := fun m ρ _ => Cert.Oddout.Gen.frame m ρ
theorem frame_pi_merge : Cert.quiescent_OddoutIdeal := fun m ρ _ => Cert.OddoutIdeal.Gen.frame m ρ
/-- and so does the reference. -/
theorem frame_ri_merge : Cert.quiescent_RefoddoutIdeal := fun m ρ _ =>
  (θ_run Cert.RefoddoutIdeal.defs _ _).mono (fun r h => ⟨fun c => (h c).2, sem_eq_zero_of_no_sems (by decide) r.2⟩)
    (Cert.RefoddoutIdeal.Value.run (F := Ideal) m ρ)

/-- No operation is changed in the ideal form. -/
theorem preserves_merge : Cert.preserves_Oddout_OddoutIdeal := trivial

/-- Kernel and reference end with the same array. -/
theorem algebraic_merge : Cert.algebraic_OddoutIdeal_RefoddoutIdeal := by
  intro m ρ m' ρ' _ hagree
  refine ⟨fun c => Cert.OddoutIdeal.RefValue.out m c, Cert.OddoutIdeal.RefValue.run m ρ, ?_⟩
  refine (θ_run Cert.RefoddoutIdeal.defs _ _).mono (fun _ h c => ⟨(h c).1.trans ?_, (h c).2⟩) (Cert.RefoddoutIdeal.Value.run (F := Ideal) m' ρ')
  obtain ⟨h0, h1, h2, h3, h4, h5, h6, h7, h8⟩ := hagree c
  rw [Cert.RefoddoutIdeal.Read.val_main_v28_eq, h0, h1, h2, h3, h4, h5, h6, h7, h8]
  exact funext fun i => Cert.RefoddoutIdeal.RefValue.v28_apply _ _ _ _ _ _ _ _ _ i

end Cert.Proof.MergeClaims

end
-- ==== Proof.DsaStep.lean ====
/-
  One step of the selected attention's body: the causal attention's step with a bias added to the scores.
-/
module

public import proofs.«01_k».proof.Proof.FoxCases
public import proofs.«01_k».proof.Proof.Gen.DsaIdeal.Frame
public import proofs.«01_k».proof.Proof.Gen.DsaIdeal.Skeleton
public import Idealize.ShloMosaic.Lib.Pipeline.TableIdle
public import Idealize.ShloMosaic.Lib.Tactic

@[expose] public section

set_option maxRecDepth 16384

noncomputable section

namespace Cert.DsaIdeal.Hand

open Cert.DsaIdeal Cert.DsaIdeal.Gen
open Cert.FoxIdeal.Hand (rK rM rA newM newA stackM stackA outOf read_stackM read_stackA read_cov_stackA read_stackO read_initM read_initA)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A grid point's three conditions as the body tests them: the first key block, a block below the diagonal, and one on it. -/
abbrev first (i : grid0.Coords) : Prop :=
  Scalar.cmpi .ne (Scalar.extui (Scalar.cmpi .eq (BitVec.ofNat 32 (i 1).val) 0#32) : BitVec 32) 0#32 = 1#1
abbrev below (i : grid0.Coords) : Prop :=
  Scalar.cmpi .ne (Scalar.extui (Scalar.cmpi .slt (BitVec.ofNat 32 (i 1).val) (BitVec.ofNat 32 (i 0).val)) : BitVec 32) 0#32 = 1#1
abbrev diag (i : grid0.Coords) : Prop := k0_cond3 i = 1#1

/-- A group of 128 queries lies in the block of biases. -/
theorem inbB (g : Fin 4) : ∀ a, (![g.val, 0, 0] : Fin 3 → ℕ) a + S1x512x128.size a ≤ S4x512x128.size a := by revert g; decide

/-- The biases of the `g`-th group of 128 queries. -/
abbrev rB (g : Fin 4) : Rect S4x512x128 := Rect.unit ![g.val, 0, 0] S1x512x128.size (inbB g)

/-- A head's scores with the bias added, -/
def scores (X0 X1 : Vec F S8x512x128 .bf16) (X3 : Vec F S4x512x128 .bf16) (h : Fin 8) : FVec F S512x512 .f32 :=
  k0_pay7 (View.ld X3 (rB 0)) (View.ld X3 (rB 1)) (View.ld X3 (rB 2)) (View.ld X3 (rB 3)) (View.ld X1 (rK h)) (View.ld X0 (rK h))
/-- and on the diagonal, where a query sees the keys up to its own. -/
def masked (X0 X1 : Vec F S8x512x128 .bf16) (X3 : Vec F S4x512x128 .bf16) (h : Fin 8) : FVec F S512x512 .f32 :=
  k0_pay59 (View.ld X3 (rB 0)) (View.ld X3 (rB 1)) (View.ld X3 (rB 2)) (View.ld X3 (rB 3)) (View.ld X1 (rK h)) (View.ld X0 (rK h))

/-- What one step leaves in the running maxima and the accumulators, from the heads' scores. -/
def stepM (s : Fin 8 → FVec F S512x512 .f32) (M : Vec F S8x8x512 .f32) : Vec F S8x8x512 .f32 :=
  stackM fun h => newM (s h) (View.ld M (rM h))
def stepA (s : Fin 8 → FVec F S512x512 .f32) (X2 : Vec F S8x128x512 .bf16) (M : Vec F S8x8x512 .f32) (A : Vec F S8x128x512 .f32) : Vec F S8x128x512 .f32 :=
  stackA fun h => newA (s h) (View.ld M (rM h)) (View.ld A (rA h)) (View.ld X2 (rA h))

set_option maxHeartbeats 8000000 in
/-- The body at a point below the diagonal, past the first key block. -/
theorem run_below (c : Dev nD) (i : grid0.Coords) (a2 : Memref sig .tc .vmem S8x512x128 .bf16) (h2 : a2.IsWhole)
    (a3 : Memref sig .tc .vmem S8x512x128 .bf16) (h3 : a3.IsWhole) (a4 : Memref sig .tc .vmem S8x128x512 .bf16) (h4 : a4.IsWhole)
    (a5 : Memref sig .tc .vmem S4x512x128 .bf16) (h5 : a5.IsWhole)
    (a6 : Memref sig .tc .vmem S512x512 .bf16) (h6 : a6.IsWhole) (a7 : Memref sig .tc .vmem S8x8x512 .f32) (h7 : a7.IsWhole)
    (a8 : Memref sig .tc .vmem S8x128x512 .f32) (h8 : a8.IsWhole) (hf : ¬ first i) (hb : below i) (hd : ¬ diag i)
    (x0 x1 : Vec F S8x512x128 .bf16) (x2 : Vec F S8x128x512 .bf16) (x3 : Vec F S4x512x128 .bf16) (M : Vec F S8x8x512 .f32) (A : Vec F S8x128x512 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a7 fullShare M ∗ owns (c : Thread nD τ) a8 fullShare A
        ∗ (iprop(owns (c : Thread nD τ) a2 fullShare x0 ∗ owns (c : Thread nD τ) a3 fullShare x1 ∗ owns (c : Thread nD τ) a4 fullShare x2 ∗ owns (c : Thread nD τ) a5 fullShare x3
          ∗ owns (c : Thread nD τ) a7 fullShare (stepM (scores x0 x1 x3) M) ∗ owns (c : Thread nD τ) a8 fullShare (stepA (scores x0 x1 x3) x2 M A)) -∗ K ⟨⟩))
      ⊢ wp frame (wpE (defs₀ (F := F)) Variants.none c none) E (cc0_dsa_attention i a2 h2 a3 h3 a4 h4 a5 h5 a6 h6 a7 h7 a8 h8) K := by
  simp only [cc0_dsa_attention_eq_skeleton]; unfold cc0_dsa_attention_skel
  simp only [dif_neg hf, dif_pos hb, dif_neg hd]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%fM, %hfM, HM⟩, ⟨%fA, %hfA, HA⟩, Hk⟩
  subst hf0 hf1 hf2 hf3 hfM hfA
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HM]
  · iexists _; isplitr; swap; · iexact HM
    ipureintro
    exact read_stackM a7.view fM (fun h => newM (scores (a2.view.read (Elt F) f0) (a3.view.read (Elt F) f1) (a5.view.read (Elt F) f3) h) (View.ld (a7.view.read (Elt F) fM) (rM h))) []
  · iexists _; isplitr; swap; · iexact HA
    ipureintro
    exact read_stackA a8.view fA (fun h => newA (scores (a2.view.read (Elt F) f0) (a3.view.read (Elt F) f1) (a5.view.read (Elt F) f3) h) (View.ld (a7.view.read (Elt F) fM) (rM h)) (View.ld (a8.view.read (Elt F) fA) (rA h)) (View.ld (a4.view.read (Elt F) f2) (rA h))) []

set_option maxHeartbeats 8000000 in
/-- The body at a point on the diagonal, past the first key block. -/
theorem run_last (c : Dev nD) (i : grid0.Coords) (a2 : Memref sig .tc .vmem S8x512x128 .bf16) (h2 : a2.IsWhole)
    (a3 : Memref sig .tc .vmem S8x512x128 .bf16) (h3 : a3.IsWhole) (a4 : Memref sig .tc .vmem S8x128x512 .bf16) (h4 : a4.IsWhole)
    (a5 : Memref sig .tc .vmem S4x512x128 .bf16) (h5 : a5.IsWhole)
    (a6 : Memref sig .tc .vmem S512x512 .bf16) (h6 : a6.IsWhole) (a7 : Memref sig .tc .vmem S8x8x512 .f32) (h7 : a7.IsWhole)
    (a8 : Memref sig .tc .vmem S8x128x512 .f32) (h8 : a8.IsWhole) (hf : ¬ first i) (hb : ¬ below i) (hd : diag i)
    (x0 x1 : Vec F S8x512x128 .bf16) (x2 : Vec F S8x128x512 .bf16) (x3 : Vec F S4x512x128 .bf16) (M : Vec F S8x8x512 .f32) (A : Vec F S8x128x512 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d)
        ∗ owns (c : Thread nD τ) a7 fullShare M ∗ owns (c : Thread nD τ) a8 fullShare A
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare (outOf (stepA (masked x0 x1 x3) x2 M A))
          ∗ owns (c : Thread nD τ) a7 fullShare (stepM (masked x0 x1 x3) M) ∗ owns (c : Thread nD τ) a8 fullShare (stepA (masked x0 x1 x3) x2 M A)) -∗ K ⟨⟩))
      ⊢ wp frame (wpE (defs₀ (F := F)) Variants.none c none) E (cc0_dsa_attention i a2 h2 a3 h3 a4 h4 a5 h5 a6 h6 a7 h7 a8 h8) K := by
  simp only [cc0_dsa_attention_eq_skeleton]; unfold cc0_dsa_attention_skel
  simp only [dif_neg hf, dif_neg hb, dif_pos hd]
  simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%d5, %f5, -, HO⟩, ⟨%fM, %hfM, HM⟩, ⟨%fA, %hfA, HA⟩, Hk⟩
  subst hf0 hf1 hf2 hf3 hfM hfA
  sl_exec
  sl_step
  have hA : ∀ r : Rect S8x128x512, a8.view.readCov (run_last.sl.HA_8 c a2 a3 a4 a5 a7 a8 f0 f1 f2 f3 fM fA) r.toLoadRect
      = View.ld (stepA (masked (a2.view.read (Elt F) f0) (a3.view.read (Elt F) f1) (a5.view.read (Elt F) f3)) (a4.view.read (Elt F) f2) (a7.view.read (Elt F) fM) (a8.view.read (Elt F) fA)) r := fun r =>
    read_cov_stackA a8.view (fun h => newA (masked (a2.view.read (Elt F) f0) (a3.view.read (Elt F) f1) (a5.view.read (Elt F) f3) h) (View.ld (a7.view.read (Elt F) fM) (rM h)) (View.ld (a8.view.read (Elt F) fA) (rA h)) (View.ld (a4.view.read (Elt F) f2) (rA h))) [] r
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists _; isplitr; swap; · iexact HO
    ipureintro
    refine (read_stackO a6.view f5 (fun p => Cert.FoxIdeal.Gen.k0_pay5
      (a8.view.readCov (run_last.sl.HA_8 c a2 a3 a4 a5 a7 a8 f0 f1 f2 f3 fM fA) (rA ⟨2 * p.val, by omega⟩).toLoadRect)
      (a8.view.readCov (run_last.sl.HA_8 c a2 a3 a4 a5 a7 a8 f0 f1 f2 f3 fM fA) (rA ⟨2 * p.val + 1, by omega⟩).toLoadRect))).trans ?_
    simp only [hA]; rfl
  isplitl [HM]
  · iexists _; isplitr; swap; · iexact HM
    ipureintro
    exact read_stackM a7.view fM (fun h => newM (masked (a2.view.read (Elt F) f0) (a3.view.read (Elt F) f1) (a5.view.read (Elt F) f3) h) (View.ld (a7.view.read (Elt F) fM) (rM h))) []
  · iexists _; isplitr; swap; · iexact HA
    ipureintro
    exact read_stackA a8.view fA (fun h => newA (masked (a2.view.read (Elt F) f0) (a3.view.read (Elt F) f1) (a5.view.read (Elt F) f3) h) (View.ld (a7.view.read (Elt F) fM) (rM h)) (View.ld (a8.view.read (Elt F) fA) (rA h)) (View.ld (a4.view.read (Elt F) f2) (rA h))) []

/-- The body at a point above the diagonal: nothing. -/
theorem run_above (c : Dev nD) (i : grid0.Coords) (a2 : Memref sig .tc .vmem S8x512x128 .bf16) (h2 : a2.IsWhole)
    (a3 : Memref sig .tc .vmem S8x512x128 .bf16) (h3 : a3.IsWhole) (a4 : Memref sig .tc .vmem S8x128x512 .bf16) (h4 : a4.IsWhole)
    (a5 : Memref sig .tc .vmem S4x512x128 .bf16) (h5 : a5.IsWhole)
    (a6 : Memref sig .tc .vmem S512x512 .bf16) (h6 : a6.IsWhole) (a7 : Memref sig .tc .vmem S8x8x512 .f32) (h7 : a7.IsWhole)
    (a8 : Memref sig .tc .vmem S8x128x512 .f32) (h8 : a8.IsWhole) (hf : ¬ first i) (hb : ¬ below i) (hd : ¬ diag i) (E : Set ℕ) (K : PUnit → sProp 𝕄) :
    iprop(K ⟨⟩) ⊢ wp frame (wpE (defs₀ (F := F)) Variants.none c none) E (cc0_dsa_attention i a2 h2 a3 h3 a4 h4 a5 h5 a6 h6 a7 h7 a8 h8) K := by
  simp only [cc0_dsa_attention_eq_skeleton]; unfold cc0_dsa_attention_skel
  simp only [dif_neg hf, dif_neg hb, dif_neg hd]
  iintro Hk
  sl_step
  iexact Hk

set_option maxHeartbeats 8000000 in
/-- The body at the first key block of a row past the first. -/
theorem run_first_below (c : Dev nD) (i : grid0.Coords) (a2 : Memref sig .tc .vmem S8x512x128 .bf16) (h2 : a2.IsWhole)
    (a3 : Memref sig .tc .vmem S8x512x128 .bf16) (h3 : a3.IsWhole) (a4 : Memref sig .tc .vmem S8x128x512 .bf16) (h4 : a4.IsWhole)
    (a5 : Memref sig .tc .vmem S4x512x128 .bf16) (h5 : a5.IsWhole)
    (a6 : Memref sig .tc .vmem S512x512 .bf16) (h6 : a6.IsWhole) (a7 : Memref sig .tc .vmem S8x8x512 .f32) (h7 : a7.IsWhole)
    (a8 : Memref sig .tc .vmem S8x128x512 .f32) (h8 : a8.IsWhole) (hf : first i) (hb : below i) (hd : ¬ diag i)
    (x0 x1 : Vec F S8x512x128 .bf16) (x2 : Vec F S8x128x512 .bf16) (x3 : Vec F S4x512x128 .bf16) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ (∃ M, owns (c : Thread nD τ) a7 fullShare M) ∗ (∃ A, owns (c : Thread nD τ) a8 fullShare A)
        ∗ (iprop(owns (c : Thread nD τ) a2 fullShare x0 ∗ owns (c : Thread nD τ) a3 fullShare x1 ∗ owns (c : Thread nD τ) a4 fullShare x2 ∗ owns (c : Thread nD τ) a5 fullShare x3
          ∗ owns (c : Thread nD τ) a7 fullShare (stepM (scores x0 x1 x3) k0_pay1) ∗ owns (c : Thread nD τ) a8 fullShare (stepA (scores x0 x1 x3) x2 k0_pay1 k0_pay2)) -∗ K ⟨⟩))
      ⊢ wp frame (wpE (defs₀ (F := F)) Variants.none c none) E (cc0_dsa_attention i a2 h2 a3 h3 a4 h4 a5 h5 a6 h6 a7 h7 a8 h8) K := by
  simp only [cc0_dsa_attention_eq_skeleton]; unfold cc0_dsa_attention_skel
  simp only [dif_pos hf, dif_pos hb, dif_neg hd]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%M, %fM, -, HM⟩, ⟨%A, %fA, -, HA⟩, Hk⟩
  subst hf0 hf1 hf2 hf3
  (set_option sl_exec.maxSteps 4 in sl_exec)
  have hM : a7.view.read (Elt F) (a7.view.writes (Elt F) fM [⟨Rect.unit ![0, 0, 0] ![8, 8, 512] inb_S8x8x512_S8x8x512_0_0_0, k0_pay1⟩]) = k0_pay1 := read_initM a7.view fM
  have hA : a8.view.read (Elt F) (a8.view.writes (Elt F) fA [⟨Rect.unit ![0, 0, 0] ![8, 128, 512] inb_S8x128x512_S8x128x512_0_0_0, k0_pay2⟩]) = k0_pay2 := read_initA a8.view fA
  generalize a7.view.writes (Elt F) fM [⟨Rect.unit ![0, 0, 0] ![8, 8, 512] inb_S8x8x512_S8x8x512_0_0_0, k0_pay1⟩] = gM at hM ⊢
  generalize a8.view.writes (Elt F) fA [⟨Rect.unit ![0, 0, 0] ![8, 128, 512] inb_S8x128x512_S8x128x512_0_0_0, k0_pay2⟩] = gA at hA ⊢
  rw [← hM, ← hA]
  clear hM hA
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HM]
  · iexists _; isplitr; swap; · iexact HM
    ipureintro
    exact read_stackM a7.view gM (fun h => newM (scores (a2.view.read (Elt F) f0) (a3.view.read (Elt F) f1) (a5.view.read (Elt F) f3) h) (View.ld (a7.view.read (Elt F) gM) (rM h))) []
  · iexists _; isplitr; swap; · iexact HA
    ipureintro
    exact read_stackA a8.view gA (fun h => newA (scores (a2.view.read (Elt F) f0) (a3.view.read (Elt F) f1) (a5.view.read (Elt F) f3) h) (View.ld (a7.view.read (Elt F) gM) (rM h)) (View.ld (a8.view.read (Elt F) gA) (rA h)) (View.ld (a4.view.read (Elt F) f2) (rA h))) []

set_option maxHeartbeats 8000000 in
/-- The body at the first point. -/
theorem run_first_last (c : Dev nD) (i : grid0.Coords) (a2 : Memref sig .tc .vmem S8x512x128 .bf16) (h2 : a2.IsWhole)
    (a3 : Memref sig .tc .vmem S8x512x128 .bf16) (h3 : a3.IsWhole) (a4 : Memref sig .tc .vmem S8x128x512 .bf16) (h4 : a4.IsWhole)
    (a5 : Memref sig .tc .vmem S4x512x128 .bf16) (h5 : a5.IsWhole)
    (a6 : Memref sig .tc .vmem S512x512 .bf16) (h6 : a6.IsWhole) (a7 : Memref sig .tc .vmem S8x8x512 .f32) (h7 : a7.IsWhole)
    (a8 : Memref sig .tc .vmem S8x128x512 .f32) (h8 : a8.IsWhole) (hf : first i) (hb : ¬ below i) (hd : diag i)
    (x0 x1 : Vec F S8x512x128 .bf16) (x2 : Vec F S8x128x512 .bf16) (x3 : Vec F S4x512x128 .bf16) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d)
        ∗ (∃ M, owns (c : Thread nD τ) a7 fullShare M) ∗ (∃ A, owns (c : Thread nD τ) a8 fullShare A)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare (outOf (stepA (masked x0 x1 x3) x2 k0_pay1 k0_pay2))
          ∗ owns (c : Thread nD τ) a7 fullShare (stepM (masked x0 x1 x3) k0_pay1) ∗ owns (c : Thread nD τ) a8 fullShare (stepA (masked x0 x1 x3) x2 k0_pay1 k0_pay2)) -∗ K ⟨⟩))
      ⊢ wp frame (wpE (defs₀ (F := F)) Variants.none c none) E (cc0_dsa_attention i a2 h2 a3 h3 a4 h4 a5 h5 a6 h6 a7 h7 a8 h8) K := by
  simp only [cc0_dsa_attention_eq_skeleton]; unfold cc0_dsa_attention_skel
  simp only [dif_pos hf, dif_neg hb, dif_pos hd]
  simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%d5, %f5, -, HO⟩, ⟨%M, %fM, -, HM⟩, ⟨%A, %fA, -, HA⟩, Hk⟩
  subst hf0 hf1 hf2 hf3
  (set_option sl_exec.maxSteps 4 in sl_exec)
  have hM : a7.view.read (Elt F) (a7.view.writes (Elt F) fM [⟨Rect.unit ![0, 0, 0] ![8, 8, 512] inb_S8x8x512_S8x8x512_0_0_0, k0_pay1⟩]) = k0_pay1 := read_initM a7.view fM
  have hA : a8.view.read (Elt F) (a8.view.writes (Elt F) fA [⟨Rect.unit ![0, 0, 0] ![8, 128, 512] inb_S8x128x512_S8x128x512_0_0_0, k0_pay2⟩]) = k0_pay2 := read_initA a8.view fA
  generalize a7.view.writes (Elt F) fM [⟨Rect.unit ![0, 0, 0] ![8, 8, 512] inb_S8x8x512_S8x8x512_0_0_0, k0_pay1⟩] = gM at hM ⊢
  generalize a8.view.writes (Elt F) fA [⟨Rect.unit ![0, 0, 0] ![8, 128, 512] inb_S8x128x512_S8x128x512_0_0_0, k0_pay2⟩] = gA at hA ⊢
  rw [← hM, ← hA]
  clear hM hA
  sl_exec
  sl_step
  have hC : ∀ r : Rect S8x128x512, a8.view.readCov (run_first_last.sl.HA_8 c a2 a3 a4 a5 a7 a8 f0 f1 f2 f3 gM gA) r.toLoadRect
      = View.ld (stepA (masked (a2.view.read (Elt F) f0) (a3.view.read (Elt F) f1) (a5.view.read (Elt F) f3)) (a4.view.read (Elt F) f2) (a7.view.read (Elt F) gM) (a8.view.read (Elt F) gA)) r := fun r =>
    read_cov_stackA a8.view (fun h => newA (masked (a2.view.read (Elt F) f0) (a3.view.read (Elt F) f1) (a5.view.read (Elt F) f3) h) (View.ld (a7.view.read (Elt F) gM) (rM h)) (View.ld (a8.view.read (Elt F) gA) (rA h)) (View.ld (a4.view.read (Elt F) f2) (rA h))) [] r
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists _; isplitr; swap; · iexact HO
    ipureintro
    refine (read_stackO a6.view f5 (fun p => Cert.FoxIdeal.Gen.k0_pay5
      (a8.view.readCov (run_first_last.sl.HA_8 c a2 a3 a4 a5 a7 a8 f0 f1 f2 f3 gM gA) (rA ⟨2 * p.val, by omega⟩).toLoadRect)
      (a8.view.readCov (run_first_last.sl.HA_8 c a2 a3 a4 a5 a7 a8 f0 f1 f2 f3 gM gA) (rA ⟨2 * p.val + 1, by omega⟩).toLoadRect))).trans ?_
    simp only [hC]; rfl
  isplitl [HM]
  · iexists _; isplitr; swap; · iexact HM
    ipureintro
    exact read_stackM a7.view gM (fun h => newM (masked (a2.view.read (Elt F) f0) (a3.view.read (Elt F) f1) (a5.view.read (Elt F) f3) h) (View.ld (a7.view.read (Elt F) gM) (rM h))) []
  · iexists _; isplitr; swap; · iexact HA
    ipureintro
    exact read_stackA a8.view gA (fun h => newA (masked (a2.view.read (Elt F) f0) (a3.view.read (Elt F) f1) (a5.view.read (Elt F) f3) h) (View.ld (a7.view.read (Elt F) gM) (rM h)) (View.ld (a8.view.read (Elt F) gA) (rA h)) (View.ld (a4.view.read (Elt F) f2) (rA h))) []

end Cert.DsaIdeal.Hand

end
-- ==== Proof.DsaFrame.lean ====
/-
  The selected attention's run: the point by point proof, what its blocks and scratch buffers hold, and what the run leaves.
-/
module

public import proofs.«01_k».proof.Proof.DsaStep
public import Idealize.ShloMosaic.Lib.Claim

@[expose] public section

set_option maxRecDepth 16384

noncomputable section

namespace Cert.DsaIdeal.Hand

open Cert.DsaIdeal Cert.DsaIdeal.Gen
open Cert.FoxIdeal.Hand (outOf)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid points

Point `t` is query block `t / 32` against key block `t % 32`. -/

/-- A point is its query block's first where the key block is the first; -/
theorem first_iff : ∀ t : Fin grid0.N, first (grid0.coords t) ↔ t.val % 32 = 0 := by decide +kernel
theorem below_iff : ∀ t : Fin grid0.N, below (grid0.coords t) ↔ t.val % 32 < t.val / 32 := by decide +kernel
theorem diag_iff : ∀ t : Fin grid0.N, diag (grid0.coords t) ↔ t.val % 32 = t.val / 32 := by decide +kernel
theorem idle_eq : ∀ t : Fin grid0.N, cfg0.idle 4 (grid0.coords t) = decide (t.val % 32 ≠ t.val / 32) := by decide +kernel

/-- The result block is written back at the last point of its query block. -/
theorem flush_eq (t : Fin grid0.N) : (cfg0.win 4).flush t = decide (t.val % 32 = 31) := by
  have h := flush0_4 t
  by_cases h' : t.val % 32 = 31
  · rw [h.2 h']; simp [h']
  · rw [Bool.eq_false_iff.2 (fun e => h' (h.1 e))]; simp [h']

/-- The result's buffer holds nothing of this row before the row's diagonal point. -/
theorem fresh_eq (n : ℕ) (h : n ≤ grid0.N) : cfg0.fresh 4 n = decide (n % 32 ≤ n / 32) := by
  refine cfg0.fresh_tab 4 (fun n => decide (n % 32 ≤ n / 32)) (by decide) (fun t => ?_) n h
  rw [flush_eq t]
  refine Eq.trans ?_ (congrArg (fun b => (decide (t.val % 32 = 31) || (b && decide (t.val % 32 ≤ t.val / 32)))) (idle_eq t).symm)
  have ht : t.val < 1024 := t.isLt
  rw [Bool.eq_iff_iff]
  simp only [Bool.or_eq_true, Bool.and_eq_true, decide_eq_true_eq]
  omega

variable (m : (ℓ : Loc nD τ sig) → Buf (Elt F) ℓ) (ρ : Dev nD → PrngReg)

/-- The point numbered `n`. -/
def pt (n : ℕ) : Fin grid0.N := ⟨n % 1024, Nat.mod_lt _ (by decide)⟩

/-- A point is the point of its own number. -/
theorem pt_val (t : Fin grid0.N) : pt t.val = t := Fin.ext (Nat.mod_eq_of_lt t.isLt)

/-- The scores of a point below the diagonal, and of one on it. -/
abbrev below_s (c : Dev nD) (t : Fin grid0.N) : Fin 8 → FVec F S512x512 .f32 := scores (iblk m c 0 t) (iblk m c 1 t) (iblk m c 3 t)
abbrev diag_s (c : Dev nD) (t : Fin grid0.N) : Fin 8 → FVec F S512x512 .f32 := masked (iblk m c 0 t) (iblk m c 1 t) (iblk m c 3 t)

/-- The running maxima and accumulators of query block `i` once its first `k` key blocks, all below the diagonal,
    are folded in. -/
def st (c : Dev nD) (i : ℕ) : ℕ → Vec F S8x8x512 .f32 × Vec F S8x128x512 .f32
  | 0 => (k0_pay1, k0_pay2)
  | k + 1 => (stepM (below_s m c (pt (32 * i + k))) (st c i k).1,
      stepA (below_s m c (pt (32 * i + k))) (iblk m c 2 (pt (32 * i + k))) (st c i k).1 (st c i k).2)

/-- The result block of query block `i`: the diagonal key block folded in, and the quotients. -/
def res (c : Dev nD) (i : ℕ) : Vec F S512x512 .bf16 :=
  outOf (stepA (diag_s m c (pt (33 * i))) (iblk m c 2 (pt (33 * i))) (st m c i i).1 (st m c i i).2)

/-- The scratch buffers before point `n`: the running state while the row is below its diagonal, else anything. -/
def Inv (c : Dev nD) (n : ℕ) : sProp 𝕄 :=
  if 1 ≤ n % 32 ∧ n % 32 ≤ n / 32 then
    iprop(owns (c : Thread nD τ) (Memref.whole cc0_scratch0) fullShare (st m c (n / 32) (n % 32)).1
      ∗ owns (c : Thread nD τ) (Memref.whole cc0_scratch1) fullShare (st m c (n / 32) (n % 32)).2)
  else
    iprop((∃ M, owns (c : Thread nD τ) (Memref.whole cc0_scratch0) fullShare M)
      ∗ (∃ A, owns (c : Thread nD τ) (Memref.whole cc0_scratch1) fullShare A))

/-- Whatever the state, the two scratch buffers hold something. -/
theorem Inv_any (c : Dev nD) (n : ℕ) : Inv m c n ⊢ iprop((∃ M, owns (c : Thread nD τ) (Memref.whole cc0_scratch0) fullShare M)
      ∗ (∃ A, owns (c : Thread nD τ) (Memref.whole cc0_scratch1) fullShare A)) := by
  unfold Inv
  split
  · iintro ⟨H1, H2⟩
    isplitl [H1]
    · iexists _; iexact H1
    · iexists _; iexact H2
  · exact .rfl

/-- Before a query block's first step and after its last, what the scratch buffers hold is not said; -/
theorem Inv_in {c : Dev nD} {n : ℕ} (h : ¬ (1 ≤ n % 32 ∧ n % 32 ≤ n / 32)) : Inv m c n = iprop((∃ M, owns (c : Thread nD τ) (Memref.whole cc0_scratch0) fullShare M)
      ∗ (∃ A, owns (c : Thread nD τ) (Memref.whole cc0_scratch1) fullShare A)) := if_neg h

/-- in between they hold the state reached. -/
theorem Inv_at {c : Dev nD} {n : ℕ} (h : 1 ≤ n % 32 ∧ n % 32 ≤ n / 32) : Inv m c n =
    iprop(owns (c : Thread nD τ) (Memref.whole cc0_scratch0) fullShare (st m c (n / 32) (n % 32)).1
      ∗ owns (c : Thread nD τ) (Memref.whole cc0_scratch1) fullShare (st m c (n / 32) (n % 32)).2) := if_pos h

/-! ## The pipeline's proof data -/

/-- The proof data of the one pipeline on core `c`: each input's buffer keeps its block; the result's buffer is left
    at its row's result; the invariant is the scratch buffers' state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => res m c (t.val / 32)
  Φ t := iprop(Inv m c t.val ∗ ∃ r, prngReg c r)
  q _ := fullShare
  owed _ := 0

/-- The arrays the run starts from. -/
theorem A_eq (c : Dev nD) (w : Fin cfg0.W) : (dats m 0 c).A w = V m c (Pipeline.arrRef spec0 w) := by
  dsimp only [dats]

/-- What the blocks hold after a point: the arguments' blocks as they were, the result block what was computed. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = res m c (t.val / 32) := by dsimp only [dats]

/-- What the arguments' blocks hold before a point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Past the diagonal the result's buffer holds its row's result. -/
theorem before0_4 (c : Dev nD) (t : Fin cfg0.N) (h : t.val / 32 < t.val % 32) (d) :
    (dats m 0 c).before 4 t d = (dats m 0 c).after 4 t := by
  have hN : t.val < 1024 := t.isLt
  have key : ∀ (t : Fin cfg0.N), cfg0.fresh 4 t.val = false →
      (dats m 0 c).after 4 t = (dats m 0 c).after 4 ⟨t.val - 1, by omega⟩ := by
    intro t hf
    rw [fresh_eq t.val (Nat.le_of_lt t.isLt), decide_eq_false_iff_not] at hf
    rw [after0_4, after0_4]
    exact congrArg (res m c) (show t.val / 32 = (t.val - 1) / 32 by omega)
  have hf : cfg0.fresh 4 t.val = false := by
    rw [fresh_eq t.val (Nat.le_of_lt t.isLt), decide_eq_false_iff_not]; omega
  rw [(dats m 0 c).before_out_traj 4 rfl (fun _ _ => rfl) (fun t _ _ hf => key t hf) t.val t rfl d, hf,
    if_neg Bool.false_ne_true]
  exact (key t hf).symm

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body leaves in the result's buffer: the row's result at the diagonal point and at the write-back, what
    was there at any other point. -/
def leaves (c : Dev nD) (t : Fin cfg0.N) : sProp 𝕄 :=
  match cfg0.idle 4 (cfg0.grid.coords t) with
  | true => match (cfg0.win 4).flush t with
    | false => iprop(∃ d, owns (c : Thread nD τ) (st0_4 t) fullShare ((dats m 0 c).before 4 t d))
    | true => owns (c : Thread nD τ) (st0_4 t) fullShare ((dats m 0 c).after 4 t)
  | false => owns (c : Thread nD τ) (st0_4 t) fullShare ((dats m 0 c).after 4 t)

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ leaves m c t)

/-- What a point on the diagonal leaves in the result block; -/
theorem leaves_diag (c : Dev nD) (t : Fin cfg0.N) (h : t.val % 32 = t.val / 32) :
    leaves m c t = owns (c : Thread nD τ) (st0_4 t) fullShare (res m c (t.val / 32)) := by
  unfold leaves
  rw [show cfg0.idle 4 (cfg0.grid.coords t) = false from (idle_eq t).trans (by simp [h])]
  rfl

/-- a point below it leaves the block as it was, -/
theorem leaves_below (c : Dev nD) (t : Fin cfg0.N) (h : t.val % 32 < t.val / 32) :
    leaves m c t = iprop(∃ d, owns (c : Thread nD τ) (st0_4 t) fullShare ((dats m 0 c).before 4 t d)) := by
  have hN : t.val < 1024 := t.isLt
  unfold leaves
  rw [show cfg0.idle 4 (cfg0.grid.coords t) = true from (idle_eq t).trans (by simp; omega),
    show (cfg0.win 4).flush t = false from (flush_eq t).trans (by simp; omega)]

/-- and so does a point above it. -/
theorem leaves_above (c : Dev nD) (t : Fin cfg0.N) (h : t.val / 32 < t.val % 32) :
    iprop(∃ d, owns (c : Thread nD τ) (st0_4 t) fullShare ((dats m 0 c).before 4 t d)) ⊢ leaves m c t := by
  unfold leaves
  rw [show cfg0.idle 4 (cfg0.grid.coords t) = true from (idle_eq t).trans (by simp; omega)]
  cases hfl : (cfg0.win 4).flush t
  · exact .rfl
  · dsimp only
    simp only [before0_4 m c t h]
    iintro ⟨%d, H⟩
    iexact H

/-- The invariant between points. -/
theorem Φ_eq (c : Dev nD) (t : Fin (cfg0.N + 1)) : (dats m 0 c).Φ t = iprop(Inv m c t.val ∗ ∃ r, prngReg c r) := by dsimp only [dats]

set_option maxHeartbeats 1000000 in
/-- The body at any point, by where the point lies in its row. -/
theorem sound_body (c : Dev nD) (t : Fin cfg0.N) :
    bodyPre m c t ⊢ wp frame (wpE (defs₀ (F := F)) Variants.none c none) Set.univ (bodyAt0 t) (fun _ => bodyPost m c t) := by
  have hN : t.val < 1024 := t.isLt
  have ef := first_iff t
  have eb := below_iff t
  have ed := diag_iff t
  unfold bodyPre bodyPost bodyAt0
  simp only [before0_0, before0_1, before0_2, before0_3]
  rw [Φ_eq, Φ_eq, show (dats m 0 c).owesAt () t.succ = (dats m 0 c).owesAt () t.castSucc from rfl,
    after0_0, after0_1, after0_2, after0_3, show t.castSucc.val = t.val from rfl, show t.succ.val = t.val + 1 from rfl]
  by_cases ha : t.val / 32 < t.val % 32
  · rw [Inv_in m (n := t.val) (by omega), Inv_in m (n := t.val + 1) (by omega)]
    iintro ⟨⟨HI, Hp⟩, Ho, ⟨%d0, H0⟩, ⟨%d1, H1⟩, ⟨%d2, H2⟩, ⟨%d3, H3⟩, H4⟩
    iapply (run_above c (grid0.coords t) _ _ _ _ _ _ _ _ _ _ _ _ _ _ (mt ef.1 (by omega)) (mt eb.1 (by omega)) (mt ed.1 (by omega)) Set.univ _)
    isplitl [HI Hp]
    · isplitl [HI]; · iexact HI
      iexact Hp
    isplitl [Ho]; · iexact Ho
    isplitl [H0]; · iexact H0
    isplitl [H1]; · iexact H1
    isplitl [H2]; · iexact H2
    isplitl [H3]; · iexact H3
    iapply (leaves_above m c t ha); iexact H4
  by_cases hd : t.val % 32 = t.val / 32
  · rw [leaves_diag m c t hd, Inv_in m (n := t.val + 1) (by omega)]
    by_cases h0 : t.val % 32 = 0
    · rw [Inv_in m (n := t.val) (by omega)]
      have hr : res m c (t.val / 32) = outOf (stepA (diag_s m c t) (iblk m c 2 t) k0_pay1 k0_pay2) := by
        rw [show t.val / 32 = 0 by omega]; unfold res
        rw [show pt (33 * 0) = t from Fin.ext (show 33 * 0 % 1024 = t.val by omega)]; rfl
      rw [hr]
      iintro ⟨⟨⟨HM, HA⟩, Hp⟩, Ho, ⟨%d0, H0⟩, ⟨%d1, H1⟩, ⟨%d2, H2⟩, ⟨%d3, H3⟩, H4⟩
      iapply (run_first_last c (grid0.coords t) _ _ _ _ _ _ _ _ _ _ _ _ _ _ (ef.2 h0) (mt eb.1 (by omega)) (ed.2 hd) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]
      · icases H4 with ⟨%d, H4⟩; iexists _; iexact H4
      isplitl [HM]; · iexact HM
      isplitl [HA]; · iexact HA
      iintro ⟨H0, H1, H2, H3, H4, HM, HA⟩
      isplitl [HM HA Hp]
      · isplitl [HM HA]
        · isplitl [HM]; · iexists _; iexact HM
          iexists _; iexact HA
        iexact Hp
      isplitl [Ho]; · iexact Ho
      isplitl [H0]; · iexact H0
      isplitl [H1]; · iexact H1
      isplitl [H2]; · iexact H2
      isplitl [H3]; · iexact H3
      iexact H4
    · rw [Inv_at m (n := t.val) (by omega)]
      have hr : res m c (t.val / 32) = outOf (stepA (diag_s m c t) (iblk m c 2 t) (st m c (t.val / 32) (t.val % 32)).1 (st m c (t.val / 32) (t.val % 32)).2) := by
        unfold res
        rw [show pt (33 * (t.val / 32)) = t from Fin.ext (show 33 * (t.val / 32) % 1024 = t.val by omega), hd]
      rw [hr]
      iintro ⟨⟨⟨HM, HA⟩, Hp⟩, Ho, ⟨%d0, H0⟩, ⟨%d1, H1⟩, ⟨%d2, H2⟩, ⟨%d3, H3⟩, H4⟩
      iapply (run_last c (grid0.coords t) _ _ _ _ _ _ _ _ _ _ _ _ _ _ (mt ef.1 h0) (mt eb.1 (by omega)) (ed.2 hd) (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]
      · icases H4 with ⟨%d, H4⟩; iexists _; iexact H4
      isplitl [HM]; · iexact HM
      isplitl [HA]; · iexact HA
      iintro ⟨H0, H1, H2, H3, H4, HM, HA⟩
      isplitl [HM HA Hp]
      · isplitl [HM HA]
        · isplitl [HM]; · iexists _; iexact HM
          iexists _; iexact HA
        iexact Hp
      isplitl [Ho]; · iexact Ho
      isplitl [H0]; · iexact H0
      isplitl [H1]; · iexact H1
      isplitl [H2]; · iexact H2
      isplitl [H3]; · iexact H3
      iexact H4
  · have hb : t.val % 32 < t.val / 32 := by omega
    rw [leaves_below m c t hb, Inv_at m (n := t.val + 1) (by omega)]
    rw [show (t.val + 1) / 32 = t.val / 32 by omega, show (t.val + 1) % 32 = t.val % 32 + 1 by omega]
    have hs : st m c (t.val / 32) (t.val % 32 + 1) = (stepM (below_s m c t) (st m c (t.val / 32) (t.val % 32)).1,
        stepA (below_s m c t) (iblk m c 2 t) (st m c (t.val / 32) (t.val % 32)).1 (st m c (t.val / 32) (t.val % 32)).2) := by
      rw [st, show pt (32 * (t.val / 32) + t.val % 32) = t from Fin.ext (show (32 * (t.val / 32) + t.val % 32) % 1024 = t.val by omega)]
    rw [hs]
    by_cases h0 : t.val % 32 = 0
    · rw [Inv_in m (n := t.val) (by omega), h0, show st m c (t.val / 32) 0 = (k0_pay1, k0_pay2) from rfl]
      iintro ⟨⟨⟨HM, HA⟩, Hp⟩, Ho, ⟨%d0, H0⟩, ⟨%d1, H1⟩, ⟨%d2, H2⟩, ⟨%d3, H3⟩, H4⟩
      iapply (run_first_below c (grid0.coords t) _ _ _ _ _ _ _ _ _ _ _ _ _ _ (ef.2 h0) (eb.2 hb) (mt ed.1 hd) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [HM]; · iexact HM
      isplitl [HA]; · iexact HA
      iintro ⟨H0, H1, H2, H3, HM, HA⟩
      isplitl [HM HA Hp]
      · isplitl [HM HA]
        · isplitl [HM]; · iexact HM
          iexact HA
        iexact Hp
      isplitl [Ho]; · iexact Ho
      isplitl [H0]; · iexact H0
      isplitl [H1]; · iexact H1
      isplitl [H2]; · iexact H2
      isplitl [H3]; · iexact H3
      iexact H4
    · rw [Inv_at m (n := t.val) (by omega)]
      iintro ⟨⟨⟨HM, HA⟩, Hp⟩, Ho, ⟨%d0, H0⟩, ⟨%d1, H1⟩, ⟨%d2, H2⟩, ⟨%d3, H3⟩, H4⟩
      iapply (run_below c (grid0.coords t) _ _ _ _ _ _ _ _ _ _ _ _ _ _ (mt ef.1 h0) (eb.2 hb) (mt ed.1 hd) (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [HM]; · iexact HM
      isplitl [HA]; · iexact HA
      iintro ⟨H0, H1, H2, H3, HM, HA⟩
      isplitl [HM HA Hp]
      · isplitl [HM HA]
        · isplitl [HM]; · iexact HM
          iexact HA
        iexact Hp
      isplitl [Ho]; · iexact Ho
      isplitl [H0]; · iexact H0
      isplitl [H1]; · iexact H1
      isplitl [H2]; · iexact H2
      isplitl [H3]; · iexact H3
      iexact H4

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body meets its specification at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At a row's start the invariant is the scratch buffers at anything. -/
theorem ΦA_eq (c : Dev nD) (t : Fin (cfg0.N + 1)) (h : t.val % 32 = 0) :
    (dats m 0 c).Φ t = Pipeline.ΦA (U := UR sig nD τ) (Val := Elt F) spec0 c := by
  unfold Pipeline.ΦA
  rw [Φ_eq, Inv_in m (by omega), scopedRest0_eq]
  simp only [owns_whole]

set_option backward.isDefEq.respectTransparency.types false in
set_option maxHeartbeats 800000 in
/-- The run: it terminates with every array at what the proof data computes and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [ΦA_eq m c 0 rfl])
    (hout := fun c => by rw [ΦA_eq m c (Fin.last _) rfl])

/-- The run, with what the arrays hold at its end. -/
theorem run_main : θ_run defs (onTc (τ := τ) (main (F := F))) (s₀ m ρ) (Pipeline.FramePost cfgs (dats m) 0 (V m)) :=
  (θ_run defs _ _).mono (fun _ h => h.1) (run_main_quiescent m ρ)

/-- The run leaves the arguments. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.DsaIdeal.Hand

end
-- ==== Proof.DsaValue.lean ====
module

public import proofs.«01_k».proof.Proof.FoxValue
public import proofs.«01_k».proof.Proof.DsaFrame

@[expose] public section

set_option maxRecDepth 65536

noncomputable section

/-! # What the selected attention's kernel leaves

As in the causal attention, the running maxima and accumulators of a query block after any number of key blocks are the
maxima and the weighted sums over the keys seen; the scores have the selection's bias added. -/

namespace FoxSpec

open Idealize.ShloMosaic

/-- The score of query `r` with key `j` in head `h`, with the bias of the pair added; `⊥` where the key comes after the
    query. The biases come in groups of 128 queries: group, key, query in the group. -/
def scb (q k b : Nat → Nat → Nat → EReal) (h r j : Nat) : EReal :=
  if j ≤ r then ∑ d : Fin 128, q h r d * k h j d + b (r / 128) j (r % 128) else ⊥

/-- The attention of query `r`, coordinate `d` of head `h`: the values summed with the softmax's weights, over the
    counts (row 64 of the values) summed with them. -/
def attnb (q k v b : Nat → Nat → Nat → EReal) (r h d : Nat) : EReal :=
  Ideal.div (acc (scb q k b h r) (v h d) 16384) (acc (scb q k b h r) (v h 64) 16384)

end FoxSpec

namespace Cert.DsaIdeal.Hand

open Cert.DsaIdeal Cert.DsaIdeal.Gen FoxSpec
open Cert.FoxIdeal.Hand (rK rM rA newM newA stackM stackA outOf ldK ldM ldA stackM_apply stackA_apply newM_top newA_acc outOf_apply quot_apply)
open Idealize.ShloMosaic Idealize.ShloMosaic.TcCoe Idealize.SL.Sem
open Dil.Block (ofBits_zero ofBits_neg_inf)
open Idealize.ShloMosaic.Pipeline (Dat)

/-! ## The scores of a block -/

/-- The biases of a block: four groups of queries, side by side. -/
theorem bias_apply (X3 : Vec Ideal S4x512x128 .bf16) (j x : Fin 512) :
    k0_pay5 (View.ld X3 (rB 0)) (View.ld X3 (rB 1)) (View.ld X3 (rB 2)) (View.ld X3 (rB 3)) (ValueIdx.ix2 j x)
      = X3 (ValueIdx.ix3 (⟨x.val / 128, by omega⟩ : Fin 4) j (⟨x.val % 128, Nat.mod_lt _ (by decide)⟩ : Fin 128)) := by
  unfold k0_pay5
  refine (concatenate_ofFn_apply (t := S512x512) (s₁ := S512x128) 1 (N := 4)
    (fun g : Fin 4 => (shapeCast S512x128 (View.ld X3 (rB g) : Vec Ideal S1x512x128 .bf16) shapeCasts_S1x512x128_S512x128 : FVec Ideal S512x128 .bf16))
    concatenates_S512x128_S512x128_S512x128_S512x128_S512x512_d1 rfl 128 rfl (ValueIdx.ix2 j x) ⟨x.val / 128, by omega⟩ rfl
    (ValueIdx.ix2 j (⟨x.val % 128, Nat.mod_lt _ (by decide)⟩ : Fin 128)) rfl (fun b hb => match b with
      | ⟨0, _⟩ => rfl
      | ⟨1, _⟩ => absurd rfl hb)).trans ?_
  refine (shapeCast_apply _ _ _ (ValueIdx.ix3 (0 : Fin 1) j (⟨x.val % 128, Nat.mod_lt _ (by decide)⟩ : Fin 128)) (by
    rewrite [Shape.rowMajor_val_two, Shape.rowMajor_val_three]
    show (0 * 512 + j.val) * 128 + x.val % 128 = j.val * 128 + x.val % 128
    omega)).trans ?_
  exact congrArg X3 (funext fun a => match a with
    | ⟨0, _⟩ => Fin.ext (show x.val / 128 + 1 * 0 = x.val / 128 by omega)
    | ⟨1, _⟩ => Fin.ext (show 0 + 1 * j.val = j.val by omega)
    | ⟨2, _⟩ => Fin.ext (show 0 + 1 * (x.val % 128) = x.val % 128 by omega))

/-- A head's scores: products of keys and queries, and the bias. -/
theorem scores_apply (X0 X1 : Vec Ideal S8x512x128 .bf16) (X3 : Vec Ideal S4x512x128 .bf16) (h : Fin 8) (j x : Fin 512) :
    scores X0 X1 X3 h (ValueIdx.ix2 j x) = (∑ d : Fin 128, (X1 (ValueIdx.ix3 h j d) * X0 (ValueIdx.ix3 h x d) : EReal))
      + X3 (ValueIdx.ix3 (⟨x.val / 128, by omega⟩ : Fin 4) j (⟨x.val % 128, Nat.mod_lt _ (by decide)⟩ : Fin 128)) := by
  rw [← bias_apply X3 j x]
  refine congrArg (fun y : EReal => y + _) ((Cert.FoxIdeal.Hand.scores_apply (View.ld X1 (rK h)) (View.ld X0 (rK h)) j x).trans ?_)
  refine Finset.sum_congr rfl fun d _ => ?_
  rw [ldK, ldK]

/-- The scores of the block on the diagonal: a query sees the keys up to its own. -/
theorem masked_apply (X0 X1 : Vec Ideal S8x512x128 .bf16) (X3 : Vec Ideal S4x512x128 .bf16) (h : Fin 8) (j x : Fin 512) :
    masked X0 X1 X3 h (ValueIdx.ix2 j x) = if j.val ≤ x.val then scores X0 X1 X3 h (ValueIdx.ix2 j x) else ⊥ := by
  have hj := j.isLt
  have hx := x.isLt
  have e : k0_pay57 (ValueIdx.ix2 j x) = BitVec.ofBool (decide (j.val ≤ x.val)) := by
    unfold k0_pay57
    show cmpi .sle _ _ (ValueIdx.ix2 j x) = _
    rw [cmpi_apply, iota_apply, iota_apply]
    show IntOp.cmpi .sle (BitVec.ofNat 32 (0 * 512 + j.val)) (BitVec.ofNat 32 (0 * 512 + x.val)) = _
    simp only [Nat.zero_mul, Nat.zero_add]
    exact WordCmp.cmpi_sle_ofNat (by omega) (by omega)
  show Scalar.select (k0_pay57 (ValueIdx.ix2 j x)) (scores X0 X1 X3 h (ValueIdx.ix2 j x)) (FloatOps.ofBits .f32 0xFF800000#32 : Ideal .f32) = _
  rw [e, WordCmp.select_ofBool, ofBits_neg_inf]
  simp only [decide_eq_true_eq]

variable (m : (ℓ : Loc nD τ sig) → Buf (Elt Ideal) ℓ) (ρ : Dev nD → PrngReg)

/-! ## The blocks of a point -/

/-- The places of a point's blocks. -/
theorem idx_facts : ∀ t : Fin cfg0.N,
    (win0_0.index t 0 = 0 ∧ win0_0.index t 1 = t.val / 32 ∧ win0_0.index t 2 = 0)
    ∧ (win0_1.index t 0 = 0 ∧ win0_1.index t 1 = min (t.val % 32) (t.val / 32) ∧ win0_1.index t 2 = 0)
    ∧ (win0_2.index t 0 = 0 ∧ win0_2.index t 1 = 0 ∧ win0_2.index t 2 = min (t.val % 32) (t.val / 32))
    ∧ (win0_3.index t 0 = t.val / 32 ∧ win0_3.index t 1 = min (t.val % 32) (t.val / 32) ∧ win0_3.index t 2 = 0)
    ∧ (win0_4.index t 0 = t.val / 32 ∧ win0_4.index t 1 = 0) :=
  (by decide +kernel : ∀ t : Fin grid0.N, _)

/-- The arguments as functions of their coordinates. -/
abbrev q (c : Dev nD) : Nat → Nat → Nat → EReal := arr3 (n0 := 8) (n1 := 16384) (n2 := 128) (m ((c : Thread nD τ).loc main_arg0))
abbrev k (c : Dev nD) : Nat → Nat → Nat → EReal := arr3 (n0 := 8) (n1 := 16384) (n2 := 128) (m ((c : Thread nD τ).loc main_arg1))
abbrev v (c : Dev nD) : Nat → Nat → Nat → EReal := arr3 (n0 := 8) (n1 := 128) (n2 := 16384) (m ((c : Thread nD τ).loc main_arg2))
abbrev b (c : Dev nD) : Nat → Nat → Nat → EReal := arr3 (n0 := 128) (n1 := 16384) (n2 := 128) (m ((c : Thread nD τ).loc main_arg3))

/-- The block of queries at a point, -/
theorem blk_q (c : Dev nD) (t : Fin cfg0.N) (h : Fin 8) (x : Fin 512) (d : Fin 128) :
    iblk m c 0 t (ValueIdx.ix3 h x d) = q m c h (512 * (t.val / 32) + x) d := by
  obtain ⟨⟨e0, e1, e2⟩, -⟩ := idx_facts t
  show V m c main_arg0 ((win0_0.rect t).idx (ValueIdx.ix3 h x d)) = _
  rw [V_main_arg0]
  refine arr3_of (n0 := 8) (n1 := 16384) (n2 := 128) _ _ _ _ _ ?_ ?_ ?_
  · show win0_0.index t 0 * 8 + 1 * h.val = _
    rw [e0]; omega
  · show win0_0.index t 1 * 512 + 1 * x.val = _
    rw [e1]; omega
  · show win0_0.index t 2 * 128 + 1 * d.val = _
    rw [e2]; omega

/-- of keys, where the point is not above the diagonal, -/
theorem blk_k (c : Dev nD) (t : Fin cfg0.N) (ht : t.val % 32 ≤ t.val / 32) (h : Fin 8) (x : Fin 512) (d : Fin 128) :
    iblk m c 1 t (ValueIdx.ix3 h x d) = k m c h (512 * (t.val % 32) + x) d := by
  obtain ⟨-, ⟨e0, e1, e2⟩, -⟩ := idx_facts t
  show V m c main_arg1 ((win0_1.rect t).idx (ValueIdx.ix3 h x d)) = _
  rw [V_main_arg1]
  refine arr3_of (n0 := 8) (n1 := 16384) (n2 := 128) _ _ _ _ _ ?_ ?_ ?_
  · show win0_1.index t 0 * 8 + 1 * h.val = _
    rw [e0]; omega
  · show win0_1.index t 1 * 512 + 1 * x.val = _
    rw [e1, Nat.min_eq_left ht]; omega
  · show win0_1.index t 2 * 128 + 1 * d.val = _
    rw [e2]; omega

/-- of values, -/
theorem blk_v (c : Dev nD) (t : Fin cfg0.N) (ht : t.val % 32 ≤ t.val / 32) (h : Fin 8) (e : Fin 128) (x : Fin 512) :
    iblk m c 2 t (ValueIdx.ix3 h e x) = v m c h e (512 * (t.val % 32) + x) := by
  obtain ⟨-, -, ⟨e0, e1, e2⟩, -⟩ := idx_facts t
  show V m c main_arg2 ((win0_2.rect t).idx (ValueIdx.ix3 h e x)) = _
  rw [V_main_arg2]
  refine arr3_of (n0 := 8) (n1 := 128) (n2 := 16384) _ _ _ _ _ ?_ ?_ ?_
  · show win0_2.index t 0 * 8 + 1 * h.val = _
    rw [e0]; omega
  · show win0_2.index t 1 * 128 + 1 * e.val = _
    rw [e1]; omega
  · show win0_2.index t 2 * 512 + 1 * x.val = _
    rw [e2, Nat.min_eq_left ht]; omega

/-- and of biases. -/
theorem blk_b (c : Dev nD) (t : Fin cfg0.N) (ht : t.val % 32 ≤ t.val / 32) (g : Fin 4) (j : Fin 512) (x : Fin 128) :
    iblk m c 3 t (ValueIdx.ix3 g j x) = b m c (4 * (t.val / 32) + g) (512 * (t.val % 32) + j) x := by
  obtain ⟨-, -, -, ⟨e0, e1, e2⟩, -⟩ := idx_facts t
  show V m c main_arg3 ((win0_3.rect t).idx (ValueIdx.ix3 g j x)) = _
  rw [V_main_arg3]
  refine arr3_of (n0 := 128) (n1 := 16384) (n2 := 128) _ _ _ _ _ ?_ ?_ ?_
  · show win0_3.index t 0 * 4 + 1 * g.val = _
    rw [e0]; omega
  · show win0_3.index t 1 * 512 + 1 * j.val = _
    rw [e1, Nat.min_eq_left ht]; omega
  · show win0_3.index t 2 * 128 + 1 * x.val = _
    rw [e2]; omega

/-- The scores of a point not above the diagonal, before masking. -/
theorem raw (c : Dev nD) (t : Fin cfg0.N) (ht : t.val % 32 ≤ t.val / 32) (h : Fin 8) (j x : Fin 512) :
    below_s m c t h (ValueIdx.ix2 j x)
      = ∑ d : Fin 128, q m c h (512 * (t.val / 32) + x) d * k m c h (512 * (t.val % 32) + j) d
        + b m c ((512 * (t.val / 32) + x) / 128) (512 * (t.val % 32) + j) ((512 * (t.val / 32) + x) % 128) := by
  refine (scores_apply _ _ _ h j x).trans (congrArg₂ (fun y z : EReal => y + z) (Finset.sum_congr rfl fun d _ => ?_)
    ((blk_b m c t ht _ j _).trans ?_))
  · rw [blk_k m c t ht, blk_q, mul_comm]
  · exact congrArg₂ (fun g y => b m c g (512 * (t.val % 32) + j) y)
      (show 4 * (t.val / 32) + x.val / 128 = (512 * (t.val / 32) + x.val) / 128 by omega)
      (show x.val % 128 = (512 * (t.val / 32) + x.val) % 128 by omega)

/-- The scores of a point below the diagonal, where every key comes before every query; -/
theorem scores_below (c : Dev nD) (t : Fin cfg0.N) (ht : t.val % 32 < t.val / 32) (h : Fin 8) (j x : Fin 512) :
    below_s m c t h (ValueIdx.ix2 j x)
      = scb (q m c) (k m c) (b m c) h (512 * (t.val / 32) + x) (512 * (t.val % 32) + j) := by
  have hj := j.isLt
  rw [raw m c t (Nat.le_of_lt ht), scb, if_pos (by omega)]

/-- and of a point on it. -/
theorem scores_diag (c : Dev nD) (t : Fin cfg0.N) (ht : t.val % 32 = t.val / 32) (h : Fin 8) (j x : Fin 512) :
    diag_s m c t h (ValueIdx.ix2 j x)
      = scb (q m c) (k m c) (b m c) h (512 * (t.val / 32) + x) (512 * (t.val % 32) + j) := by
  refine (masked_apply _ _ _ h j x).trans ?_
  rw [show scores (iblk m c 0 t) (iblk m c 1 t) (iblk m c 3 t) h (ValueIdx.ix2 j x) = _ from raw m c t (Nat.le_of_eq ht) h j x, scb]
  by_cases hjx : j.val ≤ x.val
  · rw [if_pos hjx, if_pos (by omega)]
  · rw [if_neg hjx, if_neg (by omega)]

/-! ## The running state -/

/-- The running maxima start at `⊥`, -/
theorem pay1_apply (y : S8x8x512.Idx) : (k0_pay1 : FVec Ideal S8x8x512 .f32) y = ⊥ := by
  unfold k0_pay1
  rw [shapeCast_self]
  exact ofBits_neg_inf

/-- the accumulators at zero. -/
theorem pay2_apply (y : S8x128x512.Idx) : (k0_pay2 : FVec Ideal S8x128x512 .f32) y = 0 := by
  unfold k0_pay2
  rw [shapeCast_self]
  exact ofBits_zero

/-- The state of query block `i` after `n` key blocks below the diagonal. -/
theorem st_apply (c : Dev nD) (i : ℕ) (hi : i < 32) : ∀ n : ℕ, n ≤ i →
    (∀ (h r : Fin 8) (x : Fin 512), (st m c i n).1 (ValueIdx.ix3 h r x) = top (scb (q m c) (k m c) (b m c) h (512 * i + x)) (512 * n))
    ∧ (∀ (h : Fin 8) (e : Fin 128) (x : Fin 512), (st m c i n).2 (ValueIdx.ix3 h e x)
        = acc (scb (q m c) (k m c) (b m c) h (512 * i + x)) (v m c h e) (512 * n))
  | 0, _ => ⟨fun h r x => pay1_apply (ValueIdx.ix3 h r x), fun h e x => pay2_apply (ValueIdx.ix3 h e x)⟩
  | n + 1, hn => by
    obtain ⟨ihM, ihA⟩ := st_apply c i hi n (Nat.le_of_succ_le hn)
    have ht : (pt (32 * i + n)).val = 32 * i + n := Nat.mod_eq_of_lt (by omega)
    have hd : (pt (32 * i + n)).val / 32 = i := by omega
    have hm : (pt (32 * i + n)).val % 32 = n := by omega
    have hs : ∀ (h : Fin 8) (x j : Fin 512), below_s m c (pt (32 * i + n)) h (ValueIdx.ix2 j x)
        = scb (q m c) (k m c) (b m c) h (512 * i + x) (512 * n + j) := fun h x j => by
      rw [scores_below m c _ (by omega), hd, hm]
    have hM : ∀ (h : Fin 8) (x : Fin 512), View.ld (st m c i n).1 (rM h) (ValueIdx.ix3 (0 : Fin 1) (0 : Fin 8) x) = top (scb (q m c) (k m c) (b m c) h (512 * i + x)) (512 * n) :=
      fun h x => (ldM _ h 0 x).trans (ihM h 0 x)
    rw [Nat.mul_succ, st]
    refine ⟨fun h r x => ?_, fun h e x => ?_⟩
    · refine (stackM_apply (fun h => newM (below_s m c (pt (32 * i + n)) h) (View.ld (st m c i n).1 (rM h))) h r x).trans ?_
      exact newM_top _ _ _ _ r x (hs h x) (hM h x)
    · refine (stackA_apply (fun h => newA (below_s m c (pt (32 * i + n)) h) (View.ld (st m c i n).1 (rM h)) (View.ld (st m c i n).2 (rA h))
        (View.ld (iblk m c 2 (pt (32 * i + n))) (rA h))) h e x).trans ?_
      refine (newA_acc _ _ _ _ _ _ _ e x (hs h x) (hM h x) ((ldA _ h e x).trans (ihA h e x)) fun j => ?_)
      exact (ldA _ h e j).trans ((blk_v m c _ (by omega) h e j).trans (by rw [hm]))

/-- The accumulators after the diagonal block hold the sums over all keys. -/
theorem last_apply (c : Dev nD) (i : ℕ) (hi : i < 32) (h : Fin 8) (e : Fin 128) (x : Fin 512) :
    stepA (diag_s m c (pt (33 * i))) (iblk m c 2 (pt (33 * i))) (st m c i i).1 (st m c i i).2 (ValueIdx.ix3 h e x)
      = acc (scb (q m c) (k m c) (b m c) h (512 * i + x)) (v m c h e) 16384 := by
  obtain ⟨ihM, ihA⟩ := st_apply m c i hi i (Nat.le_refl i)
  have ht : (pt (33 * i)).val = 33 * i := Nat.mod_eq_of_lt (by omega)
  have hd : (pt (33 * i)).val / 32 = i := by omega
  have hm : (pt (33 * i)).val % 32 = i := by omega
  have hx := x.isLt
  rw [acc_masked (n := 512 * i + 512) (N := 16384) (scb (q m c) (k m c) (b m c) h (512 * i + x)) (v m c h e) (by omega) (fun j hj => if_neg (by omega))]
  refine (stackA_apply _ h e x).trans ?_
  refine (newA_acc _ _ _ _ _ _ _ e x (fun j => ?_) ((ldM _ h 0 x).trans (ihM h 0 x)) ((ldA _ h e x).trans (ihA h e x)) fun j => ?_)
  · exact (scores_diag m c (pt (33 * i)) (by omega) h j x).trans (by rw [hd, hm])
  · exact (ldA _ h e j).trans ((blk_v m c _ (by omega) h e j).trans (by rw [hm]))

/-- The result block of query block `i`. -/
theorem res_apply (c : Dev nD) (i : ℕ) (hi : i < 32) (x y : Fin 512) :
    res m c i (ValueIdx.ix2 x y) = attnb (q m c) (k m c) (v m c) (b m c) (512 * i + x) (y.val / 64) (y.val % 64) := by
  have hy := y.isLt
  unfold res
  generalize hA : stepA (diag_s m c (pt (33 * i))) (iblk m c 2 (pt (33 * i))) (st m c i i).1 (st m c i i).2 = A
  have hA' := fun h e => hA ▸ last_apply m c i hi h e x
  refine (outOf_apply A x y).trans ?_
  refine (quot_apply _ _ x _ ⟨y.val % 64, Nat.mod_lt _ (by decide)⟩ (show y.val % 64 = y.val % 128 % 64 by omega)).trans ?_
  unfold attnb
  by_cases hh : y.val % 128 < 64
  · rw [if_pos hh, ldA, ldA, hA', hA']
    simp only [show 2 * (y.val / 128) = y.val / 64 by omega]
    rfl
  · rw [if_neg hh, ldA, ldA, hA', hA']
    simp only [show 2 * (y.val / 128) + 1 = y.val / 64 by omega]
    rfl

/-! ## The result array -/

/-- The array the kernel leaves. -/
def out (c : Dev nD) : Buf (Elt Ideal) ((c : Thread nD τ).loc main_v0) := fun i =>
  attnb (q m c) (k m c) (v m c) (b m c) (i 0).val ((i 1).val / 64) ((i 1).val % 64)

/-- What a point writes back is its block of that array. -/
theorem flushed_eq (c : Dev nD) (t : Fin cfg0.N) :
    (dats m 0 c).flushed 4 t = ((cfg0.win 4).blk t).view.read (Elt Ideal) (out m c) := by
  have ht : t.val < 1024 := t.isLt
  have e : (dats m 0 c).flushed 4 t = (cfg0.win 4).cut (grid0.coords t) (res m c (t.val / 32)) := by
    show (cfg0.win 4).cut (grid0.coords t) ((dats m 0 c).after 4 t) = _
    rw [after0_4]
  rw [e]
  obtain ⟨-, -, -, -, ⟨e0, e1⟩⟩ := idx_facts t
  funext i
  have h0 : ((win0_4.rect t).idx i 0).val = 512 * (t.val / 32) + (i 0).val := by
    show win0_4.index t 0 * 512 + 1 * (i 0).val = _
    rw [e0]; omega
  have h1 : ((win0_4.rect t).idx i 1).val = (i 1).val := by
    show win0_4.index t 1 * 512 + 1 * (i 1).val = _
    rw [e1]; omega
  show _ = out m c ((win0_4.rect t).idx i)
  unfold out
  simp only [h0, h1]
  obtain ⟨a, b, rfl⟩ : ∃ (a b : Fin 512), i = ValueIdx.ix2 a b := ⟨i 0, i 1, ValueIdx.eq_ix2 (n0 := 512) (n1 := 512) i⟩
  exact res_apply m c (t.val / 32) (by omega) a b

/-- Every entry is in the block of a point that writes back. -/
theorem cover (i : S16384x512.Idx) : ∃ t : Fin cfg0.N, (cfg0.win 4).flush t = true ∧ i ∈ ((cfg0.win 4).blk t).view.set := by
  have h0 : (i 0 : Nat) < 16384 := (i 0).isLt
  have h1 : (i 1 : Nat) < 512 := (i 1).isLt
  obtain ⟨t, ht⟩ : ∃ t : Fin cfg0.N, t.val = 32 * ((i 0).val / 512) + 31 :=
    ⟨pt (32 * ((i 0).val / 512) + 31), Nat.mod_eq_of_lt (by omega)⟩
  obtain ⟨-, -, -, -, ⟨e0, e1⟩⟩ := idx_facts t
  refine ⟨t, (flush0_4 t).2 (by rw [ht]; omega), ?_⟩
  show i ∈ ((View.whole main_v0).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    rw [e0, ht]; omega
  | ⟨1, _⟩ =>
    show win0_4.index t 1 * 512 ≤ (i 1).val ∧ (i 1).val < win0_4.index t 1 * 512 + 512
    rw [e1]; omega

/-- The run: the result at the formula, the arguments unchanged. -/
theorem run : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h.1 c).1 4).trans ((dats m 0 c).arrAt_eq_of_cover 4 (out m c) (fun t _ => flushed_eq m c t) cover), h.2 c⟩)
    (θ_run_and (run_main m ρ) (unchanged m ρ))

end Cert.DsaIdeal.Hand

end
-- ==== Proof.DsaRef.lean ====
/-
  What the reference of the selected attention computes: its result at every index.
-/
module

public import proofs.«01_k».proof.Proof.DsaValue
public import proofs.«01_k».proof.Proof.DilRef
public import proofs.«01_k».proof.Proof.Gen.RefdsaIdeal.Run
public import proofs.«01_k».proof.Proof.Gen.RefdsaIdeal.Read

@[expose] public section

set_option maxRecDepth 65536

noncomputable section

namespace Cert.RefdsaIdeal.RefValue

open Cert.RefdsaIdeal Cert.RefdsaIdeal.Gen Cert.RefdsaIdeal.Read Idealize.ShloMosaic Idealize.ShloMosaic.TcCoe Idealize.SL.Sem
open FoxSpec
open Dil (ln2 bot_mul_ln2)

/-- The queries (and the keys), the biases, and the values. -/
abbrev Arg : Type := (⟨S8x16384x128, .bf16⟩ : BufTy).Contents (Elt Ideal)
abbrev ArgB : Type := (⟨S128x16384x128, .bf16⟩ : BufTy).Contents (Elt Ideal)
abbrev ArgV : Type := (⟨S8x128x16384, .bf16⟩ : BufTy).Contents (Elt Ideal)

variable (x0 x1 : Arg) (x2 : ArgV) (x3 : ArgB)

/-- The arguments as functions of their coordinates. -/
abbrev q : Nat → Nat → Nat → EReal := arr3 (n0 := 8) (n1 := 16384) (n2 := 128) x0
abbrev v : Nat → Nat → Nat → EReal := arr3 (n0 := 8) (n1 := 128) (n2 := 16384) x2
abbrev b : Nat → Nat → Nat → EReal := arr3 (n0 := 128) (n1 := 16384) (n2 := 128) x3

/-- The scores of a query of a head, the bias added. -/
abbrev s (h r : Nat) : Nat → EReal := scb (q x0) (q x1) (b x3) h r

/-- The mask: a key is seen from its own query on. -/
theorem mask_apply (i : S8x16384x16384.Idx) :
    val_main_call0_v1 (F := Ideal) i = BitVec.ofBool (decide ((i 2).val ≤ (i 1).val)) := by
  have h1 : (i 1).val < 16384 := (i 1).isLt
  have h2 : (i 2).val < 16384 := (i 2).isLt
  simp only [val_main_call0_v1_apply, val_main_v23_apply, val_main_v22_apply, val_main_v20_apply, val_main_v21_apply,
    val_main_v18_apply, val_main_v19_apply, val_main_v17_apply]
  exact WordCmp.cmpi_sle_ofNat (by show (i 2).val < _; omega) (by show (i 1).val < _; omega)

/-- The bias of a query and a key. -/
theorem bias_apply (i : S8x16384x16384.Idx) :
    val_main_v13 (F := Ideal) x3 i = b x3 ((i 1).val / 128) (i 2).val ((i 1).val % 128) := by
  have h1 : (i 1).val < 16384 := (i 1).isLt
  have h2 : (i 2).val < 16384 := (i 2).isLt
  rw [val_main_v13_apply, val_main_v12_apply, val_main_v8_apply, val_main_v7_apply, val_main_v6_apply]
  refine arr3_of (n0 := 128) (n1 := 16384) (n2 := 128) x3 (idx_main_v7 (idx_main_v8 (idx_main_v12 (idx_main_v13 i)))) _ _ _ ?_ ?_ ?_
  · show ((i 1).val * 16384 + (i 2).val) / 2097152 = _
    omega
  · show ((i 1).val * 16384 + (i 2).val) % 16384 = _
    omega
  · show ((i 1).val * 16384 + (i 2).val) / 16384 % 128 = _
    omega

/-- The masked scores. -/
theorem v24_apply (i : S8x16384x16384.Idx) :
    val_main_v24 (F := Ideal) x0 x1 x3 i = s x0 x1 x3 (i 0).val (i 1).val (i 2).val * ln2 := by
  rw [val_main_v24_apply, mask_apply, WordCmp.select_ofBool]
  unfold s scb
  by_cases h : (i 2).val ≤ (i 1).val
  · rw [if_pos (by simpa using h), if_pos h, val_main_v16_apply, val_main_v15_apply, val_main_v0_apply, val_main_v14_apply, val_main_v11_apply,
      bias_apply]
    refine congrArg₂ (fun a b : EReal => a * b) (congrArg (fun a : EReal => a + _) (Finset.sum_congr rfl fun d _ => ?_)) Dil.Ref.log_two
    exact congrArg₂ (fun a b : EReal => a * b) (arr3_of (n0 := 8) (n1 := 16384) (n2 := 128) x0 (lidx_main_v11 i d) _ _ _ rfl rfl rfl)
      (arr3_of (n0 := 8) (n1 := 16384) (n2 := 128) x1 (ridx_main_v11 i d) _ _ _ rfl rfl rfl)
  · rw [if_neg (by simpa using h), if_neg h, bot_mul_ln2, val_main_call0_v2_apply, val_main_call0_v0_apply]
    exact Dil.Block.ofBits_neg_inf

/-- The largest score of a query. -/
theorem v25_apply (i : S8x16384.Idx) :
    val_main_v25 (F := Ideal) x0 x1 x3 i = top (s x0 x1 x3 (i 0).val (i 1).val) 16384 * ln2 := by
  have red : S8x16384x16384.Reduces [(2 : Fin 3)] S8x16384 := by decide
  have h18 := v24_apply x0 x1 x3
  unfold val_main_v25 val_main_cst_1
  generalize val_main_v24 (F := Ideal) x0 x1 x3 = y at h18
  have e := hostReduce_maximumf_eq_multiReduction (F := Ideal) (φ := .f32) (u := S_) y (0xFF800000#32 : BitVec (FTy.bits .f32))
    reducesTo_S8x16384x16384_S8x16384_d2 h_S_ red (.inl rfl) rfl
  refine (congrFun e i).trans ?_
  refine (Ideal.multiReduction_maximumf_single (a := 2) _ _ red (.inl rfl) rfl i).trans ?_
  rw [show (FloatOps.ofBits .f32 (FKind.maximumf.neutral .f32 (.inl rfl)) : Ideal .f32) = ⊥ from Dil.Block.ofBits_neg_inf]
  rw [← top_ln2]
  refine Finset.fold_congr fun j _ => ?_
  exact h18 (red.lift i j)

/-- The weights, before they are normalized. -/
theorem v31_apply (i : S8x16384x16384.Idx) :
    val_main_v31 (F := Ideal) x0 x1 x3 i = Ideal.exp (s x0 x1 x3 (i 0).val (i 1).val (i 2).val * ln2
      - top (s x0 x1 x3 (i 0).val (i 1).val) 16384 * ln2) := by
  rw [val_main_v31_apply, val_main_v30_apply, val_main_v29_apply, val_main_v28_apply, val_main_v27_apply, val_main_v26_apply,
    v24_apply, v25_apply]
  rfl

/-- The weighted sums of the values, -/
theorem v32_apply (i : S8x64x16384.Idx) :
    val_main_v32 (F := Ideal) x0 x1 x2 x3 i = acc (s x0 x1 x3 (i 0).val (i 2).val) (v x2 (i 0).val (i 1).val) 16384 := by
  rw [val_main_v32_apply, ← acc_ln2]
  refine Finset.sum_congr rfl fun k _ => ?_
  rw [v31_apply, val_main_v2_apply, val_main_v1_apply]
  exact congrArg (fun a : EReal => a * _) (arr3_of (n0 := 8) (n1 := 128) (n2 := 16384) x2 (idx_main_v1 (lidx_main_v32 i k)) _ _ _ rfl rfl rfl)

/-- and of the counts. -/
theorem v34_apply (i : S8x16384.Idx) :
    val_main_v34 (F := Ideal) x0 x1 x2 x3 i = acc (s x0 x1 x3 (i 0).val (i 1).val) (v x2 (i 0).val 64) 16384 := by
  have h0 : (i 0).val < 8 := (i 0).isLt
  rw [val_main_v34_apply, ← acc_ln2]
  refine Finset.sum_congr rfl fun k _ => ?_
  have hk := k.isLt
  rw [v31_apply, val_main_v5_apply, val_main_v4_apply, val_main_v3_apply]
  refine congrArg (fun a : EReal => a * _) (arr3_of (n0 := 8) (n1 := 128) (n2 := 16384) x2 (idx_main_v3 (idx_main_v4 (lidx_main_v34 i k))) _ _ _ ?_ rfl ?_)
  · show ((i 0).val * 16384 + k.val) / 16384 = (i 0).val
    omega
  · show ((i 0).val * 16384 + k.val) % 16384 = k.val
    omega

/-- The result. -/
theorem v40_apply (i : S16384x512.Idx) :
    val_main_v40 (F := Ideal) x0 x1 x2 x3 i = attnb (q x0) (q x1) (v x2) (b x3) (i 0).val ((i 1).val / 64) ((i 1).val % 64) := by
  have h0 : (i 0).val < 16384 := (i 0).isLt
  have h1 : (i 1).val < 512 := (i 1).isLt
  have e0 : (idx_main_v39 i 0).val = (i 0).val := by
    show ((i 0).val * 512 + (i 1).val) / 512 = _
    omega
  have e1 : (idx_main_v39 i 1).val = (i 1).val / 64 := by
    show ((i 0).val * 512 + (i 1).val) / 64 % 8 = _
    omega
  have e2 : (idx_main_v39 i 2).val = (i 1).val % 64 := by
    show ((i 0).val * 512 + (i 1).val) % 64 = _
    omega
  rw [← e0, ← e1, ← e2, val_main_v40_apply, val_main_v39_apply, val_main_v38_apply, val_main_v33_apply, val_main_v37_apply,
    val_main_v36_apply, val_main_v35_apply, v32_apply, v34_apply]
  rfl

end Cert.RefdsaIdeal.RefValue

end
-- ==== Proof.DsaClaims.lean ====
/-
  The claims about the selected attention.
-/
module

public import proofs.«01_k».proof.Defs
public import proofs.«01_k».proof.Proof.DsaRef
public import proofs.«01_k».proof.Proof.Gen.Dsa.Frame

@[expose] public section

set_option maxRecDepth 65536

noncomputable section

namespace Cert.Proof.DsaClaims

open Idealize.ShloMosaic Idealize.ShloMosaic.TcCoe Idealize.SL.Sem

section
variable {F : FTy → Type} [FloatOps F]

/-- The two printed forms of the kernel have the same body, -/
theorem body_eq : Cert.DsaIdeal.defs₀ (F := F) = Cert.Dsa.defs₀ (F := F) := by
  unfold Cert.Dsa.defs₀ Cert.DsaIdeal.defs₀
  refine congrArg Defs.onTc (funext fun l => funext fun a => ?_)
  match l, a with
  | 0, (t, s) => rfl
  | ⟨_ + 1, h⟩, _ => exact absurd h (Nat.not_lt.2 (Nat.le_add_left _ _))

/-- so the same definitions with the pipeline around it. -/
theorem defs_eq : Cert.DsaIdeal.defs (F := F) = Cert.Dsa.defs (F := F) :=
  congrArg (Pipeline.defs (Cert.DsaIdeal.pcfgs (F := F))) body_eq

end

/-- The kernel runs and leaves its arguments, on words -/
theorem frame_p_dsa : Cert.quiescent_Dsa := fun m ρ _ => by
  have h := Cert.DsaIdeal.Hand.frame (F := Bits) m ρ
  rw [defs_eq] at h
  exact h

/-- and over the extended reals, -/
theorem frame_pi_dsa : Cert.quiescent_DsaIdeal := fun m ρ _ => Cert.DsaIdeal.Hand.frame m ρ

/-- and so does the reference. -/
theorem frame_ri_dsa : Cert.quiescent_RefdsaIdeal := fun m ρ _ =>
  (θ_run Cert.RefdsaIdeal.defs _ _).mono (fun r h => ⟨fun c => (h c).2, sem_eq_zero_of_no_sems (by decide) r.2⟩)
    (Cert.RefdsaIdeal.Value.run (F := Ideal) m ρ)

/-- No operation is changed in the ideal form. -/
theorem preserves_dsa : Cert.preserves_Dsa_DsaIdeal := trivial

/-- Kernel and reference end with the same array. -/
theorem algebraic_dsa : Cert.algebraic_DsaIdeal_RefdsaIdeal := by
  intro m ρ m' ρ' _ hagree
  refine ⟨fun c => Cert.DsaIdeal.Hand.out m c, Cert.DsaIdeal.Hand.run m ρ, ?_⟩
  refine (θ_run Cert.RefdsaIdeal.defs _ _).mono (fun _ h c => ⟨(h c).1.trans ?_, (h c).2⟩) (Cert.RefdsaIdeal.Value.run (F := Ideal) m' ρ')
  rw [Cert.RefdsaIdeal.Read.val_main_v40_eq, (hagree c).1, (hagree c).2.1, (hagree c).2.2.1, (hagree c).2.2.2]
  exact funext fun i => Cert.RefdsaIdeal.RefValue.v40_apply _ _ _ _ i

end Cert.Proof.DsaClaims

end
-- ==== Proof.lean ====
/-
  The certificate's claim, assembled from the claims of each call: first the programs' stated facts, then the frames in the
  programs' order, then for each call that its ideal form keeps its operations and that it agrees with the reference.
-/
module

public import proofs.«01_k».proof.Defs
public import proofs.«01_k».proof.Proof.Gen.Dilone
public import proofs.«01_k».proof.Proof.Gen.Dilone.Skeleton
public import proofs.«01_k».proof.Proof.Gen.Dilone.Launch
public import proofs.«01_k».proof.Proof.Gen.Dilone.Points
public import proofs.«01_k».proof.Proof.Gen.Dilone.Frame
public import proofs.«01_k».proof.Proof.Gen.DiloneIdeal
public import proofs.«01_k».proof.Proof.Gen.DiloneIdeal.Skeleton
public import proofs.«01_k».proof.Proof.Gen.DiloneIdeal.Launch
public import proofs.«01_k».proof.Proof.Gen.DiloneIdeal.Points
public import proofs.«01_k».proof.Proof.Gen.DiloneIdeal.Frame
public import proofs.«01_k».proof.Proof.Gen.RefoneIdeal
public import proofs.«01_k».proof.Proof.Gen.Dilfour
public import proofs.«01_k».proof.Proof.Gen.Dilfour.Skeleton
public import proofs.«01_k».proof.Proof.Gen.Dilfour.Launch
public import proofs.«01_k».proof.Proof.Gen.Dilfour.Points
public import proofs.«01_k».proof.Proof.Gen.Dilfour.Frame
public import proofs.«01_k».proof.Proof.Gen.DilfourIdeal
public import proofs.«01_k».proof.Proof.Gen.DilfourIdeal.Skeleton
public import proofs.«01_k».proof.Proof.Gen.DilfourIdeal.Launch
public import proofs.«01_k».proof.Proof.Gen.DilfourIdeal.Points
public import proofs.«01_k».proof.Proof.Gen.DilfourIdeal.Frame
public import proofs.«01_k».proof.Proof.Gen.ReffourIdeal
public import proofs.«01_k».proof.Proof.Gen.Dilsixteen
public import proofs.«01_k».proof.Proof.Gen.Dilsixteen.Skeleton
public import proofs.«01_k».proof.Proof.Gen.Dilsixteen.Launch
public import proofs.«01_k».proof.Proof.Gen.Dilsixteen.Points
public import proofs.«01_k».proof.Proof.Gen.Dilsixteen.Frame
public import proofs.«01_k».proof.Proof.Gen.DilsixteenIdeal
public import proofs.«01_k».proof.Proof.Gen.DilsixteenIdeal.Skeleton
public import proofs.«01_k».proof.Proof.Gen.DilsixteenIdeal.Launch
public import proofs.«01_k».proof.Proof.Gen.DilsixteenIdeal.Points
public import proofs.«01_k».proof.Proof.Gen.DilsixteenIdeal.Frame
public import proofs.«01_k».proof.Proof.Gen.RefsixteenIdeal
public import proofs.«01_k».proof.Proof.Gen.DiloneIdeal.Value
public import proofs.«01_k».proof.Proof.Gen.RefoneIdeal.Run
public import proofs.«01_k».proof.Proof.Gen.RefoneIdeal.Read
public import proofs.«01_k».proof.Proof.Gen.DilfourIdeal.Value
public import proofs.«01_k».proof.Proof.Gen.ReffourIdeal.Run
public import proofs.«01_k».proof.Proof.Gen.ReffourIdeal.Read
public import proofs.«01_k».proof.Proof.Gen.DilsixteenIdeal.Value
public import proofs.«01_k».proof.Proof.Gen.RefsixteenIdeal.Run
public import proofs.«01_k».proof.Proof.Gen.RefsixteenIdeal.Read
public import proofs.«01_k».proof.Proof.Gen.Pleout
public import proofs.«01_k».proof.Proof.Gen.Pleout.Skeleton
public import proofs.«01_k».proof.Proof.Gen.Pleout.Launch
public import proofs.«01_k».proof.Proof.Gen.Pleout.Points
public import proofs.«01_k».proof.Proof.Gen.Pleout.Frame
public import proofs.«01_k».proof.Proof.Gen.PleoutIdeal
public import proofs.«01_k».proof.Proof.Gen.PleoutIdeal.Skeleton
public import proofs.«01_k».proof.Proof.Gen.PleoutIdeal.Launch
public import proofs.«01_k».proof.Proof.Gen.PleoutIdeal.Points
public import proofs.«01_k».proof.Proof.Gen.PleoutIdeal.Frame
public import proofs.«01_k».proof.Proof.Gen.PleoutIdeal.Value
public import proofs.«01_k».proof.Proof.Gen.RefpleoutIdeal
public import proofs.«01_k».proof.Proof.Gen.RefpleoutIdeal.Run
public import proofs.«01_k».proof.Proof.Gen.RefpleoutIdeal.Read
public import proofs.«01_k».proof.Proof.Gen.Downproj
public import proofs.«01_k».proof.Proof.Gen.Downproj.Skeleton
public import proofs.«01_k».proof.Proof.Gen.Downproj.Launch
public import proofs.«01_k».proof.Proof.Gen.Downproj.Points
public import proofs.«01_k».proof.Proof.Gen.Downproj.Frame
public import proofs.«01_k».proof.Proof.Gen.DownprojIdeal
public import proofs.«01_k».proof.Proof.Gen.DownprojIdeal.Skeleton
public import proofs.«01_k».proof.Proof.Gen.DownprojIdeal.Launch
public import proofs.«01_k».proof.Proof.Gen.DownprojIdeal.Points
public import proofs.«01_k».proof.Proof.Gen.DownprojIdeal.Frame
public import proofs.«01_k».proof.Proof.Gen.DownprojIdeal.Value
public import proofs.«01_k».proof.Proof.Gen.RefdownprojIdeal
public import proofs.«01_k».proof.Proof.Gen.RefdownprojIdeal.Run
public import proofs.«01_k».proof.Proof.Gen.RefdownprojIdeal.Read
public import proofs.«01_k».proof.Proof.Gen.Evenout
public import proofs.«01_k».proof.Proof.Gen.Evenout.Skeleton
public import proofs.«01_k».proof.Proof.Gen.Evenout.Launch
public import proofs.«01_k».proof.Proof.Gen.Evenout.Points
public import proofs.«01_k».proof.Proof.Gen.Evenout.Frame
public import proofs.«01_k».proof.Proof.Gen.EvenoutIdeal
public import proofs.«01_k».proof.Proof.Gen.EvenoutIdeal.Skeleton
public import proofs.«01_k».proof.Proof.Gen.EvenoutIdeal.Launch
public import proofs.«01_k».proof.Proof.Gen.EvenoutIdeal.Points
public import proofs.«01_k».proof.Proof.Gen.EvenoutIdeal.Frame
public import proofs.«01_k».proof.Proof.Gen.EvenoutIdeal.Value
public import proofs.«01_k».proof.Proof.Gen.RefevenoutIdeal
public import proofs.«01_k».proof.Proof.Gen.RefevenoutIdeal.Run
public import proofs.«01_k».proof.Proof.Gen.RefevenoutIdeal.Read
public import proofs.«01_k».proof.Proof.Gen.Evenin
public import proofs.«01_k».proof.Proof.Gen.Evenin.Skeleton
public import proofs.«01_k».proof.Proof.Gen.Evenin.Launch
public import proofs.«01_k».proof.Proof.Gen.Evenin.Points
public import proofs.«01_k».proof.Proof.Gen.Evenin.Frame
public import proofs.«01_k».proof.Proof.Gen.EveninIdeal
public import proofs.«01_k».proof.Proof.Gen.EveninIdeal.Skeleton
public import proofs.«01_k».proof.Proof.Gen.EveninIdeal.Launch
public import proofs.«01_k».proof.Proof.Gen.EveninIdeal.Points
public import proofs.«01_k».proof.Proof.Gen.EveninIdeal.Frame
public import proofs.«01_k».proof.Proof.Gen.EveninIdeal.Value
public import proofs.«01_k».proof.Proof.Gen.RefeveninIdeal
public import proofs.«01_k».proof.Proof.Gen.RefeveninIdeal.Run
public import proofs.«01_k».proof.Proof.Gen.RefeveninIdeal.Read
public import proofs.«01_k».proof.Proof.Gen.Oddin
public import proofs.«01_k».proof.Proof.Gen.Oddin.Skeleton
public import proofs.«01_k».proof.Proof.Gen.Oddin.Launch
public import proofs.«01_k».proof.Proof.Gen.Oddin.Points
public import proofs.«01_k».proof.Proof.Gen.Oddin.Frame
public import proofs.«01_k».proof.Proof.Gen.OddinIdeal
public import proofs.«01_k».proof.Proof.Gen.OddinIdeal.Skeleton
public import proofs.«01_k».proof.Proof.Gen.OddinIdeal.Launch
public import proofs.«01_k».proof.Proof.Gen.OddinIdeal.Points
public import proofs.«01_k».proof.Proof.Gen.OddinIdeal.Frame
public import proofs.«01_k».proof.Proof.Gen.OddinIdeal.Value
public import proofs.«01_k».proof.Proof.Gen.RefoddinIdeal
public import proofs.«01_k».proof.Proof.Gen.RefoddinIdeal.Run
public import proofs.«01_k».proof.Proof.Gen.RefoddinIdeal.Read
public import proofs.«01_k».proof.Proof.Gen.Ffnact
public import proofs.«01_k».proof.Proof.Gen.Ffnact.Skeleton
public import proofs.«01_k».proof.Proof.Gen.Ffnact.Launch
public import proofs.«01_k».proof.Proof.Gen.Ffnact.Points
public import proofs.«01_k».proof.Proof.Gen.Ffnact.Frame
public import proofs.«01_k».proof.Proof.Gen.FfnactIdeal
public import proofs.«01_k».proof.Proof.Gen.FfnactIdeal.Skeleton
public import proofs.«01_k».proof.Proof.Gen.FfnactIdeal.Launch
public import proofs.«01_k».proof.Proof.Gen.FfnactIdeal.Points
public import proofs.«01_k».proof.Proof.Gen.FfnactIdeal.Frame
public import proofs.«01_k».proof.Proof.Gen.FfnactIdeal.Value
public import proofs.«01_k».proof.Proof.Gen.RefffnactIdeal
public import proofs.«01_k».proof.Proof.Gen.RefffnactIdeal.Run
public import proofs.«01_k».proof.Proof.Gen.RefffnactIdeal.Read
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.ReffoxIdeal
public import proofs.«01_k».proof.Proof.Gen.ReffoxIdeal.Run
public import proofs.«01_k».proof.Proof.Gen.ReffoxIdeal.Read
public import proofs.«01_k».proof.Proof.Gen.Oddout
public import proofs.«01_k».proof.Proof.Gen.Oddout.Skeleton
public import proofs.«01_k».proof.Proof.Gen.Oddout.Launch
public import proofs.«01_k».proof.Proof.Gen.Oddout.Points
public import proofs.«01_k».proof.Proof.Gen.Oddout.Frame
public import proofs.«01_k».proof.Proof.Gen.OddoutIdeal
public import proofs.«01_k».proof.Proof.Gen.OddoutIdeal.Skeleton
public import proofs.«01_k».proof.Proof.Gen.OddoutIdeal.Launch
public import proofs.«01_k».proof.Proof.Gen.OddoutIdeal.Points
public import proofs.«01_k».proof.Proof.Gen.OddoutIdeal.Frame
public import proofs.«01_k».proof.Proof.Gen.OddoutIdeal.Value
public import proofs.«01_k».proof.Proof.Gen.RefoddoutIdeal
public import proofs.«01_k».proof.Proof.Gen.RefoddoutIdeal.Run
public import proofs.«01_k».proof.Proof.Gen.RefoddoutIdeal.Read
public import proofs.«01_k».proof.Proof.Gen.Dsa
public import proofs.«01_k».proof.Proof.Gen.Dsa.Skeleton
public import proofs.«01_k».proof.Proof.Gen.Dsa.Launch
public import proofs.«01_k».proof.Proof.Gen.Dsa.Points
public import proofs.«01_k».proof.Proof.Gen.Dsa.Frame
public import proofs.«01_k».proof.Proof.Gen.DsaIdeal
public import proofs.«01_k».proof.Proof.Gen.DsaIdeal.Skeleton
public import proofs.«01_k».proof.Proof.Gen.DsaIdeal.Launch
public import proofs.«01_k».proof.Proof.Gen.DsaIdeal.Points
public import proofs.«01_k».proof.Proof.Gen.DsaIdeal.Frame
public import proofs.«01_k».proof.Proof.Gen.RefdsaIdeal
public import proofs.«01_k».proof.Proof.Gen.RefdsaIdeal.Run
public import proofs.«01_k».proof.Proof.Gen.RefdsaIdeal.Read
public import proofs.«01_k».proof.Proof.DilClaims
public import proofs.«01_k».proof.Proof.LayerClaims
public import proofs.«01_k».proof.Proof.FoxClaims
public import proofs.«01_k».proof.Proof.MergeClaims
public import proofs.«01_k».proof.Proof.DsaClaims
public import Idealize.ShloMosaic.Adequacy
public import Idealize.ShloMosaic.Init

@[expose] public section

noncomputable section

namespace Cert.Proof

open Idealize.ShloMosaic Idealize.SL.Sem DilClaims LayerClaims FoxClaims MergeClaims DsaClaims

theorem claim : Cert.Claim := ⟨Cert.Dilone.Gen.facts, Cert.DiloneIdeal.Gen.facts, Cert.RefoneIdeal.Gen.facts,
  Cert.Dilfour.Gen.facts, Cert.DilfourIdeal.Gen.facts, Cert.ReffourIdeal.Gen.facts,
  Cert.Dilsixteen.Gen.facts, Cert.DilsixteenIdeal.Gen.facts, Cert.RefsixteenIdeal.Gen.facts,
  Cert.Pleout.Gen.facts, Cert.PleoutIdeal.Gen.facts, Cert.RefpleoutIdeal.Gen.facts,
  Cert.Downproj.Gen.facts, Cert.DownprojIdeal.Gen.facts, Cert.RefdownprojIdeal.Gen.facts,
  Cert.Evenout.Gen.facts, Cert.EvenoutIdeal.Gen.facts, Cert.RefevenoutIdeal.Gen.facts,
  Cert.Evenin.Gen.facts, Cert.EveninIdeal.Gen.facts, Cert.RefeveninIdeal.Gen.facts,
  Cert.Oddin.Gen.facts, Cert.OddinIdeal.Gen.facts, Cert.RefoddinIdeal.Gen.facts,
  Cert.Ffnact.Gen.facts, Cert.FfnactIdeal.Gen.facts, Cert.RefffnactIdeal.Gen.facts,
  Cert.Fox.Gen.facts, Cert.FoxIdeal.Gen.facts, Cert.ReffoxIdeal.Gen.facts,
  Cert.Oddout.Gen.facts, Cert.OddoutIdeal.Gen.facts, Cert.RefoddoutIdeal.Gen.facts,
  Cert.Dsa.Gen.facts, Cert.DsaIdeal.Gen.facts, Cert.RefdsaIdeal.Gen.facts,
  frame_p_one, frame_pi_one, frame_ri_one,
  frame_p_four, frame_pi_four, frame_ri_four,
  frame_p_sixteen, frame_pi_sixteen, frame_ri_sixteen,
  frame_p_ple, frame_pi_ple, frame_ri_ple,
  frame_p_down, frame_pi_down, frame_ri_down,
  frame_p_even_out, frame_pi_even_out, frame_ri_even_out,
  frame_p_even_in, frame_pi_even_in, frame_ri_even_in,
  frame_p_odd_in, frame_pi_odd_in, frame_ri_odd_in,
  frame_p_act, frame_pi_act, frame_ri_act,
  frame_p_fox, frame_pi_fox, frame_ri_fox,
  frame_p_merge, frame_pi_merge, frame_ri_merge,
  frame_p_dsa, frame_pi_dsa, frame_ri_dsa,
  preserves_one, algebraic_one,
  preserves_four, algebraic_four,
  preserves_sixteen, algebraic_sixteen,
  preserves_ple, algebraic_ple,
  preserves_down, algebraic_down,
  preserves_even_out, algebraic_even_out,
  preserves_even_in, algebraic_even_in,
  preserves_odd_in, algebraic_odd_in,
  preserves_act, algebraic_act,
  preserves_fox, algebraic_fox,
  preserves_merge, algebraic_merge,
  preserves_dsa, algebraic_dsa⟩

end Cert.Proof

end
